-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))) = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite30 [hPre_finite30 : Cert.Pre_finite30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite30 [hPre_finite30 : Cert.Pre_finite30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Kernel30Ideal_pre_finite30 [hKernel30Ideal : Cert.Kernel30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite30 m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Reference30Ideal_pre_finite30 [hReference30Ideal : Cert.Reference30Ideal.Facts] [hPre_finite30 : Cert.Pre_finite30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v1) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  IdealRules.named_const.Statement Cert.Kernel19Ideal.κ "inv_bias1" .f32 0x3FC48605#32 ((8388608 / 5463681 : ℝ) : EReal)
  ∧ IdealRules.named_const.Statement Cert.Kernel19Ideal.κ "inv_bias2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "inv_bias1" .f32 0x3FC48605#32 ((8388608 / 5463681 : ℝ) : EReal)
  ∧ IdealRules.named_const.Statement Cert.Kernel20Ideal.κ "inv_bias2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "inv_bias1" .f32 0x3FC48605#32 ((8388608 / 5463681 : ℝ) : EReal)
  ∧ IdealRules.named_const.Statement Cert.Kernel21Ideal.κ "inv_bias2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v17) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  IdealRules.named_const.Statement Cert.Kernel22Ideal.κ "inv_bias1" .f32 0x3FC48605#32 ((8388608 / 5463681 : ℝ) : EReal)
  ∧ IdealRules.named_const.Statement Cert.Kernel22Ideal.κ "inv_bias2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  IdealRules.named_const.Statement Cert.Kernel23Ideal.κ "inv_bias1" .f32 0x3FC48605#32 ((8388608 / 5463681 : ℝ) : EReal)
  ∧ IdealRules.named_const.Statement Cert.Kernel23Ideal.κ "inv_bias2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg0) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  IdealRules.named_const.Statement Cert.Kernel24Ideal.κ "inv_bias1" .f32 0x3FC48605#32 ((8388608 / 5463681 : ℝ) : EReal)
  ∧ IdealRules.named_const.Statement Cert.Kernel24Ideal.κ "inv_bias2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg0) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  IdealRules.named_const.Statement Cert.Kernel25Ideal.κ "inv_bias1" .f32 0x3FC48605#32 ((8388608 / 5463681 : ℝ) : EReal)
  ∧ IdealRules.named_const.Statement Cert.Kernel25Ideal.κ "inv_bias2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg0) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "inv_bias1" .f32 0x3FC48605#32 ((8388608 / 5463681 : ℝ) : EReal)
  ∧ IdealRules.named_const.Statement Cert.Kernel26Ideal.κ "inv_bias2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg0) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "inv_bias1" .f32 0x3FC48605#32 ((8388608 / 5463681 : ℝ) : EReal)
  ∧ IdealRules.named_const.Statement Cert.Kernel27Ideal.κ "inv_bias2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg0) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)) (v4 : (c : Dev Cert.Kernel28Ideal.nD) → Buf (Elt Ideal) ((c.tc : Thread Cert.Kernel28Ideal.nD Cert.Kernel28Ideal.τ).loc Cert.Kernel28Ideal.main_v0_4)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_v0_4) = v4 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v73) = v0 c
          ∧ r.2.mem ((c.tc : Thread Cert.Reference28Ideal.nD Cert.Reference28Ideal.τ).loc Cert.Reference28Ideal.main_v72) = v1 c
          ∧ r.2.mem ((c.tc : Thread Cert.Reference28Ideal.nD Cert.Reference28Ideal.τ).loc Cert.Reference28Ideal.main_v74) = v2 c
          ∧ r.2.mem ((c.tc : Thread Cert.Reference28Ideal.nD Cert.Reference28Ideal.τ).loc Cert.Reference28Ideal.main_v46) = v3 c
          ∧ r.2.mem ((c.tc : Thread Cert.Reference28Ideal.nD Cert.Reference28Ideal.τ).loc Cert.Reference28Ideal.main_v43) = v4 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)) (v4 : (c : Dev Cert.Kernel29Ideal.nD) → Buf (Elt Ideal) ((c.tc : Thread Cert.Kernel29Ideal.nD Cert.Kernel29Ideal.τ).loc Cert.Kernel29Ideal.main_v0_4)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_v0_4) = v4 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v59) = v0 c
          ∧ r.2.mem ((c.tc : Thread Cert.Reference29Ideal.nD Cert.Reference29Ideal.τ).loc Cert.Reference29Ideal.main_v60) = v1 c
          ∧ r.2.mem ((c.tc : Thread Cert.Reference29Ideal.nD Cert.Reference29Ideal.τ).loc Cert.Reference29Ideal.main_v33) = v2 c
          ∧ r.2.mem ((c.tc : Thread Cert.Reference29Ideal.nD Cert.Reference29Ideal.τ).loc Cert.Reference29Ideal.main_v30) = v3 c
          ∧ r.2.mem ((c.tc : Thread Cert.Reference29Ideal.nD Cert.Reference29Ideal.τ).loc Cert.Reference29Ideal.main_v62) = v4 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal_pre_finite30 [hKernel30Ideal : Cert.Kernel30Ideal.Facts] [hReference30Ideal : Cert.Reference30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite30 m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v59) = v0 c
          ∧ r.2.mem ((c.tc : Thread Cert.Reference30Ideal.nD Cert.Reference30Ideal.τ).loc Cert.Reference30Ideal.main_v33) = v1 c
          ∧ r.2.mem ((c.tc : Thread Cert.Reference30Ideal.nD Cert.Reference30Ideal.τ).loc Cert.Reference30Ideal.main_v30) = v2 c
          ∧ r.2.mem ((c.tc : Thread Cert.Reference30Ideal.nD Cert.Reference30Ideal.τ).loc Cert.Reference30Ideal.main_v61) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v21) = v0 c
          ∧ r.2.mem ((c.tc : Thread Cert.Reference31Ideal.nD Cert.Reference31Ideal.τ).loc Cert.Reference31Ideal.main_v22) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m ((c.tc : Thread Cert.Kernel32Ideal.nD Cert.Kernel32Ideal.τ).loc Cert.Kernel32Ideal.main_arg0) = Layout.block ⟨2, ![1, 1]⟩ ⟨2, ![8, 1]⟩ 0 8 c (m' (((0 : Dev Cert.Reference32Ideal.nD).tc : Thread Cert.Reference32Ideal.nD Cert.Reference32Ideal.τ).loc Cert.Reference32Ideal.main_arg0))) →
    ∃ (v0 : Buf (Elt Ideal) (((0 : Dev Cert.Reference32Ideal.nD).tc : Thread Cert.Reference32Ideal.nD Cert.Reference32Ideal.τ).loc Cert.Reference32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v2) = v0
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r =>
          r.2.mem (((0 : Dev Cert.Reference32Ideal.nD).tc : Thread Cert.Reference32Ideal.nD Cert.Reference32Ideal.τ).loc Cert.Reference32Ideal.main_v0) = v0
          ∧ r.2.mem (((0 : Dev Cert.Reference32Ideal.nD).tc : Thread Cert.Reference32Ideal.nD Cert.Reference32Ideal.τ).loc Cert.Reference32Ideal.main_arg0) = m' (((0 : Dev Cert.Reference32Ideal.nD).tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v6)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v6) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v18) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v6)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v6) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v13) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite28 : Cert.Pre_finite28.Facts) (hPre_finite29 : Cert.Pre_finite29.Facts) (hPre_finite30 : Cert.Pre_finite30.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ quiescent_Kernel30 (hKernel30 := hKernel30)
    ∧ quiescent_Kernel30Ideal (hKernel30Ideal := hKernel30Ideal)
    ∧ quiescent_Kernel30Ideal_pre_finite30 (hKernel30Ideal := hKernel30Ideal) (hPre_finite30 := hPre_finite30)
    ∧ quiescent_Reference30Ideal (hReference30Ideal := hReference30Ideal)
    ∧ quiescent_Reference30Ideal_pre_finite30 (hReference30Ideal := hReference30Ideal) (hPre_finite30 := hPre_finite30)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal_pre_finite29 (hKernel29Ideal := hKernel29Ideal) (hReference29Ideal := hReference29Ideal) (hPre_finite29 := hPre_finite29)
    ∧ preserves_Kernel30_Kernel30Ideal
    ∧ algebraic_Kernel30Ideal_Reference30Ideal_pre_finite30 (hKernel30Ideal := hKernel30Ideal) (hReference30Ideal := hReference30Ideal) (hPre_finite30 := hPre_finite30)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite28.lean ====
abbrev S8192x2048 : Shape := ⟨2, ![8192, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  bcast_S_S8192x2048 : S_.BroadcastsInDim S8192x2048 (![] : Fin 0 → Fin S8192x2048.rank)
  bcast_S1x2048_S8192x2048_0_1 : S1x2048.BroadcastsInDim S8192x2048 (![0, 1] : Fin 2 → Fin S8192x2048.rank)

variable [Facts]

def fn {F : FTy → Type} [FloatOps F] (main_arg0 : FVec F S8192x2048 .f32) (main_arg1 : FVec F S1x2048 .f32) (main_arg2 : FVec F S1x2048 .f32) (main_arg3 : FVec F S8192x2048 .f32) : IVec S8192x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048 .f32 := Host.absf main_arg2
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : IVec S1x2048 1 := andi main_v2 main_v5
  let main_v7 : FVec F S8192x2048 .f32 := Host.absf main_arg3
  let main_cst_1 : FVec F S_ .f32 := constant S_ .f32 0x7F800000#32
  let main_v8 : FVec F S8192x2048 .f32 := broadcastInDim S8192x2048 ![] bcast_S_S8192x2048 main_cst_1
  let main_v9 : IVec S8192x2048 1 := cmpf .olt main_v7 main_v8
  let main_v10 : IVec S8192x2048 1 := broadcastInDim S8192x2048 ![0, 1] bcast_S1x2048_S8192x2048_0_1 main_v6
  let main_v11 : IVec S8192x2048 1 := andi main_v10 main_v9
  main_v11
-- ==== Pre_finite29.lean ====
abbrev S8192x2048 : Shape := ⟨2, ![8192, 2048]⟩
abbrev S1x2048 : Shape := ⟨2, ![1, 2048]⟩
abbrev S_ : Shape := ⟨0, ![]⟩

class Facts : Prop where
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S1x2048 .f32) : IVec S8192x2048 1 :=
  let main_v0 : FVec F S8192x2048 .f32 := broadcastInDim S8192x2048 ![0, 1] bcast_S1x2048_S8192x2048_0_1 main_arg2
  let main_v1 : FVec F S8192x2048 .f32 := mulf main_arg0 main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  main_v4
-- ==== Pre_finite30.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S1x2048_S8192x2048_0_1 : S1x2048.BroadcastsInDim S8192x2048 (![0, 1] : Fin 2 → Fin S8192x2048.rank)

variable [Facts]

def fn {F : FTy → Type} [FloatOps F] (main_arg0 : FVec F S8192x2048 .f32) (main_arg1 : FVec F S8192x2048 .f32) (main_arg2 : FVec F S1x2048 .f32) (main_arg3 : FVec F S1x2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg2
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : IVec S8192x2048 1 := broadcastInDim S8192x2048 ![0, 1] bcast_S1x2048_S8192x2048_0_1 main_v5
  let main_v7 : IVec S8192x2048 1 := andi main_v2 main_v6
  let main_v8 : FVec F S1x2048 .f32 := Host.absf main_arg3
  let main_cst_1 : FVec F S_ .f32 := constant S_ .f32 0x7F800000#32
  let main_v9 : FVec F S1x2048 .f32 := broadcastInDim S1x2048 ![] bcast_S_S1x2048 main_cst_1
  let main_v10 : IVec S1x2048 1 := cmpf .olt main_v8 main_v9
  let main_v11 : IVec S8192x2048 1 := broadcastInDim S8192x2048 ![0, 1] bcast_S1x2048_S8192x2048_0_1 main_v10
  let main_v12 : IVec S8192x2048 1 := andi main_v7 main_v11
  main_v12
-- ==== Kernel.lean ====
abbrev S8192x8192 : Shape := ⟨2, ![8192, 8192]⟩
abbrev S8192x2048 : Shape := ⟨2, ![8192, 2048]⟩
abbrev S_ : Shape := ⟨0, ![]⟩
abbrev S8x1024x2048 : Shape := ⟨3, ![8, 1024, 2048]⟩
abbrev S1024x2048 : Shape := ⟨2, ![1024, 2048]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x2048, .bf16⟩
  | .hbm, ⟨7, _⟩ => ⟨S8192x2048, .bf16⟩
  | .hbm, ⟨8, _⟩ => ⟨S8x1024x2048, .bf16⟩
  | .hbm, ⟨9, _⟩ => ⟨S8192x2048, .bf16⟩
  | .hbm, ⟨10, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel2.lean ====
abbrev S8192x8192 : Shape := ⟨2, ![8192, 8192]⟩
abbrev S8192x2048 : Shape := ⟨2, ![8192, 2048]⟩
abbrev S_ : Shape := ⟨0, ![]⟩
abbrev S4096x1024 : Shape := ⟨2, ![4096, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel3.lean ====
abbrev S8192x8192 : Shape := ⟨2, ![8192, 8192]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x2048, .f32⟩
  | .hbm, ⟨3, _⟩ => ⟨S8192x8192, .bf16⟩
  | .hbm, ⟨4, _⟩ => ⟨S2048x8192, .bf16⟩
  | .hbm, ⟨5, _⟩ => ⟨S2048x8x1024, .bf16⟩
  | .hbm, ⟨6, _⟩ => ⟨S8x2048x1024, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x8192 : Shape := ⟨2, ![8192, 8192]⟩
abbrev S2048x8192 : Shape := ⟨2, ![2048, 8192]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel4.lean ====
abbrev S8192x2048 : Shape := ⟨2, ![8192, 2048]⟩
abbrev S8192x8192 : Shape := ⟨2, ![8192, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .bf16⟩
  | .hbm, ⟨3, _⟩ => ⟨S8192x8192, .bf16⟩
  | .hbm, ⟨4, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S_, .f32⟩
  | .hbm, ⟨3, _⟩ => ⟨S2048x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S8x256x2048 : Shape := ⟨3, ![8, 256, 2048]⟩
abbrev S1024x2048 : Shape := ⟨2, ![1024, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8x256x2048, .bf16⟩
  | .hbm, ⟨5, _⟩ => ⟨S2048x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S8x256x2048 : Shape := ⟨3, ![8, 256, 2048]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8x256x2048, .bf16⟩
  | .hbm, ⟨6, _⟩ => ⟨S2048x2048, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel7.lean ====
abbrev S8192x4096 : Shape := ⟨2, ![8192, 4096]⟩
abbrev S2048x4096 : Shape := ⟨2, ![2048, 4096]⟩
abbrev S8192x2048 : Shape := ⟨2, ![8192, 2048]⟩
abbrev S2048x8x512 : Shape := ⟨3, ![2048, 8, 512]⟩
abbrev S8x2048x512 : Shape := ⟨3, ![8, 2048, 512]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x2048, .f32⟩
  | .hbm, ⟨3, _⟩ => ⟨S8192x4096, .bf16⟩
  | .hbm, ⟨4, _⟩ => ⟨S2048x4096, .bf16⟩
  | .hbm, ⟨5, _⟩ => ⟨S2048x8x512, .bf16⟩
  | .hbm, ⟨6, _⟩ => ⟨S8x2048x512, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x4096 : Shape := ⟨2, ![8192, 4096]⟩
abbrev S2048x4096 : Shape := ⟨2, ![2048, 4096]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x4096, .f32⟩
  | .hbm, ⟨6, _⟩ => ⟨S8192x2048, .f32⟩
  | .hbm, ⟨7, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S8192x4096 : Shape := ⟨2, ![8192, 4096]⟩
abbrev S2048x4096 : Shape := ⟨2, ![2048, 4096]⟩
abbrev S8192x2048 : Shape := ⟨2, ![8192, 2048]⟩
abbrev S2048x8x512 : Shape := ⟨3, ![2048, 8, 512]⟩
abbrev S8x2048x512 : Shape := ⟨3, ![8, 2048, 512]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x2048, .f32⟩
  | .hbm, ⟨3, _⟩ => ⟨S8192x4096, .bf16⟩
  | .hbm, ⟨4, _⟩ => ⟨S2048x4096, .bf16⟩
  | .hbm, ⟨5, _⟩ => ⟨S2048x8x512, .bf16⟩
  | .hbm, ⟨6, _⟩ => ⟨S8x2048x512, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x4096 : Shape := ⟨2, ![8192, 4096]⟩
abbrev S2048x4096 : Shape := ⟨2, ![2048, 4096]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x4096, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x2048 : Shape := ⟨2, ![8192, 2048]⟩
abbrev S8192x4096 : Shape := ⟨2, ![8192, 4096]⟩
abbrev S8x2048x512 : Shape := ⟨3, ![8, 2048, 512]⟩
abbrev S4096x1024 : Shape := ⟨2, ![4096, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S8192x4096, .bf16⟩
  | .hbm, ⟨4, _⟩ => ⟨S8x2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S_, .f32⟩
  | .hbm, ⟨3, _⟩ => ⟨S2048x4096, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S2048x8x512, .f32⟩
  | .hbm, ⟨8, _⟩ => ⟨S8x2048x512, .f32⟩
  | .hbm, ⟨9, _⟩ => ⟨S8x2048x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S2048x4096 : Shape := ⟨2, ![2048, 4096]⟩
abbrev S1x4096 : Shape := ⟨2, ![1, 4096]⟩
abbrev S2048x8x512 : Shape := ⟨3, ![2048, 8, 512]⟩
abbrev S8x2048x512 : Shape := ⟨3, ![8, 2048, 512]⟩
abbrev S8192x4096 : Shape := ⟨2, ![8192, 4096]⟩
abbrev S1024x2048 : Shape := ⟨2, ![1024, 2048]⟩
abbrev S2x2048x512 : Shape := ⟨3, ![2, 2048, 512]⟩
abbrev S1x1024 : Shape := ⟨2, ![1, 1024]⟩
abbrev S1024x1024 : Shape := ⟨2, ![1024, 1024]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S1x4096, .f32⟩
  | .hbm, ⟨3, _⟩ => ⟨S8192x2048, .bf16⟩
  | .hbm, ⟨4, _⟩ => ⟨S2048x4096, .bf16⟩
  | .hbm, ⟨5, _⟩ => ⟨S2048x8x512, .bf16⟩
  | .hbm, ⟨6, _⟩ => ⟨S8x2048x512, .bf16⟩
  | .hbm, ⟨7, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2x2048x512, .bf16⟩
  | .local _ .vmem, ⟨3, _⟩ => ⟨S2x2048x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x2048 : Shape := ⟨2, ![8192, 2048]⟩
abbrev S2048x4096 : Shape := ⟨2, ![2048, 4096]⟩
abbrev S1x4096 : Shape := ⟨2, ![1, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S1x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1x2048 : Shape := ⟨2, ![1, 2048]⟩
abbrev S8x256x2048 : Shape := ⟨3, ![8, 256, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S2048x2048, .bf16⟩
  | .hbm, ⟨6, _⟩ => ⟨S8x256x2048, .bf16⟩
  | .hbm, ⟨7, _⟩ => ⟨S2048x2048, .bf16⟩
  | .hbm, ⟨8, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference13Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel14.lean ====
abbrev S8192x2048 : Shape := ⟨2, ![8192, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S8192x4096 : Shape := ⟨2, ![8192, 4096]⟩
abbrev S1024x2048 : Shape := ⟨2, ![1024, 2048]⟩
abbrev S2x2048x512 : Shape := ⟨3, ![2, 2048, 512]⟩
abbrev S1024x1024 : Shape := ⟨2, ![1024, 1024]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S2048x8x512, .bf16⟩
  | .hbm, ⟨5, _⟩ => ⟨S8x2048x512, .bf16⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2x2048x512, .bf16⟩
  | .local _ .vmem, ⟨3, _⟩ => ⟨S2x2048x512, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S8x256x2048 : Shape := ⟨3, ![8, 256, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8x256x2048, .bf16⟩
  | .hbm, ⟨5, _⟩ => ⟨S2048x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S8x256x2048 : Shape := ⟨3, ![8, 256, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8x256x2048, .bf16⟩
  | .hbm, ⟨5, _⟩ => ⟨S2048x2048, .bf16⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel17.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S8192x8192, .bf16⟩
  | .hbm, ⟨7, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel18.lean ====
abbrev S8192x8192 : Shape := ⟨2, ![8192, 8192]⟩
abbrev S8192x2048 : Shape := ⟨2, ![8192, 2048]⟩
abbrev S8x1024x2048 : Shape := ⟨3, ![8, 1024, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x8192, .bf16⟩
  | .hbm, ⟨4, _⟩ => ⟨S8192x2048, .bf16⟩
  | .hbm, ⟨5, _⟩ => ⟨S8x1024x2048, .bf16⟩
  | .hbm, ⟨6, _⟩ => ⟨S8192x2048, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel19.lean ====
abbrev S4x2048x512 : Shape := ⟨3, ![4, 2048, 512]⟩
abbrev S1x2048x512 : Shape := ⟨3, ![1, 2048, 512]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .bf16⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x512, .f32⟩
  | .hbm, ⟨5, _⟩ => ⟨S1x2048x512, .f32⟩
  | .hbm, ⟨6, _⟩ => ⟨S1x2048x512, .f32⟩
  | .hbm, ⟨7, _⟩ => ⟨S1x2048x512, .f32⟩
  | .local _ .vmem, ⟨0, _⟩ => ⟨S4x512x512, .bf16⟩
  | .local _ .vmem, ⟨1, _⟩ => ⟨S4x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel19Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference19Ideal.lean ====
abbrev S4x2048x512 : Shape := ⟨3, ![4, 2048, 512]⟩
abbrev S1x2048x512 : Shape := ⟨3, ![1, 2048, 512]⟩
abbrev S_ : Shape := ⟨0, ![]⟩
abbrev S2048x512 : Shape := ⟨2, ![2048, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S1x2048x512, .f32⟩
  | .hbm, ⟨8, _⟩ => ⟨S_, .f32⟩
  | .hbm, ⟨9, _⟩ => ⟨S1x2048x512, .f32⟩
  | .hbm, ⟨10, _⟩ => ⟨S1x2048x512, .f32⟩
  | .hbm, ⟨11, _⟩ => ⟨S_, .f32⟩
  | .hbm, ⟨12, _⟩ => ⟨S1x2048x512, .f32⟩
  | .hbm, ⟨13, _⟩ => ⟨S1x2048x512, .f32⟩
  | .hbm, ⟨14, _⟩ => ⟨S1x2048x512, .f32⟩
  | .hbm, ⟨15, _⟩ => ⟨S_, .f32⟩
  | .hbm, ⟨16, _⟩ => ⟨S1x2048x512, .f32⟩
  | .hbm, ⟨17, _⟩ => ⟨S1x2048x512, .f32⟩
  | .hbm, ⟨18, _⟩ => ⟨S1x2048x512, .f32⟩
  | .hbm, ⟨19, _⟩ => ⟨S_, .f32⟩
  | .hbm, ⟨20, _⟩ => ⟨S1x2048x512, .f32⟩
  | .hbm, ⟨21, _⟩ => ⟨S1x2048x512, .f32⟩
  | .hbm, ⟨22, _⟩ => ⟨S1x2048x512, .f32⟩
  | .hbm, ⟨23, _⟩ => ⟨S_, .f32⟩
  | .hbm, ⟨24, _⟩ => ⟨S1x2048x512, .f32⟩
  | .hbm, ⟨25, _⟩ => ⟨S1x2048x512, .f32⟩
  | .hbm, ⟨26, _⟩ => ⟨S_, .f32⟩
  | .hbm, ⟨27, _⟩ => ⟨S1x2048x512, .f32⟩
  | .hbm, ⟨28, _⟩ => ⟨S1x2048x512, .f32⟩
  | .hbm, ⟨29, _⟩ => ⟨S1x2048x512, .f32⟩
  | .hbm, ⟨30, _⟩ => ⟨S_, .f32⟩
  | .hbm, ⟨31, _⟩ => ⟨S1x2048x512, .f32⟩
  | .hbm, ⟨32, _⟩ => ⟨S1x2048x512, .f32⟩
  | .hbm, ⟨33, _⟩ => ⟨S1x2048x512, .f32⟩
  | .hbm, ⟨34, _⟩ => ⟨S_, .f32⟩
  | .hbm, ⟨35, _⟩ => ⟨S1x2048x512, .f32⟩
  | .hbm, ⟨36, _⟩ => ⟨S1x2048x512, .f32⟩
  | .hbm, ⟨37, _⟩ => ⟨S1x2048x512, .f32⟩
  | .hbm, ⟨38, _⟩ => ⟨S_, .f32⟩
  | .hbm, ⟨39, _⟩ => ⟨S1x2048x512, .f32⟩
  | .hbm, ⟨40, _⟩ => ⟨S1x2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel20.lean ====
abbrev S4x256x2048 : Shape := ⟨3, ![4, 256, 2048]⟩
abbrev S1x256x2048 : Shape := ⟨3, ![1, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel20Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference20Ideal.lean ====
abbrev S4x256x2048 : Shape := ⟨3, ![4, 256, 2048]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel21.lean ====
abbrev S4x2048x1024 : Shape := ⟨3, ![4, 2048, 1024]⟩
abbrev S2x2048x1024 : Shape := ⟨3, ![2, 2048, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel21Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference21Ideal.lean ====
abbrev S4x2048x1024 : Shape := ⟨3, ![4, 2048, 1024]⟩
abbrev S2x2048x1024 : Shape := ⟨3, ![2, 2048, 1024]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S4x2048x1024, .f32⟩
  | .hbm, ⟨6, _⟩ => ⟨S_, .f32⟩
  | .hbm, ⟨7, _⟩ => ⟨S2048x1024, .f32⟩
  | .hbm, ⟨8, _⟩ => ⟨S4x2048x1024, .f32⟩
  | .hbm, ⟨9, _⟩ => ⟨S_, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel22.lean ====
abbrev S4x1024x2048 : Shape := ⟨3, ![4, 1024, 2048]⟩
abbrev S2x1024x2048 : Shape := ⟨3, ![2, 1024, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S4x128x2048, .bf16⟩
  | .local _ .vmem, ⟨3, _⟩ => ⟨S4x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel22Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference22Ideal.lean ====
abbrev S4x1024x2048 : Shape := ⟨3, ![4, 1024, 2048]⟩
abbrev S2x1024x2048 : Shape := ⟨3, ![2, 1024, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S4x1024x2048, .f32⟩
  | .hbm, ⟨6, _⟩ => ⟨S_, .f32⟩
  | .hbm, ⟨7, _⟩ => ⟨S1024x2048, .f32⟩
  | .hbm, ⟨8, _⟩ => ⟨S4x1024x2048, .f32⟩
  | .hbm, ⟨9, _⟩ => ⟨S_, .f32⟩
  | .hbm, ⟨10, _⟩ => ⟨S1024x2048, .f32⟩
  | .hbm, ⟨11, _⟩ => ⟨S1x1024x2048, .f32⟩
  | .hbm, ⟨12, _⟩ => ⟨S1x1024x2048, .f32⟩
  | .hbm, ⟨13, _⟩ => ⟨S2x1024x2048, .f32⟩
  | .hbm, ⟨14, _⟩ => ⟨S_, .f32⟩
  | .hbm, ⟨15, _⟩ => ⟨S2x1024x2048, .f32⟩
  | .hbm, ⟨16, _⟩ => ⟨S2x1024x2048, .f32⟩
  | .hbm, ⟨17, _⟩ => ⟨S_, .f32⟩
  | .hbm, ⟨18, _⟩ => ⟨S2x1024x2048, .f32⟩
  | .hbm, ⟨19, _⟩ => ⟨S2x1024x2048, .f32⟩
  | .hbm, ⟨20, _⟩ => ⟨S2x1024x2048, .f32⟩
  | .hbm, ⟨21, _⟩ => ⟨S_, .f32⟩
  | .hbm, ⟨22, _⟩ => ⟨S2x1024x2048, .f32⟩
  | .hbm, ⟨23, _⟩ => ⟨S2x1024x2048, .f32⟩
  | .hbm, ⟨24, _⟩ => ⟨S2x1024x2048, .f32⟩
  | .hbm, ⟨25, _⟩ => ⟨S_, .f32⟩
  | .hbm, ⟨26, _⟩ => ⟨S2x1024x2048, .f32⟩
  | .hbm, ⟨27, _⟩ => ⟨S2x1024x2048, .f32⟩
  | .hbm, ⟨28, _⟩ => ⟨S2x1024x2048, .f32⟩
  | .hbm, ⟨29, _⟩ => ⟨S_, .f32⟩
  | .hbm, ⟨30, _⟩ => ⟨S2x1024x2048, .f32⟩
  | .hbm, ⟨31, _⟩ => ⟨S2x1024x2048, .f32⟩
  | .hbm, ⟨32, _⟩ => ⟨S_, .f32⟩
  | .hbm, ⟨33, _⟩ => ⟨S2x1024x2048, .f32⟩
  | .hbm, ⟨34, _⟩ => ⟨S2x1024x2048, .f32⟩
  | .hbm, ⟨35, _⟩ => ⟨S2x1024x2048, .f32⟩
  | .hbm, ⟨36, _⟩ => ⟨S_, .f32⟩
  | .hbm, ⟨37, _⟩ => ⟨S2x1024x2048, .f32⟩
  | .hbm, ⟨38, _⟩ => ⟨S2x1024x2048, .f32⟩
  | .hbm, ⟨39, _⟩ => ⟨S2x1024x2048, .f32⟩
  | .hbm, ⟨40, _⟩ => ⟨S_, .f32⟩
  | .hbm, ⟨41, _⟩ => ⟨S2x1024x2048, .f32⟩
  | .hbm, ⟨42, _⟩ => ⟨S2x1024x2048, .f32⟩
  | .hbm, ⟨43, _⟩ => ⟨S2x1024x2048, .f32⟩
  | .hbm, ⟨44, _⟩ => ⟨S_, .f32⟩
  | .hbm, ⟨45, _⟩ => ⟨S2x1024x2048, .f32⟩
  | .hbm, ⟨46, _⟩ => ⟨S2x1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel23.lean ====
abbrev S1x2x2048 : Shape := ⟨3, ![1, 2, 2048]⟩
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2048, .f32⟩
  | .hbm, ⟨1, _⟩ => ⟨S1x2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .local _ .vmem, ⟨0, _⟩ => ⟨S1x2x2048, .f32⟩
  | .local _ .vmem, ⟨1, _⟩ => ⟨S1x2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | _, _ => ⟨S1x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel23Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference23Ideal.lean ====
abbrev S1x2x2048 : Shape := ⟨3, ![1, 2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x2048, .f32⟩
  | .hbm, ⟨1, _⟩ => ⟨S1x2x2048, .f32⟩
  | .hbm, ⟨2, _⟩ => ⟨S1x2x2048, .f32⟩
  | .hbm, ⟨3, _⟩ => ⟨S1x2x2048, .f32⟩
  | .hbm, ⟨4, _⟩ => ⟨S_, .f32⟩
  | .hbm, ⟨5, _⟩ => ⟨S1x2x2048, .f32⟩
  | .hbm, ⟨6, _⟩ => ⟨S1x2x2048, .f32⟩
  | .hbm, ⟨7, _⟩ => ⟨S_, .f32⟩
  | .hbm, ⟨8, _⟩ => ⟨S1x2x2048, .f32⟩
  | .hbm, ⟨9, _⟩ => ⟨S1x2x2048, .f32⟩
  | .hbm, ⟨10, _⟩ => ⟨S1x2x2048, .f32⟩
  | .hbm, ⟨11, _⟩ => ⟨S_, .f32⟩
  | .hbm, ⟨12, _⟩ => ⟨S1x2x2048, .f32⟩
  | .hbm, ⟨13, _⟩ => ⟨S1x2x2048, .f32⟩
  | .hbm, ⟨14, _⟩ => ⟨S1x2x2048, .f32⟩
  | .hbm, ⟨15, _⟩ => ⟨S_, .f32⟩
  | .hbm, ⟨16, _⟩ => ⟨S1x2x2048, .f32⟩
  | .hbm, ⟨17, _⟩ => ⟨S1x2x2048, .f32⟩
  | .hbm, ⟨18, _⟩ => ⟨S1x2x2048, .f32⟩
  | .hbm, ⟨19, _⟩ => ⟨S_, .f32⟩
  | .hbm, ⟨20, _⟩ => ⟨S1x2x2048, .f32⟩
  | .hbm, ⟨21, _⟩ => ⟨S1x2x2048, .f32⟩
  | .hbm, ⟨22, _⟩ => ⟨S_, .f32⟩
  | .hbm, ⟨23, _⟩ => ⟨S1x2x2048, .f32⟩
  | .hbm, ⟨24, _⟩ => ⟨S1x2x2048, .f32⟩
  | .hbm, ⟨25, _⟩ => ⟨S1x2x2048, .f32⟩
  | .hbm, ⟨26, _⟩ => ⟨S_, .f32⟩
  | .hbm, ⟨27, _⟩ => ⟨S1x2x2048, .f32⟩
  | .hbm, ⟨28, _⟩ => ⟨S1x2x2048, .f32⟩
  | .hbm, ⟨29, _⟩ => ⟨S1x2x2048, .f32⟩
  | .hbm, ⟨30, _⟩ => ⟨S_, .f32⟩
  | .hbm, ⟨31, _⟩ => ⟨S1x2x2048, .f32⟩
  | .hbm, ⟨32, _⟩ => ⟨S1x2x2048, .f32⟩
  | .hbm, ⟨33, _⟩ => ⟨S1x2x2048, .f32⟩
  | .hbm, ⟨34, _⟩ => ⟨S_, .f32⟩
  | .hbm, ⟨35, _⟩ => ⟨S1x2x2048, .f32⟩
  | .hbm, ⟨36, _⟩ => ⟨S1x2x2048, .f32⟩
  | _, _ => ⟨S1x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x1x256 : Shape := ⟨3, ![1, 1, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x1x256, .f32⟩
  | .hbm, ⟨1, _⟩ => ⟨S1x1x256, .f32⟩
  | .hbm, ⟨2, _⟩ => ⟨S1x1x256, .f32⟩
  | .hbm, ⟨3, _⟩ => ⟨S1x1x256, .f32⟩
  | .hbm, ⟨4, _⟩ => ⟨S1x1x256, .f32⟩
  | .hbm, ⟨5, _⟩ => ⟨S1x1x256, .f32⟩
  | .hbm, ⟨6, _⟩ => ⟨S1x1x256, .f32⟩
  | .hbm, ⟨7, _⟩ => ⟨S1x1x256, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | _, _ => ⟨S1x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel24Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference24Ideal.lean ====
abbrev S1x1x256 : Shape := ⟨3, ![1, 1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1x256, .f32⟩
  | .hbm, ⟨1, _⟩ => ⟨S1x1x256, .f32⟩
  | .hbm, ⟨2, _⟩ => ⟨S1x1x256, .f32⟩
  | .hbm, ⟨3, _⟩ => ⟨S1x1x256, .f32⟩
  | .hbm, ⟨4, _⟩ => ⟨S_, .f32⟩
  | .hbm, ⟨5, _⟩ => ⟨S1x1x256, .f32⟩
  | .hbm, ⟨6, _⟩ => ⟨S1x1x256, .f32⟩
  | .hbm, ⟨7, _⟩ => ⟨S_, .f32⟩
  | .hbm, ⟨8, _⟩ => ⟨S1x1x256, .f32⟩
  | .hbm, ⟨9, _⟩ => ⟨S1x1x256, .f32⟩
  | .hbm, ⟨10, _⟩ => ⟨S1x1x256, .f32⟩
  | .hbm, ⟨11, _⟩ => ⟨S_, .f32⟩
  | .hbm, ⟨12, _⟩ => ⟨S1x1x256, .f32⟩
  | .hbm, ⟨13, _⟩ => ⟨S1x1x256, .f32⟩
  | .hbm, ⟨14, _⟩ => ⟨S1x1x256, .f32⟩
  | .hbm, ⟨15, _⟩ => ⟨S_, .f32⟩
  | .hbm, ⟨16, _⟩ => ⟨S1x1x256, .f32⟩
  | .hbm, ⟨17, _⟩ => ⟨S1x1x256, .f32⟩
  | .hbm, ⟨18, _⟩ => ⟨S1x1x256, .f32⟩
  | .hbm, ⟨19, _⟩ => ⟨S_, .f32⟩
  | .hbm, ⟨20, _⟩ => ⟨S1x1x256, .f32⟩
  | .hbm, ⟨21, _⟩ => ⟨S1x1x256, .f32⟩
  | .hbm, ⟨22, _⟩ => ⟨S_, .f32⟩
  | .hbm, ⟨23, _⟩ => ⟨S1x1x256, .f32⟩
  | .hbm, ⟨24, _⟩ => ⟨S1x1x256, .f32⟩
  | .hbm, ⟨25, _⟩ => ⟨S1x1x256, .f32⟩
  | .hbm, ⟨26, _⟩ => ⟨S_, .f32⟩
  | .hbm, ⟨27, _⟩ => ⟨S1x1x256, .f32⟩
  | .hbm, ⟨28, _⟩ => ⟨S1x1x256, .f32⟩
  | .hbm, ⟨29, _⟩ => ⟨S1x1x256, .f32⟩
  | .hbm, ⟨30, _⟩ => ⟨S_, .f32⟩
  | .hbm, ⟨31, _⟩ => ⟨S1x1x256, .f32⟩
  | .hbm, ⟨32, _⟩ => ⟨S1x1x256, .f32⟩
  | .hbm, ⟨33, _⟩ => ⟨S1x1x256, .f32⟩
  | .hbm, ⟨34, _⟩ => ⟨S_, .f32⟩
  | .hbm, ⟨35, _⟩ => ⟨S1x1x256, .f32⟩
  | .hbm, ⟨36, _⟩ => ⟨S1x1x256, .f32⟩
  | _, _ => ⟨S1x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x512, .f32⟩
  | .hbm, ⟨1, _⟩ => ⟨S1x1x512, .f32⟩
  | .hbm, ⟨2, _⟩ => ⟨S1x1x512, .f32⟩
  | .hbm, ⟨3, _⟩ => ⟨S1x1x512, .f32⟩
  | .hbm, ⟨4, _⟩ => ⟨S1x1x512, .f32⟩
  | .hbm, ⟨5, _⟩ => ⟨S1x1x512, .f32⟩
  | .hbm, ⟨6, _⟩ => ⟨S1x1x512, .f32⟩
  | .hbm, ⟨7, _⟩ => ⟨S1x1x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | _, _ => ⟨S1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel25Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference25Ideal.lean ====
abbrev S1x1x512 : Shape := ⟨3, ![1, 1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1x512, .f32⟩
  | .hbm, ⟨1, _⟩ => ⟨S1x1x512, .f32⟩
  | .hbm, ⟨2, _⟩ => ⟨S1x1x512, .f32⟩
  | .hbm, ⟨3, _⟩ => ⟨S1x1x512, .f32⟩
  | .hbm, ⟨4, _⟩ => ⟨S_, .f32⟩
  | .hbm, ⟨5, _⟩ => ⟨S1x1x512, .f32⟩
  | .hbm, ⟨6, _⟩ => ⟨S1x1x512, .f32⟩
  | .hbm, ⟨7, _⟩ => ⟨S_, .f32⟩
  | .hbm, ⟨8, _⟩ => ⟨S1x1x512, .f32⟩
  | .hbm, ⟨9, _⟩ => ⟨S1x1x512, .f32⟩
  | .hbm, ⟨10, _⟩ => ⟨S1x1x512, .f32⟩
  | .hbm, ⟨11, _⟩ => ⟨S_, .f32⟩
  | .hbm, ⟨12, _⟩ => ⟨S1x1x512, .f32⟩
  | .hbm, ⟨13, _⟩ => ⟨S1x1x512, .f32⟩
  | .hbm, ⟨14, _⟩ => ⟨S1x1x512, .f32⟩
  | .hbm, ⟨15, _⟩ => ⟨S_, .f32⟩
  | .hbm, ⟨16, _⟩ => ⟨S1x1x512, .f32⟩
  | .hbm, ⟨17, _⟩ => ⟨S1x1x512, .f32⟩
  | .hbm, ⟨18, _⟩ => ⟨S1x1x512, .f32⟩
  | .hbm, ⟨19, _⟩ => ⟨S_, .f32⟩
  | .hbm, ⟨20, _⟩ => ⟨S1x1x512, .f32⟩
  | .hbm, ⟨21, _⟩ => ⟨S1x1x512, .f32⟩
  | .hbm, ⟨22, _⟩ => ⟨S_, .f32⟩
  | .hbm, ⟨23, _⟩ => ⟨S1x1x512, .f32⟩
  | .hbm, ⟨24, _⟩ => ⟨S1x1x512, .f32⟩
  | .hbm, ⟨25, _⟩ => ⟨S1x1x512, .f32⟩
  | .hbm, ⟨26, _⟩ => ⟨S_, .f32⟩
  | .hbm, ⟨27, _⟩ => ⟨S1x1x512, .f32⟩
  | .hbm, ⟨28, _⟩ => ⟨S1x1x512, .f32⟩
  | .hbm, ⟨29, _⟩ => ⟨S1x1x512, .f32⟩
  | .hbm, ⟨30, _⟩ => ⟨S_, .f32⟩
  | .hbm, ⟨31, _⟩ => ⟨S1x1x512, .f32⟩
  | .hbm, ⟨32, _⟩ => ⟨S1x1x512, .f32⟩
  | .hbm, ⟨33, _⟩ => ⟨S1x1x512, .f32⟩
  | .hbm, ⟨34, _⟩ => ⟨S_, .f32⟩
  | .hbm, ⟨35, _⟩ => ⟨S1x1x512, .f32⟩
  | .hbm, ⟨36, _⟩ => ⟨S1x1x512, .f32⟩
  | _, _ => ⟨S1x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1x31x256 : Shape := ⟨3, ![1, 31, 256]⟩
abbrev S31x256 : Shape := ⟨2, ![31, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S1x31x256, .f32⟩
  | .hbm, ⟨5, _⟩ => ⟨S1x31x256, .f32⟩
  | .hbm, ⟨6, _⟩ => ⟨S1x31x256, .f32⟩
  | .hbm, ⟨7, _⟩ => ⟨S1x31x256, .f32⟩
  | .local _ .vmem, ⟨0, _⟩ => ⟨S1x31x256, .f32⟩
  | .local _ .vmem, ⟨1, _⟩ => ⟨S1x31x256, .f32⟩
  | .local _ .vmem, ⟨2, _⟩ => ⟨S1x31x256, .f32⟩
  | .local _ .vmem, ⟨3, _⟩ => ⟨S1x31x256, .f32⟩
  | .local _ .vmem, ⟨4, _⟩ => ⟨S1x31x256, .f32⟩
  | .local _ .vmem, ⟨5, _⟩ => ⟨S1x31x256, .f32⟩
  | .local _ .vmem, ⟨6, _⟩ => ⟨S1x31x256, .f32⟩
  | .local _ .vmem, ⟨7, _⟩ => ⟨S1x31x256, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel26Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference26Ideal.lean ====
abbrev S1x31x256 : Shape := ⟨3, ![1, 31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S_, .f32⟩
  | .hbm, ⟨5, _⟩ => ⟨S1x31x256, .f32⟩
  | .hbm, ⟨6, _⟩ => ⟨S1x31x256, .f32⟩
  | .hbm, ⟨7, _⟩ => ⟨S_, .f32⟩
  | .hbm, ⟨8, _⟩ => ⟨S1x31x256, .f32⟩
  | .hbm, ⟨9, _⟩ => ⟨S1x31x256, .f32⟩
  | .hbm, ⟨10, _⟩ => ⟨S1x31x256, .f32⟩
  | .hbm, ⟨11, _⟩ => ⟨S_, .f32⟩
  | .hbm, ⟨12, _⟩ => ⟨S1x31x256, .f32⟩
  | .hbm, ⟨13, _⟩ => ⟨S1x31x256, .f32⟩
  | .hbm, ⟨14, _⟩ => ⟨S1x31x256, .f32⟩
  | .hbm, ⟨15, _⟩ => ⟨S_, .f32⟩
  | .hbm, ⟨16, _⟩ => ⟨S1x31x256, .f32⟩
  | .hbm, ⟨17, _⟩ => ⟨S1x31x256, .f32⟩
  | .hbm, ⟨18, _⟩ => ⟨S1x31x256, .f32⟩
  | .hbm, ⟨19, _⟩ => ⟨S_, .f32⟩
  | .hbm, ⟨20, _⟩ => ⟨S1x31x256, .f32⟩
  | .hbm, ⟨21, _⟩ => ⟨S1x31x256, .f32⟩
  | .hbm, ⟨22, _⟩ => ⟨S_, .f32⟩
  | .hbm, ⟨23, _⟩ => ⟨S1x31x256, .f32⟩
  | .hbm, ⟨24, _⟩ => ⟨S1x31x256, .f32⟩
  | .hbm, ⟨25, _⟩ => ⟨S1x31x256, .f32⟩
  | .hbm, ⟨26, _⟩ => ⟨S_, .f32⟩
  | .hbm, ⟨27, _⟩ => ⟨S1x31x256, .f32⟩
  | .hbm, ⟨28, _⟩ => ⟨S1x31x256, .f32⟩
  | .hbm, ⟨29, _⟩ => ⟨S1x31x256, .f32⟩
  | .hbm, ⟨30, _⟩ => ⟨S_, .f32⟩
  | .hbm, ⟨31, _⟩ => ⟨S1x31x256, .f32⟩
  | .hbm, ⟨32, _⟩ => ⟨S1x31x256, .f32⟩
  | .hbm, ⟨33, _⟩ => ⟨S1x31x256, .f32⟩
  | .hbm, ⟨34, _⟩ => ⟨S_, .f32⟩
  | .hbm, ⟨35, _⟩ => ⟨S1x31x256, .f32⟩
  | .hbm, ⟨36, _⟩ => ⟨S1x31x256, .f32⟩
  | _, _ => ⟨S1x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1x32x16 : Shape := ⟨3, ![1, 32, 16]⟩
abbrev S32x16 : Shape := ⟨2, ![32, 16]⟩

abbrev nBuf : Space → Nat
  | .hbm => 8
  | .vmem => 8
  | .smem => 0
  | _ => 0

abbrev bufTy : (tb : Table) → Fin (tcTables nBuf tb) → BufTy
  | .hbm, ⟨0, _⟩ => ⟨S1x32x16, .f32⟩
  | .hbm, ⟨1, _⟩ => ⟨S1x32x16, .f32⟩
  | .hbm, ⟨2, _⟩ => ⟨S1x32x16, .f32⟩
  | .hbm, ⟨3, _⟩ => ⟨S1x32x16, .f32⟩
  | .hbm, ⟨4, _⟩ => ⟨S1x32x16, .f32⟩
  | .hbm, ⟨5, _⟩ => ⟨S1x32x16, .f32⟩
  | .hbm, ⟨6, _⟩ => ⟨S1x32x16, .f32⟩
  | .hbm, ⟨7, _⟩ => ⟨S1x32x16, .f32⟩
  | .local _ .vmem, ⟨0, _⟩ => ⟨S1x32x16, .f32⟩
  | .local _ .vmem, ⟨1, _⟩ => ⟨S1x32x16, .f32⟩
  | .local _ .vmem, ⟨2, _⟩ => ⟨S1x32x16, .f32⟩
  | .local _ .vmem, ⟨3, _⟩ => ⟨S1x32x16, .f32⟩
  | .local _ .vmem, ⟨4, _⟩ => ⟨S1x32x16, .f32⟩
  | .local _ .vmem, ⟨5, _⟩ => ⟨S1x32x16, .f32⟩
  | .local _ .vmem, ⟨6, _⟩ => ⟨S1x32x16, .f32⟩
  | .local _ .vmem, ⟨7, _⟩ => ⟨S1x32x16, .f32⟩
  | _, _ => ⟨S1x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel27Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference27Ideal.lean ====
abbrev S1x32x16 : Shape := ⟨3, ![1, 32, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32x16, .f32⟩
  | .hbm, ⟨1, _⟩ => ⟨S1x32x16, .f32⟩
  | .hbm, ⟨2, _⟩ => ⟨S1x32x16, .f32⟩
  | .hbm, ⟨3, _⟩ => ⟨S1x32x16, .f32⟩
  | .hbm, ⟨4, _⟩ => ⟨S_, .f32⟩
  | .hbm, ⟨5, _⟩ => ⟨S1x32x16, .f32⟩
  | .hbm, ⟨6, _⟩ => ⟨S1x32x16, .f32⟩
  | .hbm, ⟨7, _⟩ => ⟨S_, .f32⟩
  | .hbm, ⟨8, _⟩ => ⟨S1x32x16, .f32⟩
  | .hbm, ⟨9, _⟩ => ⟨S1x32x16, .f32⟩
  | .hbm, ⟨10, _⟩ => ⟨S1x32x16, .f32⟩
  | .hbm, ⟨11, _⟩ => ⟨S_, .f32⟩
  | .hbm, ⟨12, _⟩ => ⟨S1x32x16, .f32⟩
  | .hbm, ⟨13, _⟩ => ⟨S1x32x16, .f32⟩
  | .hbm, ⟨14, _⟩ => ⟨S1x32x16, .f32⟩
  | .hbm, ⟨15, _⟩ => ⟨S_, .f32⟩
  | .hbm, ⟨16, _⟩ => ⟨S1x32x16, .f32⟩
  | .hbm, ⟨17, _⟩ => ⟨S1x32x16, .f32⟩
  | .hbm, ⟨18, _⟩ => ⟨S1x32x16, .f32⟩
  | .hbm, ⟨19, _⟩ => ⟨S_, .f32⟩
  | .hbm, ⟨20, _⟩ => ⟨S1x32x16, .f32⟩
  | .hbm, ⟨21, _⟩ => ⟨S1x32x16, .f32⟩
  | .hbm, ⟨22, _⟩ => ⟨S_, .f32⟩
  | .hbm, ⟨23, _⟩ => ⟨S1x32x16, .f32⟩
  | .hbm, ⟨24, _⟩ => ⟨S1x32x16, .f32⟩
  | .hbm, ⟨25, _⟩ => ⟨S1x32x16, .f32⟩
  | .hbm, ⟨26, _⟩ => ⟨S_, .f32⟩
  | .hbm, ⟨27, _⟩ => ⟨S1x32x16, .f32⟩
  | .hbm, ⟨28, _⟩ => ⟨S1x32x16, .f32⟩
  | .hbm, ⟨29, _⟩ => ⟨S1x32x16, .f32⟩
  | .hbm, ⟨30, _⟩ => ⟨S_, .f32⟩
  | .hbm, ⟨31, _⟩ => ⟨S1x32x16, .f32⟩
  | .hbm, ⟨32, _⟩ => ⟨S1x32x16, .f32⟩
  | .hbm, ⟨33, _⟩ => ⟨S1x32x16, .f32⟩
  | .hbm, ⟨34, _⟩ => ⟨S_, .f32⟩
  | .hbm, ⟨35, _⟩ => ⟨S1x32x16, .f32⟩
  | .hbm, ⟨36, _⟩ => ⟨S1x32x16, .f32⟩
  | _, _ => ⟨S1x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S8192x2048 : Shape := ⟨2, ![8192, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S1x1, .f32⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x1, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v73 : BitVec 1 := Scalar.cmpi .eq arg0 c15_i32
  let v74 : BitVec 32 := Scalar.extui v73
  let c0_i32_38 : BitVec 32 := 0#32
  let v75 : BitVec 1 := Scalar.cmpi .ne v74 c0_i32_38
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference28Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x2048, .f32⟩
  | .hbm, ⟨75, _⟩ => ⟨S8192x2048, .f32⟩
  | .hbm, ⟨76, _⟩ => ⟨S8192x1, .f32⟩
  | .hbm, ⟨77, _⟩ => ⟨S8192x2048, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x2048, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x2048, .f32⟩
  | .hbm, ⟨100, _⟩ => ⟨S8192x2048, .f32⟩
  | .hbm, ⟨101, _⟩ => ⟨S1x1, .f32⟩
  | .hbm, ⟨102, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Kernel29.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference29Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S8192x2048, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x2048, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x2048, .f32⟩
  | .hbm, ⟨79, _⟩ => ⟨S8192x2048, .f32⟩
  | .hbm, ⟨80, _⟩ => ⟨S8192x2048, .bf16⟩
  | .hbm, ⟨81, _⟩ => ⟨S_, .f32⟩
  | .hbm, ⟨82, _⟩ => ⟨S2048, .f32⟩
  | .hbm, ⟨83, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_16 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel30.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference30Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 98
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S8192x1, .f32⟩
  | .hbm, ⟨71, _⟩ => ⟨S8192x2048, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x2048, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x2048, .f32⟩
  | .hbm, ⟨94, _⟩ => ⟨S8192x2048, .f32⟩
  | .hbm, ⟨95, _⟩ => ⟨S_, .f32⟩
  | .hbm, ⟨96, _⟩ => ⟨S2048, .f32⟩
  | .hbm, ⟨97, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]
-- ==== Kernel31.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference31Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel32.lean ====
abbrev S1x1 : Shape := ⟨2, ![1, 1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S1x1, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v2_s0 : Ref sig .tc := ⟨.hbm, 3, rfl⟩
abbrev main_v2_s1 : Ref sig .tc := ⟨.hbm, 4, rfl⟩
abbrev main_v2_s2 : Ref sig .tc := ⟨.hbm, 5, rfl⟩
abbrev main_v2_s3 : Ref sig .tc := ⟨.hbm, 6, rfl⟩
abbrev main_v2_s4 : Ref sig .tc := ⟨.hbm, 7, rfl⟩
abbrev main_v2_s5 : Ref sig .tc := ⟨.hbm, 8, rfl⟩
abbrev main_v2_s6 : Ref sig .tc := ⟨.hbm, 9, rfl⟩
abbrev main_v2_s7 : Ref sig .tc := ⟨.hbm, 10, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v2_s0 | 1 => main_v2_s1 | 2 => main_v2_s2 | 3 => main_v2_s3 | 4 => main_v2_s4 | 5 => main_v2_s5 | 6 => main_v2_s6 | 7 => main_v2_s7 | ⟨_ + 8, h⟩ => absurd h (Nat.not_lt.2 (Nat.le_add_left _ _))
-- ==== Reference32Ideal.lean ====
abbrev S8x1 : Shape := ⟨2, ![8, 1]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S8x1, .f32⟩
  | .hbm, ⟨1, _⟩ => ⟨S_, .f32⟩
  | .hbm, ⟨2, _⟩ => ⟨S_, .f32⟩
  | _, _ => ⟨S8x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel33.lean ====
abbrev S16x98304 : Shape := ⟨2, ![16, 98304]⟩
abbrev S1x98304 : Shape := ⟨2, ![1, 98304]⟩
abbrev S32 : Shape := ⟨1, ![32]⟩
abbrev S32x1 : Shape := ⟨2, ![32, 1]⟩
abbrev S32x98304 : Shape := ⟨2, ![32, 98304]⟩
abbrev S16x32 : Shape := ⟨2, ![16, 32]⟩
abbrev S16x12288 : Shape := ⟨2, ![16, 12288]⟩
abbrev S32x12288 : Shape := ⟨2, ![32, 12288]⟩

abbrev nBuf : Space → Nat
  | .hbm => 9
  | .vmem => 6
  | .smem => 0
  | _ => 0

abbrev bufTy : (tb : Table) → Fin (tcTables nBuf tb) → BufTy
  | .hbm, ⟨0, _⟩ => ⟨S16x98304, .f32⟩
  | .hbm, ⟨1, _⟩ => ⟨S1x98304, .i32⟩
  | .hbm, ⟨2, _⟩ => ⟨S32, .i32⟩
  | .hbm, ⟨3, _⟩ => ⟨S32x1, .i32⟩
  | .hbm, ⟨4, _⟩ => ⟨S32x98304, .i32⟩
  | .hbm, ⟨5, _⟩ => ⟨S32x98304, .i32⟩
  | .hbm, ⟨6, _⟩ => ⟨S32x98304, .i1⟩
  | .hbm, ⟨7, _⟩ => ⟨S32x98304, .f32⟩
  | .hbm, ⟨8, _⟩ => ⟨S16x32, .f32⟩
  | .local _ .vmem, ⟨0, _⟩ => ⟨S16x12288, .f32⟩
  | .local _ .vmem, ⟨1, _⟩ => ⟨S16x12288, .f32⟩
  | .local _ .vmem, ⟨2, _⟩ => ⟨S32x12288, .f32⟩
  | .local _ .vmem, ⟨3, _⟩ => ⟨S32x12288, .f32⟩
  | .local _ .vmem, ⟨4, _⟩ => ⟨S16x32, .f32⟩
  | .local _ .vmem, ⟨5, _⟩ => ⟨S16x32, .f32⟩
  | _, _ => ⟨S16x98304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S32x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference33Ideal.lean ====
abbrev S16x98304 : Shape := ⟨2, ![16, 98304]⟩
abbrev S1x98304 : Shape := ⟨2, ![1, 98304]⟩
abbrev S_ : Shape := ⟨0, ![]⟩
abbrev S32x16 : Shape := ⟨2, ![32, 16]⟩
abbrev S98304 : Shape := ⟨1, ![98304]⟩
abbrev S98304x1 : Shape := ⟨2, ![98304, 1]⟩
abbrev S1 : Shape := ⟨1, ![1]⟩
abbrev S1x1 : Shape := ⟨2, ![1, 1]⟩
abbrev S98304x16 : Shape := ⟨2, ![98304, 16]⟩
abbrev S16x32 : Shape := ⟨2, ![16, 32]⟩

abbrev nBuf : Space → Nat
  | .hbm => 27
  | .vmem => 0
  | .smem => 0
  | _ => 0

abbrev bufTy : (tb : Table) → Fin (tcTables nBuf tb) → BufTy
  | .hbm, ⟨0, _⟩ => ⟨S16x98304, .f32⟩
  | .hbm, ⟨1, _⟩ => ⟨S1x98304, .i32⟩
  | .hbm, ⟨2, _⟩ => ⟨S_, .f32⟩
  | .hbm, ⟨3, _⟩ => ⟨S32x16, .f32⟩
  | .hbm, ⟨4, _⟩ => ⟨S98304, .i32⟩
  | .hbm, ⟨5, _⟩ => ⟨S98304x1, .i32⟩
  | .hbm, ⟨6, _⟩ => ⟨S1, .i32⟩
  | .hbm, ⟨7, _⟩ => ⟨S_, .i32⟩
  | .hbm, ⟨8, _⟩ => ⟨S98304x1, .i32⟩
  | .hbm, ⟨9, _⟩ => ⟨S98304x1, .i1⟩
  | .hbm, ⟨10, _⟩ => ⟨S1x1, .i32⟩
  | .hbm, ⟨11, _⟩ => ⟨S98304x1, .i32⟩
  | .hbm, ⟨12, _⟩ => ⟨S98304x1, .i1⟩
  | .hbm, ⟨13, _⟩ => ⟨S98304x1, .i1⟩
  | .hbm, ⟨14, _⟩ => ⟨S_, .i1⟩
  | .hbm, ⟨15, _⟩ => ⟨S98304, .i1⟩
  | .hbm, ⟨16, _⟩ => ⟨S98304x16, .f32⟩
  | .hbm, ⟨17, _⟩ => ⟨S98304x16, .i1⟩
  | .hbm, ⟨18, _⟩ => ⟨S_, .f32⟩
  | .hbm, ⟨19, _⟩ => ⟨S98304x16, .f32⟩
  | .hbm, ⟨20, _⟩ => ⟨S98304x16, .f32⟩
  | .hbm, ⟨21, _⟩ => ⟨S16x98304, .f32⟩
  | .hbm, ⟨22, _⟩ => ⟨S98304x16, .f32⟩
  | .hbm, ⟨23, _⟩ => ⟨S_, .f32⟩
  | .hbm, ⟨24, _⟩ => ⟨S32x16, .f32⟩
  | .hbm, ⟨25, _⟩ => ⟨S32x16, .f32⟩
  | .hbm, ⟨26, _⟩ => ⟨S16x32, .f32⟩
  | _, _ => ⟨S16x98304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel34.lean ====
abbrev S32x16 : Shape := ⟨2, ![32, 16]⟩
abbrev S1x98304 : Shape := ⟨2, ![1, 98304]⟩
abbrev S32 : Shape := ⟨1, ![32]⟩
abbrev S32x1 : Shape := ⟨2, ![32, 1]⟩
abbrev S32x98304 : Shape := ⟨2, ![32, 98304]⟩
abbrev S16x98304 : Shape := ⟨2, ![16, 98304]⟩
abbrev S32x12288 : Shape := ⟨2, ![32, 12288]⟩
abbrev S16x12288 : Shape := ⟨2, ![16, 12288]⟩

abbrev nBuf : Space → Nat
  | .hbm => 9
  | .vmem => 5
  | .smem => 0
  | _ => 0

abbrev bufTy : (tb : Table) → Fin (tcTables nBuf tb) → BufTy
  | .hbm, ⟨0, _⟩ => ⟨S32x16, .f32⟩
  | .hbm, ⟨1, _⟩ => ⟨S1x98304, .i32⟩
  | .hbm, ⟨2, _⟩ => ⟨S32, .i32⟩
  | .hbm, ⟨3, _⟩ => ⟨S32x1, .i32⟩
  | .hbm, ⟨4, _⟩ => ⟨S32x98304, .i32⟩
  | .hbm, ⟨5, _⟩ => ⟨S32x98304, .i32⟩
  | .hbm, ⟨6, _⟩ => ⟨S32x98304, .i1⟩
  | .hbm, ⟨7, _⟩ => ⟨S32x98304, .f32⟩
  | .hbm, ⟨8, _⟩ => ⟨S16x98304, .f32⟩
  | .local _ .vmem, ⟨0, _⟩ => ⟨S32x16, .f32⟩
  | .local _ .vmem, ⟨1, _⟩ => ⟨S32x12288, .f32⟩
  | .local _ .vmem, ⟨2, _⟩ => ⟨S32x12288, .f32⟩
  | .local _ .vmem, ⟨3, _⟩ => ⟨S16x12288, .f32⟩
  | .local _ .vmem, ⟨4, _⟩ => ⟨S16x12288, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S32x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S16x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference34Ideal.lean ====
abbrev S32x16 : Shape := ⟨2, ![32, 16]⟩
abbrev S1x98304 : Shape := ⟨2, ![1, 98304]⟩
abbrev S98304 : Shape := ⟨1, ![98304]⟩
abbrev S98304x1 : Shape := ⟨2, ![98304, 1]⟩
abbrev S1 : Shape := ⟨1, ![1]⟩
abbrev S_ : Shape := ⟨0, ![]⟩
abbrev S1x1 : Shape := ⟨2, ![1, 1]⟩
abbrev S98304x16 : Shape := ⟨2, ![98304, 16]⟩
abbrev S16x98304 : Shape := ⟨2, ![16, 98304]⟩

abbrev nBuf : Space → Nat
  | .hbm => 20
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S1x98304, .i32⟩
  | .hbm, ⟨2, _⟩ => ⟨S98304, .i32⟩
  | .hbm, ⟨3, _⟩ => ⟨S98304x1, .i32⟩
  | .hbm, ⟨4, _⟩ => ⟨S1, .i32⟩
  | .hbm, ⟨5, _⟩ => ⟨S_, .i32⟩
  | .hbm, ⟨6, _⟩ => ⟨S98304x1, .i32⟩
  | .hbm, ⟨7, _⟩ => ⟨S98304x1, .i1⟩
  | .hbm, ⟨8, _⟩ => ⟨S1x1, .i32⟩
  | .hbm, ⟨9, _⟩ => ⟨S98304x1, .i32⟩
  | .hbm, ⟨10, _⟩ => ⟨S98304x1, .i1⟩
  | .hbm, ⟨11, _⟩ => ⟨S98304x1, .i1⟩
  | .hbm, ⟨12, _⟩ => ⟨S_, .i1⟩
  | .hbm, ⟨13, _⟩ => ⟨S98304, .i1⟩
  | .hbm, ⟨14, _⟩ => ⟨S98304x16, .f32⟩
  | .hbm, ⟨15, _⟩ => ⟨S98304x16, .i1⟩
  | .hbm, ⟨16, _⟩ => ⟨S_, .f32⟩
  | .hbm, ⟨17, _⟩ => ⟨S98304x16, .f32⟩
  | .hbm, ⟨18, _⟩ => ⟨S98304x16, .f32⟩
  | .hbm, ⟨19, _⟩ => ⟨S16x98304, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.DownDx.lean ====
module

public import proofs.«01_k».proof.Defs
public import proofs.«01_k».proof.Proof.Gen.KernelIdeal.Value
public import proofs.«01_k».proof.Proof.Gen.ReferenceIdeal.Run
public import Idealize.ShloMosaic.Lib.Pointwise
public import Idealize.ShloMosaic.Lib.StableHlo.ReadAt

@[expose] public section

set_option maxRecDepth 16384

noncomputable section

namespace Cert.KernelIdeal.DownDx

open Cert.KernelIdeal Cert.KernelIdeal.Gen Idealize.ShloMosaic Idealize.ShloMosaic.TcCoe Idealize.SL.Sem

variable (m : (ℓ : Loc nD τ sig) → Buf (Elt Ideal) ℓ)

/-- The three arguments as arrays of extended reals: `h`, the second weight and the gradient of the product. -/
abbrev aH (c : Dev nD) : FVec Ideal S8192x8192 .f32 := m ((c : Thread nD τ).loc main_arg0)
abbrev aW (c : Dev nD) : FVec Ideal S8192x2048 .f32 := m ((c : Thread nD τ).loc main_arg1)
abbrev aDz (c : Dev nD) : FVec Ideal S8192x2048 .f32 := m ((c : Thread nD τ).loc main_arg2)

/-- The gradient by the input of `relu(h)²·w`: row `i` of `dz` against row `j` of `w`, times `2·relu(h)`. -/
def grad (h : FVec Ideal S8192x8192 .f32) (w dz : FVec Ideal S8192x2048 .f32) (i j : Fin 8192) : EReal :=
  (∑ k : Fin 2048, dz (ix2 i k) * w (ix2 j k)) * (Ideal.ofBits .f32 0x40000000#32 * max (h (ix2 i j)) 0)

/-- The same as an array. -/
def G (h : FVec Ideal S8192x8192 .f32) (w dz : FVec Ideal S8192x2048 .f32) : FVec Ideal S8192x8192 .bf16 :=
  fun i => grad h w dz (i 0) (i 1)

/-- One block of the kernel at an entry. -/
theorem pay_at (x0 x1 : Vec Ideal S1024x2048 .bf16) (x2 : Vec Ideal S1024x1024 .f32) (p q : Fin 1024) :
    k0_pay1 x0 x1 x2 (ix2 p q)
      = (∑ k : Fin 2048, x0 (ix2 p k) * x1 (ix2 q k)) * (Ideal.ofBits .f32 0x40000000#32 * x2 (ix2 p q)) := by
  unfold k0_pay1
  pointwise

/-- What the host lines before the launch leave: `relu(h)`, and the other two arguments with a cast that is the identity. -/
theorem V_r (c : Dev nD) (i j : Fin 8192) : V m c main_v1 (ix2 i j) = max (aH m c (ix2 i j)) 0 := by
  unfold V
  after_reads_at
theorem V_dz (c : Dev nD) (i : Fin 8192) (j : Fin 2048) : V m c main_v2 (ix2 i j) = aDz m c (ix2 i j) := by
  unfold V
  after_reads_at
theorem V_w (c : Dev nD) (i : Fin 8192) (j : Fin 2048) : V m c main_v5 (ix2 i j) = aW m c (ix2 i j) := by
  have e : V m c main_v5 = (truncf .bf16 (aW m c) bitsLt_bf16_f32 : FVec Ideal S8192x2048 .bf16) := by
    unfold V
    after_reads_simp
    exact shapeCast_shapeCast _ _ _
  rw [e]
  rfl

/-- The blocks the four windows visit at point `t`. -/
theorem idx_eqs : ∀ t : Fin cfg0.N, win0_0.index t 0 = win0_3.index t 0 ∧ win0_0.index t 1 = 0
    ∧ win0_1.index t 0 = win0_3.index t 1 ∧ win0_1.index t 1 = 0
    ∧ win0_2.index t 0 = win0_3.index t 0 ∧ win0_2.index t 1 = win0_3.index t 1
    ∧ win0_3.index t 0 < 8 ∧ win0_3.index t 1 < 8 :=
  (by decide +kernel : ∀ t : Fin grid0.N, _)

/-- Row `p` of the block of rows number `b`. -/
abbrev row (b : ℕ) (hb : b < 8) (p : Fin 1024) : Fin 8192 := ⟨b * 1024 + p.val, by omega⟩

theorem blk_dz (c : Dev nD) (t : Fin cfg0.N) (p : Fin 1024) (k : Fin 2048) :
    iblk m c 0 t (ix2 p k) = aDz m c (ix2 (row _ (idx_eqs t).2.2.2.2.2.2.1 p) k) := by
  obtain ⟨h0, h1, -⟩ := idx_eqs t
  rw [← V_dz m c]
  refine congrArg (V m c main_v2) (funext fun a => Fin.ext ?_)
  match a with
  | ⟨0, _⟩ => show win0_0.index t 0 * 1024 + 1 * p.val = win0_3.index t 0 * 1024 + p.val; rw [h0]; omega
  | ⟨1, _⟩ => show win0_0.index t 1 * 2048 + 1 * k.val = k.val; rw [h1]; omega

theorem blk_w (c : Dev nD) (t : Fin cfg0.N) (p : Fin 1024) (k : Fin 2048) :
    iblk m c 1 t (ix2 p k) = aW m c (ix2 (row _ (idx_eqs t).2.2.2.2.2.2.2 p) k) := by
  obtain ⟨-, -, h0, h1, -⟩ := idx_eqs t
  rw [← V_w m c]
  refine congrArg (V m c main_v5) (funext fun a => Fin.ext ?_)
  match a with
  | ⟨0, _⟩ => show win0_1.index t 0 * 1024 + 1 * p.val = win0_3.index t 1 * 1024 + p.val; rw [h0]; omega
  | ⟨1, _⟩ => show win0_1.index t 1 * 2048 + 1 * k.val = k.val; rw [h1]; omega

theorem blk_r (c : Dev nD) (t : Fin cfg0.N) (p q : Fin 1024) :
    iblk m c 2 t (ix2 p q) = max (aH m c (ix2 (row _ (idx_eqs t).2.2.2.2.2.2.1 p) (row _ (idx_eqs t).2.2.2.2.2.2.2 q))) 0 := by
  obtain ⟨-, -, -, -, h0, h1, -⟩ := idx_eqs t
  rw [← V_r m c]
  refine congrArg (V m c main_v1) (funext fun a => Fin.ext ?_)
  match a with
  | ⟨0, _⟩ => show win0_2.index t 0 * 1024 + 1 * p.val = win0_3.index t 0 * 1024 + p.val; rw [h0]; omega
  | ⟨1, _⟩ => show win0_2.index t 1 * 1024 + 1 * q.val = win0_3.index t 1 * 1024 + q.val; rw [h1]; omega

theorem hz : (![0, 0] : Fin 2 → Nat) = fun _ => 0 := funext fun a => by fin_cases a <;> rfl

/-- Point `t` writes back its block of the gradient. -/
theorem flushed_eq (c : Dev nD) (t : Fin cfg0.N) :
    (dats m 0 c).flushed 3 t = ((cfg0.win 3).blk t).view.read (Elt Ideal) (G (aH m c) (aW m c) (aDz m c)) := by
  rw [Value.flushed3]
  unfold out0_3
  rw [View.canon_unit_zero hz, View.ld_unit_zero hz, View.ld_unit_zero hz, View.ld_unit_zero hz]
  funext y
  obtain ⟨p, q, rfl⟩ : ∃ p q : Fin 1024, y = ix2 p q := ⟨y 0, y 1, eq_ix2 y⟩
  refine (pay_at _ _ _ p q).trans ?_
  have e : ((cfg0.win 3).blk t).view.emb (ix2 p q)
      = ix2 (row _ (idx_eqs t).2.2.2.2.2.2.1 p) (row _ (idx_eqs t).2.2.2.2.2.2.2 q) := funext fun a => Fin.ext (by
    match a with
    | ⟨0, _⟩ => show win0_3.index t 0 * 1024 + 1 * p.val = win0_3.index t 0 * 1024 + p.val; omega
    | ⟨1, _⟩ => show win0_3.index t 1 * 1024 + 1 * q.val = win0_3.index t 1 * 1024 + q.val; omega)
  show _ = G (aH m c) (aW m c) (aDz m c) (((cfg0.win 3).blk t).view.emb (ix2 p q))
  rw [e]
  show _ = grad _ _ _ (row _ (idx_eqs t).2.2.2.2.2.2.1 p) (row _ (idx_eqs t).2.2.2.2.2.2.2 q)
  unfold grad
  rw [blk_r]
  exact congrArg (· * _) (Finset.sum_congr rfl fun k _ => by rw [blk_dz, blk_w])

/-- Every pair of block numbers is some point's. -/
theorem onto : ∀ a b : Fin 8, ∃ t : Fin cfg0.N, (cfg0.win 3).flush t = true ∧ win0_3.index t 0 = a.val ∧ win0_3.index t 1 = b.val :=
  fun a b => ⟨(⟨a.val * 8 + b.val, lt_of_lt_of_eq (by omega) N_0.symm⟩ : Fin grid0.N),
    (by decide +kernel : ∀ a b : Fin 8, win0_3.flush ⟨a.val * 8 + b.val, lt_of_lt_of_eq (by omega) N_0.symm⟩ = true
      ∧ win0_3.index ⟨a.val * 8 + b.val, lt_of_lt_of_eq (by omega) N_0.symm⟩ 0 = a.val
      ∧ win0_3.index ⟨a.val * 8 + b.val, lt_of_lt_of_eq (by omega) N_0.symm⟩ 1 = b.val) a b⟩

/-- The blocks tile the result. -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, hf, h0, h1⟩ := onto ⟨(i 0).val / 1024, by omega⟩ ⟨(i 1).val / 1024, by omega⟩
  refine ⟨t, hf, ?_⟩
  show i ∈ ((View.whole main_v6).slice (win0_3.rect t)).set
  rw [View.set_slice_whole, Rect.mem_set_unit]
  intro a
  match a with
  | ⟨0, _⟩ => show win0_3.index t 0 * 1024 ≤ (i 0).val ∧ (i 0).val < win0_3.index t 0 * 1024 + 1024; dsimp only at h0; omega
  | ⟨1, _⟩ => show win0_3.index t 1 * 1024 ≤ (i 1).val ∧ (i 1).val < win0_3.index t 1 * 1024 + 1024; dsimp only at h1; omega

/-- The result array after the run is the gradient. -/
theorem final (c : Dev nD) : (dats m 0 c).arrAt 3 cfg0.N = G (aH m c) (aW m c) (aDz m c) :=
  (dats m 0 c).arrAt_eq_of_cover 3 _ (fun t _ => flushed_eq m c t) cover

/-- The kernel's run: the result is the gradient of the arguments, and the arguments are kept. -/
theorem run (ρ : Dev nD → PrngReg) : θ_run defs (onTc (τ := τ) (main (F := Ideal))) ⟨m, fun _ => 0, ρ⟩ fun r => ∀ c : Dev nD,
      r.2.mem ((c : Thread nD τ).loc main_v6) = G (aH m c) (aW m c) (aDz m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- A product with a factor that is zero unless `h` is positive needs no test of `h`. -/
theorem if_pos_mul (s two x : EReal) : (if 0 < x then s * (two * max x 0) else 0) = s * (two * max x 0) := by
  by_cases h : 0 < x
  · rw [if_pos h]
  · rw [if_neg h, max_eq_right (not_lt.mp h), mul_zero, mul_zero]

/-- The claim: the kernel and the derivative of the plain lines end with the same array. -/
theorem algebraic : Cert.algebraic_KernelIdeal_ReferenceIdeal (hKernelIdeal := Cert.KernelIdeal.Gen.facts) (hReferenceIdeal := Cert.ReferenceIdeal.Gen.facts) := by
  intro m ρ m' ρ' _ hag
  refine ⟨fun c => G (aH m c) (aW m c) (aDz m c), run m ρ, (θ_run _ _ _).mono (fun _ h c => ⟨(h c).1.trans ?_, (h c).2⟩) (Cert.ReferenceIdeal.Value.run m' ρ')⟩
  rw [(hag c).1, (hag c).2.1, (hag c).2.2]
  funext j
  idx_vars j
  show _ = grad (aH m c) (aW m c) (aDz m c) j0 j1
  unfold grad
  pointwise
  exact if_pos_mul _ _ _

end Cert.KernelIdeal.DownDx
end
-- ==== Proof.DownDw.lean ====
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.StableHlo.ReadAt

@[expose] public section

set_option maxRecDepth 16384

noncomputable section

namespace Cert.Kernel2Ideal.DownDw

open Cert.Kernel2Ideal Cert.Kernel2Ideal.Gen Idealize.ShloMosaic Idealize.ShloMosaic.TcCoe Idealize.SL.Sem
open Idealize.ShloMosaic.Tactic

variable (m : (ℓ : Loc nD τ sig) → Buf (Elt Ideal) ℓ)

/-- The two arguments as arrays of extended reals: `h` and the gradient of the product. -/
abbrev aH (c : Dev nD) : FVec Ideal S8192x8192 .f32 := m ((c : Thread nD τ).loc main_arg0)
abbrev aDz (c : Dev nD) : FVec Ideal S8192x2048 .f32 := m ((c : Thread nD τ).loc main_arg1)

/-- The gradient by the weight of `relu(h)²·w`: column `i` of `relu(h)²` against column `j` of `dz`. -/
def grad (h : FVec Ideal S8192x8192 .f32) (dz : FVec Ideal S8192x2048 .f32) (i : Fin 8192) (j : Fin 2048) : EReal :=
  ∑ k : Fin 8192, (max (h (ix2 k i)) 0 * max (h (ix2 k i)) 0) * dz (ix2 k j)

/-- The same as an array. -/
def G (h : FVec Ideal S8192x8192 .f32) (dz : FVec Ideal S8192x2048 .f32) : FVec Ideal S8192x2048 .bf16 :=
  fun i => grad h dz (i 0) (i 1)

/-- What the host lines before the launch leave. -/
theorem V_a (c : Dev nD) (i j : Fin 8192) : V m c main_v3 (ix2 i j) = max (aH m c (ix2 i j)) 0 * max (aH m c (ix2 i j)) 0 := by
  unfold V
  after_reads_at
theorem V_dz (c : Dev nD) (i : Fin 8192) (j : Fin 2048) : V m c main_v4 (ix2 i j) = aDz m c (ix2 i j) := by
  unfold V
  after_reads_at

theorem hz : (![0, 0] : Fin 2 → Nat) = fun _ => 0 := funext fun a => by fin_cases a <;> rfl

/-- The first point of a run leaves its product in the accumulator … -/
theorem first_eq (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S1024x1024 .bf16) (h3 : a3.IsWhole)
    (a4 : Memref sig .tc .vmem S1024x1024 .f32) (h4 : a4.IsWhole) (hc0 : cond0_0 i) (hc1 : ¬cond0_1 i)
    (x0 x1 : Vec Ideal S4096x1024 .bf16) :
    sout0_A_0 c i a1 h1 a2 h2 a3 h3 a4 h4 hc0 hc1 x0 x1 = k0_pay1 x0 x1 := by
  unfold sout0_A_0
  rw [View.read_writes_eq_canon _ _ _ (scover0_A_0 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S4096x1024) hz]

/-- … and the second adds its own to it and writes the sum back. -/
theorem second_eq (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S1024x1024 .bf16) (h3 : a3.IsWhole)
    (a4 : Memref sig .tc .vmem S1024x1024 .f32) (h4 : a4.IsWhole) (hc0 : ¬cond0_0 i) (hc1 : cond0_1 i)
    (x0 x1 : Vec Ideal S4096x1024 .bf16) (xs : Vec Ideal S1024x1024 .f32) :
    out0_B_2 c i a1 h1 a2 h2 a3 h3 a4 h4 hc0 hc1 x0 x1 xs = k0_pay2 xs x0 x1 := by
  unfold out0_B_2
  rw [View.read_writes_eq_canon _ _ _ (cover0_B_2 c i a1 h1 a2 h2 a3 h3 a4 h4 hc0 hc1 x0 x1 xs)]
  unfold kernelRun0_B
  dsimp only
  rw [View.canon_unit_zero hz]
  simp only [View.readAt_eq_ld, h1.read_unread, h2.read_unread, h4.read_unread, View.ld_unit_zero (S := S4096x1024) hz, View.ld_unit_zero (S := S1024x1024) hz]

/-- The two products of a run at an entry. -/
theorem pay_at (x0 x1 y0 y1 : Vec Ideal S4096x1024 .bf16) (p q : Fin 1024) :
    k0_pay2 (k0_pay1 x0 x1) y0 y1 (ix2 p q)
      = (∑ k : Fin 4096, x0 (ix2 k p) * x1 (ix2 k q)) + ∑ k : Fin 4096, y0 (ix2 k p) * y1 (ix2 k q) := by
  unfold k0_pay2 k0_pay1
  pointwise

/-- The blocks the windows visit at point `t`. -/
theorem idx_eqs : ∀ t : Fin cfg0.N, win0_0.index t 0 = t.val % 2 ∧ win0_0.index t 1 = t.val / 4
    ∧ win0_1.index t 0 = t.val % 2 ∧ win0_1.index t 1 = t.val / 2 % 2
    ∧ win0_2.index t 0 = t.val / 4 ∧ win0_2.index t 1 = t.val / 2 % 2 ∧ t.val < 32 :=
  (by decide +kernel : ∀ t : Fin grid0.N, _)

/-- The entry of an array of rows of `n` that lies at place `k` of block `b` of `w`. -/
abbrev at_ (n w : ℕ) (b : ℕ) (k : Fin w) (h : b * w + w ≤ n) : Fin n := ⟨b * w + k.val, by omega⟩

theorem blk_a (c : Dev nD) (t : Fin cfg0.N) (k : Fin 4096) (p : Fin 1024) :
    iblk m c 0 t (ix2 k p) = V m c main_v3 (ix2 (at_ 8192 4096 (t.val % 2) k (by omega)) (at_ 8192 1024 (t.val / 4) p (by have := (idx_eqs t).2.2.2.2.2.2; omega))) := by
  obtain ⟨h0, h1, -⟩ := idx_eqs t
  refine congrArg (V m c main_v3) (funext fun a => Fin.ext ?_)
  match a with
  | ⟨0, _⟩ => show win0_0.index t 0 * 4096 + 1 * k.val = t.val % 2 * 4096 + k.val; rw [h0]; omega
  | ⟨1, _⟩ => show win0_0.index t 1 * 1024 + 1 * p.val = t.val / 4 * 1024 + p.val; rw [h1]; omega

theorem blk_dz (c : Dev nD) (t : Fin cfg0.N) (k : Fin 4096) (p : Fin 1024) :
    iblk m c 1 t (ix2 k p) = V m c main_v4 (ix2 (at_ 8192 4096 (t.val % 2) k (by omega)) (at_ 2048 1024 (t.val / 2 % 2) p (by omega))) := by
  obtain ⟨-, -, h0, h1, -⟩ := idx_eqs t
  refine congrArg (V m c main_v4) (funext fun a => Fin.ext ?_)
  match a with
  | ⟨0, _⟩ => show win0_1.index t 0 * 4096 + 1 * k.val = t.val % 2 * 4096 + k.val; rw [h0]; omega
  | ⟨1, _⟩ => show win0_1.index t 1 * 1024 + 1 * p.val = t.val / 2 % 2 * 1024 + p.val; rw [h1]; omega

/-- A point that writes back writes its block of the gradient. -/
theorem flushed_eq (c : Dev nD) (t : Fin cfg0.N) (hf : (cfg0.win 2).flush t = true) :
    (dats m 0 c).flushed 2 t = ((cfg0.win 2).blk t).view.read (Elt Ideal) (G (aH m c) (aDz m c)) := by
  have ht : t.val % 2 = 1 := (flush0_2 t).mp hf
  have ht0 : ¬t.val % 2 = 0 := by omega
  obtain ⟨-, -, -, -, e0, e1, hN⟩ := idx_eqs t
  have hp : t.val - 1 < cfg0.N := Nat.lt_of_le_of_lt (Nat.sub_le _ _) t.isLt
  have hp0 : (t.val - 1) % 2 = 0 := by omega
  have hp1 : ¬(t.val - 1) % 2 = 1 := by omega
  rw [Value.flushed2_B m c t ht0 ht, second_eq, outsAt0_A m c ⟨t.val - 1, hp⟩ hp0 hp1]
  dsimp only
  rw [first_eq]
  funext y
  obtain ⟨p, q, rfl⟩ : ∃ p q : Fin 1024, y = ix2 p q := ⟨y 0, y 1, eq_ix2 y⟩
  refine (pay_at _ _ _ _ p q).trans ?_
  have e : ((cfg0.win 2).blk t).view.emb (ix2 p q)
      = ix2 (at_ 8192 1024 (t.val / 4) p (by omega)) (at_ 2048 1024 (t.val / 2 % 2) q (by omega)) := funext fun a => Fin.ext (by
    match a with
    | ⟨0, _⟩ => show win0_2.index t 0 * 1024 + 1 * p.val = t.val / 4 * 1024 + p.val; rw [e0]; omega
    | ⟨1, _⟩ => show win0_2.index t 1 * 1024 + 1 * q.val = t.val / 2 % 2 * 1024 + q.val; rw [e1]; omega)
  show _ = G (aH m c) (aDz m c) (((cfg0.win 2).blk t).view.emb (ix2 p q))
  rw [e]
  show _ = grad _ _ (at_ 8192 1024 (t.val / 4) p (by omega)) (at_ 2048 1024 (t.val / 2 % 2) q (by omega))
  unfold grad
  rw [Fin.sum_univ_two_halves 4096 4096 rfl]
  refine congrArg₂ (· + ·) (Finset.sum_congr rfl fun k _ => ?_) (Finset.sum_congr rfl fun k _ => ?_)
  · rw [blk_a, blk_dz, V_a, V_dz]
    have a0 : at_ 8192 4096 ((t.val - 1) % 2) k (by omega) = ⟨k.val, by omega⟩ := Fin.ext (by show (t.val - 1) % 2 * 4096 + k.val = k.val; omega)
    have a1 : at_ 8192 1024 ((t.val - 1) / 4) p (by omega) = at_ 8192 1024 (t.val / 4) p (by omega) := Fin.ext (by show (t.val - 1) / 4 * 1024 + p.val = t.val / 4 * 1024 + p.val; omega)
    have a2 : at_ 2048 1024 ((t.val - 1) / 2 % 2) q (by omega) = at_ 2048 1024 (t.val / 2 % 2) q (by omega) := Fin.ext (by show (t.val - 1) / 2 % 2 * 1024 + q.val = t.val / 2 % 2 * 1024 + q.val; omega)
    simp only [a0, a1, a2]
  · rw [blk_a, blk_dz, V_a, V_dz]
    have a0 : at_ 8192 4096 (t.val % 2) k (by omega) = ⟨4096 + k.val, by omega⟩ := Fin.ext (by show t.val % 2 * 4096 + k.val = 4096 + k.val; omega)
    simp only [a0]

/-- The result array after the run is the gradient. -/
theorem final (c : Dev nD) : (dats m 0 c).arrAt 2 cfg0.N = G (aH m c) (aDz m c) :=
  (dats m 0 c).arrAt_eq_of_cover 2 _ (fun t hf => flushed_eq m c t hf) (fun i => (Value.covered_iff2 i).2 (by
    have h0 : (i 0).val < 8192 := (i 0).isLt; have h1 : (i 1).val < 2048 := (i 1).isLt; omega))

/-- The claim: the kernel and the derivative of the plain lines end with the same array. -/
theorem algebraic : Cert.algebraic_Kernel2Ideal_Reference2Ideal (hKernel2Ideal := Cert.Kernel2Ideal.Gen.facts) (hReference2Ideal := Cert.Reference2Ideal.Gen.facts) := by
  intro m ρ m' ρ' _ hag
  refine ⟨fun c => G (aH m c) (aDz m c), (θ_run _ _ _).mono (fun _ h c => ⟨(h c).1.trans (final m c), (h c).2⟩) (Value.run_blocks m ρ),
    (θ_run _ _ _).mono (fun _ h c => ⟨(h c).1.trans ?_, (h c).2⟩) (Cert.Reference2Ideal.Value.run m' ρ')⟩
  rw [(hag c).1, (hag c).2]
  funext j
  idx_vars j
  show _ = grad (aH m c) (aDz m c) j0 j1
  unfold grad
  pointwise
  exact Finset.sum_congr rfl fun k _ => mul_comm _ _

end Cert.Kernel2Ideal.DownDw
end
-- ==== Proof.UpDx.lean ====
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.StableHlo.ReadAt

@[expose] public section

set_option maxRecDepth 16384

noncomputable section

namespace Cert.Kernel3Ideal.UpDx

open Cert.Kernel3Ideal Cert.Kernel3Ideal.Gen Idealize.ShloMosaic Idealize.ShloMosaic.TcCoe Idealize.SL.Sem
open Idealize.ShloMosaic.Tactic

variable (m : (ℓ : Loc nD τ sig) → Buf (Elt Ideal) ℓ)

/-- The three arguments as arrays of extended reals: the gradient of the product, the first weight, and the gradient that
    reaches the input past the block. -/
abbrev aDh (c : Dev nD) : FVec Ideal S8192x8192 .f32 := m ((c : Thread nD τ).loc main_arg0)
abbrev aW (c : Dev nD) : FVec Ideal S2048x8192 .f32 := m ((c : Thread nD τ).loc main_arg1)
abbrev aDz (c : Dev nD) : FVec Ideal S8192x2048 .f32 := m ((c : Thread nD τ).loc main_arg2)

/-- The gradient by the input of `x·w` and of `α·x` together. -/
def grad (dh : FVec Ideal S8192x8192 .f32) (w : FVec Ideal S2048x8192 .f32) (dz : FVec Ideal S8192x2048 .f32) (i : Fin 8192) (j : Fin 2048) : EReal :=
  Ideal.ofBits .f32 0x3FB504F3#32 * dz (ix2 i j) + ∑ k : Fin 8192, dh (ix2 i k) * w (ix2 j k)

/-- The same as an array. -/
def G (dh : FVec Ideal S8192x8192 .f32) (w : FVec Ideal S2048x8192 .f32) (dz : FVec Ideal S8192x2048 .f32) : FVec Ideal S8192x2048 .f32 :=
  fun i => grad dh w dz (i 0) (i 1)

/-- Shard `s`'s part of the product at an entry: the weight lies in eight shards of 1024 columns. -/
def part (dh : FVec Ideal S8192x8192 .f32) (w : FVec Ideal S2048x8192 .f32) (s : ℕ) (hs : s < 8) (i : Fin 8192) (j : Fin 2048) : EReal :=
  ∑ k : Fin 1024, dh (ix2 i ⟨s * 1024 + k.val, by omega⟩) * w (ix2 j ⟨s * 1024 + k.val, by omega⟩)

theorem sum_parts (dh : FVec Ideal S8192x8192 .f32) (w : FVec Ideal S2048x8192 .f32) (i : Fin 8192) (j : Fin 2048) :
    ∑ k : Fin 8192, dh (ix2 i k) * w (ix2 j k)
      = (part dh w 0 (by omega) i j + part dh w 1 (by omega) i j) + (part dh w 2 (by omega) i j + part dh w 3 (by omega) i j)
        + (part dh w 4 (by omega) i j + part dh w 5 (by omega) i j) + (part dh w 6 (by omega) i j + part dh w 7 (by omega) i j) := by
  rw [Fin.sum_univ_tiles 8 1024 rfl, Fin.sum_univ_eight]
  simp only [add_assoc]
  rfl

/-- What the host lines before the launch leave: the gradient as it is, the weight cut into its shards. -/
theorem V_dh (c : Dev nD) (i j : Fin 8192) : V m c main_v0 (ix2 i j) = aDh m c (ix2 i j) := by
  unfold V
  after_reads_at
theorem V_w (c : Dev nD) (s : Fin 8) (i : Fin 2048) (j : Fin 1024) : V m c main_v3 (ix3 s i j) = aW m c (ix2 i ⟨s.val * 1024 + j.val, by omega⟩) := by
  unfold V
  after_reads_at
theorem V_dz (c : Dev nD) : V m c main_arg2 = aDz m c := V_main_arg2 m c

theorem hz : (![0, 0] : Fin 2 → Nat) = fun _ => 0 := funext fun a => by fin_cases a <;> rfl

/-- What one point multiplies: two shards of the weight against their columns of the gradient. -/
def two (x0 : Vec Ideal S1024x2048 .bf16) (x1 : Vec Ideal S2x1024x1024 .bf16) (p q : Fin 1024) : EReal :=
  (∑ k : Fin 1024, x0 (ix2 p ⟨k.val, by omega⟩) * x1 (ix3 0 q k)) + ∑ k : Fin 1024, x0 (ix2 p ⟨1024 + k.val, by omega⟩) * x1 (ix3 1 q k)

theorem ld_left (x0 : Vec Ideal S1024x2048 .bf16) (p k : Fin 1024) :
    View.ld x0 (Rect.unit (s := S1024x2048) ![0, 0] S1024x1024.size inb_S1024x2048_S1024x1024_0_0) (ix2 p k) = x0 (ix2 p ⟨k.val, by omega⟩) :=
  congrArg x0 (funext fun a => Fin.ext (by
    match a with
    | ⟨0, _⟩ => show 0 + 1 * p.val = p.val; omega
    | ⟨1, _⟩ => show 0 + 1 * k.val = k.val; omega))
theorem ld_right (x0 : Vec Ideal S1024x2048 .bf16) (p k : Fin 1024) :
    View.ld x0 (Rect.unit (s := S1024x2048) ![0, 1024] S1024x1024.size inb_S1024x2048_S1024x1024_0_1024) (ix2 p k) = x0 (ix2 p ⟨1024 + k.val, by omega⟩) :=
  congrArg x0 (funext fun a => Fin.ext (by
    match a with
    | ⟨0, _⟩ => show 0 + 1 * p.val = p.val; omega
    | ⟨1, _⟩ => show 1024 + 1 * k.val = 1024 + k.val; omega))
theorem ld_w0 (x1 : Vec Ideal S2x1024x1024 .bf16) (q k : Fin 1024) :
    View.ld x1 (Rect.unit (s := S2x1024x1024) ![0, 0, 0] S1x1024x1024.size inb_S2x1024x1024_S1x1024x1024_0_0_0) (ix3 0 q k) = x1 (ix3 0 q k) :=
  congrArg x1 (funext fun a => Fin.ext (by
    match a with
    | ⟨0, _⟩ => rfl
    | ⟨1, _⟩ => show 0 + 1 * q.val = q.val; omega
    | ⟨2, _⟩ => show 0 + 1 * k.val = k.val; omega))
theorem ld_w1 (x1 : Vec Ideal S2x1024x1024 .bf16) (q k : Fin 1024) :
    View.ld x1 (Rect.unit (s := S2x1024x1024) ![1, 0, 0] S1x1024x1024.size inb_S2x1024x1024_S1x1024x1024_1_0_0) (ix3 0 q k) = x1 (ix3 1 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem two_ld (x0 : Vec Ideal S1024x2048 .bf16) (x1 : Vec Ideal S2x1024x1024 .bf16) (p q : Fin 1024) :
    (∑ k : Fin 1024, View.ld x0 (Rect.unit (s := S1024x2048) ![0, 0] S1024x1024.size inb_S1024x2048_S1024x1024_0_0) (ix2 p k)
        * View.ld x1 (Rect.unit (s := S2x1024x1024) ![0, 0, 0] S1x1024x1024.size inb_S2x1024x1024_S1x1024x1024_0_0_0) (ix3 0 q k))
      + (∑ k : Fin 1024, View.ld x0 (Rect.unit (s := S1024x2048) ![0, 1024] S1024x1024.size inb_S1024x2048_S1024x1024_0_1024) (ix2 p k)
        * View.ld x1 (Rect.unit (s := S2x1024x1024) ![1, 0, 0] S1x1024x1024.size inb_S2x1024x1024_S1x1024x1024_1_0_0) (ix3 0 q k))
    = two x0 x1 p q :=
  congrArg₂ (· + ·) (Finset.sum_congr rfl fun k _ => congrArg₂ (· * ·) (ld_left x0 p k) (ld_w0 x1 q k))
    (Finset.sum_congr rfl fun k _ => congrArg₂ (· * ·) (ld_right x0 p k) (ld_w1 x1 q k))

/-- The payloads of the three kinds of points at an entry. -/
theorem pay1_at (u : Vec Ideal S1024x1024 .bf16) (v : Vec Ideal S1x1024x1024 .bf16) (u' : Vec Ideal S1024x1024 .bf16) (v' : Vec Ideal S1x1024x1024 .bf16) (p q : Fin 1024) :
    k0_pay1 u v u' v' (ix2 p q) = (∑ k : Fin 1024, u (ix2 p k) * v (ix3 0 q k)) + ∑ k : Fin 1024, u' (ix2 p k) * v' (ix3 0 q k) := by
  unfold k0_pay1
  pointwise
theorem pay2_at (a : Vec Ideal S1024x1024 .f32) (u : Vec Ideal S1024x1024 .bf16) (v : Vec Ideal S1x1024x1024 .bf16) (u' : Vec Ideal S1024x1024 .bf16) (v' : Vec Ideal S1x1024x1024 .bf16) (p q : Fin 1024) :
    k0_pay2 a u v u' v' (ix2 p q) = a (ix2 p q) + ((∑ k : Fin 1024, u (ix2 p k) * v (ix3 0 q k)) + ∑ k : Fin 1024, u' (ix2 p k) * v' (ix3 0 q k)) := by
  unfold k0_pay2
  pointwise
theorem pay3_at (a : Vec Ideal S1024x1024 .f32) (u : Vec Ideal S1024x1024 .bf16) (v : Vec Ideal S1x1024x1024 .bf16) (u' : Vec Ideal S1024x1024 .bf16) (v' : Vec Ideal S1x1024x1024 .bf16) (r : Vec Ideal S1024x1024 .f32) (p q : Fin 1024) :
    k0_pay3 a u v u' v' r (ix2 p q) = Ideal.ofBits .f32 0x3FB504F3#32 * r (ix2 p q)
      + (a (ix2 p q) + ((∑ k : Fin 1024, u (ix2 p k) * v (ix3 0 q k)) + ∑ k : Fin 1024, u' (ix2 p k) * v' (ix3 0 q k))) := by
  unfold k0_pay3
  pointwise

section points
variable (c : Dev nD) (i : grid0.Coords) (a1 : Memref sig .tc .vmem S1024x2048 .bf16) (h1 : a1.IsWhole)
    (a2 : Memref sig .tc .vmem S2x1024x1024 .bf16) (h2 : a2.IsWhole) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (x0 : Vec Ideal S1024x2048 .bf16) (x1 : Vec Ideal S2x1024x1024 .bf16) (x2 xs : Vec Ideal S1024x1024 .f32) (p q : Fin 1024)

/-- The first point of a run leaves its product in the accumulator, … -/
theorem first_eq (hc0 : cond0_0 i) (hc1 : ¬cond0_1 i) (hc2 : ¬cond0_2 i) :
    sout0_A_0 c i a1 h1 a2 h2 a3 h3 a4 h4 a5 h5 hc0 hc1 hc2 x0 x1 x2 (ix2 p q) = two x0 x1 p q := by
  unfold sout0_A_0
  rw [View.read_writes_eq_canon _ _ _ (scover0_A_0 c i a1 h1 a2 h2 a3 h3 a4 h4 a5 h5 hc0 hc1 hc2 x0 x1 x2)]
  unfold kernelRun0_A
  dsimp only
  rw [View.canon_unit_zero hz]
  simp only [View.readAt_eq_ld, h1.read_unread, h2.read_unread]
  exact (pay1_at ..).trans (two_ld x0 x1 p q)

/-- … the middle ones add theirs, … -/
theorem middle_eq (hc0 : ¬cond0_0 i) (hc1 : cond0_1 i) (hc2 : ¬cond0_2 i) :
    sout0_B_0 c i a1 h1 a2 h2 a3 h3 a4 h4 a5 h5 hc0 hc1 hc2 x0 x1 x2 xs (ix2 p q) = xs (ix2 p q) + two x0 x1 p q := by
  unfold sout0_B_0
  rw [View.read_writes_eq_canon _ _ _ (scover0_B_0 c i a1 h1 a2 h2 a3 h3 a4 h4 a5 h5 hc0 hc1 hc2 x0 x1 x2 xs)]
  unfold kernelRun0_B
  dsimp only
  rw [View.canon_unit_zero hz]
  simp only [View.readAt_eq_ld, h1.read_unread, h2.read_unread, h5.read_unread, View.ld_unit_zero (S := S1024x1024) hz]
  exact (pay2_at ..).trans (congrArg (xs (ix2 p q) + ·) (two_ld x0 x1 p q))

/-- … and the last adds its own and the gradient that goes past the block. -/
theorem last_eq (hc0 : ¬cond0_0 i) (hc1 : ¬cond0_1 i) (hc2 : cond0_2 i) :
    out0_C_3 c i a1 h1 a2 h2 a3 h3 a4 h4 a5 h5 hc0 hc1 hc2 x0 x1 x2 xs (ix2 p q)
      = Ideal.ofBits .f32 0x3FB504F3#32 * x2 (ix2 p q) + (xs (ix2 p q) + two x0 x1 p q) := by
  unfold out0_C_3
  rw [View.read_writes_eq_canon _ _ _ (cover0_C_3 c i a1 h1 a2 h2 a3 h3 a4 h4 a5 h5 hc0 hc1 hc2 x0 x1 x2 xs)]
  unfold kernelRun0_C
  dsimp only
  rw [View.canon_unit_zero hz]
  simp only [View.readAt_eq_ld, h1.read_unread, h2.read_unread, h3.read_unread, h5.read_unread, View.ld_unit_zero (S := S1024x1024) hz]
  exact (pay3_at ..).trans (congrArg (fun s => Ideal.ofBits .f32 0x3FB504F3#32 * x2 (ix2 p q) + (xs (ix2 p q) + s)) (two_ld x0 x1 p q))

end points

/-- The blocks the windows visit at point `t`. -/
theorem idx_eqs : ∀ t : Fin cfg0.N, (win0_0.index t 0 = t.val / 8 ∧ win0_0.index t 1 = t.val % 4)
    ∧ (win0_1.index t 0 = t.val % 4 ∧ win0_1.index t 1 = t.val / 4 % 2 ∧ win0_1.index t 2 = 0)
    ∧ (win0_2.index t 0 = t.val / 8 ∧ win0_2.index t 1 = t.val / 4 % 2)
    ∧ (win0_3.index t 0 = t.val / 8 ∧ win0_3.index t 1 = t.val / 4 % 2) ∧ t.val < 64 :=
  (by decide +kernel : ∀ t : Fin grid0.N, _)

/-- The row and the column of the result that entry `(p, q)` of block `b` (row block `b / 2`, column block `b % 2`) is. -/
abbrev rowOf (b : ℕ) (hb : b < 16) (p : Fin 1024) : Fin 8192 := ⟨b / 2 * 1024 + p.val, by omega⟩
abbrev colOf (b : ℕ) (q : Fin 1024) : Fin 2048 := ⟨b % 2 * 1024 + q.val, by omega⟩

/-- Point `t` multiplies shards `2·(t mod 4)` and `2·(t mod 4) + 1` for block `t / 4`. -/
theorem two_eq (c : Dev nD) (t : Fin cfg0.N) (b k : ℕ) (hb : b < 16) (hk : k < 4) (hbt : t.val = b * 4 + k) (p q : Fin 1024) :
    two (iblk m c 0 t) (iblk m c 1 t) p q
      = part (aDh m c) (aW m c) (2 * k) (by omega) (rowOf b hb p) (colOf b q)
        + part (aDh m c) (aW m c) (2 * k + 1) (by omega) (rowOf b hb p) (colOf b q) := by
  obtain ⟨⟨e0, e1⟩, ⟨f0, f1, f2⟩, -, -, -⟩ := idx_eqs t
  have hd (j : Fin 2048) : iblk m c 0 t (ix2 p j) = aDh m c (ix2 (rowOf b hb p) ⟨k * 2048 + j.val, by omega⟩) := by
    rw [← V_dh m c]
    refine congrArg (V m c main_v0) (funext fun a => Fin.ext ?_)
    match a with
    | ⟨0, _⟩ => show win0_0.index t 0 * 1024 + 1 * p.val = b / 2 * 1024 + p.val; rw [e0]; omega
    | ⟨1, _⟩ => show win0_0.index t 1 * 2048 + 1 * j.val = k * 2048 + j.val; rw [e1]; omega
  have hw (s : Fin 2) (j : Fin 1024) : iblk m c 1 t (ix3 s q j) = aW m c (ix2 (colOf b q) ⟨(2 * k + s.val) * 1024 + j.val, by omega⟩) := by
    rw [← V_w m c ⟨2 * k + s.val, by omega⟩]
    refine congrArg (V m c main_v3) (funext fun a => Fin.ext ?_)
    match a with
    | ⟨0, _⟩ => show win0_1.index t 0 * 2 + 1 * s.val = 2 * k + s.val; rw [f0]; omega
    | ⟨1, _⟩ => show win0_1.index t 1 * 1024 + 1 * q.val = b % 2 * 1024 + q.val; rw [f1]; omega
    | ⟨2, _⟩ => show win0_1.index t 2 * 1024 + 1 * j.val = j.val; rw [f2]; omega
  unfold two part
  refine congrArg₂ (· + ·) (Finset.sum_congr rfl fun j _ => ?_) (Finset.sum_congr rfl fun j _ => ?_)
  · rw [hd, hw]
    refine congrArg₂ (· * ·) (congrArg (fun x => aDh m c (ix2 _ x)) (Fin.ext ?_)) (congrArg (fun x => aW m c (ix2 _ x)) (Fin.ext ?_))
    · show k * 2048 + j.val = 2 * k * 1024 + j.val; omega
    · show (2 * k + 0) * 1024 + j.val = 2 * k * 1024 + j.val; omega
  · rw [hd, hw]
    refine congrArg₂ (· * ·) (congrArg (fun x => aDh m c (ix2 _ x)) (Fin.ext ?_)) (congrArg (fun x => aW m c (ix2 _ x)) (Fin.ext ?_))
    · show k * 2048 + (1024 + j.val) = (2 * k + 1) * 1024 + j.val; omega
    · show (2 * k + 1) * 1024 + j.val = (2 * k + 1) * 1024 + j.val; rfl

/-- The accumulator after the first three points of block `b`'s run. -/
theorem acc_eq (c : Dev nD) (b : ℕ) (hb : b < 16) (h : b * 4 + 2 < cfg0.N) (p q : Fin 1024) :
    (outsAt0 m c (b * 4 + 2) h).2 (ix2 p q)
      = two (iblk m c 0 ⟨b * 4, by omega⟩) (iblk m c 1 ⟨b * 4, by omega⟩) p q
        + two (iblk m c 0 ⟨b * 4 + 1, by omega⟩) (iblk m c 1 ⟨b * 4 + 1, by omega⟩) p q
        + two (iblk m c 0 ⟨b * 4 + 2, h⟩) (iblk m c 1 ⟨b * 4 + 2, h⟩) p q := by
  have s0 : (outsAt0 m c (b * 4) (by omega)).2 (ix2 p q) = two (iblk m c 0 ⟨b * 4, by omega⟩) (iblk m c 1 ⟨b * 4, by omega⟩) p q := by
    rw [outsAt0_A m c ⟨b * 4, by omega⟩ (by show b * 4 % 4 = 0; omega) (by show ¬(1 ≤ b * 4 % 4 ∧ b * 4 % 4 ≤ 2); omega) (by show ¬b * 4 % 4 = 3; omega)]
    dsimp only
    rw [first_eq]
  have s1 : (outsAt0 m c (b * 4 + 1) (by omega)).2 (ix2 p q) = two (iblk m c 0 ⟨b * 4, by omega⟩) (iblk m c 1 ⟨b * 4, by omega⟩) p q
        + two (iblk m c 0 ⟨b * 4 + 1, by omega⟩) (iblk m c 1 ⟨b * 4 + 1, by omega⟩) p q := by
    rw [outsAt0_B m c ⟨b * 4 + 1, by omega⟩ (by show ¬(b * 4 + 1) % 4 = 0; omega) (by show 1 ≤ (b * 4 + 1) % 4 ∧ (b * 4 + 1) % 4 ≤ 2; omega) (by show ¬(b * 4 + 1) % 4 = 3; omega)]
    dsimp only
    rw [middle_eq]
    exact congrArg (· + _) s0
  rw [outsAt0_B m c ⟨b * 4 + 2, h⟩ (by show ¬(b * 4 + 2) % 4 = 0; omega) (by show 1 ≤ (b * 4 + 2) % 4 ∧ (b * 4 + 2) % 4 ≤ 2; omega) (by show ¬(b * 4 + 2) % 4 = 3; omega)]
  dsimp only
  rw [middle_eq]
  exact congrArg (· + _) s1

/-- A point that writes back writes its block of the gradient. -/
theorem flushed_eq (c : Dev nD) (t : Fin cfg0.N) (hf : (cfg0.win 3).flush t = true) :
    (dats m 0 c).flushed 3 t = ((cfg0.win 3).blk t).view.read (Elt Ideal) (G (aDh m c) (aW m c) (aDz m c)) := by
  have ht : t.val % 4 = 3 := (flush0_3 t).mp hf
  obtain ⟨-, -, ⟨g0, g1⟩, ⟨e0, e1⟩, hN⟩ := idx_eqs t
  obtain ⟨b, hb⟩ : ∃ b, t.val = b * 4 + 3 := ⟨t.val / 4, by omega⟩
  have hb16 : b < 16 := by omega
  have hN64 : cfg0.N = 64 := N_0
  have hp : t.val - 1 = b * 4 + 2 := by omega
  rw [Value.flushed3_C m c t (by omega) (by omega) ht]
  funext y
  obtain ⟨p, q, rfl⟩ : ∃ p q : Fin 1024, y = ix2 p q := ⟨y 0, y 1, eq_ix2 y⟩
  refine (last_eq ..).trans ?_
  have e : ((cfg0.win 3).blk t).view.emb (ix2 p q) = ix2 (rowOf b hb16 p) (colOf b q) := funext fun a => Fin.ext (by
    match a with
    | ⟨0, _⟩ => show win0_3.index t 0 * 1024 + 1 * p.val = b / 2 * 1024 + p.val; rw [e0]; omega
    | ⟨1, _⟩ => show win0_3.index t 1 * 1024 + 1 * q.val = b % 2 * 1024 + q.val; rw [e1]; omega)
  have er : iblk m c 2 t (ix2 p q) = aDz m c (ix2 (rowOf b hb16 p) (colOf b q)) := by
    rw [← V_dz m c]
    refine congrArg (V m c main_arg2) (funext fun a => Fin.ext ?_)
    match a with
    | ⟨0, _⟩ => show win0_2.index t 0 * 1024 + 1 * p.val = b / 2 * 1024 + p.val; rw [g0]; omega
    | ⟨1, _⟩ => show win0_2.index t 1 * 1024 + 1 * q.val = b % 2 * 1024 + q.val; rw [g1]; omega
  show _ = G (aDh m c) (aW m c) (aDz m c) (((cfg0.win 3).blk t).view.emb (ix2 p q))
  rw [e, er]
  show _ = grad _ _ _ (rowOf b hb16 p) (colOf b q)
  unfold grad
  have ea : (outsAt0 m c (t.val - 1) (Nat.lt_of_le_of_lt (Nat.sub_le _ _) t.isLt)).2 (ix2 p q) = _ :=
    (congrArg (fun s : Vec Ideal S1024x1024 .f32 => s (ix2 p q)) (by simp only [hp])).trans (acc_eq m c b hb16 (by omega) p q)
  rw [ea, two_eq m c ⟨b * 4, _⟩ b 0 hb16 (by omega) rfl, two_eq m c ⟨b * 4 + 1, _⟩ b 1 hb16 (by omega) rfl,
    two_eq m c ⟨b * 4 + 2, _⟩ b 2 hb16 (by omega) rfl, two_eq m c t b 3 hb16 (by omega) hb, sum_parts]

/-- The result array after the run is the gradient. -/
theorem final (c : Dev nD) : (dats m 0 c).arrAt 3 cfg0.N = G (aDh m c) (aW m c) (aDz m c) :=
  (dats m 0 c).arrAt_eq_of_cover 3 _ (fun t hf => flushed_eq m c t hf) (fun i => (Value.covered_iff3 i).2 (by
    have h0 : (i 0).val < 8192 := (i 0).isLt; have h1 : (i 1).val < 2048 := (i 1).isLt; omega))

/-- The claim: the kernel and the derivative of the plain lines end with the same array. -/
theorem algebraic : Cert.algebraic_Kernel3Ideal_Reference3Ideal (hKernel3Ideal := Cert.Kernel3Ideal.Gen.facts) (hReference3Ideal := Cert.Reference3Ideal.Gen.facts) := by
  intro m ρ m' ρ' _ hag
  refine ⟨fun c => G (aDh m c) (aW m c) (aDz m c), (θ_run _ _ _).mono (fun _ h c => ⟨(h c).1.trans (final m c), (h c).2⟩) (Value.run_blocks m ρ),
    (θ_run _ _ _).mono (fun _ h c => ⟨(h c).1.trans ?_, (h c).2⟩) (Cert.Reference3Ideal.Value.run m' ρ')⟩
  rw [(hag c).1, (hag c).2.1, (hag c).2.2]
  funext j
  idx_vars j
  show _ = grad (aDh m c) (aW m c) (aDz m c) j0 j1
  unfold grad
  pointwise

end Cert.Kernel3Ideal.UpDx
end
-- ==== Proof.UpDw.lean ====
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.StableHlo.ReadAt

@[expose] public section

set_option maxRecDepth 16384

noncomputable section

namespace Cert.Kernel4Ideal.UpDw

open Cert.Kernel4Ideal Cert.Kernel4Ideal.Gen Idealize.ShloMosaic Idealize.ShloMosaic.TcCoe Idealize.SL.Sem
open Idealize.ShloMosaic.Tactic

variable (m : (ℓ : Loc nD τ sig) → Buf (Elt Ideal) ℓ)

/-- The two arguments as arrays of extended reals: the block's input and the gradient of the product. -/
abbrev aX (c : Dev nD) : FVec Ideal S8192x2048 .f32 := m ((c : Thread nD τ).loc main_arg0)
abbrev aDh (c : Dev nD) : FVec Ideal S8192x8192 .f32 := m ((c : Thread nD τ).loc main_arg1)

/-- The gradient by the weight of `x·w`, entry `(i, j)` of its shard `s` of 1024 columns. -/
def grad (x : FVec Ideal S8192x2048 .f32) (dh : FVec Ideal S8192x8192 .f32) (s : Fin 8) (i : Fin 2048) (j : Fin 1024) : EReal :=
  ∑ k : Fin 8192, x (ix2 k i) * dh (ix2 k ⟨s.val * 1024 + j.val, by omega⟩)

/-- The same as an array. -/
def G (x : FVec Ideal S8192x2048 .f32) (dh : FVec Ideal S8192x8192 .f32) : FVec Ideal S8x2048x1024 .bf16 :=
  fun i => grad x dh (i 0) (i 1) (i 2)

/-- What the host lines before the launch leave: both arguments as they are. -/
theorem V_x (c : Dev nD) (i : Fin 8192) (j : Fin 2048) : V m c main_v0 (ix2 i j) = aX m c (ix2 i j) := by
  unfold V
  after_reads_at
theorem V_dh (c : Dev nD) (i j : Fin 8192) : V m c main_v1 (ix2 i j) = aDh m c (ix2 i j) := by
  unfold V
  after_reads_at

theorem hz3 : (![0, 0, 0] : Fin 3 → Nat) = fun _ => 0 := funext fun a => by fin_cases a <;> rfl
theorem hz : (![0, 0] : Fin 2 → Nat) = fun _ => 0 := funext fun a => by fin_cases a <;> rfl

/-- The first point of a run leaves its product in the accumulator … -/
theorem first_eq (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S1x1024x1024 .bf16) (h3 : a3.IsWhole)
    (a4 : Memref sig .tc .vmem S1024x1024 .f32) (h4 : a4.IsWhole) (hc0 : cond0_0 i) (hc1 : ¬cond0_1 i)
    (x0 x1 : Vec Ideal S4096x1024 .bf16) :
    sout0_A_0 c i a1 h1 a2 h2 a3 h3 a4 h4 hc0 hc1 x0 x1 = k0_pay1 x0 x1 := by
  unfold sout0_A_0
  rw [View.read_writes_eq_canon _ _ _ (scover0_A_0 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S4096x1024) hz]

/-- … and the second adds its own to it and writes the sum back. -/
theorem second_eq (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S1x1024x1024 .bf16) (h3 : a3.IsWhole)
    (a4 : Memref sig .tc .vmem S1024x1024 .f32) (h4 : a4.IsWhole) (hc0 : ¬cond0_0 i) (hc1 : cond0_1 i)
    (x0 x1 : Vec Ideal S4096x1024 .bf16) (xs : Vec Ideal S1024x1024 .f32) :
    out0_B_2 c i a1 h1 a2 h2 a3 h3 a4 h4 hc0 hc1 x0 x1 xs = k0_pay2 xs x0 x1 := by
  unfold out0_B_2
  rw [View.read_writes_eq_canon _ _ _ (cover0_B_2 c i a1 h1 a2 h2 a3 h3 a4 h4 hc0 hc1 x0 x1 xs)]
  unfold kernelRun0_B
  dsimp only
  rw [View.canon_unit_zero hz3]
  simp only [View.readAt_eq_ld, h1.read_unread, h2.read_unread, h4.read_unread, View.ld_unit_zero (S := S4096x1024) hz, View.ld_unit_zero (S := S1024x1024) hz]

/-- The two products of a run at an entry. -/
theorem pay_at (x0 x1 y0 y1 : Vec Ideal S4096x1024 .bf16) (p q : Fin 1024) :
    k0_pay2 (k0_pay1 x0 x1) y0 y1 (ix3 0 p q)
      = (∑ k : Fin 4096, x0 (ix2 k p) * x1 (ix2 k q)) + ∑ k : Fin 4096, y0 (ix2 k p) * y1 (ix2 k q) := by
  unfold k0_pay2 k0_pay1
  pointwise

/-- The blocks the windows visit at point `t`. -/
theorem idx_eqs : ∀ t : Fin cfg0.N, (win0_0.index t 0 = t.val % 2 ∧ win0_0.index t 1 = t.val / 16)
    ∧ (win0_1.index t 0 = t.val % 2 ∧ win0_1.index t 1 = t.val / 2 % 8)
    ∧ (win0_2.index t 0 = t.val / 2 % 8 ∧ win0_2.index t 1 = t.val / 16 ∧ win0_2.index t 2 = 0) ∧ t.val < 32 :=
  (by decide +kernel : ∀ t : Fin grid0.N, _)

theorem blk_x (c : Dev nD) (t : Fin cfg0.N) (b h : ℕ) (hb : b < 16) (hh : h < 2) (e : t.val = b * 2 + h) (k : Fin 4096) (p : Fin 1024) :
    iblk m c 0 t (ix2 k p) = aX m c (ix2 ⟨h * 4096 + k.val, by omega⟩ ⟨b / 8 * 1024 + p.val, by omega⟩) := by
  obtain ⟨⟨h0, h1⟩, -⟩ := idx_eqs t
  rw [← V_x m c]
  refine congrArg (V m c main_v0) (funext fun a => Fin.ext ?_)
  match a with
  | ⟨0, _⟩ => show win0_0.index t 0 * 4096 + 1 * k.val = h * 4096 + k.val; rw [h0]; omega
  | ⟨1, _⟩ => show win0_0.index t 1 * 1024 + 1 * p.val = b / 8 * 1024 + p.val; rw [h1]; omega

theorem blk_dh (c : Dev nD) (t : Fin cfg0.N) (b h : ℕ) (hb : b < 16) (hh : h < 2) (e : t.val = b * 2 + h) (k : Fin 4096) (p : Fin 1024) :
    iblk m c 1 t (ix2 k p) = aDh m c (ix2 ⟨h * 4096 + k.val, by omega⟩ ⟨b % 8 * 1024 + p.val, by omega⟩) := by
  obtain ⟨-, ⟨h0, h1⟩, -⟩ := idx_eqs t
  rw [← V_dh m c]
  refine congrArg (V m c main_v1) (funext fun a => Fin.ext ?_)
  match a with
  | ⟨0, _⟩ => show win0_1.index t 0 * 4096 + 1 * k.val = h * 4096 + k.val; rw [h0]; omega
  | ⟨1, _⟩ => show win0_1.index t 1 * 1024 + 1 * p.val = b % 8 * 1024 + p.val; rw [h1]; omega

/-- A point that writes back writes its block of the gradient. -/
theorem flushed_eq (c : Dev nD) (t : Fin cfg0.N) (hf : (cfg0.win 2).flush t = true) :
    (dats m 0 c).flushed 2 t = ((cfg0.win 2).blk t).view.read (Elt Ideal) (G (aX m c) (aDh m c)) := by
  have ht : t.val % 2 = 1 := (flush0_2 t).mp hf
  obtain ⟨-, -, ⟨e0, e1, e2⟩, hN⟩ := idx_eqs t
  obtain ⟨b, hb⟩ : ∃ b, t.val = b * 2 + 1 := ⟨t.val / 2, by omega⟩
  have hb16 : b < 16 := by omega
  have hp : t.val - 1 < cfg0.N := Nat.lt_of_le_of_lt (Nat.sub_le _ _) t.isLt
  rw [Value.flushed2_B m c t (by omega) ht, second_eq, outsAt0_A m c ⟨t.val - 1, hp⟩ (by show (t.val - 1) % 2 = 0; omega) (by show ¬(t.val - 1) % 2 = 1; omega)]
  dsimp only
  rw [first_eq]
  funext y
  obtain ⟨z, p, q, rfl⟩ : ∃ (z : Fin 1) (p q : Fin 1024), y = ix3 z p q := ⟨y 0, y 1, y 2, eq_ix3 y⟩
  obtain rfl : z = 0 := Subsingleton.elim _ _
  refine (pay_at _ _ _ _ p q).trans ?_
  have e : ((cfg0.win 2).blk t).view.emb (ix3 0 p q)
      = ix3 (⟨b % 8, by omega⟩ : Fin 8) (⟨b / 8 * 1024 + p.val, by omega⟩ : Fin 2048) q := funext fun a => Fin.ext (by
    match a with
    | ⟨0, _⟩ => show win0_2.index t 0 * 1 + 1 * 0 = b % 8; rw [e0]; omega
    | ⟨1, _⟩ => show win0_2.index t 1 * 1024 + 1 * p.val = b / 8 * 1024 + p.val; rw [e1]; omega
    | ⟨2, _⟩ => show win0_2.index t 2 * 1024 + 1 * q.val = q.val; rw [e2]; omega)
  show _ = G (aX m c) (aDh m c) (((cfg0.win 2).blk t).view.emb (ix3 0 p q))
  rw [e]
  show _ = grad _ _ (⟨b % 8, by omega⟩ : Fin 8) (⟨b / 8 * 1024 + p.val, by omega⟩ : Fin 2048) q
  unfold grad
  rw [Fin.sum_univ_two_halves 4096 4096 rfl]
  refine congrArg₂ (· + ·) (Finset.sum_congr rfl fun k _ => ?_) (Finset.sum_congr rfl fun k _ => ?_)
  · rw [blk_x m c _ b 0 hb16 (by omega) (by show t.val - 1 = b * 2 + 0; omega), blk_dh m c _ b 0 hb16 (by omega) (by show t.val - 1 = b * 2 + 0; omega)]
    simp only [Nat.zero_mul, Nat.zero_add]
  · rw [blk_x m c t b 1 hb16 (by omega) hb, blk_dh m c t b 1 hb16 (by omega) hb]

/-- The result array after the run is the gradient. -/
theorem final (c : Dev nD) : (dats m 0 c).arrAt 2 cfg0.N = G (aX m c) (aDh m c) :=
  (dats m 0 c).arrAt_eq_of_cover 2 _ (fun t hf => flushed_eq m c t hf) (fun i => (Value.covered_iff2 i).2 (by
    have h0 : (i 0).val < 8 := (i 0).isLt; have h1 : (i 1).val < 2048 := (i 1).isLt; have h2 : (i 2).val < 1024 := (i 2).isLt; omega))

/-- The claim: the kernel and the derivative of the plain lines end with the same array. -/
theorem algebraic : Cert.algebraic_Kernel4Ideal_Reference4Ideal (hKernel4Ideal := Cert.Kernel4Ideal.Gen.facts) (hReference4Ideal := Cert.Reference4Ideal.Gen.facts) := by
  intro m ρ m' ρ' _ hag
  refine ⟨fun c => G (aX m c) (aDh m c), (θ_run _ _ _).mono (fun _ h c => ⟨(h c).1.trans (final m c), (h c).2⟩) (Value.run_blocks m ρ),
    (θ_run _ _ _).mono (fun _ h c => ⟨(h c).1.trans ?_, (h c).2⟩) (Cert.Reference4Ideal.Value.run m' ρ')⟩
  rw [(hag c).1, (hag c).2]
  funext j
  idx_vars j
  show _ = grad (aX m c) (aDh m c) j0 j1 j2
  unfold grad
  pointwise
  exact Finset.sum_congr rfl fun k _ => mul_comm _ _

end Cert.Kernel4Ideal.UpDw
end
-- ==== Proof.ProjDx.lean ====
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.StableHlo.ReadAt

@[expose] public section

set_option maxRecDepth 16384

/-! The gradient of a square projection by its input. -/

noncomputable section

namespace Cert.Kernel5Ideal.ProjDx

open Cert.Kernel5Ideal Cert.Kernel5Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the gradient of the product; the weight. -/
abbrev aDz (c : Dev nD) : FVec Ideal S8192x2048 .f32 := m ((c : Thread nD τ).loc main_arg0)
abbrev aW (c : Dev nD) : FVec Ideal S2048x2048 .f32 := m ((c : Thread nD τ).loc main_arg1)

/-- The gradient by the input of `x·w`: row `i` of the gradient against row `j` of the weight. -/
def grad (dz : FVec Ideal S8192x2048 .f32) (w : FVec Ideal S2048x2048 .f32) (i : Fin 8192) (j : Fin 2048) : EReal :=
  (∑ k : Fin 2048, dz (ix2 i k) * w (ix2 j k))

/-- The same as an array. -/
def G (dz : FVec Ideal S8192x2048 .f32) (w : FVec Ideal S2048x2048 .f32) : FVec Ideal S8192x2048 .f32 :=
  fun i => grad dz w (i 0) (i 1)

/-- One block of the kernel at an entry. -/
theorem pay_at (x0 : Vec Ideal S1024x2048 .bf16) (x1 : Vec Ideal S1024x2048 .bf16)  (p q : Fin 1024) :
    k0_pay1 x0 x1  (ix2 p q) = (∑ k : Fin 2048, x0 (ix2 p k) * x1 (ix2 q k)) := by
  unfold k0_pay1
  pointwise

/-- What the host lines before the launch leave: the arguments, cast and cut into shards. -/
theorem V_0 (c : Dev nD) : V m c main_v0 = (truncf .bf16 (aDz m c) bitsLt_bf16_f32 : FVec Ideal S8192x2048 .bf16) := by
  unfold V
  after_reads_simp
theorem V_1 (c : Dev nD) : V m c main_v3 = (truncf .bf16 (aW m c) bitsLt_bf16_f32 : FVec Ideal S2048x2048 .bf16) := by
  unfold V
  after_reads_simp
  exact shapeCast_shapeCast _ _ _

/-- The blocks the windows visit at point `t`. -/
theorem idx_eqs : ∀ t : Fin cfg0.N, (win0_0.index t 0 = win0_2.index t 0 ∧ win0_0.index t 1 = 0)
    ∧ (win0_1.index t 0 = win0_2.index t 1 ∧ win0_1.index t 1 = 0)
    ∧ (win0_2.index t 0 < 8 ∧ win0_2.index t 1 < 2) :=
  (by decide +kernel : ∀ t : Fin grid0.N, _)

/-- The row and the column of the result that place `p` of the block that point `t` writes is. -/
abbrev row (t : Fin cfg0.N) (p : Fin 1024) : Fin 8192 := ⟨win0_2.index t 0 * 1024 + p.val, by have := (idx_eqs t).2.2.1; omega⟩
abbrev col (t : Fin cfg0.N) (q : Fin 1024) : Fin 2048 := ⟨win0_2.index t 1 * 1024 + q.val, by have := (idx_eqs t).2.2.2; omega⟩

theorem blk_0 (c : Dev nD) (t : Fin cfg0.N) (p : Fin 1024) (k : Fin 2048) :
    iblk m c 0 t (ix2 p k) = aDz m c (ix2 (row t p) k) := by
  obtain ⟨⟨h0, h1⟩, -⟩ := idx_eqs t
  refine Eq.trans ?_ (congrFun (V_0 m c) _)
  refine congrArg (V m c main_v0) (funext fun a => Fin.ext ?_)
  match a with
  | ⟨0, _⟩ => show win0_0.index t 0 * 1024 + 1 * p.val = win0_2.index t 0 * 1024 + p.val; rw [h0]; omega
  | ⟨1, _⟩ => show win0_0.index t 1 * 2048 + 1 * k.val = k.val; rw [h1]; omega

theorem blk_1 (c : Dev nD) (t : Fin cfg0.N) (q : Fin 1024) (k : Fin 2048) :
    iblk m c 1 t (ix2 q k) = aW m c (ix2 (col t q) k) := by
  obtain ⟨-, ⟨h0, h1⟩, -⟩ := idx_eqs t
  refine Eq.trans ?_ (congrFun (V_1 m c) _)
  refine congrArg (V m c main_v3) (funext fun a => Fin.ext ?_)
  match a with
  | ⟨0, _⟩ => show win0_1.index t 0 * 1024 + 1 * q.val = win0_2.index t 1 * 1024 + q.val; rw [h0]; omega
  | ⟨1, _⟩ => show win0_1.index t 1 * 2048 + 1 * k.val = k.val; rw [h1]; omega

theorem hz : (![0, 0] : Fin 2 → Nat) = fun _ => 0 := funext fun a => by fin_cases a <;> rfl

/-- Point `t` writes back its block of the result. -/
theorem flushed_eq (c : Dev nD) (t : Fin cfg0.N) :
    (dats m 0 c).flushed 2 t = ((cfg0.win 2).blk t).view.read (Elt Ideal) (G (aDz m c) (aW m c)) := by
  rw [Value.flushed2]
  unfold out0_2
  rw [View.canon_unit_zero hz, View.ld_unit_zero hz, View.ld_unit_zero hz]
  funext y
  obtain ⟨p, q, rfl⟩ : ∃ p q : Fin 1024, y = ix2 p q := ⟨y 0, y 1, eq_ix2 y⟩
  have e (q : Fin 1024) : ((cfg0.win 2).blk t).view.emb (ix2 p q) = ix2 (row t p) (col t q) := funext fun a => Fin.ext (by
    match a with
    | ⟨0, _⟩ => show win0_2.index t 0 * 1024 + 1 * p.val = win0_2.index t 0 * 1024 + p.val; omega
    | ⟨1, _⟩ => show win0_2.index t 1 * 1024 + 1 * q.val = win0_2.index t 1 * 1024 + q.val; omega)
  show _ = G (aDz m c) (aW m c) (((cfg0.win 2).blk t).view.emb (ix2 p q))
  rw [e]
  show _ = grad _ _ (row t p) (col t q)
  unfold grad
  refine (pay_at _ _  p q).trans ?_
  exact congrArg (fun s : EReal => s) (Finset.sum_congr rfl fun k _ => by rw [blk_0, blk_1])

/-- Every pair of block numbers is some point's. -/
theorem onto : ∀ (a : Fin 8) (b : Fin 2), ∃ t : Fin cfg0.N, (cfg0.win 2).flush t = true ∧ win0_2.index t 0 = a.val ∧ win0_2.index t 1 = b.val :=
  fun a b => ⟨(⟨a.val * 2 + b.val, lt_of_lt_of_eq (by omega) N_0.symm⟩ : Fin grid0.N),
    (by decide +kernel : ∀ (a : Fin 8) (b : Fin 2), win0_2.flush ⟨a.val * 2 + b.val, lt_of_lt_of_eq (by omega) N_0.symm⟩ = true
      ∧ win0_2.index ⟨a.val * 2 + b.val, lt_of_lt_of_eq (by omega) N_0.symm⟩ 0 = a.val
      ∧ win0_2.index ⟨a.val * 2 + b.val, lt_of_lt_of_eq (by omega) N_0.symm⟩ 1 = b.val) a b⟩

/-- The blocks tile the result. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, hf, h0, h1⟩ := onto ⟨(i 0).val / 1024, by omega⟩ ⟨(i 1).val / 1024, by omega⟩
  refine ⟨t, hf, ?_⟩
  show i ∈ ((View.whole main_v4).slice (win0_2.rect t)).set
  rw [View.set_slice_whole, Rect.mem_set_unit]
  dsimp only at h0 h1
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The result array after the run. -/
theorem final (c : Dev nD) : (dats m 0 c).arrAt 2 cfg0.N = G (aDz m c) (aW m c) :=
  (dats m 0 c).arrAt_eq_of_cover 2 _ (fun t _ => flushed_eq m c t) cover

/-- The claim: the kernel and the plain lines end with the same array. -/
theorem algebraic : Cert.algebraic_Kernel5Ideal_Reference5Ideal (hKernel5Ideal := Cert.Kernel5Ideal.Gen.facts) (hReference5Ideal := Cert.Reference5Ideal.Gen.facts) := by
  intro m ρ m' ρ' _ hag
  refine ⟨fun c => G (aDz m c) (aW m c), (θ_run _ _ _).mono (fun _ h c => ⟨(h c).1.trans (final m c), (h c).2⟩) (Value.run_blocks m ρ),
    (θ_run _ _ _).mono (fun _ h c => ⟨(h c).1.trans ?_, (h c).2⟩) (Cert.Reference5Ideal.Value.run m' ρ')⟩
  rw [(hag c).1, (hag c).2]
  funext j
  idx_vars j
  show _ = grad (aDz m c) (aW m c) j0 j1
  unfold grad
  pointwise

end Cert.Kernel5Ideal.ProjDx
end
-- ==== Proof.QueryDx.lean ====
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.StableHlo.ReadAt

@[expose] public section

set_option maxRecDepth 16384

/-! The gradient of the query projection by its input, with the share of the residual path. -/

noncomputable section

namespace Cert.Kernel6Ideal.QueryDx

open Cert.Kernel6Ideal Cert.Kernel6Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the gradient of the product; the weight; the gradient that reaches the input past the block. -/
abbrev aDq (c : Dev nD) : FVec Ideal S8192x2048 .f32 := m ((c : Thread nD τ).loc main_arg0)
abbrev aW (c : Dev nD) : FVec Ideal S2048x2048 .f32 := m ((c : Thread nD τ).loc main_arg1)
abbrev aDz (c : Dev nD) : FVec Ideal S8192x2048 .f32 := m ((c : Thread nD τ).loc main_arg2)

/-- The gradient by the input of `x·w` and of `α·x` together. -/
def grad (dq : FVec Ideal S8192x2048 .f32) (w : FVec Ideal S2048x2048 .f32) (dz : FVec Ideal S8192x2048 .f32) (i : Fin 8192) (j : Fin 2048) : EReal :=
  Ideal.ofBits .f32 0x3FB504F3#32 * dz (ix2 i j) + (∑ k : Fin 2048, dq (ix2 i k) * w (ix2 j k))

/-- The same as an array. -/
def G (dq : FVec Ideal S8192x2048 .f32) (w : FVec Ideal S2048x2048 .f32) (dz : FVec Ideal S8192x2048 .f32) : FVec Ideal S8192x2048 .f32 :=
  fun i => grad dq w dz (i 0) (i 1)

/-- One block of the kernel at an entry. -/
theorem pay_at (x0 : Vec Ideal S1024x2048 .bf16) (x1 : Vec Ideal S1024x2048 .bf16) (x2 : Vec Ideal S1024x1024 .f32) (p q : Fin 1024) :
    k0_pay1 x0 x1 x2 (ix2 p q) = Ideal.ofBits .f32 0x3FB504F3#32 * x2 (ix2 p q) + (∑ k : Fin 2048, x0 (ix2 p k) * x1 (ix2 q k)) := by
  unfold k0_pay1
  pointwise

/-- What the host lines before the launch leave: the arguments, cast and cut into shards. -/
theorem V_0 (c : Dev nD) : V m c main_v0 = (truncf .bf16 (aDq m c) bitsLt_bf16_f32 : FVec Ideal S8192x2048 .bf16) := by
  unfold V
  after_reads_simp
theorem V_1 (c : Dev nD) : V m c main_v3 = (truncf .bf16 (aW m c) bitsLt_bf16_f32 : FVec Ideal S2048x2048 .bf16) := by
  unfold V
  after_reads_simp
  exact shapeCast_shapeCast _ _ _
theorem V_2 (c : Dev nD) : V m c main_arg2 = aDz m c := V_main_arg2 m c

/-- The blocks the windows visit at point `t`. -/
theorem idx_eqs : ∀ t : Fin cfg0.N, (win0_0.index t 0 = win0_3.index t 0 ∧ win0_0.index t 1 = 0)
    ∧ (win0_1.index t 0 = win0_3.index t 1 ∧ win0_1.index t 1 = 0)
    ∧ (win0_2.index t 0 = win0_3.index t 0 ∧ win0_2.index t 1 = win0_3.index t 1)
    ∧ (win0_3.index t 0 < 8 ∧ win0_3.index t 1 < 2) :=
  (by decide +kernel : ∀ t : Fin grid0.N, _)

/-- The row and the column of the result that place `p` of the block that point `t` writes is. -/
abbrev row (t : Fin cfg0.N) (p : Fin 1024) : Fin 8192 := ⟨win0_3.index t 0 * 1024 + p.val, by have := (idx_eqs t).2.2.2.1; omega⟩
abbrev col (t : Fin cfg0.N) (q : Fin 1024) : Fin 2048 := ⟨win0_3.index t 1 * 1024 + q.val, by have := (idx_eqs t).2.2.2.2; omega⟩

theorem blk_0 (c : Dev nD) (t : Fin cfg0.N) (p : Fin 1024) (k : Fin 2048) :
    iblk m c 0 t (ix2 p k) = aDq m c (ix2 (row t p) k) := by
  obtain ⟨⟨h0, h1⟩, -⟩ := idx_eqs t
  refine Eq.trans ?_ (congrFun (V_0 m c) _)
  refine congrArg (V m c main_v0) (funext fun a => Fin.ext ?_)
  match a with
  | ⟨0, _⟩ => show win0_0.index t 0 * 1024 + 1 * p.val = win0_3.index t 0 * 1024 + p.val; rw [h0]; omega
  | ⟨1, _⟩ => show win0_0.index t 1 * 2048 + 1 * k.val = k.val; rw [h1]; omega

theorem blk_1 (c : Dev nD) (t : Fin cfg0.N) (q : Fin 1024) (k : Fin 2048) :
    iblk m c 1 t (ix2 q k) = aW m c (ix2 (col t q) k) := by
  obtain ⟨-, ⟨h0, h1⟩, -⟩ := idx_eqs t
  refine Eq.trans ?_ (congrFun (V_1 m c) _)
  refine congrArg (V m c main_v3) (funext fun a => Fin.ext ?_)
  match a with
  | ⟨0, _⟩ => show win0_1.index t 0 * 1024 + 1 * q.val = win0_3.index t 1 * 1024 + q.val; rw [h0]; omega
  | ⟨1, _⟩ => show win0_1.index t 1 * 2048 + 1 * k.val = k.val; rw [h1]; omega

theorem blk_2 (c : Dev nD) (t : Fin cfg0.N) (p q : Fin 1024) :
    iblk m c 2 t (ix2 p q) = aDz m c (ix2 (row t p) (col t q)) := by
  obtain ⟨-, -, ⟨h0, h1⟩, -⟩ := idx_eqs t
  rw [← V_2 m c]
  refine congrArg (V m c main_arg2) (funext fun a => Fin.ext ?_)
  match a with
  | ⟨0, _⟩ => show win0_2.index t 0 * 1024 + 1 * p.val = win0_3.index t 0 * 1024 + p.val; rw [h0]; omega
  | ⟨1, _⟩ => show win0_2.index t 1 * 1024 + 1 * q.val = win0_3.index t 1 * 1024 + q.val; rw [h1]; omega

theorem hz : (![0, 0] : Fin 2 → Nat) = fun _ => 0 := funext fun a => by fin_cases a <;> rfl

/-- Point `t` writes back its block of the result. -/
theorem flushed_eq (c : Dev nD) (t : Fin cfg0.N) :
    (dats m 0 c).flushed 3 t = ((cfg0.win 3).blk t).view.read (Elt Ideal) (G (aDq m c) (aW m c) (aDz m c)) := by
  rw [Value.flushed3]
  unfold out0_3
  rw [View.canon_unit_zero hz, View.ld_unit_zero hz, View.ld_unit_zero hz, View.ld_unit_zero hz]
  funext y
  obtain ⟨p, q, rfl⟩ : ∃ p q : Fin 1024, y = ix2 p q := ⟨y 0, y 1, eq_ix2 y⟩
  have e (q : Fin 1024) : ((cfg0.win 3).blk t).view.emb (ix2 p q) = ix2 (row t p) (col t q) := funext fun a => Fin.ext (by
    match a with
    | ⟨0, _⟩ => show win0_3.index t 0 * 1024 + 1 * p.val = win0_3.index t 0 * 1024 + p.val; omega
    | ⟨1, _⟩ => show win0_3.index t 1 * 1024 + 1 * q.val = win0_3.index t 1 * 1024 + q.val; omega)
  show _ = G (aDq m c) (aW m c) (aDz m c) (((cfg0.win 3).blk t).view.emb (ix2 p q))
  rw [e]
  show _ = grad _ _ _ (row t p) (col t q)
  unfold grad
  refine (pay_at _ _ _ p q).trans ?_
  rw [blk_2]
  exact congrArg (fun s : EReal => Ideal.ofBits .f32 0x3FB504F3#32 * aDz m c (ix2 (row t p) (col t q)) + s) (Finset.sum_congr rfl fun k _ => by rw [blk_0, blk_1])

/-- Every pair of block numbers is some point's. -/
theorem onto : ∀ (a : Fin 8) (b : Fin 2), ∃ t : Fin cfg0.N, (cfg0.win 3).flush t = true ∧ win0_3.index t 0 = a.val ∧ win0_3.index t 1 = b.val :=
  fun a b => ⟨(⟨a.val * 2 + b.val, lt_of_lt_of_eq (by omega) N_0.symm⟩ : Fin grid0.N),
    (by decide +kernel : ∀ (a : Fin 8) (b : Fin 2), win0_3.flush ⟨a.val * 2 + b.val, lt_of_lt_of_eq (by omega) N_0.symm⟩ = true
      ∧ win0_3.index ⟨a.val * 2 + b.val, lt_of_lt_of_eq (by omega) N_0.symm⟩ 0 = a.val
      ∧ win0_3.index ⟨a.val * 2 + b.val, lt_of_lt_of_eq (by omega) N_0.symm⟩ 1 = b.val) a b⟩

/-- The blocks tile the result. -/
theorem cover (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, hf, h0, h1⟩ := onto ⟨(i 0).val / 1024, by omega⟩ ⟨(i 1).val / 1024, by omega⟩
  refine ⟨t, hf, ?_⟩
  show i ∈ ((View.whole main_v4).slice (win0_3.rect t)).set
  rw [View.set_slice_whole, Rect.mem_set_unit]
  dsimp only at h0 h1
  intro a
  match a with
  | ⟨0, _⟩ => show win0_3.index t 0 * 1024 ≤ (i 0).val ∧ (i 0).val < win0_3.index t 0 * 1024 + 1024; omega
  | ⟨1, _⟩ => show win0_3.index t 1 * 1024 ≤ (i 1).val ∧ (i 1).val < win0_3.index t 1 * 1024 + 1024; omega

/-- The result array after the run. -/
theorem final (c : Dev nD) : (dats m 0 c).arrAt 3 cfg0.N = G (aDq m c) (aW m c) (aDz m c) :=
  (dats m 0 c).arrAt_eq_of_cover 3 _ (fun t _ => flushed_eq m c t) cover

/-- The claim: the kernel and the plain lines end with the same array. -/
theorem algebraic : Cert.algebraic_Kernel6Ideal_Reference6Ideal (hKernel6Ideal := Cert.Kernel6Ideal.Gen.facts) (hReference6Ideal := Cert.Reference6Ideal.Gen.facts) := by
  intro m ρ m' ρ' _ hag
  refine ⟨fun c => G (aDq m c) (aW m c) (aDz m c), (θ_run _ _ _).mono (fun _ h c => ⟨(h c).1.trans (final m c), (h c).2⟩) (Value.run_blocks m ρ),
    (θ_run _ _ _).mono (fun _ h c => ⟨(h c).1.trans ?_, (h c).2⟩) (Cert.Reference6Ideal.Value.run m' ρ')⟩
  rw [(hag c).1, (hag c).2.1, (hag c).2.2]
  funext j
  idx_vars j
  show _ = grad (aDq m c) (aW m c) (aDz m c) j0 j1
  unfold grad
  pointwise

end Cert.Kernel6Ideal.QueryDx
end
-- ==== Proof.KvDx.lean ====
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.StableHlo.ReadAt

@[expose] public section

set_option maxRecDepth 16384

/-! The gradient of the product of the shared keys and values by its input, added to the gradient that comes along the queries. -/

noncomputable section

namespace Cert.Kernel7Ideal.KvDx

open Cert.Kernel7Ideal Cert.Kernel7Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the gradient of the product, the weight, and the gradient that reaches the
    product's input along its other use. -/
abbrev aDh (c : Dev nD) : FVec Ideal S8192x4096 .f32 := m ((c : Thread nD τ).loc main_arg0)
abbrev aW (c : Dev nD) : FVec Ideal S2048x4096 .f32 := m ((c : Thread nD τ).loc main_arg1)
abbrev aDz (c : Dev nD) : FVec Ideal S8192x2048 .f32 := m ((c : Thread nD τ).loc main_arg2)

/-- The gradient by `x` of the pair `x·w`, `x`. -/
def grad (dh : FVec Ideal S8192x4096 .f32) (w : FVec Ideal S2048x4096 .f32) (dz : FVec Ideal S8192x2048 .f32) (i : Fin 8192) (j : Fin 2048) : EReal :=
  dz (ix2 i j) + ∑ k : Fin 4096, dh (ix2 i k) * w (ix2 j k)

/-- The same as an array. -/
def G (dh : FVec Ideal S8192x4096 .f32) (w : FVec Ideal S2048x4096 .f32) (dz : FVec Ideal S8192x2048 .f32) : FVec Ideal S8192x2048 .f32 := fun i => grad dh w dz (i 0) (i 1)

/-- Shard `s`'s part of the product at an entry: the weight lies in eight shards of 512 columns. -/
def part (dh : FVec Ideal S8192x4096 .f32) (w : FVec Ideal S2048x4096 .f32) (s : ℕ) (hs : s < 8) (i : Fin 8192) (j : Fin 2048) : EReal :=
  ∑ k : Fin 512, dh (ix2 i ⟨s * 512 + k.val, by omega⟩) * w (ix2 j ⟨s * 512 + k.val, by omega⟩)

theorem sum_parts (dh : FVec Ideal S8192x4096 .f32) (w : FVec Ideal S2048x4096 .f32) (i : Fin 8192) (j : Fin 2048) :
    ∑ k : Fin 4096, dh (ix2 i k) * w (ix2 j k)
      = (part dh w 0 (by omega) i j + part dh w 1 (by omega) i j + part dh w 2 (by omega) i j + part dh w 3 (by omega) i j)
        + (part dh w 4 (by omega) i j + part dh w 5 (by omega) i j + part dh w 6 (by omega) i j + part dh w 7 (by omega) i j) := by
  rw [Fin.sum_univ_tiles 8 512 rfl, Fin.sum_univ_eight]
  simp only [add_assoc]
  rfl

/-- What the host lines before the launch leave: the gradient as it is, the weight cut into its shards. -/
theorem V_dh (c : Dev nD) : V m c main_v0 = (truncf .bf16 (aDh m c) bitsLt_bf16_f32 : FVec Ideal S8192x4096 .bf16) := by
  unfold V
  after_reads_simp
theorem V_w (c : Dev nD) (s : Fin 8) (i : Fin 2048) (j : Fin 512) : V m c main_v3 (ix3 s i j) = aW m c (ix2 i ⟨s.val * 512 + j.val, by omega⟩) := by
  unfold V
  after_reads_at
theorem V_dz (c : Dev nD) : V m c main_arg2 = aDz m c := V_main_arg2 m c

theorem hz : (![0, 0] : Fin 2 → Nat) = fun _ => 0 := funext fun a => by fin_cases a <;> rfl

/-- What one point multiplies: four shards of the weight against their columns of the gradient. -/
def four (x0 : Vec Ideal S1024x2048 .bf16) (x1 : Vec Ideal S4x1024x512 .bf16) (p q : Fin 1024) : EReal :=
  (∑ k : Fin 512, x0 (ix2 p ⟨k.val, by omega⟩) * x1 (ix3 0 q k)) + (∑ k : Fin 512, x0 (ix2 p ⟨512 + k.val, by omega⟩) * x1 (ix3 1 q k)) + (∑ k : Fin 512, x0 (ix2 p ⟨1024 + k.val, by omega⟩) * x1 (ix3 2 q k)) + (∑ k : Fin 512, x0 (ix2 p ⟨1536 + k.val, by omega⟩) * x1 (ix3 3 q k))

theorem ld_x0 (x0 : Vec Ideal S1024x2048 .bf16) (p : Fin 1024) (k : Fin 512) :
    View.ld x0 (Rect.unit (s := S1024x2048) ![0, 0] S1024x512.size inb_S1024x2048_S1024x512_0_0) (ix2 p k) = x0 (ix2 p ⟨k.val, by omega⟩) :=
  congrArg x0 (funext fun a => Fin.ext (by
    match a with
    | ⟨0, _⟩ => show 0 + 1 * p.val = p.val; omega
    | ⟨1, _⟩ => show 0 + 1 * k.val = k.val; omega))
theorem ld_w0 (x1 : Vec Ideal S4x1024x512 .bf16) (q : Fin 1024) (k : Fin 512) :
    View.ld x1 (Rect.unit (s := S4x1024x512) ![0, 0, 0] S1x1024x512.size inb_S4x1024x512_S1x1024x512_0_0_0) (ix3 0 q k) = x1 (ix3 0 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem ld_x1 (x0 : Vec Ideal S1024x2048 .bf16) (p : Fin 1024) (k : Fin 512) :
    View.ld x0 (Rect.unit (s := S1024x2048) ![0, 512] S1024x512.size inb_S1024x2048_S1024x512_0_512) (ix2 p k) = x0 (ix2 p ⟨512 + k.val, by omega⟩) :=
  congrArg x0 (funext fun a => Fin.ext (by
    match a with
    | ⟨0, _⟩ => show 0 + 1 * p.val = p.val; omega
    | ⟨1, _⟩ => show 512 + 1 * k.val = 512 + k.val; omega))
theorem ld_w1 (x1 : Vec Ideal S4x1024x512 .bf16) (q : Fin 1024) (k : Fin 512) :
    View.ld x1 (Rect.unit (s := S4x1024x512) ![1, 0, 0] S1x1024x512.size inb_S4x1024x512_S1x1024x512_1_0_0) (ix3 0 q k) = x1 (ix3 1 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem ld_x2 (x0 : Vec Ideal S1024x2048 .bf16) (p : Fin 1024) (k : Fin 512) :
    View.ld x0 (Rect.unit (s := S1024x2048) ![0, 1024] S1024x512.size inb_S1024x2048_S1024x512_0_1024) (ix2 p k) = x0 (ix2 p ⟨1024 + k.val, by omega⟩) :=
  congrArg x0 (funext fun a => Fin.ext (by
    match a with
    | ⟨0, _⟩ => show 0 + 1 * p.val = p.val; omega
    | ⟨1, _⟩ => show 1024 + 1 * k.val = 1024 + k.val; omega))
theorem ld_w2 (x1 : Vec Ideal S4x1024x512 .bf16) (q : Fin 1024) (k : Fin 512) :
    View.ld x1 (Rect.unit (s := S4x1024x512) ![2, 0, 0] S1x1024x512.size inb_S4x1024x512_S1x1024x512_2_0_0) (ix3 0 q k) = x1 (ix3 2 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem ld_x3 (x0 : Vec Ideal S1024x2048 .bf16) (p : Fin 1024) (k : Fin 512) :
    View.ld x0 (Rect.unit (s := S1024x2048) ![0, 1536] S1024x512.size inb_S1024x2048_S1024x512_0_1536) (ix2 p k) = x0 (ix2 p ⟨1536 + k.val, by omega⟩) :=
  congrArg x0 (funext fun a => Fin.ext (by
    match a with
    | ⟨0, _⟩ => show 0 + 1 * p.val = p.val; omega
    | ⟨1, _⟩ => show 1536 + 1 * k.val = 1536 + k.val; omega))
theorem ld_w3 (x1 : Vec Ideal S4x1024x512 .bf16) (q : Fin 1024) (k : Fin 512) :
    View.ld x1 (Rect.unit (s := S4x1024x512) ![3, 0, 0] S1x1024x512.size inb_S4x1024x512_S1x1024x512_3_0_0) (ix3 0 q k) = x1 (ix3 3 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem four_ld (x0 : Vec Ideal S1024x2048 .bf16) (x1 : Vec Ideal S4x1024x512 .bf16) (p q : Fin 1024) :
    (∑ k : Fin 512, View.ld x0 (Rect.unit (s := S1024x2048) ![0, 0] S1024x512.size inb_S1024x2048_S1024x512_0_0) (ix2 p k) * View.ld x1 (Rect.unit (s := S4x1024x512) ![0, 0, 0] S1x1024x512.size inb_S4x1024x512_S1x1024x512_0_0_0) (ix3 0 q k)) + (∑ k : Fin 512, View.ld x0 (Rect.unit (s := S1024x2048) ![0, 512] S1024x512.size inb_S1024x2048_S1024x512_0_512) (ix2 p k) * View.ld x1 (Rect.unit (s := S4x1024x512) ![1, 0, 0] S1x1024x512.size inb_S4x1024x512_S1x1024x512_1_0_0) (ix3 0 q k)) + (∑ k : Fin 512, View.ld x0 (Rect.unit (s := S1024x2048) ![0, 1024] S1024x512.size inb_S1024x2048_S1024x512_0_1024) (ix2 p k) * View.ld x1 (Rect.unit (s := S4x1024x512) ![2, 0, 0] S1x1024x512.size inb_S4x1024x512_S1x1024x512_2_0_0) (ix3 0 q k)) + (∑ k : Fin 512, View.ld x0 (Rect.unit (s := S1024x2048) ![0, 1536] S1024x512.size inb_S1024x2048_S1024x512_0_1536) (ix2 p k) * View.ld x1 (Rect.unit (s := S4x1024x512) ![3, 0, 0] S1x1024x512.size inb_S4x1024x512_S1x1024x512_3_0_0) (ix3 0 q k))
    = four x0 x1 p q :=
  congrArg₂ (· + ·) (congrArg₂ (· + ·) (congrArg₂ (· + ·) (Finset.sum_congr rfl fun k _ => congrArg₂ (· * ·) (ld_x0 x0 p k) (ld_w0 x1 q k))
    (Finset.sum_congr rfl fun k _ => congrArg₂ (· * ·) (ld_x1 x0 p k) (ld_w1 x1 q k)))
    (Finset.sum_congr rfl fun k _ => congrArg₂ (· * ·) (ld_x2 x0 p k) (ld_w2 x1 q k)))
    (Finset.sum_congr rfl fun k _ => congrArg₂ (· * ·) (ld_x3 x0 p k) (ld_w3 x1 q k))

/-- The payloads of the two kinds of points at an entry. -/
theorem pay1_at (u0 : Vec Ideal S1024x512 .bf16) (v0 : Vec Ideal S1x1024x512 .bf16) (u1 : Vec Ideal S1024x512 .bf16) (v1 : Vec Ideal S1x1024x512 .bf16) (u2 : Vec Ideal S1024x512 .bf16) (v2 : Vec Ideal S1x1024x512 .bf16) (u3 : Vec Ideal S1024x512 .bf16) (v3 : Vec Ideal S1x1024x512 .bf16) (p q : Fin 1024) :
    k0_pay1 u0 v0 u1 v1 u2 v2 u3 v3 (ix2 p q) = (∑ k : Fin 512, u0 (ix2 p k) * v0 (ix3 0 q k)) + (∑ k : Fin 512, u1 (ix2 p k) * v1 (ix3 0 q k)) + (∑ k : Fin 512, u2 (ix2 p k) * v2 (ix3 0 q k)) + (∑ k : Fin 512, u3 (ix2 p k) * v3 (ix3 0 q k)) := by
  unfold k0_pay1
  pointwise
theorem pay2_at (a : Vec Ideal S1024x1024 .f32) (u0 : Vec Ideal S1024x512 .bf16) (v0 : Vec Ideal S1x1024x512 .bf16) (u1 : Vec Ideal S1024x512 .bf16) (v1 : Vec Ideal S1x1024x512 .bf16) (u2 : Vec Ideal S1024x512 .bf16) (v2 : Vec Ideal S1x1024x512 .bf16) (u3 : Vec Ideal S1024x512 .bf16) (v3 : Vec Ideal S1x1024x512 .bf16) (r : Vec Ideal S1024x1024 .f32) (p q : Fin 1024) :
    k0_pay2 a u0 v0 u1 v1 u2 v2 u3 v3 r (ix2 p q) = r (ix2 p q)
      + (a (ix2 p q) + ((∑ k : Fin 512, u0 (ix2 p k) * v0 (ix3 0 q k)) + (∑ k : Fin 512, u1 (ix2 p k) * v1 (ix3 0 q k)) + (∑ k : Fin 512, u2 (ix2 p k) * v2 (ix3 0 q k)) + (∑ k : Fin 512, u3 (ix2 p k) * v3 (ix3 0 q k)))) := by
  unfold k0_pay2
  pointwise

section points
variable (c : Dev nD) (i : grid0.Coords) (a1 : Memref sig .tc .vmem S1024x2048 .bf16) (h1 : a1.IsWhole)
    (a2 : Memref sig .tc .vmem S4x1024x512 .bf16) (h2 : a2.IsWhole) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (x0 : Vec Ideal S1024x2048 .bf16) (x1 : Vec Ideal S4x1024x512 .bf16) (x2 xs : Vec Ideal S1024x1024 .f32) (p q : Fin 1024)

/-- The first point of a pair leaves its product in the accumulator, … -/
theorem first_eq (hc0 : cond0_0 i) (hc1 : ¬cond0_1 i) :
    sout0_A_0 c i a1 h1 a2 h2 a3 h3 a4 h4 a5 h5 hc0 hc1 x0 x1 x2 (ix2 p q) = four x0 x1 p q := by
  unfold sout0_A_0
  rw [View.read_writes_eq_canon _ _ _ (scover0_A_0 c i a1 h1 a2 h2 a3 h3 a4 h4 a5 h5 hc0 hc1 x0 x1 x2)]
  unfold kernelRun0_A
  dsimp only
  rw [View.canon_unit_zero hz]
  simp only [View.readAt_eq_ld, h1.read_unread, h2.read_unread]
  exact (pay1_at ..).trans (four_ld x0 x1 p q)

/-- … and the second adds its own and the gradient along the other use. -/
theorem last_eq (hc0 : ¬cond0_0 i) (hc1 : cond0_1 i) :
    out0_B_3 c i a1 h1 a2 h2 a3 h3 a4 h4 a5 h5 hc0 hc1 x0 x1 x2 xs (ix2 p q)
      = x2 (ix2 p q) + (xs (ix2 p q) + four x0 x1 p q) := by
  unfold out0_B_3
  rw [View.read_writes_eq_canon _ _ _ (cover0_B_3 c i a1 h1 a2 h2 a3 h3 a4 h4 a5 h5 hc0 hc1 x0 x1 x2 xs)]
  unfold kernelRun0_B
  dsimp only
  rw [View.canon_unit_zero hz]
  simp only [View.readAt_eq_ld, h1.read_unread, h2.read_unread, h3.read_unread, h5.read_unread, View.ld_unit_zero (S := S1024x1024) hz]
  exact (pay2_at ..).trans (congrArg (fun s => x2 (ix2 p q) + (xs (ix2 p q) + s)) (four_ld x0 x1 p q))

end points

/-- The blocks the windows visit at point `t`. -/
theorem idx_eqs : ∀ t : Fin cfg0.N, (win0_0.index t 0 = t.val / 4 ∧ win0_0.index t 1 = t.val % 2)
    ∧ (win0_1.index t 0 = t.val % 2 ∧ win0_1.index t 1 = t.val / 2 % 2 ∧ win0_1.index t 2 = 0)
    ∧ (win0_2.index t 0 = t.val / 4 ∧ win0_2.index t 1 = t.val / 2 % 2)
    ∧ (win0_3.index t 0 = t.val / 4 ∧ win0_3.index t 1 = t.val / 2 % 2) ∧ t.val < 32 :=
  (by decide +kernel : ∀ t : Fin grid0.N, _)

/-- The row and the column of the result that entry `(p, q)` of block `b` (row block `b / 2`, column block `b % 2`) is. -/
abbrev rowOf (b : ℕ) (hb : b < 16) (p : Fin 1024) : Fin 8192 := ⟨b / 2 * 1024 + p.val, by omega⟩
abbrev colOf (b : ℕ) (q : Fin 1024) : Fin 2048 := ⟨b % 2 * 1024 + q.val, by omega⟩

/-- Point `t` multiplies the four shards from `4·(t mod 2)` on for block `t / 2`. -/
theorem four_eq (c : Dev nD) (t : Fin cfg0.N) (b k : ℕ) (hb : b < 16) (hk : k < 2) (hbt : t.val = b * 2 + k) (p q : Fin 1024) :
    four (iblk m c 0 t) (iblk m c 1 t) p q
      = part (aDh m c) (aW m c) (4 * k) (by omega) (rowOf b hb p) (colOf b q)
        + part (aDh m c) (aW m c) (4 * k + 1) (by omega) (rowOf b hb p) (colOf b q)
        + part (aDh m c) (aW m c) (4 * k + 2) (by omega) (rowOf b hb p) (colOf b q)
        + part (aDh m c) (aW m c) (4 * k + 3) (by omega) (rowOf b hb p) (colOf b q) := by
  obtain ⟨⟨e0, e1⟩, ⟨f0, f1, f2⟩, -, -, -⟩ := idx_eqs t
  have hd (j : Fin 2048) : iblk m c 0 t (ix2 p j) = aDh m c (ix2 (rowOf b hb p) ⟨k * 2048 + j.val, by omega⟩) := by
    refine Eq.trans ?_ (congrFun (V_dh m c) _)
    refine congrArg (V m c main_v0) (funext fun a => Fin.ext ?_)
    match a with
    | ⟨0, _⟩ => show win0_0.index t 0 * 1024 + 1 * p.val = b / 2 * 1024 + p.val; rw [e0]; omega
    | ⟨1, _⟩ => show win0_0.index t 1 * 2048 + 1 * j.val = k * 2048 + j.val; rw [e1]; omega
  have hw (s : Fin 4) (j : Fin 512) : iblk m c 1 t (ix3 s q j) = aW m c (ix2 (colOf b q) ⟨(4 * k + s.val) * 512 + j.val, by omega⟩) := by
    rw [← V_w m c ⟨4 * k + s.val, by omega⟩]
    refine congrArg (V m c main_v3) (funext fun a => Fin.ext ?_)
    match a with
    | ⟨0, _⟩ => show win0_1.index t 0 * 4 + 1 * s.val = 4 * k + s.val; rw [f0]; omega
    | ⟨1, _⟩ => show win0_1.index t 1 * 1024 + 1 * q.val = b % 2 * 1024 + q.val; rw [f1]; omega
    | ⟨2, _⟩ => show win0_1.index t 2 * 512 + 1 * j.val = j.val; rw [f2]; omega
  unfold four part
  refine congrArg₂ (· + ·) (congrArg₂ (· + ·) (congrArg₂ (· + ·) (Finset.sum_congr rfl fun j _ => ?_) (Finset.sum_congr rfl fun j _ => ?_))
    (Finset.sum_congr rfl fun j _ => ?_)) (Finset.sum_congr rfl fun j _ => ?_)
  · rw [hd, hw]
    refine congrArg₂ (· * ·) (congrArg (fun x => aDh m c (ix2 _ x)) (Fin.ext ?_)) (congrArg (fun x => aW m c (ix2 _ x)) (Fin.ext ?_))
    · show k * 2048 + j.val = 4 * k * 512 + j.val; omega
    · show (4 * k + 0) * 512 + j.val = 4 * k * 512 + j.val; omega
  · rw [hd, hw]
    refine congrArg₂ (· * ·) (congrArg (fun x => aDh m c (ix2 _ x)) (Fin.ext ?_)) (congrArg (fun x => aW m c (ix2 _ x)) (Fin.ext ?_))
    · show k * 2048 + (512 + j.val) = (4 * k + 1) * 512 + j.val; omega
    · show (4 * k + 1) * 512 + j.val = (4 * k + 1) * 512 + j.val; rfl
  · rw [hd, hw]
    refine congrArg₂ (· * ·) (congrArg (fun x => aDh m c (ix2 _ x)) (Fin.ext ?_)) (congrArg (fun x => aW m c (ix2 _ x)) (Fin.ext ?_))
    · show k * 2048 + (1024 + j.val) = (4 * k + 2) * 512 + j.val; omega
    · show (4 * k + 2) * 512 + j.val = (4 * k + 2) * 512 + j.val; rfl
  · rw [hd, hw]
    refine congrArg₂ (· * ·) (congrArg (fun x => aDh m c (ix2 _ x)) (Fin.ext ?_)) (congrArg (fun x => aW m c (ix2 _ x)) (Fin.ext ?_))
    · show k * 2048 + (1536 + j.val) = (4 * k + 3) * 512 + j.val; omega
    · show (4 * k + 3) * 512 + j.val = (4 * k + 3) * 512 + j.val; rfl

/-- The accumulator after the first point of block `b`'s pair. -/
theorem acc_eq (c : Dev nD) (b : ℕ) (h : b * 2 < cfg0.N) (p q : Fin 1024) :
    (outsAt0 m c (b * 2) h).2 (ix2 p q) = four (iblk m c 0 ⟨b * 2, h⟩) (iblk m c 1 ⟨b * 2, h⟩) p q := by
  rw [outsAt0_A m c ⟨b * 2, h⟩ (by show b * 2 % 2 = 0; omega) (by show ¬b * 2 % 2 = 1; omega)]
  dsimp only
  rw [first_eq]

/-- A point that writes back writes its block of the gradient. -/
theorem flushed_eq (c : Dev nD) (t : Fin cfg0.N) (hf : (cfg0.win 3).flush t = true) :
    (dats m 0 c).flushed 3 t = ((cfg0.win 3).blk t).view.read (Elt Ideal) (G (aDh m c) (aW m c) (aDz m c)) := by
  have ht : t.val % 2 = 1 := (flush0_3 t).mp hf
  obtain ⟨-, -, ⟨g0, g1⟩, ⟨e0, e1⟩, hN⟩ := idx_eqs t
  obtain ⟨b, hb⟩ : ∃ b, t.val = b * 2 + 1 := ⟨t.val / 2, by omega⟩
  have hb16 : b < 16 := by omega
  have hN32 : cfg0.N = 32 := N_0
  have hp : t.val - 1 = b * 2 := by omega
  rw [Value.flushed3_B m c t (by omega) ht]
  funext y
  obtain ⟨p, q, rfl⟩ : ∃ p q : Fin 1024, y = ix2 p q := ⟨y 0, y 1, eq_ix2 y⟩
  refine (last_eq ..).trans ?_
  have e : ((cfg0.win 3).blk t).view.emb (ix2 p q) = ix2 (rowOf b hb16 p) (colOf b q) := funext fun a => Fin.ext (by
    match a with
    | ⟨0, _⟩ => show win0_3.index t 0 * 1024 + 1 * p.val = b / 2 * 1024 + p.val; rw [e0]; omega
    | ⟨1, _⟩ => show win0_3.index t 1 * 1024 + 1 * q.val = b % 2 * 1024 + q.val; rw [e1]; omega)
  have er : iblk m c 2 t (ix2 p q) = aDz m c (ix2 (rowOf b hb16 p) (colOf b q)) := by
    rw [← V_dz m c]
    refine congrArg (V m c main_arg2) (funext fun a => Fin.ext ?_)
    match a with
    | ⟨0, _⟩ => show win0_2.index t 0 * 1024 + 1 * p.val = b / 2 * 1024 + p.val; rw [g0]; omega
    | ⟨1, _⟩ => show win0_2.index t 1 * 1024 + 1 * q.val = b % 2 * 1024 + q.val; rw [g1]; omega
  show _ = G (aDh m c) (aW m c) (aDz m c) (((cfg0.win 3).blk t).view.emb (ix2 p q))
  rw [e, er]
  show _ = grad _ _ _ (rowOf b hb16 p) (colOf b q)
  unfold grad
  have ea : (outsAt0 m c (t.val - 1) (Nat.lt_of_le_of_lt (Nat.sub_le _ _) t.isLt)).2 (ix2 p q) = _ :=
    (congrArg (fun s : Vec Ideal S1024x1024 .f32 => s (ix2 p q)) (by simp only [hp])).trans (acc_eq m c b (by omega) p q)
  rw [ea, four_eq m c ⟨b * 2, _⟩ b 0 hb16 (by omega) rfl, four_eq m c t b 1 hb16 (by omega) hb, sum_parts]

/-- The result array after the run is the gradient. -/
theorem final (c : Dev nD) : (dats m 0 c).arrAt 3 cfg0.N = G (aDh m c) (aW m c) (aDz m c) :=
  (dats m 0 c).arrAt_eq_of_cover 3 _ (fun t hf => flushed_eq m c t hf) (fun i => (Value.covered_iff3 i).2 (by
    have h0 : (i 0).val < 8192 := (i 0).isLt; have h1 : (i 1).val < 2048 := (i 1).isLt; omega))

/-- The claim: the kernel and the derivative of the plain lines end with the same array. -/
theorem algebraic : Cert.algebraic_Kernel7Ideal_Reference7Ideal (hKernel7Ideal := Cert.Kernel7Ideal.Gen.facts) (hReference7Ideal := Cert.Reference7Ideal.Gen.facts) := by
  intro m ρ m' ρ' _ hag
  refine ⟨fun c => G (aDh m c) (aW m c) (aDz m c), (θ_run _ _ _).mono (fun _ h c => ⟨(h c).1.trans (final m c), (h c).2⟩) (Value.run_blocks m ρ),
    (θ_run _ _ _).mono (fun _ h c => ⟨(h c).1.trans ?_, (h c).2⟩) (Cert.Reference7Ideal.Value.run m' ρ')⟩
  rw [(hag c).1, (hag c).2.1, (hag c).2.2]
  funext j
  idx_vars j
  show _ = grad (aDh m c) (aW m c) (aDz m c) j0 j1
  unfold grad
  pointwise

end Cert.Kernel7Ideal.KvDx
end
-- ==== Proof.Pw1Dx.lean ====
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.StableHlo.ReadAt

@[expose] public section

set_option maxRecDepth 16384

/-! The gradient of the first pointwise product by its input, with the share of the residual path. -/

noncomputable section

namespace Cert.Kernel8Ideal.Pw1Dx

open Cert.Kernel8Ideal Cert.Kernel8Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the gradient of the product, the weight, and the gradient that reaches the
    product's input along its other use. -/
abbrev aDh (c : Dev nD) : FVec Ideal S8192x4096 .f32 := m ((c : Thread nD τ).loc main_arg0)
abbrev aW (c : Dev nD) : FVec Ideal S2048x4096 .f32 := m ((c : Thread nD τ).loc main_arg1)
abbrev aDz (c : Dev nD) : FVec Ideal S8192x2048 .f32 := m ((c : Thread nD τ).loc main_arg2)

/-- The gradient by `x` of the pair `x·w`, `α·x`. -/
def grad (dh : FVec Ideal S8192x4096 .f32) (w : FVec Ideal S2048x4096 .f32) (dz : FVec Ideal S8192x2048 .f32) (i : Fin 8192) (j : Fin 2048) : EReal :=
  Ideal.ofBits .f32 0x3FB504F3#32 * dz (ix2 i j) + ∑ k : Fin 4096, dh (ix2 i k) * w (ix2 j k)

/-- The same as an array. -/
def G (dh : FVec Ideal S8192x4096 .f32) (w : FVec Ideal S2048x4096 .f32) (dz : FVec Ideal S8192x2048 .f32) : FVec Ideal S8192x2048 .f32 := fun i => grad dh w dz (i 0) (i 1)

/-- Shard `s`'s part of the product at an entry: the weight lies in eight shards of 512 columns. -/
def part (dh : FVec Ideal S8192x4096 .f32) (w : FVec Ideal S2048x4096 .f32) (s : ℕ) (hs : s < 8) (i : Fin 8192) (j : Fin 2048) : EReal :=
  ∑ k : Fin 512, dh (ix2 i ⟨s * 512 + k.val, by omega⟩) * w (ix2 j ⟨s * 512 + k.val, by omega⟩)

theorem sum_parts (dh : FVec Ideal S8192x4096 .f32) (w : FVec Ideal S2048x4096 .f32) (i : Fin 8192) (j : Fin 2048) :
    ∑ k : Fin 4096, dh (ix2 i k) * w (ix2 j k)
      = (part dh w 0 (by omega) i j + part dh w 1 (by omega) i j + part dh w 2 (by omega) i j + part dh w 3 (by omega) i j)
        + (part dh w 4 (by omega) i j + part dh w 5 (by omega) i j + part dh w 6 (by omega) i j + part dh w 7 (by omega) i j) := by
  rw [Fin.sum_univ_tiles 8 512 rfl, Fin.sum_univ_eight]
  simp only [add_assoc]
  rfl

/-- What the host lines before the launch leave: the gradient as it is, the weight cut into its shards. -/
theorem V_dh (c : Dev nD) : V m c main_v0 = (truncf .bf16 (aDh m c) bitsLt_bf16_f32 : FVec Ideal S8192x4096 .bf16) := by
  unfold V
  after_reads_simp
theorem V_w (c : Dev nD) (s : Fin 8) (i : Fin 2048) (j : Fin 512) : V m c main_v3 (ix3 s i j) = aW m c (ix2 i ⟨s.val * 512 + j.val, by omega⟩) := by
  unfold V
  after_reads_at
theorem V_dz (c : Dev nD) : V m c main_arg2 = aDz m c := V_main_arg2 m c

theorem hz : (![0, 0] : Fin 2 → Nat) = fun _ => 0 := funext fun a => by fin_cases a <;> rfl

/-- What one point multiplies: four shards of the weight against their columns of the gradient. -/
def four (x0 : Vec Ideal S1024x2048 .bf16) (x1 : Vec Ideal S4x1024x512 .bf16) (p q : Fin 1024) : EReal :=
  (∑ k : Fin 512, x0 (ix2 p ⟨k.val, by omega⟩) * x1 (ix3 0 q k)) + (∑ k : Fin 512, x0 (ix2 p ⟨512 + k.val, by omega⟩) * x1 (ix3 1 q k)) + (∑ k : Fin 512, x0 (ix2 p ⟨1024 + k.val, by omega⟩) * x1 (ix3 2 q k)) + (∑ k : Fin 512, x0 (ix2 p ⟨1536 + k.val, by omega⟩) * x1 (ix3 3 q k))

theorem ld_x0 (x0 : Vec Ideal S1024x2048 .bf16) (p : Fin 1024) (k : Fin 512) :
    View.ld x0 (Rect.unit (s := S1024x2048) ![0, 0] S1024x512.size inb_S1024x2048_S1024x512_0_0) (ix2 p k) = x0 (ix2 p ⟨k.val, by omega⟩) :=
  congrArg x0 (funext fun a => Fin.ext (by
    match a with
    | ⟨0, _⟩ => show 0 + 1 * p.val = p.val; omega
    | ⟨1, _⟩ => show 0 + 1 * k.val = k.val; omega))
theorem ld_w0 (x1 : Vec Ideal S4x1024x512 .bf16) (q : Fin 1024) (k : Fin 512) :
    View.ld x1 (Rect.unit (s := S4x1024x512) ![0, 0, 0] S1x1024x512.size inb_S4x1024x512_S1x1024x512_0_0_0) (ix3 0 q k) = x1 (ix3 0 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem ld_x1 (x0 : Vec Ideal S1024x2048 .bf16) (p : Fin 1024) (k : Fin 512) :
    View.ld x0 (Rect.unit (s := S1024x2048) ![0, 512] S1024x512.size inb_S1024x2048_S1024x512_0_512) (ix2 p k) = x0 (ix2 p ⟨512 + k.val, by omega⟩) :=
  congrArg x0 (funext fun a => Fin.ext (by
    match a with
    | ⟨0, _⟩ => show 0 + 1 * p.val = p.val; omega
    | ⟨1, _⟩ => show 512 + 1 * k.val = 512 + k.val; omega))
theorem ld_w1 (x1 : Vec Ideal S4x1024x512 .bf16) (q : Fin 1024) (k : Fin 512) :
    View.ld x1 (Rect.unit (s := S4x1024x512) ![1, 0, 0] S1x1024x512.size inb_S4x1024x512_S1x1024x512_1_0_0) (ix3 0 q k) = x1 (ix3 1 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem ld_x2 (x0 : Vec Ideal S1024x2048 .bf16) (p : Fin 1024) (k : Fin 512) :
    View.ld x0 (Rect.unit (s := S1024x2048) ![0, 1024] S1024x512.size inb_S1024x2048_S1024x512_0_1024) (ix2 p k) = x0 (ix2 p ⟨1024 + k.val, by omega⟩) :=
  congrArg x0 (funext fun a => Fin.ext (by
    match a with
    | ⟨0, _⟩ => show 0 + 1 * p.val = p.val; omega
    | ⟨1, _⟩ => show 1024 + 1 * k.val = 1024 + k.val; omega))
theorem ld_w2 (x1 : Vec Ideal S4x1024x512 .bf16) (q : Fin 1024) (k : Fin 512) :
    View.ld x1 (Rect.unit (s := S4x1024x512) ![2, 0, 0] S1x1024x512.size inb_S4x1024x512_S1x1024x512_2_0_0) (ix3 0 q k) = x1 (ix3 2 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem ld_x3 (x0 : Vec Ideal S1024x2048 .bf16) (p : Fin 1024) (k : Fin 512) :
    View.ld x0 (Rect.unit (s := S1024x2048) ![0, 1536] S1024x512.size inb_S1024x2048_S1024x512_0_1536) (ix2 p k) = x0 (ix2 p ⟨1536 + k.val, by omega⟩) :=
  congrArg x0 (funext fun a => Fin.ext (by
    match a with
    | ⟨0, _⟩ => show 0 + 1 * p.val = p.val; omega
    | ⟨1, _⟩ => show 1536 + 1 * k.val = 1536 + k.val; omega))
theorem ld_w3 (x1 : Vec Ideal S4x1024x512 .bf16) (q : Fin 1024) (k : Fin 512) :
    View.ld x1 (Rect.unit (s := S4x1024x512) ![3, 0, 0] S1x1024x512.size inb_S4x1024x512_S1x1024x512_3_0_0) (ix3 0 q k) = x1 (ix3 3 q k) :=
  congrArg x1 (funext fun a => Fin.ext (by
    match a with
    | ⟨0, _⟩ => rfl
    | ⟨1, _⟩ => show 0 + 1 * q.val = q.val; omega
    | ⟨2, _⟩ => show 0 + 1 * k.val = k.val; omega))

theorem four_ld (x0 : Vec Ideal S1024x2048 .bf16) (x1 : Vec Ideal S4x1024x512 .bf16) (p q : Fin 1024) :
    (∑ k : Fin 512, View.ld x0 (Rect.unit (s := S1024x2048) ![0, 0] S1024x512.size inb_S1024x2048_S1024x512_0_0) (ix2 p k) * View.ld x1 (Rect.unit (s := S4x1024x512) ![0, 0, 0] S1x1024x512.size inb_S4x1024x512_S1x1024x512_0_0_0) (ix3 0 q k)) + (∑ k : Fin 512, View.ld x0 (Rect.unit (s := S1024x2048) ![0, 512] S1024x512.size inb_S1024x2048_S1024x512_0_512) (ix2 p k) * View.ld x1 (Rect.unit (s := S4x1024x512) ![1, 0, 0] S1x1024x512.size inb_S4x1024x512_S1x1024x512_1_0_0) (ix3 0 q k)) + (∑ k : Fin 512, View.ld x0 (Rect.unit (s := S1024x2048) ![0, 1024] S1024x512.size inb_S1024x2048_S1024x512_0_1024) (ix2 p k) * View.ld x1 (Rect.unit (s := S4x1024x512) ![2, 0, 0] S1x1024x512.size inb_S4x1024x512_S1x1024x512_2_0_0) (ix3 0 q k)) + (∑ k : Fin 512, View.ld x0 (Rect.unit (s := S1024x2048) ![0, 1536] S1024x512.size inb_S1024x2048_S1024x512_0_1536) (ix2 p k) * View.ld x1 (Rect.unit (s := S4x1024x512) ![3, 0, 0] S1x1024x512.size inb_S4x1024x512_S1x1024x512_3_0_0) (ix3 0 q k))
    = four x0 x1 p q :=
  congrArg₂ (· + ·) (congrArg₂ (· + ·) (congrArg₂ (· + ·) (Finset.sum_congr rfl fun k _ => congrArg₂ (· * ·) (ld_x0 x0 p k) (ld_w0 x1 q k))
    (Finset.sum_congr rfl fun k _ => congrArg₂ (· * ·) (ld_x1 x0 p k) (ld_w1 x1 q k)))
    (Finset.sum_congr rfl fun k _ => congrArg₂ (· * ·) (ld_x2 x0 p k) (ld_w2 x1 q k)))
    (Finset.sum_congr rfl fun k _ => congrArg₂ (· * ·) (ld_x3 x0 p k) (ld_w3 x1 q k))

/-- The payloads of the two kinds of points at an entry. -/
theorem pay1_at (u0 : Vec Ideal S1024x512 .bf16) (v0 : Vec Ideal S1x1024x512 .bf16) (u1 : Vec Ideal S1024x512 .bf16) (v1 : Vec Ideal S1x1024x512 .bf16) (u2 : Vec Ideal S1024x512 .bf16) (v2 : Vec Ideal S1x1024x512 .bf16) (u3 : Vec Ideal S1024x512 .bf16) (v3 : Vec Ideal S1x1024x512 .bf16) (p q : Fin 1024) :
    k0_pay1 u0 v0 u1 v1 u2 v2 u3 v3 (ix2 p q) = (∑ k : Fin 512, u0 (ix2 p k) * v0 (ix3 0 q k)) + (∑ k : Fin 512, u1 (ix2 p k) * v1 (ix3 0 q k)) + (∑ k : Fin 512, u2 (ix2 p k) * v2 (ix3 0 q k)) + (∑ k : Fin 512, u3 (ix2 p k) * v3 (ix3 0 q k)) := by
  unfold k0_pay1
  pointwise
theorem pay2_at (a : Vec Ideal S1024x1024 .f32) (u0 : Vec Ideal S1024x512 .bf16) (v0 : Vec Ideal S1x1024x512 .bf16) (u1 : Vec Ideal S1024x512 .bf16) (v1 : Vec Ideal S1x1024x512 .bf16) (u2 : Vec Ideal S1024x512 .bf16) (v2 : Vec Ideal S1x1024x512 .bf16) (u3 : Vec Ideal S1024x512 .bf16) (v3 : Vec Ideal S1x1024x512 .bf16) (r : Vec Ideal S1024x1024 .f32) (p q : Fin 1024) :
    k0_pay2 a u0 v0 u1 v1 u2 v2 u3 v3 r (ix2 p q) = Ideal.ofBits .f32 0x3FB504F3#32 * r (ix2 p q)
      + (a (ix2 p q) + ((∑ k : Fin 512, u0 (ix2 p k) * v0 (ix3 0 q k)) + (∑ k : Fin 512, u1 (ix2 p k) * v1 (ix3 0 q k)) + (∑ k : Fin 512, u2 (ix2 p k) * v2 (ix3 0 q k)) + (∑ k : Fin 512, u3 (ix2 p k) * v3 (ix3 0 q k)))) := by
  unfold k0_pay2
  pointwise

section points
variable (c : Dev nD) (i : grid0.Coords) (a1 : Memref sig .tc .vmem S1024x2048 .bf16) (h1 : a1.IsWhole)
    (a2 : Memref sig .tc .vmem S4x1024x512 .bf16) (h2 : a2.IsWhole) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (x0 : Vec Ideal S1024x2048 .bf16) (x1 : Vec Ideal S4x1024x512 .bf16) (x2 xs : Vec Ideal S1024x1024 .f32) (p q : Fin 1024)

/-- The first point of a pair leaves its product in the accumulator, … -/
theorem first_eq (hc0 : cond0_0 i) (hc1 : ¬cond0_1 i) :
    sout0_A_0 c i a1 h1 a2 h2 a3 h3 a4 h4 a5 h5 hc0 hc1 x0 x1 x2 (ix2 p q) = four x0 x1 p q := by
  unfold sout0_A_0
  rw [View.read_writes_eq_canon _ _ _ (scover0_A_0 c i a1 h1 a2 h2 a3 h3 a4 h4 a5 h5 hc0 hc1 x0 x1 x2)]
  unfold kernelRun0_A
  dsimp only
  rw [View.canon_unit_zero hz]
  simp only [View.readAt_eq_ld, h1.read_unread, h2.read_unread]
  exact (pay1_at ..).trans (four_ld x0 x1 p q)

/-- … and the second adds its own and the gradient along the other use. -/
theorem last_eq (hc0 : ¬cond0_0 i) (hc1 : cond0_1 i) :
    out0_B_3 c i a1 h1 a2 h2 a3 h3 a4 h4 a5 h5 hc0 hc1 x0 x1 x2 xs (ix2 p q)
      = Ideal.ofBits .f32 0x3FB504F3#32 * x2 (ix2 p q) + (xs (ix2 p q) + four x0 x1 p q) := by
  unfold out0_B_3
  rw [View.read_writes_eq_canon _ _ _ (cover0_B_3 c i a1 h1 a2 h2 a3 h3 a4 h4 a5 h5 hc0 hc1 x0 x1 x2 xs)]
  unfold kernelRun0_B
  dsimp only
  rw [View.canon_unit_zero hz]
  unfold kernelRun0_B.sl.r
  dsimp only
  simp only [View.readAt_eq_ld, h1.read_unread, h2.read_unread, h3.read_unread, h5.read_unread, View.ld_unit_zero (S := S1024x1024) hz]
  exact (pay2_at ..).trans (congrArg (fun s => Ideal.ofBits .f32 0x3FB504F3#32 * x2 (ix2 p q) + (xs (ix2 p q) + s)) (four_ld x0 x1 p q))

end points

/-- The blocks the windows visit at point `t`. -/
theorem idx_eqs : ∀ t : Fin cfg0.N, (win0_0.index t 0 = t.val / 4 ∧ win0_0.index t 1 = t.val % 2)
    ∧ (win0_1.index t 0 = t.val % 2 ∧ win0_1.index t 1 = t.val / 2 % 2 ∧ win0_1.index t 2 = 0)
    ∧ (win0_2.index t 0 = t.val / 4 ∧ win0_2.index t 1 = t.val / 2 % 2)
    ∧ (win0_3.index t 0 = t.val / 4 ∧ win0_3.index t 1 = t.val / 2 % 2) ∧ t.val < 32 :=
  (by decide +kernel : ∀ t : Fin grid0.N, _)

/-- The row and the column of the result that entry `(p, q)` of block `b` (row block `b / 2`, column block `b % 2`) is. -/
abbrev rowOf (b : ℕ) (hb : b < 16) (p : Fin 1024) : Fin 8192 := ⟨b / 2 * 1024 + p.val, by omega⟩
abbrev colOf (b : ℕ) (q : Fin 1024) : Fin 2048 := ⟨b % 2 * 1024 + q.val, by omega⟩

/-- Point `t` multiplies the four shards from `4·(t mod 2)` on for block `t / 2`. -/
theorem four_eq (c : Dev nD) (t : Fin cfg0.N) (b k : ℕ) (hb : b < 16) (hk : k < 2) (hbt : t.val = b * 2 + k) (p q : Fin 1024) :
    four (iblk m c 0 t) (iblk m c 1 t) p q
      = part (aDh m c) (aW m c) (4 * k) (by omega) (rowOf b hb p) (colOf b q)
        + part (aDh m c) (aW m c) (4 * k + 1) (by omega) (rowOf b hb p) (colOf b q)
        + part (aDh m c) (aW m c) (4 * k + 2) (by omega) (rowOf b hb p) (colOf b q)
        + part (aDh m c) (aW m c) (4 * k + 3) (by omega) (rowOf b hb p) (colOf b q) := by
  obtain ⟨⟨e0, e1⟩, ⟨f0, f1, f2⟩, -, -, -⟩ := idx_eqs t
  have hd (j : Fin 2048) : iblk m c 0 t (ix2 p j) = aDh m c (ix2 (rowOf b hb p) ⟨k * 2048 + j.val, by omega⟩) := by
    refine Eq.trans ?_ (congrFun (V_dh m c) _)
    refine congrArg (V m c main_v0) (funext fun a => Fin.ext ?_)
    match a with
    | ⟨0, _⟩ => show win0_0.index t 0 * 1024 + 1 * p.val = b / 2 * 1024 + p.val; rw [e0]; omega
    | ⟨1, _⟩ => show win0_0.index t 1 * 2048 + 1 * j.val = k * 2048 + j.val; rw [e1]; omega
  have hw (s : Fin 4) (j : Fin 512) : iblk m c 1 t (ix3 s q j) = aW m c (ix2 (colOf b q) ⟨(4 * k + s.val) * 512 + j.val, by omega⟩) := by
    rw [← V_w m c ⟨4 * k + s.val, by omega⟩]
    refine congrArg (V m c main_v3) (funext fun a => Fin.ext ?_)
    match a with
    | ⟨0, _⟩ => show win0_1.index t 0 * 4 + 1 * s.val = 4 * k + s.val; rw [f0]; omega
    | ⟨1, _⟩ => show win0_1.index t 1 * 1024 + 1 * q.val = b % 2 * 1024 + q.val; rw [f1]; omega
    | ⟨2, _⟩ => show win0_1.index t 2 * 512 + 1 * j.val = j.val; rw [f2]; omega
  unfold four part
  refine congrArg₂ (· + ·) (congrArg₂ (· + ·) (congrArg₂ (· + ·) (Finset.sum_congr rfl fun j _ => ?_) (Finset.sum_congr rfl fun j _ => ?_))
    (Finset.sum_congr rfl fun j _ => ?_)) (Finset.sum_congr rfl fun j _ => ?_)
  · rw [hd, hw]
    refine congrArg₂ (· * ·) (congrArg (fun x => aDh m c (ix2 _ x)) (Fin.ext ?_)) (congrArg (fun x => aW m c (ix2 _ x)) (Fin.ext ?_))
    · show k * 2048 + j.val = 4 * k * 512 + j.val; omega
    · show (4 * k + 0) * 512 + j.val = 4 * k * 512 + j.val; omega
  · rw [hd, hw]
    refine congrArg₂ (· * ·) (congrArg (fun x => aDh m c (ix2 _ x)) (Fin.ext ?_)) (congrArg (fun x => aW m c (ix2 _ x)) (Fin.ext ?_))
    · show k * 2048 + (512 + j.val) = (4 * k + 1) * 512 + j.val; omega
    · show (4 * k + 1) * 512 + j.val = (4 * k + 1) * 512 + j.val; rfl
  · rw [hd, hw]
    refine congrArg₂ (· * ·) (congrArg (fun x => aDh m c (ix2 _ x)) (Fin.ext ?_)) (congrArg (fun x => aW m c (ix2 _ x)) (Fin.ext ?_))
    · show k * 2048 + (1024 + j.val) = (4 * k + 2) * 512 + j.val; omega
    · show (4 * k + 2) * 512 + j.val = (4 * k + 2) * 512 + j.val; rfl
  · rw [hd, hw]
    refine congrArg₂ (· * ·) (congrArg (fun x => aDh m c (ix2 _ x)) (Fin.ext ?_)) (congrArg (fun x => aW m c (ix2 _ x)) (Fin.ext ?_))
    · show k * 2048 + (1536 + j.val) = (4 * k + 3) * 512 + j.val; omega
    · show (4 * k + 3) * 512 + j.val = (4 * k + 3) * 512 + j.val; rfl

/-- The accumulator after the first point of block `b`'s pair. -/
theorem acc_eq (c : Dev nD) (b : ℕ) (h : b * 2 < cfg0.N) (p q : Fin 1024) :
    (outsAt0 m c (b * 2) h).2 (ix2 p q) = four (iblk m c 0 ⟨b * 2, h⟩) (iblk m c 1 ⟨b * 2, h⟩) p q := by
  rw [outsAt0_A m c ⟨b * 2, h⟩ (by show b * 2 % 2 = 0; omega) (by show ¬b * 2 % 2 = 1; omega)]
  dsimp only
  rw [first_eq]

/-- A point that writes back writes its block of the gradient. -/
theorem flushed_eq (c : Dev nD) (t : Fin cfg0.N) (hf : (cfg0.win 3).flush t = true) :
    (dats m 0 c).flushed 3 t = ((cfg0.win 3).blk t).view.read (Elt Ideal) (G (aDh m c) (aW m c) (aDz m c)) := by
  have ht : t.val % 2 = 1 := (flush0_3 t).mp hf
  obtain ⟨-, -, ⟨g0, g1⟩, ⟨e0, e1⟩, hN⟩ := idx_eqs t
  obtain ⟨b, hb⟩ : ∃ b, t.val = b * 2 + 1 := ⟨t.val / 2, by omega⟩
  have hb16 : b < 16 := by omega
  have hN32 : cfg0.N = 32 := N_0
  have hp : t.val - 1 = b * 2 := by omega
  rw [Value.flushed3_B m c t (by omega) ht]
  funext y
  obtain ⟨p, q, rfl⟩ : ∃ p q : Fin 1024, y = ix2 p q := ⟨y 0, y 1, eq_ix2 y⟩
  refine (last_eq ..).trans ?_
  have e : ((cfg0.win 3).blk t).view.emb (ix2 p q) = ix2 (rowOf b hb16 p) (colOf b q) := funext fun a => Fin.ext (by
    match a with
    | ⟨0, _⟩ => show win0_3.index t 0 * 1024 + 1 * p.val = b / 2 * 1024 + p.val; rw [e0]; omega
    | ⟨1, _⟩ => show win0_3.index t 1 * 1024 + 1 * q.val = b % 2 * 1024 + q.val; rw [e1]; omega)
  have er : iblk m c 2 t (ix2 p q) = aDz m c (ix2 (rowOf b hb16 p) (colOf b q)) := by
    rw [← V_dz m c]
    refine congrArg (V m c main_arg2) (funext fun a => Fin.ext ?_)
    match a with
    | ⟨0, _⟩ => show win0_2.index t 0 * 1024 + 1 * p.val = b / 2 * 1024 + p.val; rw [g0]; omega
    | ⟨1, _⟩ => show win0_2.index t 1 * 1024 + 1 * q.val = b % 2 * 1024 + q.val; rw [g1]; omega
  show _ = G (aDh m c) (aW m c) (aDz m c) (((cfg0.win 3).blk t).view.emb (ix2 p q))
  rw [e, er]
  show _ = grad _ _ _ (rowOf b hb16 p) (colOf b q)
  unfold grad
  have ea : (outsAt0 m c (t.val - 1) (Nat.lt_of_le_of_lt (Nat.sub_le _ _) t.isLt)).2 (ix2 p q) = _ :=
    (congrArg (fun s : Vec Ideal S1024x1024 .f32 => s (ix2 p q)) (by simp only [hp])).trans (acc_eq m c b (by omega) p q)
  rw [ea, four_eq m c ⟨b * 2, _⟩ b 0 hb16 (by omega) rfl, four_eq m c t b 1 hb16 (by omega) hb, sum_parts]

/-- The result array after the run is the gradient. -/
theorem final (c : Dev nD) : (dats m 0 c).arrAt 3 cfg0.N = G (aDh m c) (aW m c) (aDz m c) :=
  (dats m 0 c).arrAt_eq_of_cover 3 _ (fun t hf => flushed_eq m c t hf) (fun i => (Value.covered_iff3 i).2 (by
    have h0 : (i 0).val < 8192 := (i 0).isLt; have h1 : (i 1).val < 2048 := (i 1).isLt; omega))

/-- The claim: the kernel and the derivative of the plain lines end with the same array. -/
theorem algebraic : Cert.algebraic_Kernel8Ideal_Reference8Ideal (hKernel8Ideal := Cert.Kernel8Ideal.Gen.facts) (hReference8Ideal := Cert.Reference8Ideal.Gen.facts) := by
  intro m ρ m' ρ' _ hag
  refine ⟨fun c => G (aDh m c) (aW m c) (aDz m c), (θ_run _ _ _).mono (fun _ h c => ⟨(h c).1.trans (final m c), (h c).2⟩) (Value.run_blocks m ρ),
    (θ_run _ _ _).mono (fun _ h c => ⟨(h c).1.trans ?_, (h c).2⟩) (Cert.Reference8Ideal.Value.run m' ρ')⟩
  rw [(hag c).1, (hag c).2.1, (hag c).2.2]
  funext j
  idx_vars j
  show _ = grad (aDh m c) (aW m c) (aDz m c) j0 j1
  unfold grad
  pointwise

end Cert.Kernel8Ideal.Pw1Dx
end
-- ==== Proof.QueryDw.lean ====
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.StableHlo.ReadAt

@[expose] public section

set_option maxRecDepth 16384

noncomputable section

namespace Cert.Kernel9Ideal.QueryDw

open Cert.Kernel9Ideal Cert.Kernel9Ideal.Gen Idealize.ShloMosaic Idealize.ShloMosaic.TcCoe Idealize.SL.Sem
open Idealize.ShloMosaic.Tactic

variable (m : (ℓ : Loc nD τ sig) → Buf (Elt Ideal) ℓ)

/-- The two arguments as arrays of extended reals: the input of the projection and the gradient of its output. -/
abbrev aX (c : Dev nD) : FVec Ideal S8192x2048 .f32 := m ((c : Thread nD τ).loc main_arg0)
abbrev aDq (c : Dev nD) : FVec Ideal S8192x2048 .f32 := m ((c : Thread nD τ).loc main_arg1)

/-- The gradient by the weight of `x·w`: column `i` of `x` against column `j` of the gradient. -/
def grad (x dq : FVec Ideal S8192x2048 .f32) (i j : Fin 2048) : EReal :=
  ∑ k : Fin 8192, x (ix2 k i) * dq (ix2 k j)

/-- The same as an array. -/
def G (x dq : FVec Ideal S8192x2048 .f32) : FVec Ideal S2048x2048 .bf16 :=
  fun i => grad x dq (i 0) (i 1)

/-- What the host lines before the launch leave: both arguments as they are. -/
theorem V_a (c : Dev nD) (i : Fin 8192) (j : Fin 2048) : V m c main_v0 (ix2 i j) = aX m c (ix2 i j) := by
  unfold V
  after_reads_at
theorem V_dz (c : Dev nD) (i : Fin 8192) (j : Fin 2048) : V m c main_v1 (ix2 i j) = aDq m c (ix2 i j) := by
  unfold V
  after_reads_at

theorem hz : (![0, 0] : Fin 2 → Nat) = fun _ => 0 := funext fun a => by fin_cases a <;> rfl

/-- The first point of a run leaves its product in the accumulator … -/
theorem first_eq (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S1024x1024 .bf16) (h3 : a3.IsWhole)
    (a4 : Memref sig .tc .vmem S1024x1024 .f32) (h4 : a4.IsWhole) (hc0 : cond0_0 i) (hc1 : ¬cond0_1 i)
    (x0 x1 : Vec Ideal S4096x1024 .bf16) :
    sout0_A_0 c i a1 h1 a2 h2 a3 h3 a4 h4 hc0 hc1 x0 x1 = k0_pay1 x0 x1 := by
  unfold sout0_A_0
  rw [View.read_writes_eq_canon _ _ _ (scover0_A_0 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S4096x1024) hz]

/-- … and the second adds its own to it and writes the sum back. -/
theorem second_eq (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S1024x1024 .bf16) (h3 : a3.IsWhole)
    (a4 : Memref sig .tc .vmem S1024x1024 .f32) (h4 : a4.IsWhole) (hc0 : ¬cond0_0 i) (hc1 : cond0_1 i)
    (x0 x1 : Vec Ideal S4096x1024 .bf16) (xs : Vec Ideal S1024x1024 .f32) :
    out0_B_2 c i a1 h1 a2 h2 a3 h3 a4 h4 hc0 hc1 x0 x1 xs = k0_pay2 xs x0 x1 := by
  unfold out0_B_2
  rw [View.read_writes_eq_canon _ _ _ (cover0_B_2 c i a1 h1 a2 h2 a3 h3 a4 h4 hc0 hc1 x0 x1 xs)]
  unfold kernelRun0_B
  dsimp only
  rw [View.canon_unit_zero hz]
  simp only [View.readAt_eq_ld, h1.read_unread, h2.read_unread, h4.read_unread, View.ld_unit_zero (S := S4096x1024) hz, View.ld_unit_zero (S := S1024x1024) hz]

/-- The two products of a run at an entry. -/
theorem pay_at (x0 x1 y0 y1 : Vec Ideal S4096x1024 .bf16) (p q : Fin 1024) :
    k0_pay2 (k0_pay1 x0 x1) y0 y1 (ix2 p q)
      = (∑ k : Fin 4096, x0 (ix2 k p) * x1 (ix2 k q)) + ∑ k : Fin 4096, y0 (ix2 k p) * y1 (ix2 k q) := by
  unfold k0_pay2 k0_pay1
  pointwise

/-- The blocks the windows visit at point `t`. -/
theorem idx_eqs : ∀ t : Fin cfg0.N, win0_0.index t 0 = t.val % 2 ∧ win0_0.index t 1 = t.val / 4
    ∧ win0_1.index t 0 = t.val % 2 ∧ win0_1.index t 1 = t.val / 2 % 2
    ∧ win0_2.index t 0 = t.val / 4 ∧ win0_2.index t 1 = t.val / 2 % 2 ∧ t.val < 8 :=
  (by decide +kernel : ∀ t : Fin grid0.N, _)

/-- The entry of an array of rows of `n` that lies at place `k` of block `b` of `w`. -/
abbrev at_ (n w : ℕ) (b : ℕ) (k : Fin w) (h : b * w + w ≤ n) : Fin n := ⟨b * w + k.val, by omega⟩

theorem blk_a (c : Dev nD) (t : Fin cfg0.N) (k : Fin 4096) (p : Fin 1024) :
    iblk m c 0 t (ix2 k p) = V m c main_v0 (ix2 (at_ 8192 4096 (t.val % 2) k (by omega)) (at_ 2048 1024 (t.val / 4) p (by have := (idx_eqs t).2.2.2.2.2.2; omega))) := by
  obtain ⟨h0, h1, -⟩ := idx_eqs t
  refine congrArg (V m c main_v0) (funext fun a => Fin.ext ?_)
  match a with
  | ⟨0, _⟩ => show win0_0.index t 0 * 4096 + 1 * k.val = t.val % 2 * 4096 + k.val; rw [h0]; omega
  | ⟨1, _⟩ => show win0_0.index t 1 * 1024 + 1 * p.val = t.val / 4 * 1024 + p.val; rw [h1]; omega

theorem blk_dz (c : Dev nD) (t : Fin cfg0.N) (k : Fin 4096) (p : Fin 1024) :
    iblk m c 1 t (ix2 k p) = V m c main_v1 (ix2 (at_ 8192 4096 (t.val % 2) k (by omega)) (at_ 2048 1024 (t.val / 2 % 2) p (by omega))) := by
  obtain ⟨-, -, h0, h1, -⟩ := idx_eqs t
  refine congrArg (V m c main_v1) (funext fun a => Fin.ext ?_)
  match a with
  | ⟨0, _⟩ => show win0_1.index t 0 * 4096 + 1 * k.val = t.val % 2 * 4096 + k.val; rw [h0]; omega
  | ⟨1, _⟩ => show win0_1.index t 1 * 1024 + 1 * p.val = t.val / 2 % 2 * 1024 + p.val; rw [h1]; omega

/-- A point that writes back writes its block of the gradient. -/
theorem flushed_eq (c : Dev nD) (t : Fin cfg0.N) (hf : (cfg0.win 2).flush t = true) :
    (dats m 0 c).flushed 2 t = ((cfg0.win 2).blk t).view.read (Elt Ideal) (G (aX m c) (aDq m c)) := by
  have ht : t.val % 2 = 1 := (flush0_2 t).mp hf
  have ht0 : ¬t.val % 2 = 0 := by omega
  obtain ⟨-, -, -, -, e0, e1, hN⟩ := idx_eqs t
  have hp : t.val - 1 < cfg0.N := Nat.lt_of_le_of_lt (Nat.sub_le _ _) t.isLt
  have hp0 : (t.val - 1) % 2 = 0 := by omega
  have hp1 : ¬(t.val - 1) % 2 = 1 := by omega
  rw [Value.flushed2_B m c t ht0 ht, second_eq, outsAt0_A m c ⟨t.val - 1, hp⟩ hp0 hp1]
  dsimp only
  rw [first_eq]
  funext y
  obtain ⟨p, q, rfl⟩ : ∃ p q : Fin 1024, y = ix2 p q := ⟨y 0, y 1, eq_ix2 y⟩
  refine (pay_at _ _ _ _ p q).trans ?_
  have e : ((cfg0.win 2).blk t).view.emb (ix2 p q)
      = ix2 (at_ 2048 1024 (t.val / 4) p (by omega)) (at_ 2048 1024 (t.val / 2 % 2) q (by omega)) := funext fun a => Fin.ext (by
    match a with
    | ⟨0, _⟩ => show win0_2.index t 0 * 1024 + 1 * p.val = t.val / 4 * 1024 + p.val; rw [e0]; omega
    | ⟨1, _⟩ => show win0_2.index t 1 * 1024 + 1 * q.val = t.val / 2 % 2 * 1024 + q.val; rw [e1]; omega)
  show _ = G (aX m c) (aDq m c) (((cfg0.win 2).blk t).view.emb (ix2 p q))
  rw [e]
  show _ = grad _ _ (at_ 2048 1024 (t.val / 4) p (by omega)) (at_ 2048 1024 (t.val / 2 % 2) q (by omega))
  unfold grad
  rw [Fin.sum_univ_two_halves 4096 4096 rfl]
  refine congrArg₂ (· + ·) (Finset.sum_congr rfl fun k _ => ?_) (Finset.sum_congr rfl fun k _ => ?_)
  · rw [blk_a, blk_dz, V_a, V_dz]
    have a0 : at_ 8192 4096 ((t.val - 1) % 2) k (by omega) = ⟨k.val, by omega⟩ := Fin.ext (by show (t.val - 1) % 2 * 4096 + k.val = k.val; omega)
    have a1 : at_ 2048 1024 ((t.val - 1) / 4) p (by omega) = at_ 2048 1024 (t.val / 4) p (by omega) := Fin.ext (by show (t.val - 1) / 4 * 1024 + p.val = t.val / 4 * 1024 + p.val; omega)
    have a2 : at_ 2048 1024 ((t.val - 1) / 2 % 2) q (by omega) = at_ 2048 1024 (t.val / 2 % 2) q (by omega) := Fin.ext (by show (t.val - 1) / 2 % 2 * 1024 + q.val = t.val / 2 % 2 * 1024 + q.val; omega)
    simp only [a0, a1, a2]
  · rw [blk_a, blk_dz, V_a, V_dz]
    have a0 : at_ 8192 4096 (t.val % 2) k (by omega) = ⟨4096 + k.val, by omega⟩ := Fin.ext (by show t.val % 2 * 4096 + k.val = 4096 + k.val; omega)
    simp only [a0]

/-- The result array after the run is the gradient. -/
theorem final (c : Dev nD) : (dats m 0 c).arrAt 2 cfg0.N = G (aX m c) (aDq m c) :=
  (dats m 0 c).arrAt_eq_of_cover 2 _ (fun t hf => flushed_eq m c t hf) (fun i => (Value.covered_iff2 i).2 (by
    have h0 : (i 0).val < 2048 := (i 0).isLt; have h1 : (i 1).val < 2048 := (i 1).isLt; omega))

/-- The claim: the kernel and the derivative of the plain lines end with the same array. -/
theorem algebraic : Cert.algebraic_Kernel9Ideal_Reference9Ideal (hKernel9Ideal := Cert.Kernel9Ideal.Gen.facts) (hReference9Ideal := Cert.Reference9Ideal.Gen.facts) := by
  intro m ρ m' ρ' _ hag
  refine ⟨fun c => G (aX m c) (aDq m c), (θ_run _ _ _).mono (fun _ h c => ⟨(h c).1.trans (final m c), (h c).2⟩) (Value.run_blocks m ρ),
    (θ_run _ _ _).mono (fun _ h c => ⟨(h c).1.trans ?_, (h c).2⟩) (Cert.Reference9Ideal.Value.run m' ρ')⟩
  rw [(hag c).1, (hag c).2]
  funext j
  idx_vars j
  show _ = grad (aX m c) (aDq m c) j0 j1
  unfold grad
  pointwise
  exact Finset.sum_congr rfl fun k _ => mul_comm _ _

end Cert.Kernel9Ideal.QueryDw
end
-- ==== Proof.ProjDw.lean ====
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.StableHlo.ReadAt

@[expose] public section

set_option maxRecDepth 16384

/-! The gradient of the attention's output projection by its weight. -/

noncomputable section

namespace Cert.Kernel10Ideal.ProjDw

open Cert.Kernel10Ideal Cert.Kernel10Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the attention's output and the gradient of the block's output. -/
abbrev aO (c : Dev nD) : FVec Ideal S8192x2048 .f32 := m ((c : Thread nD τ).loc main_arg0)
abbrev aDz (c : Dev nD) : FVec Ideal S8192x2048 .f32 := m ((c : Thread nD τ).loc main_arg1)

/-- The gradient by the weight of `o·w`: column `i` of `o` against column `j` of `dz`. -/
def grad (o : FVec Ideal S8192x2048 .f32) (dz : FVec Ideal S8192x2048 .f32) (i : Fin 2048) (j : Fin 2048) : EReal :=
  ∑ k : Fin 8192, o (ix2 k i) * dz (ix2 k j)

/-- The same as an array. -/
def G (o : FVec Ideal S8192x2048 .f32) (dz : FVec Ideal S8192x2048 .f32) : FVec Ideal S2048x2048 .bf16 := fun i => grad o dz (i 0) (i 1)

/-- One block's part of the product at an entry. The rows lie in four blocks of 2048. -/
def part (o : FVec Ideal S8192x2048 .f32) (dz : FVec Ideal S8192x2048 .f32) (s : ℕ) (hs : s < 4) (i : Fin 2048) (j : Fin 2048) : EReal :=
  ∑ k : Fin 2048, o (ix2 ⟨s * 2048 + k.val, by omega⟩ i) * dz (ix2 ⟨s * 2048 + k.val, by omega⟩ j)

theorem sum_parts (o : FVec Ideal S8192x2048 .f32) (dz : FVec Ideal S8192x2048 .f32) (i : Fin 2048) (j : Fin 2048) :
    ∑ k : Fin 8192, o (ix2 k i) * dz (ix2 k j)
      = part o dz 0 (by omega) i j + part o dz 1 (by omega) i j + part o dz 2 (by omega) i j + part o dz 3 (by omega) i j := by
  rw [Fin.sum_univ_tiles 4 2048 rfl, Fin.sum_univ_four]
  rfl

/-- What the host lines before the launch leave: the arguments as they are. -/
theorem V_0 (c : Dev nD) : V m c main_arg0 = aO m c := V_main_arg0 m c
theorem V_1 (c : Dev nD) : V m c main_v0 = (truncf .bf16 (aDz m c) bitsLt_bf16_f32 : FVec Ideal S8192x2048 .bf16) := by
  unfold V
  after_reads_simp

theorem hz : (![0, 0] : Fin 2 → Nat) = fun _ => 0 := funext fun a => by fin_cases a <;> rfl

/-- What one point multiplies. -/
def one (x0 : Vec Ideal S2048x1024 .f32) (x1 : Vec Ideal S2048x1024 .bf16) (p q : Fin 1024) : EReal := ∑ k : Fin 2048, x0 (ix2 k p) * x1 (ix2 k q)

/-- The payloads of the three kinds of points at an entry. -/
theorem pay1_at (x0 : Vec Ideal S2048x1024 .f32) (x1 : Vec Ideal S2048x1024 .bf16) (p q : Fin 1024) : k0_pay1 x0 x1 (ix2 p q) = one x0 x1 p q := by
  unfold k0_pay1 one
  pointwise
theorem pay2_at (s : Vec Ideal S1024x1024 .f32) (x0 : Vec Ideal S2048x1024 .f32) (x1 : Vec Ideal S2048x1024 .bf16) (p q : Fin 1024) : k0_pay2 s x0 x1 (ix2 p q) = s (ix2 p q) + one x0 x1 p q := by
  unfold k0_pay2 one
  pointwise
theorem pay3_at (s : Vec Ideal S1024x1024 .f32) (x0 : Vec Ideal S2048x1024 .f32) (x1 : Vec Ideal S2048x1024 .bf16) (p q : Fin 1024) :
    k0_pay3 s x0 x1 (ix2 p q) = s (ix2 p q) + one x0 x1 p q := by
  unfold k0_pay3 one
  pointwise

section points
variable (c : Dev nD) (i : grid0.Coords) (a1 : Memref sig .tc .vmem S2048x1024 .f32) (h1 : a1.IsWhole) (a2 : Memref sig .tc .vmem S2048x1024 .bf16) (h2 : a2.IsWhole) (a3 : Memref sig .tc .vmem S1024x1024 .bf16) (h3 : a3.IsWhole) (a4 : Memref sig .tc .vmem S1024x1024 .f32) (h4 : a4.IsWhole)
    (x0 : Vec Ideal S2048x1024 .f32) (x1 : Vec Ideal S2048x1024 .bf16) (xs : Vec Ideal S1024x1024 .f32) (p q : Fin 1024)

/-- The first point of a run leaves its product in the accumulator, … -/
theorem first_eq (hc0 : cond0_0 i) (hc1 : ¬cond0_1 i) (hc2 : ¬cond0_2 i) :
    sout0_A_0 c i a1 h1 a2 h2 a3 h3 a4 h4 hc0 hc1 hc2 x0 x1 (ix2 p q) = one x0 x1 p q := by
  unfold sout0_A_0
  rw [View.read_writes_eq_canon _ _ _ (scover0_A_0 c i a1 h1 a2 h2 a3 h3 a4 h4 hc0 hc1 hc2 x0 x1)]
  unfold kernelRun0_A
  dsimp only
  rw [View.canon_unit_zero hz]
  simp only [View.readAt_eq_ld, h1.read_unread, h2.read_unread, View.ld_unit_zero (S := S2048x1024) hz]
  exact pay1_at ..

/-- … the middle ones add theirs, … -/
theorem middle_eq (hc0 : ¬cond0_0 i) (hc1 : cond0_1 i) (hc2 : ¬cond0_2 i) :
    sout0_B_0 c i a1 h1 a2 h2 a3 h3 a4 h4 hc0 hc1 hc2 x0 x1 xs (ix2 p q) = xs (ix2 p q) + one x0 x1 p q := by
  unfold sout0_B_0
  rw [View.read_writes_eq_canon _ _ _ (scover0_B_0 c i a1 h1 a2 h2 a3 h3 a4 h4 hc0 hc1 hc2 x0 x1 xs)]
  unfold kernelRun0_B
  dsimp only
  rw [View.canon_unit_zero hz]
  simp only [View.readAt_eq_ld, h4.read_unread, h1.read_unread, h2.read_unread, View.ld_unit_zero (S := S2048x1024) hz, View.ld_unit_zero (S := S1024x1024) hz]
  exact pay2_at ..

/-- … and the last adds its own. -/
theorem last_eq (hc0 : ¬cond0_0 i) (hc1 : ¬cond0_1 i) (hc2 : cond0_2 i) :
    out0_C_2 c i a1 h1 a2 h2 a3 h3 a4 h4 hc0 hc1 hc2 x0 x1 xs (ix2 p q) = xs (ix2 p q) + one x0 x1 p q := by
  unfold out0_C_2
  rw [View.read_writes_eq_canon _ _ _ (cover0_C_2 c i a1 h1 a2 h2 a3 h3 a4 h4 hc0 hc1 hc2 x0 x1 xs)]
  unfold kernelRun0_C
  dsimp only
  rw [View.canon_unit_zero hz]
  simp only [View.readAt_eq_ld, h4.read_unread, h1.read_unread, h2.read_unread, View.ld_unit_zero (S := S2048x1024) hz, View.ld_unit_zero (S := S1024x1024) hz]
  exact pay3_at ..

end points

/-- The blocks the windows visit at point `t`. -/
theorem idx_eqs : ∀ t : Fin cfg0.N, (win0_0.index t 0 = t.val % 4 ∧ win0_0.index t 1 = t.val / 8)
    ∧ (win0_1.index t 0 = t.val % 4 ∧ win0_1.index t 1 = t.val / 4 % 2)
    ∧ (win0_2.index t 0 = t.val / 8 ∧ win0_2.index t 1 = t.val / 4 % 2) ∧ t.val < 16 :=
  (by decide +kernel : ∀ t : Fin grid0.N, _)

/-- The row and the column of the result that entry `(p, q)` of block `b` (row block `b / 2`, column block `b % 2`) is. -/
abbrev rowOf (b : ℕ) (hb : b < 4) (p : Fin 1024) : Fin 2048 := ⟨b / 2 * 1024 + p.val, by omega⟩
abbrev colOf (b : ℕ) (q : Fin 1024) : Fin 2048 := ⟨b % 2 * 1024 + q.val, by omega⟩

/-- Point `t` multiplies part `t mod 4` for block `t / 4`. -/
theorem one_eq (c : Dev nD) (t : Fin cfg0.N) (b s : ℕ) (hb : b < 4) (hs : s < 4) (hbt : t.val = b * 4 + s) (p q : Fin 1024) :
    one (iblk m c 0 t) (iblk m c 1 t) p q = part (aO m c) (aDz m c) s hs (rowOf b hb p) (colOf b q) := by
  obtain ⟨⟨e0, e1⟩, ⟨f0, f1⟩, -, -⟩ := idx_eqs t
  have hd (k : Fin 2048) : iblk m c 0 t (ix2 k p) = aO m c (ix2 ⟨s * 2048 + k.val, by omega⟩ (rowOf b hb p)) := by
    refine Eq.trans ?_ (congrFun (V_0 m c) _)
    refine congrArg (V m c main_arg0) (funext fun a => Fin.ext ?_)
    match a with
    | ⟨0, _⟩ => show win0_0.index t 0 * 2048 + 1 * k.val = s * 2048 + k.val; rw [e0]; omega
    | ⟨1, _⟩ => show win0_0.index t 1 * 1024 + 1 * p.val = b / 2 * 1024 + p.val; rw [e1]; omega
  have hw (k : Fin 2048) : iblk m c 1 t (ix2 k q) = aDz m c (ix2 ⟨s * 2048 + k.val, by omega⟩ (colOf b q)) := by
    refine Eq.trans ?_ (congrFun (V_1 m c) _)
    refine congrArg (V m c main_v0) (funext fun a => Fin.ext ?_)
    match a with
    | ⟨0, _⟩ => show win0_1.index t 0 * 2048 + 1 * k.val = s * 2048 + k.val; rw [f0]; omega
    | ⟨1, _⟩ => show win0_1.index t 1 * 1024 + 1 * q.val = b % 2 * 1024 + q.val; rw [f1]; omega
  unfold one part
  exact Finset.sum_congr rfl fun k _ => by rw [hd, hw]

/-- The accumulator after the first three points of block `b`'s run. -/
theorem acc_eq (c : Dev nD) (b : ℕ) (h : b * 4 + 2 < cfg0.N) (p q : Fin 1024) :
    (outsAt0 m c (b * 4 + 2) h).2 (ix2 p q)
      = one (iblk m c 0 ⟨b * 4, by omega⟩) (iblk m c 1 ⟨b * 4, by omega⟩) p q
        + one (iblk m c 0 ⟨b * 4 + 1, by omega⟩) (iblk m c 1 ⟨b * 4 + 1, by omega⟩) p q
        + one (iblk m c 0 ⟨b * 4 + 2, h⟩) (iblk m c 1 ⟨b * 4 + 2, h⟩) p q := by
  have s0 : (outsAt0 m c (b * 4) (by omega)).2 (ix2 p q) = one (iblk m c 0 ⟨b * 4, by omega⟩) (iblk m c 1 ⟨b * 4, by omega⟩) p q := by
    rw [outsAt0_A m c ⟨b * 4, by omega⟩ (by show b * 4 % 4 = 0; omega) (by show ¬(1 ≤ b * 4 % 4 ∧ b * 4 % 4 ≤ 2); omega) (by show ¬b * 4 % 4 = 3; omega)]
    dsimp only
    rw [first_eq]
  have s1 : (outsAt0 m c (b * 4 + 1) (by omega)).2 (ix2 p q) = one (iblk m c 0 ⟨b * 4, by omega⟩) (iblk m c 1 ⟨b * 4, by omega⟩) p q
        + one (iblk m c 0 ⟨b * 4 + 1, by omega⟩) (iblk m c 1 ⟨b * 4 + 1, by omega⟩) p q := by
    rw [outsAt0_B m c ⟨b * 4 + 1, by omega⟩ (by show ¬(b * 4 + 1) % 4 = 0; omega) (by show 1 ≤ (b * 4 + 1) % 4 ∧ (b * 4 + 1) % 4 ≤ 2; omega) (by show ¬(b * 4 + 1) % 4 = 3; omega)]
    dsimp only
    rw [middle_eq]
    exact congrArg (· + _) s0
  rw [outsAt0_B m c ⟨b * 4 + 2, h⟩ (by show ¬(b * 4 + 2) % 4 = 0; omega) (by show 1 ≤ (b * 4 + 2) % 4 ∧ (b * 4 + 2) % 4 ≤ 2; omega) (by show ¬(b * 4 + 2) % 4 = 3; omega)]
  dsimp only
  rw [middle_eq]
  exact congrArg (· + _) s1

/-- A point that writes back writes its block of the result. -/
theorem flushed_eq (c : Dev nD) (t : Fin cfg0.N) (hf : (cfg0.win 2).flush t = true) :
    (dats m 0 c).flushed 2 t = ((cfg0.win 2).blk t).view.read (Elt Ideal) (G (aO m c) (aDz m c)) := by
  have ht : t.val % 4 = 3 := (flush0_2 t).mp hf
  obtain ⟨-, -, ⟨e0, e1⟩, hN⟩ := idx_eqs t
  obtain ⟨b, hb⟩ : ∃ b, t.val = b * 4 + 3 := ⟨t.val / 4, by omega⟩
  have hbn : b < 4 := by omega
  have hN' : cfg0.N = 16 := N_0
  have hp : t.val - 1 = b * 4 + 2 := by omega
  rw [Value.flushed2_C m c t (by omega) (by omega) ht]
  funext y
  obtain ⟨p, q, rfl⟩ : ∃ p q : Fin 1024, y = ix2 p q := ⟨y 0, y 1, eq_ix2 y⟩
  refine (last_eq ..).trans ?_
  have e : ((cfg0.win 2).blk t).view.emb (ix2 p q) = ix2 (rowOf b hbn p) (colOf b q) := funext fun a => Fin.ext (by
    match a with
    | ⟨0, _⟩ => show win0_2.index t 0 * 1024 + 1 * p.val = b / 2 * 1024 + p.val; rw [e0]; omega
    | ⟨1, _⟩ => show win0_2.index t 1 * 1024 + 1 * q.val = b % 2 * 1024 + q.val; rw [e1]; omega)
  show _ = G (aO m c) (aDz m c) (((cfg0.win 2).blk t).view.emb (ix2 p q))
  rw [e]
  show _ = grad _ _ (rowOf b hbn p) (colOf b q)
  unfold grad
  have ea : (outsAt0 m c (t.val - 1) (Nat.lt_of_le_of_lt (Nat.sub_le _ _) t.isLt)).2 (ix2 p q) = _ :=
    (congrArg (fun s : Vec Ideal S1024x1024 .f32 => s (ix2 p q)) (by simp only [hp])).trans (acc_eq m c b (by omega) p q)
  rw [ea, one_eq m c ⟨b * 4, _⟩ b 0 hbn (by omega) rfl, one_eq m c ⟨b * 4 + 1, _⟩ b 1 hbn (by omega) rfl,
    one_eq m c ⟨b * 4 + 2, _⟩ b 2 hbn (by omega) rfl, one_eq m c t b 3 hbn (by omega) hb, sum_parts]

/-- The result array after the run. -/
theorem final (c : Dev nD) : (dats m 0 c).arrAt 2 cfg0.N = G (aO m c) (aDz m c) :=
  (dats m 0 c).arrAt_eq_of_cover 2 _ (fun t hf => flushed_eq m c t hf) (fun i => (Value.covered_iff2 i).2 (by
    have h0 : (i 0).val < 2048 := (i 0).isLt; have h1 : (i 1).val < 2048 := (i 1).isLt; omega))

/-- The claim: the kernel and the plain lines end with the same array. -/
theorem algebraic : Cert.algebraic_Kernel10Ideal_Reference10Ideal (hKernel10Ideal := Cert.Kernel10Ideal.Gen.facts) (hReference10Ideal := Cert.Reference10Ideal.Gen.facts) := by
  intro m ρ m' ρ' _ hag
  refine ⟨fun c => G (aO m c) (aDz m c), (θ_run _ _ _).mono (fun _ h c => ⟨(h c).1.trans (final m c), (h c).2⟩) (Value.run_blocks m ρ),
    (θ_run _ _ _).mono (fun _ h c => ⟨(h c).1.trans ?_, (h c).2⟩) (Cert.Reference10Ideal.Value.run m' ρ')⟩
  rw [(hag c).1, (hag c).2]
  funext j
  idx_vars j
  show _ = grad (aO m c) (aDz m c) j0 j1
  unfold grad
  pointwise
  exact Finset.sum_congr rfl fun k _ => mul_comm _ _

end Cert.Kernel10Ideal.ProjDw
end
-- ==== Proof.KvDw.lean ====
module

public import proofs.«01_k».proof.Defs
public import proofs.«01_k».proof.Proof.Gen.Kernel11Ideal.Value
public import proofs.«01_k».proof.Proof.Gen.Reference11Ideal.Run
public import Idealize.ShloMosaic.Lib.Pointwise
public import Idealize.ShloMosaic.Lib.StableHlo.ReadAt

@[expose] public section

set_option maxRecDepth 16384

noncomputable section

namespace Cert.Kernel11Ideal.KvDw

open Cert.Kernel11Ideal Cert.Kernel11Ideal.Gen Idealize.ShloMosaic Idealize.ShloMosaic.TcCoe Idealize.SL.Sem
open Idealize.ShloMosaic.Tactic

variable (m : (ℓ : Loc nD τ sig) → Buf (Elt Ideal) ℓ)

/-- The two arguments as arrays of extended reals: the block's input and the gradient of the product. -/
abbrev aX (c : Dev nD) : FVec Ideal S8192x2048 .f32 := m ((c : Thread nD τ).loc main_arg0)
abbrev aDkv (c : Dev nD) : FVec Ideal S8192x4096 .f32 := m ((c : Thread nD τ).loc main_arg1)

/-- The gradient by the weight of `x·w`, entry `(i, j)` of its shard `s` of 512 columns. -/
def grad (x : FVec Ideal S8192x2048 .f32) (dkv : FVec Ideal S8192x4096 .f32) (s : Fin 8) (i : Fin 2048) (j : Fin 512) : EReal :=
  ∑ k : Fin 8192, x (ix2 k i) * dkv (ix2 k ⟨s.val * 512 + j.val, by omega⟩)

/-- The same as an array. -/
def G (x : FVec Ideal S8192x2048 .f32) (dkv : FVec Ideal S8192x4096 .f32) : FVec Ideal S8x2048x512 .bf16 :=
  fun i => grad x dkv (i 0) (i 1) (i 2)

/-- What the host lines before the launch leave: both arguments as they are. -/
theorem V_x (c : Dev nD) (i : Fin 8192) (j : Fin 2048) : V m c main_v0 (ix2 i j) = aX m c (ix2 i j) := by
  unfold V
  after_reads_at
theorem V_dkv (c : Dev nD) (i : Fin 8192) (j : Fin 4096) : V m c main_v1 (ix2 i j) = aDkv m c (ix2 i j) := by
  unfold V
  after_reads_at

theorem hz : (![0, 0] : Fin 2 → Nat) = fun _ => 0 := funext fun a => by fin_cases a <;> rfl

/-- The first point of a run leaves its product in the accumulator … -/
theorem first_eq (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S2x1024x512 .bf16) (h3 : a3.IsWhole)
    (a4 : Memref sig .tc .vmem S1024x1024 .f32) (h4 : a4.IsWhole) (hc0 : cond0_0 i) (hc1 : ¬cond0_1 i)
    (x0 x1 : Vec Ideal S4096x1024 .bf16) :
    sout0_A_0 c i a1 h1 a2 h2 a3 h3 a4 h4 hc0 hc1 x0 x1 = k0_pay1 x0 x1 := by
  unfold sout0_A_0
  rw [View.read_writes_eq_canon _ _ _ (scover0_A_0 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S4096x1024) hz]

/-- A block of 1024 columns as two shards of 512. -/
def shards (a : Vec Ideal S1024x1024 .f32) : Vec Ideal S2x1024x512 .bf16 :=
  fun i => a (ix2 (i 1) ⟨(i 0).val * 512 + (i 2).val, by
    have h0 : (i 0).val < 2 := (i 0).isLt
    have h2 : (i 2).val < 512 := (i 2).isLt
    omega⟩)

/-- The two stores of a run's second point, at an entry. -/
theorem pay3_at (xs : Vec Ideal S1024x1024 .f32) (x0 x1 : Vec Ideal S4096x1024 .bf16) (p : Fin 1024) (q : Fin 512) :
    k0_pay3 xs x0 x1 (ix3 0 p q) = k0_pay2 xs x0 x1 (ix2 p ⟨q.val, by omega⟩) := by
  unfold k0_pay3
  pointwise
theorem pay4_at (xs : Vec Ideal S1024x1024 .f32) (x0 x1 : Vec Ideal S4096x1024 .bf16) (p : Fin 1024) (q : Fin 512) :
    k0_pay4 xs x0 x1 (ix3 0 p q) = k0_pay2 xs x0 x1 (ix2 p ⟨512 + q.val, by omega⟩) := by
  unfold k0_pay4
  pointwise

/-- … and the second adds its own to it and writes the sum back. -/
theorem second_eq (c : Dev nD) (i : grid0.Coords) (a1 : Memref sig .tc .vmem S4096x1024 .bf16) (h1 : a1.IsWhole)
    (a2 : Memref sig .tc .vmem S4096x1024 .bf16) (h2 : a2.IsWhole) (a3 : Memref sig .tc .vmem S2x1024x512 .bf16) (h3 : a3.IsWhole)
    (a4 : Memref sig .tc .vmem S1024x1024 .f32) (h4 : a4.IsWhole) (hc0 : ¬cond0_0 i) (hc1 : cond0_1 i)
    (x0 x1 : Vec Ideal S4096x1024 .bf16) (xs : Vec Ideal S1024x1024 .f32) :
    out0_B_2 c i a1 h1 a2 h2 a3 h3 a4 h4 hc0 hc1 x0 x1 xs = shards (k0_pay2 xs x0 x1) := by
  unfold out0_B_2
  rw [View.read_writes_eq_canon _ _ _ (cover0_B_2 c i a1 h1 a2 h2 a3 h3 a4 h4 hc0 hc1 x0 x1 xs)]
  funext y
  refine View.canon_apply_of_pieces (shards (k0_pay2 xs x0 x1)) _ ?_ y (cover0_B_2 c i a1 h1 a2 h2 a3 h3 a4 h4 hc0 hc1 x0 x1 xs y)
  unfold kernelRun0_B
  dsimp only
  simp only [View.readAt_eq_ld, h1.read_unread, h2.read_unread, h4.read_unread, View.ld_unit_zero (S := S4096x1024) hz, View.ld_unit_zero (S := S1024x1024) hz]
  intro pc hpc
  rcases List.mem_pair.mp hpc with rfl | rfl
  · intro x
    obtain ⟨z, p, q, rfl⟩ : ∃ (z : Fin 1) (p : Fin 1024) (q : Fin 512), x = ix3 z p q := ⟨x 0, x 1, x 2, eq_ix3 x⟩
    obtain rfl : z = 0 := Subsingleton.elim _ _
    refine (pay4_at xs x0 x1 p q).trans (congrArg (k0_pay2 xs x0 x1) (funext fun a => Fin.ext ?_))
    match a with
    | ⟨0, _⟩ => show p.val = 0 + 1 * p.val; omega
    | ⟨1, _⟩ => show 512 + q.val = (1 + 1 * 0) * 512 + (0 + 1 * q.val); omega
  · intro x
    obtain ⟨z, p, q, rfl⟩ : ∃ (z : Fin 1) (p : Fin 1024) (q : Fin 512), x = ix3 z p q := ⟨x 0, x 1, x 2, eq_ix3 x⟩
    obtain rfl : z = 0 := Subsingleton.elim _ _
    refine (pay3_at xs x0 x1 p q).trans (congrArg (k0_pay2 xs x0 x1) (funext fun a => Fin.ext ?_))
    match a with
    | ⟨0, _⟩ => show p.val = 0 + 1 * p.val; omega
    | ⟨1, _⟩ => show q.val = (0 + 1 * 0) * 512 + (0 + 1 * q.val); omega

/-- The two products of a run at an entry. -/
theorem pay_at (x0 x1 y0 y1 : Vec Ideal S4096x1024 .bf16) (p q : Fin 1024) :
    k0_pay2 (k0_pay1 x0 x1) y0 y1 (ix2 p q)
      = (∑ k : Fin 4096, x0 (ix2 k p) * x1 (ix2 k q)) + ∑ k : Fin 4096, y0 (ix2 k p) * y1 (ix2 k q) := by
  unfold k0_pay2 k0_pay1
  pointwise

/-- The blocks the windows visit at point `t`. -/
theorem idx_eqs : ∀ t : Fin cfg0.N, (win0_0.index t 0 = t.val % 2 ∧ win0_0.index t 1 = t.val / 8)
    ∧ (win0_1.index t 0 = t.val % 2 ∧ win0_1.index t 1 = t.val / 2 % 4)
    ∧ (win0_2.index t 0 = t.val / 2 % 4 ∧ win0_2.index t 1 = t.val / 8 ∧ win0_2.index t 2 = 0) ∧ t.val < 16 :=
  (by decide +kernel : ∀ t : Fin grid0.N, _)

theorem blk_x (c : Dev nD) (t : Fin cfg0.N) (b h : ℕ) (hb : b < 8) (hh : h < 2) (e : t.val = b * 2 + h) (k : Fin 4096) (p : Fin 1024) :
    iblk m c 0 t (ix2 k p) = aX m c (ix2 ⟨h * 4096 + k.val, by omega⟩ ⟨b / 4 * 1024 + p.val, by omega⟩) := by
  obtain ⟨⟨h0, h1⟩, -⟩ := idx_eqs t
  rw [← V_x m c]
  refine congrArg (V m c main_v0) (funext fun a => Fin.ext ?_)
  match a with
  | ⟨0, _⟩ => show win0_0.index t 0 * 4096 + 1 * k.val = h * 4096 + k.val; rw [h0]; omega
  | ⟨1, _⟩ => show win0_0.index t 1 * 1024 + 1 * p.val = b / 4 * 1024 + p.val; rw [h1]; omega

theorem blk_dkv (c : Dev nD) (t : Fin cfg0.N) (b h : ℕ) (hb : b < 8) (hh : h < 2) (e : t.val = b * 2 + h) (k : Fin 4096) (p : Fin 1024) :
    iblk m c 1 t (ix2 k p) = aDkv m c (ix2 ⟨h * 4096 + k.val, by omega⟩ ⟨b % 4 * 1024 + p.val, by omega⟩) := by
  obtain ⟨-, ⟨h0, h1⟩, -⟩ := idx_eqs t
  rw [← V_dkv m c]
  refine congrArg (V m c main_v1) (funext fun a => Fin.ext ?_)
  match a with
  | ⟨0, _⟩ => show win0_1.index t 0 * 4096 + 1 * k.val = h * 4096 + k.val; rw [h0]; omega
  | ⟨1, _⟩ => show win0_1.index t 1 * 1024 + 1 * p.val = b % 4 * 1024 + p.val; rw [h1]; omega

/-- A point that writes back writes its block of the gradient. -/
theorem flushed_eq (c : Dev nD) (t : Fin cfg0.N) (hf : (cfg0.win 2).flush t = true) :
    (dats m 0 c).flushed 2 t = ((cfg0.win 2).blk t).view.read (Elt Ideal) (G (aX m c) (aDkv m c)) := by
  have ht : t.val % 2 = 1 := (flush0_2 t).mp hf
  obtain ⟨-, -, ⟨e0, e1, e2⟩, hN⟩ := idx_eqs t
  obtain ⟨b, hb⟩ : ∃ b, t.val = b * 2 + 1 := ⟨t.val / 2, by omega⟩
  have hb8 : b < 8 := by omega
  have hp : t.val - 1 < cfg0.N := Nat.lt_of_le_of_lt (Nat.sub_le _ _) t.isLt
  rw [Value.flushed2_B m c t (by omega) ht, second_eq, outsAt0_A m c ⟨t.val - 1, hp⟩ (by show (t.val - 1) % 2 = 0; omega) (by show ¬(t.val - 1) % 2 = 1; omega)]
  dsimp only
  rw [first_eq]
  funext y
  obtain ⟨z, p, q, rfl⟩ : ∃ (z : Fin 2) (p : Fin 1024) (q : Fin 512), y = ix3 z p q := ⟨y 0, y 1, y 2, eq_ix3 y⟩
  refine (pay_at _ _ _ _ p ⟨z.val * 512 + q.val, by omega⟩).trans ?_
  have e : ((cfg0.win 2).blk t).view.emb (ix3 z p q)
      = ix3 (⟨b % 4 * 2 + z.val, by omega⟩ : Fin 8) (⟨b / 4 * 1024 + p.val, by omega⟩ : Fin 2048) q := funext fun a => Fin.ext (by
    match a with
    | ⟨0, _⟩ => show win0_2.index t 0 * 2 + 1 * z.val = b % 4 * 2 + z.val; rw [e0]; omega
    | ⟨1, _⟩ => show win0_2.index t 1 * 1024 + 1 * p.val = b / 4 * 1024 + p.val; rw [e1]; omega
    | ⟨2, _⟩ => show win0_2.index t 2 * 512 + 1 * q.val = q.val; rw [e2]; omega)
  show _ = G (aX m c) (aDkv m c) (((cfg0.win 2).blk t).view.emb (ix3 z p q))
  rw [e]
  show _ = grad _ _ (⟨b % 4 * 2 + z.val, by omega⟩ : Fin 8) (⟨b / 4 * 1024 + p.val, by omega⟩ : Fin 2048) q
  have ec : (⟨(b % 4 * 2 + z.val) * 512 + q.val, by omega⟩ : Fin 4096) = ⟨b % 4 * 1024 + (z.val * 512 + q.val), by omega⟩ :=
    Fin.ext (by show (b % 4 * 2 + z.val) * 512 + q.val = b % 4 * 1024 + (z.val * 512 + q.val); omega)
  unfold grad
  dsimp only
  rw [ec, Fin.sum_univ_two_halves 4096 4096 rfl]
  refine congrArg₂ (· + ·) (Finset.sum_congr rfl fun k _ => ?_) (Finset.sum_congr rfl fun k _ => ?_)
  · rw [blk_x m c _ b 0 hb8 (by omega) (by show t.val - 1 = b * 2 + 0; omega), blk_dkv m c _ b 0 hb8 (by omega) (by show t.val - 1 = b * 2 + 0; omega)]
    simp only [Nat.zero_mul, Nat.zero_add]
  · rw [blk_x m c t b 1 hb8 (by omega) hb, blk_dkv m c t b 1 hb8 (by omega) hb]

/-- The result array after the run is the gradient. -/
theorem final (c : Dev nD) : (dats m 0 c).arrAt 2 cfg0.N = G (aX m c) (aDkv m c) :=
  (dats m 0 c).arrAt_eq_of_cover 2 _ (fun t hf => flushed_eq m c t hf) (fun i => (Value.covered_iff2 i).2 (by
    have h0 : (i 0).val < 8 := (i 0).isLt; have h1 : (i 1).val < 2048 := (i 1).isLt; have h2 : (i 2).val < 512 := (i 2).isLt; omega))

/-- The claim: the kernel and the derivative of the plain lines end with the same array. -/
theorem algebraic : Cert.algebraic_Kernel11Ideal_Reference11Ideal (hKernel11Ideal := Cert.Kernel11Ideal.Gen.facts) (hReference11Ideal := Cert.Reference11Ideal.Gen.facts) := by
  intro m ρ m' ρ' _ hag
  refine ⟨fun c => G (aX m c) (aDkv m c), (θ_run _ _ _).mono (fun _ h c => ⟨(h c).1.trans (final m c), (h c).2⟩) (Value.run_blocks m ρ),
    (θ_run _ _ _).mono (fun _ h c => ⟨(h c).1.trans ?_, (h c).2⟩) (Cert.Reference11Ideal.Value.run m' ρ')⟩
  rw [(hag c).1, (hag c).2]
  funext j
  idx_vars j
  show _ = grad (aX m c) (aDkv m c) j0 j1 j2
  unfold grad
  pointwise
  exact Finset.sum_congr rfl fun k _ => mul_comm _ _

end Cert.Kernel11Ideal.KvDw
end
-- ==== Proof.Pw1.lean ====
module

public import proofs.«01_k».proof.Defs
public import proofs.«01_k».proof.Proof.Gen.Kernel12Ideal.Value
public import proofs.«01_k».proof.Proof.Gen.Reference12Ideal.Run
public import Idealize.ShloMosaic.Lib.Pointwise
public import Idealize.ShloMosaic.Lib.StableHlo.ReadAt

@[expose] public section

set_option maxRecDepth 16384

/-! The first pointwise product of the convolution module. -/

noncomputable section

namespace Cert.Kernel12Ideal.Pw1

open Cert.Kernel12Ideal Cert.Kernel12Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the input; the weight; the bias. -/
abbrev aX (c : Dev nD) : FVec Ideal S8192x2048 .f32 := m ((c : Thread nD τ).loc main_arg0)
abbrev aW (c : Dev nD) : FVec Ideal S2048x4096 .f32 := m ((c : Thread nD τ).loc main_arg1)
abbrev aB (c : Dev nD) : FVec Ideal S1x4096 .f32 := m ((c : Thread nD τ).loc main_arg2)

/-- The product and the bias. -/
def grad (x : FVec Ideal S8192x2048 .f32) (w : FVec Ideal S2048x4096 .f32) (b : FVec Ideal S1x4096 .f32) (i : Fin 8192) (j : Fin 4096) : EReal :=
  (∑ k : Fin 2048, x (ix2 i k) * w (ix2 k j)) + b (ix2 0 j)

/-- The same as an array. -/
def G (x : FVec Ideal S8192x2048 .f32) (w : FVec Ideal S2048x4096 .f32) (b : FVec Ideal S1x4096 .f32) : FVec Ideal S8192x4096 .f32 :=
  fun i => grad x w b (i 0) (i 1)

/-- One block of the kernel at an entry. -/
theorem pay_at_left (x0 x1 : Vec Ideal S1024x2048 .bf16) (w0 w1 : Vec Ideal S1x2048x512 .bf16) (b : Vec Ideal S1x1024 .f32) (p : Fin 1024) (r : Fin 512) :
    k0_pay1 x0 w0 x1 w1 b (ix2 p ⟨r.val, by omega⟩) = (∑ k : Fin 2048, x0 (ix2 p k) * w0 (ix3 0 k r)) + b (ix2 0 ⟨r.val, by omega⟩) := by
  unfold k0_pay1
  pointwise
theorem pay_at_right (x0 x1 : Vec Ideal S1024x2048 .bf16) (w0 w1 : Vec Ideal S1x2048x512 .bf16) (b : Vec Ideal S1x1024 .f32) (p : Fin 1024) (r : Fin 512) :
    k0_pay1 x0 w0 x1 w1 b (ix2 p ⟨512 + r.val, by omega⟩) = (∑ k : Fin 2048, x1 (ix2 p k) * w1 (ix3 0 k r)) + b (ix2 0 ⟨512 + r.val, by omega⟩) := by
  unfold k0_pay1
  pointwise

/-- What the host lines before the launch leave: the arguments, cast and cut into shards. -/
theorem V_0 (c : Dev nD) : V m c main_v0 = (truncf .bf16 (aX m c) bitsLt_bf16_f32 : FVec Ideal S8192x2048 .bf16) := by
  unfold V
  after_reads_simp
theorem V_1 (c : Dev nD) (s : Fin 8) (i : Fin 2048) (j : Fin 512) :
    V m c main_v3 (ix3 s i j) = aW m c (ix2 i ⟨s.val * 512 + j.val, by omega⟩) := by
  unfold V
  after_reads_at
theorem V_2 (c : Dev nD) : V m c main_arg2 = aB m c := V_main_arg2 m c

/-- The blocks the windows visit at point `t`. -/
theorem idx_eqs : ∀ t : Fin cfg0.N, (win0_0.index t 0 = win0_3.index t 0 ∧ win0_0.index t 1 = 0)
    ∧ (win0_1.index t 0 = win0_3.index t 1 ∧ win0_1.index t 1 = 0 ∧ win0_1.index t 2 = 0)
    ∧ (win0_2.index t 0 = 0 ∧ win0_2.index t 1 = win0_3.index t 1)
    ∧ (win0_3.index t 0 < 8 ∧ win0_3.index t 1 < 4) :=
  (by decide +kernel : ∀ t : Fin grid0.N, _)

/-- The row and the column of the result that place `p` of the block that point `t` writes is. -/
abbrev row (t : Fin cfg0.N) (p : Fin 1024) : Fin 8192 := ⟨win0_3.index t 0 * 1024 + p.val, by have := (idx_eqs t).2.2.2.1; omega⟩
abbrev col (t : Fin cfg0.N) (q : Fin 1024) : Fin 4096 := ⟨win0_3.index t 1 * 1024 + q.val, by have := (idx_eqs t).2.2.2.2; omega⟩

theorem blk_0 (c : Dev nD) (t : Fin cfg0.N) (p : Fin 1024) (k : Fin 2048) :
    iblk m c 0 t (ix2 p k) = aX m c (ix2 (row t p) k) := by
  obtain ⟨⟨h0, h1⟩, -⟩ := idx_eqs t
  refine Eq.trans ?_ (congrFun (V_0 m c) _)
  refine congrArg (V m c main_v0) (funext fun a => Fin.ext ?_)
  match a with
  | ⟨0, _⟩ => show win0_0.index t 0 * 1024 + 1 * p.val = win0_3.index t 0 * 1024 + p.val; rw [h0]; omega
  | ⟨1, _⟩ => show win0_0.index t 1 * 2048 + 1 * k.val = k.val; rw [h1]; omega

theorem blk_1 (c : Dev nD) (t : Fin cfg0.N) (s : Fin 2) (k : Fin 2048) (r : Fin 512) :
    iblk m c 1 t (ix3 s k r) = aW m c (ix2 k (col t ⟨s.val * 512 + r.val, by omega⟩)) := by
  obtain ⟨-, ⟨h0, h1, h2⟩, -⟩ := idx_eqs t
  have hb := (idx_eqs t).2.2.2.2
  refine Eq.trans ?_ ((V_1 m c ⟨win0_3.index t 1 * 2 + s.val, by omega⟩ k r).trans (congrArg (fun x => aW m c (ix2 k x)) (Fin.ext ?_)))
  · refine congrArg (V m c main_v3) (funext fun a => Fin.ext ?_)
    match a with
    | ⟨0, _⟩ => show win0_1.index t 0 * 2 + 1 * s.val = win0_3.index t 1 * 2 + s.val; rw [h0]; omega
    | ⟨1, _⟩ => show win0_1.index t 1 * 2048 + 1 * k.val = k.val; rw [h1]; omega
    | ⟨2, _⟩ => show win0_1.index t 2 * 512 + 1 * r.val = r.val; rw [h2]; omega
  · show (win0_3.index t 1 * 2 + s.val) * 512 + r.val = win0_3.index t 1 * 1024 + (s.val * 512 + r.val); omega

theorem blk_2 (c : Dev nD) (t : Fin cfg0.N) (q : Fin 1024) :
    iblk m c 2 t (ix2 0 q) = aB m c (ix2 0 (col t q)) := by
  obtain ⟨-, -, ⟨h0, h1⟩, -⟩ := idx_eqs t
  rw [← V_2 m c]
  refine congrArg (V m c main_arg2) (funext fun a => Fin.ext ?_)
  match a with
  | ⟨0, _⟩ => show win0_2.index t 0 * 1 + 1 * 0 = 0; rw [h0]
  | ⟨1, _⟩ => show win0_2.index t 1 * 1024 + 1 * q.val = win0_3.index t 1 * 1024 + q.val; rw [h1]; omega

theorem hz : (![0, 0] : Fin 2 → Nat) = fun _ => 0 := funext fun a => by fin_cases a <;> rfl

/-- A column of a block lies in the first shard or in the second. -/
theorem halves (q : Fin 1024) : (∃ r : Fin 512, q = ⟨r.val, by omega⟩) ∨ (∃ r : Fin 512, q = ⟨512 + r.val, by omega⟩) := by
  by_cases h : q.val < 512
  · exact .inl ⟨⟨q.val, h⟩, rfl⟩
  · exact .inr ⟨⟨q.val - 512, by omega⟩, Fin.ext (by show q.val = 512 + (q.val - 512); omega)⟩

/-- The load of shard 0 of the two that a block of the weight holds. -/
theorem ld_w0 (x1 : Vec Ideal S2x2048x512 .bf16) (k : Fin 2048) (r : Fin 512) : View.ld x1 r0_1 (ix3 0 k r) = x1 (ix3 0 k r) :=
  congrArg x1 (funext fun a => Fin.ext (by
    match a with
    | ⟨0, _⟩ => rfl
    | ⟨1, _⟩ => show 0 + 1 * k.val = k.val; omega
    | ⟨2, _⟩ => show 0 + 1 * r.val = r.val; omega))

/-- The load of shard 1 of the two that a block of the weight holds. -/
theorem ld_w1 (x1 : Vec Ideal S2x2048x512 .bf16) (k : Fin 2048) (r : Fin 512) : View.ld x1 r0_2 (ix3 0 k r) = x1 (ix3 1 k r) :=
  congrArg x1 (funext fun a => Fin.ext (by
    match a with
    | ⟨0, _⟩ => rfl
    | ⟨1, _⟩ => show 0 + 1 * k.val = k.val; omega
    | ⟨2, _⟩ => show 0 + 1 * r.val = r.val; omega))

/-- Point `t` writes back its block of the result. -/
theorem flushed_eq (c : Dev nD) (t : Fin cfg0.N) :
    (dats m 0 c).flushed 3 t = ((cfg0.win 3).blk t).view.read (Elt Ideal) (G (aX m c) (aW m c) (aB m c)) := by
  rw [Value.flushed3]
  unfold out0_3
  rw [View.canon_unit_zero hz, View.ld_unit_zero (S := S1024x2048) hz, View.ld_unit_zero (S := S1x1024) hz]
  funext y
  obtain ⟨p, q, rfl⟩ : ∃ p q : Fin 1024, y = ix2 p q := ⟨y 0, y 1, eq_ix2 y⟩
  have e (q : Fin 1024) : ((cfg0.win 3).blk t).view.emb (ix2 p q) = ix2 (row t p) (col t q) := funext fun a => Fin.ext (by
    match a with
    | ⟨0, _⟩ => show win0_3.index t 0 * 1024 + 1 * p.val = win0_3.index t 0 * 1024 + p.val; omega
    | ⟨1, _⟩ => show win0_3.index t 1 * 1024 + 1 * q.val = win0_3.index t 1 * 1024 + q.val; omega)
  show _ = G (aX m c) (aW m c) (aB m c) (((cfg0.win 3).blk t).view.emb (ix2 p q))
  rw [e]
  show _ = grad _ _ _ (row t p) (col t q)
  unfold grad
  rcases halves q with ⟨r, rfl⟩ | ⟨r, rfl⟩
  · refine (pay_at_left _ _ _ _ _ p r).trans ?_
    rw [blk_2]
    exact congrArg (· + _) (Finset.sum_congr rfl fun k _ => congrArg₂ (· * ·) (blk_0 m c t p k) (((ld_w0 _ k r).trans (blk_1 m c t 0 k r)).trans (congrArg (fun x => aW m c (ix2 k (col t x))) (Fin.ext (by show 0 * 512 + r.val = r.val; omega)))))
  · refine (pay_at_right _ _ _ _ _ p r).trans ?_
    rw [blk_2]
    exact congrArg (· + _) (Finset.sum_congr rfl fun k _ => congrArg₂ (· * ·) (blk_0 m c t p k) (((ld_w1 _ k r).trans (blk_1 m c t 1 k r)).trans (congrArg (fun x => aW m c (ix2 k (col t x))) (Fin.ext (by show 1 * 512 + r.val = 512 + r.val; omega)))))

/-- Every pair of block numbers is some point's. -/
theorem onto : ∀ (a : Fin 8) (b : Fin 4), ∃ t : Fin cfg0.N, (cfg0.win 3).flush t = true ∧ win0_3.index t 0 = a.val ∧ win0_3.index t 1 = b.val :=
  fun a b => ⟨(⟨a.val * 4 + b.val, lt_of_lt_of_eq (by omega) N_0.symm⟩ : Fin grid0.N),
    (by decide +kernel : ∀ (a : Fin 8) (b : Fin 4), win0_3.flush ⟨a.val * 4 + b.val, lt_of_lt_of_eq (by omega) N_0.symm⟩ = true
      ∧ win0_3.index ⟨a.val * 4 + b.val, lt_of_lt_of_eq (by omega) N_0.symm⟩ 0 = a.val
      ∧ win0_3.index ⟨a.val * 4 + b.val, lt_of_lt_of_eq (by omega) N_0.symm⟩ 1 = b.val) a b⟩

/-- The blocks tile the result. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, hf, h0, h1⟩ := onto ⟨(i 0).val / 1024, by omega⟩ ⟨(i 1).val / 1024, by omega⟩
  refine ⟨t, hf, ?_⟩
  show i ∈ ((View.whole main_v4).slice (win0_3.rect t)).set
  rw [View.set_slice_whole, Rect.mem_set_unit]
  dsimp only at h0 h1
  intro a
  match a with
  | ⟨0, _⟩ => show win0_3.index t 0 * 1024 ≤ (i 0).val ∧ (i 0).val < win0_3.index t 0 * 1024 + 1024; omega
  | ⟨1, _⟩ => show win0_3.index t 1 * 1024 ≤ (i 1).val ∧ (i 1).val < win0_3.index t 1 * 1024 + 1024; omega

/-- The result array after the run. -/
theorem final (c : Dev nD) : (dats m 0 c).arrAt 3 cfg0.N = G (aX m c) (aW m c) (aB m c) :=
  (dats m 0 c).arrAt_eq_of_cover 3 _ (fun t _ => flushed_eq m c t) cover

/-- The claim: the kernel and the plain lines end with the same array. -/
theorem algebraic : Cert.algebraic_Kernel12Ideal_Reference12Ideal (hKernel12Ideal := Cert.Kernel12Ideal.Gen.facts) (hReference12Ideal := Cert.Reference12Ideal.Gen.facts) := by
  intro m ρ m' ρ' _ hag
  refine ⟨fun c => G (aX m c) (aW m c) (aB m c), (θ_run _ _ _).mono (fun _ h c => ⟨(h c).1.trans (final m c), (h c).2⟩) (Value.run_blocks m ρ),
    (θ_run _ _ _).mono (fun _ h c => ⟨(h c).1.trans ?_, (h c).2⟩) (Cert.Reference12Ideal.Value.run m' ρ')⟩
  rw [(hag c).1, (hag c).2.1, (hag c).2.2]
  funext j
  idx_vars j
  show _ = grad (aX m c) (aW m c) (aB m c) j0 j1
  unfold grad
  pointwise

end Cert.Kernel12Ideal.Pw1
end
-- ==== Proof.Pw2.lean ====
module

public import proofs.«01_k».proof.Defs
public import proofs.«01_k».proof.Proof.Gen.Kernel13Ideal.Value
public import proofs.«01_k».proof.Proof.Gen.Reference13Ideal.Run
public import Idealize.ShloMosaic.Lib.Pointwise
public import Idealize.ShloMosaic.Lib.StableHlo.ReadAt

@[expose] public section

set_option maxRecDepth 16384

/-! The second pointwise product of the convolution module, with its bias and the residual. -/

noncomputable section

namespace Cert.Kernel13Ideal.Pw2

open Cert.Kernel13Ideal Cert.Kernel13Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the activations; the weight; the bias; the input of the module. -/
abbrev aS (c : Dev nD) : FVec Ideal S8192x2048 .f32 := m ((c : Thread nD τ).loc main_arg0)
abbrev aW (c : Dev nD) : FVec Ideal S2048x2048 .f32 := m ((c : Thread nD τ).loc main_arg1)
abbrev aB (c : Dev nD) : FVec Ideal S1x2048 .f32 := m ((c : Thread nD τ).loc main_arg2)
abbrev aX (c : Dev nD) : FVec Ideal S8192x2048 .f32 := m ((c : Thread nD τ).loc main_arg3)

/-- The product, its bias and the residual. -/
def grad (s : FVec Ideal S8192x2048 .f32) (w : FVec Ideal S2048x2048 .f32) (b : FVec Ideal S1x2048 .f32) (x : FVec Ideal S8192x2048 .f32) (i : Fin 8192) (j : Fin 2048) : EReal :=
  Ideal.ofBits .f32 0x3FB504F3#32 * x (ix2 i j) + ((∑ k : Fin 2048, s (ix2 i k) * w (ix2 k j)) + b (ix2 0 j))

/-- The same as an array. -/
def G (s : FVec Ideal S8192x2048 .f32) (w : FVec Ideal S2048x2048 .f32) (b : FVec Ideal S1x2048 .f32) (x : FVec Ideal S8192x2048 .f32) : FVec Ideal S8192x2048 .f32 :=
  fun i => grad s w b x (i 0) (i 1)

/-- One block of the kernel at an entry. -/
theorem pay_at (x0 : Vec Ideal S1024x2048 .bf16) (x1 : Vec Ideal S2048x1024 .bf16) (r : Vec Ideal S1024x1024 .f32) (b : Vec Ideal S1x1024 .f32) (p q : Fin 1024) :
    k0_pay1 x0 x1 r b (ix2 p q) = Ideal.ofBits .f32 0x3FB504F3#32 * r (ix2 p q) + ((∑ k : Fin 2048, x0 (ix2 p k) * x1 (ix2 k q)) + b (ix2 0 q)) := by
  unfold k0_pay1
  pointwise

/-- What the host lines before the launch leave: the arguments, cast and cut into shards. -/
theorem V_0 (c : Dev nD) : V m c main_v0 = (truncf .bf16 (aS m c) bitsLt_bf16_f32 : FVec Ideal S8192x2048 .bf16) := by
  unfold V
  after_reads_simp
theorem V_1 (c : Dev nD) : V m c main_v3 = (truncf .bf16 (aW m c) bitsLt_bf16_f32 : FVec Ideal S2048x2048 .bf16) := by
  unfold V
  after_reads_simp
  exact shapeCast_shapeCast _ _ _
theorem V_2 (c : Dev nD) : V m c main_arg2 = aB m c := V_main_arg2 m c
theorem V_3 (c : Dev nD) : V m c main_arg3 = aX m c := V_main_arg3 m c

/-- The blocks the windows visit at point `t`. -/
theorem idx_eqs : ∀ t : Fin cfg0.N, (win0_0.index t 0 = win0_4.index t 0 ∧ win0_0.index t 1 = 0)
    ∧ (win0_1.index t 0 = 0 ∧ win0_1.index t 1 = win0_4.index t 1)
    ∧ (win0_2.index t 0 = 0 ∧ win0_2.index t 1 = win0_4.index t 1)
    ∧ (win0_3.index t 0 = win0_4.index t 0 ∧ win0_3.index t 1 = win0_4.index t 1)
    ∧ (win0_4.index t 0 < 8 ∧ win0_4.index t 1 < 2) :=
  (by decide +kernel : ∀ t : Fin grid0.N, _)

/-- The row and the column of the result that place `p` of the block that point `t` writes is. -/
abbrev row (t : Fin cfg0.N) (p : Fin 1024) : Fin 8192 := ⟨win0_4.index t 0 * 1024 + p.val, by have := (idx_eqs t).2.2.2.2.1; omega⟩
abbrev col (t : Fin cfg0.N) (q : Fin 1024) : Fin 2048 := ⟨win0_4.index t 1 * 1024 + q.val, by have := (idx_eqs t).2.2.2.2.2; omega⟩

theorem blk_0 (c : Dev nD) (t : Fin cfg0.N) (p : Fin 1024) (k : Fin 2048) :
    iblk m c 0 t (ix2 p k) = aS m c (ix2 (row t p) k) := by
  obtain ⟨⟨h0, h1⟩, -⟩ := idx_eqs t
  refine Eq.trans ?_ (congrFun (V_0 m c) _)
  refine congrArg (V m c main_v0) (funext fun a => Fin.ext ?_)
  match a with
  | ⟨0, _⟩ => show win0_0.index t 0 * 1024 + 1 * p.val = win0_4.index t 0 * 1024 + p.val; rw [h0]; omega
  | ⟨1, _⟩ => show win0_0.index t 1 * 2048 + 1 * k.val = k.val; rw [h1]; omega

theorem blk_1 (c : Dev nD) (t : Fin cfg0.N) (k : Fin 2048) (q : Fin 1024) :
    iblk m c 1 t (ix2 k q) = aW m c (ix2 k (col t q)) := by
  obtain ⟨-, ⟨h0, h1⟩, -⟩ := idx_eqs t
  refine Eq.trans ?_ (congrFun (V_1 m c) _)
  refine congrArg (V m c main_v3) (funext fun a => Fin.ext ?_)
  match a with
  | ⟨0, _⟩ => show win0_1.index t 0 * 2048 + 1 * k.val = k.val; rw [h0]; omega
  | ⟨1, _⟩ => show win0_1.index t 1 * 1024 + 1 * q.val = win0_4.index t 1 * 1024 + q.val; rw [h1]; omega

theorem blk_2 (c : Dev nD) (t : Fin cfg0.N) (q : Fin 1024) :
    iblk m c 2 t (ix2 0 q) = aB m c (ix2 0 (col t q)) := by
  obtain ⟨-, -, ⟨h0, h1⟩, -⟩ := idx_eqs t
  rw [← V_2 m c]
  refine congrArg (V m c main_arg2) (funext fun a => Fin.ext ?_)
  match a with
  | ⟨0, _⟩ => show win0_2.index t 0 * 1 + 1 * 0 = 0; rw [h0]
  | ⟨1, _⟩ => show win0_2.index t 1 * 1024 + 1 * q.val = win0_4.index t 1 * 1024 + q.val; rw [h1]; omega

theorem blk_3 (c : Dev nD) (t : Fin cfg0.N) (p q : Fin 1024) :
    iblk m c 3 t (ix2 p q) = aX m c (ix2 (row t p) (col t q)) := by
  obtain ⟨-, -, -, ⟨h0, h1⟩, -⟩ := idx_eqs t
  rw [← V_3 m c]
  refine congrArg (V m c main_arg3) (funext fun a => Fin.ext ?_)
  match a with
  | ⟨0, _⟩ => show win0_3.index t 0 * 1024 + 1 * p.val = win0_4.index t 0 * 1024 + p.val; rw [h0]; omega
  | ⟨1, _⟩ => show win0_3.index t 1 * 1024 + 1 * q.val = win0_4.index t 1 * 1024 + q.val; rw [h1]; omega

theorem hz : (![0, 0] : Fin 2 → Nat) = fun _ => 0 := funext fun a => by fin_cases a <;> rfl

/-- Point `t` writes back its block of the result. -/
theorem flushed_eq (c : Dev nD) (t : Fin cfg0.N) :
    (dats m 0 c).flushed 4 t = ((cfg0.win 4).blk t).view.read (Elt Ideal) (G (aS m c) (aW m c) (aB m c) (aX m c)) := by
  rw [Value.flushed4]
  unfold out0_4
  rw [View.canon_unit_zero hz, View.ld_unit_zero hz, View.ld_unit_zero hz, View.ld_unit_zero hz, View.ld_unit_zero hz]
  funext y
  obtain ⟨p, q, rfl⟩ : ∃ p q : Fin 1024, y = ix2 p q := ⟨y 0, y 1, eq_ix2 y⟩
  have e (q : Fin 1024) : ((cfg0.win 4).blk t).view.emb (ix2 p q) = ix2 (row t p) (col t q) := funext fun a => Fin.ext (by
    match a with
    | ⟨0, _⟩ => show win0_4.index t 0 * 1024 + 1 * p.val = win0_4.index t 0 * 1024 + p.val; omega
    | ⟨1, _⟩ => show win0_4.index t 1 * 1024 + 1 * q.val = win0_4.index t 1 * 1024 + q.val; omega)
  show _ = G (aS m c) (aW m c) (aB m c) (aX m c) (((cfg0.win 4).blk t).view.emb (ix2 p q))
  rw [e]
  show _ = grad _ _ _ _ (row t p) (col t q)
  unfold grad
  refine (pay_at _ _ _ _ p q).trans ?_
  rw [blk_2]
  rw [blk_3]
  exact congrArg (fun s : EReal => Ideal.ofBits .f32 0x3FB504F3#32 * aX m c (ix2 (row t p) (col t q)) + (s + aB m c (ix2 0 (col t q)))) (Finset.sum_congr rfl fun k _ => by rw [blk_0, blk_1])

/-- Every pair of block numbers is some point's. -/
theorem onto : ∀ (a : Fin 8) (b : Fin 2), ∃ t : Fin cfg0.N, (cfg0.win 4).flush t = true ∧ win0_4.index t 0 = a.val ∧ win0_4.index t 1 = b.val :=
  fun a b => ⟨(⟨a.val * 2 + b.val, lt_of_lt_of_eq (by omega) N_0.symm⟩ : Fin grid0.N),
    (by decide +kernel : ∀ (a : Fin 8) (b : Fin 2), win0_4.flush ⟨a.val * 2 + b.val, lt_of_lt_of_eq (by omega) N_0.symm⟩ = true
      ∧ win0_4.index ⟨a.val * 2 + b.val, lt_of_lt_of_eq (by omega) N_0.symm⟩ 0 = a.val
      ∧ win0_4.index ⟨a.val * 2 + b.val, lt_of_lt_of_eq (by omega) N_0.symm⟩ 1 = b.val) a b⟩

/-- The blocks tile the result. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, hf, h0, h1⟩ := onto ⟨(i 0).val / 1024, by omega⟩ ⟨(i 1).val / 1024, by omega⟩
  refine ⟨t, hf, ?_⟩
  show i ∈ ((View.whole main_v4).slice (win0_4.rect t)).set
  rw [View.set_slice_whole, Rect.mem_set_unit]
  dsimp only at h0 h1
  intro a
  match a with
  | ⟨0, _⟩ => show win0_4.index t 0 * 1024 ≤ (i 0).val ∧ (i 0).val < win0_4.index t 0 * 1024 + 1024; omega
  | ⟨1, _⟩ => show win0_4.index t 1 * 1024 ≤ (i 1).val ∧ (i 1).val < win0_4.index t 1 * 1024 + 1024; omega

/-- The result array after the run. -/
theorem final (c : Dev nD) : (dats m 0 c).arrAt 4 cfg0.N = G (aS m c) (aW m c) (aB m c) (aX m c) :=
  (dats m 0 c).arrAt_eq_of_cover 4 _ (fun t _ => flushed_eq m c t) cover

/-- The claim: the kernel and the plain lines end with the same array. -/
theorem algebraic : Cert.algebraic_Kernel13Ideal_Reference13Ideal (hKernel13Ideal := Cert.Kernel13Ideal.Gen.facts) (hReference13Ideal := Cert.Reference13Ideal.Gen.facts) := by
  intro m ρ m' ρ' _ hag
  refine ⟨fun c => G (aS m c) (aW m c) (aB m c) (aX m c), (θ_run _ _ _).mono (fun _ h c => ⟨(h c).1.trans (final m c), (h c).2⟩) (Value.run_blocks m ρ),
    (θ_run _ _ _).mono (fun _ h c => ⟨(h c).1.trans ?_, (h c).2⟩) (Cert.Reference13Ideal.Value.run m' ρ')⟩
  rw [(hag c).1, (hag c).2.1, (hag c).2.2.1, (hag c).2.2.2]
  funext j
  idx_vars j
  show _ = grad (aS m c) (aW m c) (aB m c) (aX m c) j0 j1
  unfold grad
  pointwise

end Cert.Kernel13Ideal.Pw2
end
-- ==== Proof.Kv.lean ====
module

public import proofs.«01_k».proof.Defs
public import proofs.«01_k».proof.Proof.Gen.Kernel14Ideal.Value
public import proofs.«01_k».proof.Proof.Gen.Reference14Ideal.Run
public import Idealize.ShloMosaic.Lib.Pointwise
public import Idealize.ShloMosaic.Lib.StableHlo.ReadAt

@[expose] public section

set_option maxRecDepth 16384

/-! The product that makes the shared keys and values. -/

noncomputable section

namespace Cert.Kernel14Ideal.Kv

open Cert.Kernel14Ideal Cert.Kernel14Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the input; the weight. -/
abbrev aX (c : Dev nD) : FVec Ideal S8192x2048 .f32 := m ((c : Thread nD τ).loc main_arg0)
abbrev aW (c : Dev nD) : FVec Ideal S2048x4096 .f32 := m ((c : Thread nD τ).loc main_arg1)

/-- The product. -/
def grad (x : FVec Ideal S8192x2048 .f32) (w : FVec Ideal S2048x4096 .f32) (i : Fin 8192) (j : Fin 4096) : EReal :=
  (∑ k : Fin 2048, x (ix2 i k) * w (ix2 k j))

/-- The same as an array. -/
def G (x : FVec Ideal S8192x2048 .f32) (w : FVec Ideal S2048x4096 .f32) : FVec Ideal S8192x4096 .f32 :=
  fun i => grad x w (i 0) (i 1)

/-- One block of the kernel at an entry. -/
theorem pay_at_left (x0 x1 : Vec Ideal S1024x2048 .bf16) (w0 w1 : Vec Ideal S1x2048x512 .bf16)  (p : Fin 1024) (r : Fin 512) :
    k0_pay1 x0 w0 x1 w1  (ix2 p ⟨r.val, by omega⟩) = (∑ k : Fin 2048, x0 (ix2 p k) * w0 (ix3 0 k r)) := by
  unfold k0_pay1
  pointwise
theorem pay_at_right (x0 x1 : Vec Ideal S1024x2048 .bf16) (w0 w1 : Vec Ideal S1x2048x512 .bf16)  (p : Fin 1024) (r : Fin 512) :
    k0_pay1 x0 w0 x1 w1  (ix2 p ⟨512 + r.val, by omega⟩) = (∑ k : Fin 2048, x1 (ix2 p k) * w1 (ix3 0 k r)) := by
  unfold k0_pay1
  pointwise

/-- What the host lines before the launch leave: the arguments, cast and cut into shards. -/
theorem V_0 (c : Dev nD) : V m c main_v0 = (truncf .bf16 (aX m c) bitsLt_bf16_f32 : FVec Ideal S8192x2048 .bf16) := by
  unfold V
  after_reads_simp
theorem V_1 (c : Dev nD) (s : Fin 8) (i : Fin 2048) (j : Fin 512) :
    V m c main_v3 (ix3 s i j) = aW m c (ix2 i ⟨s.val * 512 + j.val, by omega⟩) := by
  unfold V
  after_reads_at

/-- The blocks the windows visit at point `t`. -/
theorem idx_eqs : ∀ t : Fin cfg0.N, (win0_0.index t 0 = win0_2.index t 0 ∧ win0_0.index t 1 = 0)
    ∧ (win0_1.index t 0 = win0_2.index t 1 ∧ win0_1.index t 1 = 0 ∧ win0_1.index t 2 = 0)
    ∧ (win0_2.index t 0 < 8 ∧ win0_2.index t 1 < 4) :=
  (by decide +kernel : ∀ t : Fin grid0.N, _)

/-- The row and the column of the result that place `p` of the block that point `t` writes is. -/
abbrev row (t : Fin cfg0.N) (p : Fin 1024) : Fin 8192 := ⟨win0_2.index t 0 * 1024 + p.val, by have := (idx_eqs t).2.2.1; omega⟩
abbrev col (t : Fin cfg0.N) (q : Fin 1024) : Fin 4096 := ⟨win0_2.index t 1 * 1024 + q.val, by have := (idx_eqs t).2.2.2; omega⟩

theorem blk_0 (c : Dev nD) (t : Fin cfg0.N) (p : Fin 1024) (k : Fin 2048) :
    iblk m c 0 t (ix2 p k) = aX m c (ix2 (row t p) k) := by
  obtain ⟨⟨h0, h1⟩, -⟩ := idx_eqs t
  refine Eq.trans ?_ (congrFun (V_0 m c) _)
  refine congrArg (V m c main_v0) (funext fun a => Fin.ext ?_)
  match a with
  | ⟨0, _⟩ => show win0_0.index t 0 * 1024 + 1 * p.val = win0_2.index t 0 * 1024 + p.val; rw [h0]; omega
  | ⟨1, _⟩ => show win0_0.index t 1 * 2048 + 1 * k.val = k.val; rw [h1]; omega

theorem blk_1 (c : Dev nD) (t : Fin cfg0.N) (s : Fin 2) (k : Fin 2048) (r : Fin 512) :
    iblk m c 1 t (ix3 s k r) = aW m c (ix2 k (col t ⟨s.val * 512 + r.val, by omega⟩)) := by
  obtain ⟨-, ⟨h0, h1, h2⟩, -⟩ := idx_eqs t
  have hb := (idx_eqs t).2.2.2
  refine Eq.trans ?_ ((V_1 m c ⟨win0_2.index t 1 * 2 + s.val, by omega⟩ k r).trans (congrArg (fun x => aW m c (ix2 k x)) (Fin.ext ?_)))
  · refine congrArg (V m c main_v3) (funext fun a => Fin.ext ?_)
    match a with
    | ⟨0, _⟩ => show win0_1.index t 0 * 2 + 1 * s.val = win0_2.index t 1 * 2 + s.val; rw [h0]; omega
    | ⟨1, _⟩ => show win0_1.index t 1 * 2048 + 1 * k.val = k.val; rw [h1]; omega
    | ⟨2, _⟩ => show win0_1.index t 2 * 512 + 1 * r.val = r.val; rw [h2]; omega
  · show (win0_2.index t 1 * 2 + s.val) * 512 + r.val = win0_2.index t 1 * 1024 + (s.val * 512 + r.val); omega

theorem hz : (![0, 0] : Fin 2 → Nat) = fun _ => 0 := funext fun a => by fin_cases a <;> rfl

/-- A column of a block lies in the first shard or in the second. -/
theorem halves (q : Fin 1024) : (∃ r : Fin 512, q = ⟨r.val, by omega⟩) ∨ (∃ r : Fin 512, q = ⟨512 + r.val, by omega⟩) := by
  by_cases h : q.val < 512
  · exact .inl ⟨⟨q.val, h⟩, rfl⟩
  · exact .inr ⟨⟨q.val - 512, by omega⟩, Fin.ext (by show q.val = 512 + (q.val - 512); omega)⟩

/-- The load of shard 0 of the two that a block of the weight holds. -/
theorem ld_w0 (x1 : Vec Ideal S2x2048x512 .bf16) (k : Fin 2048) (r : Fin 512) : View.ld x1 r0_1 (ix3 0 k r) = x1 (ix3 0 k r) :=
  congrArg x1 (funext fun a => Fin.ext (by
    match a with
    | ⟨0, _⟩ => rfl
    | ⟨1, _⟩ => show 0 + 1 * k.val = k.val; omega
    | ⟨2, _⟩ => show 0 + 1 * r.val = r.val; omega))

/-- The load of shard 1 of the two that a block of the weight holds. -/
theorem ld_w1 (x1 : Vec Ideal S2x2048x512 .bf16) (k : Fin 2048) (r : Fin 512) : View.ld x1 r0_2 (ix3 0 k r) = x1 (ix3 1 k r) :=
  congrArg x1 (funext fun a => Fin.ext (by
    match a with
    | ⟨0, _⟩ => rfl
    | ⟨1, _⟩ => show 0 + 1 * k.val = k.val; omega
    | ⟨2, _⟩ => show 0 + 1 * r.val = r.val; omega))

/-- Point `t` writes back its block of the result. -/
theorem flushed_eq (c : Dev nD) (t : Fin cfg0.N) :
    (dats m 0 c).flushed 2 t = ((cfg0.win 2).blk t).view.read (Elt Ideal) (G (aX m c) (aW m c)) := by
  rw [Value.flushed2]
  unfold out0_2
  rw [View.canon_unit_zero hz, View.ld_unit_zero (S := S1024x2048) hz]
  funext y
  obtain ⟨p, q, rfl⟩ : ∃ p q : Fin 1024, y = ix2 p q := ⟨y 0, y 1, eq_ix2 y⟩
  have e (q : Fin 1024) : ((cfg0.win 2).blk t).view.emb (ix2 p q) = ix2 (row t p) (col t q) := funext fun a => Fin.ext (by
    match a with
    | ⟨0, _⟩ => show win0_2.index t 0 * 1024 + 1 * p.val = win0_2.index t 0 * 1024 + p.val; omega
    | ⟨1, _⟩ => show win0_2.index t 1 * 1024 + 1 * q.val = win0_2.index t 1 * 1024 + q.val; omega)
  show _ = G (aX m c) (aW m c) (((cfg0.win 2).blk t).view.emb (ix2 p q))
  rw [e]
  show _ = grad _ _ (row t p) (col t q)
  unfold grad
  rcases halves q with ⟨r, rfl⟩ | ⟨r, rfl⟩
  · refine (pay_at_left _ _ _ _  p r).trans ?_
    exact (Finset.sum_congr rfl fun k _ => congrArg₂ (· * ·) (blk_0 m c t p k) (((ld_w0 _ k r).trans (blk_1 m c t 0 k r)).trans (congrArg (fun x => aW m c (ix2 k (col t x))) (Fin.ext (by show 0 * 512 + r.val = r.val; omega)))))
  · refine (pay_at_right _ _ _ _  p r).trans ?_
    exact (Finset.sum_congr rfl fun k _ => congrArg₂ (· * ·) (blk_0 m c t p k) (((ld_w1 _ k r).trans (blk_1 m c t 1 k r)).trans (congrArg (fun x => aW m c (ix2 k (col t x))) (Fin.ext (by show 1 * 512 + r.val = 512 + r.val; omega)))))

/-- Every pair of block numbers is some point's. -/
theorem onto : ∀ (a : Fin 8) (b : Fin 4), ∃ t : Fin cfg0.N, (cfg0.win 2).flush t = true ∧ win0_2.index t 0 = a.val ∧ win0_2.index t 1 = b.val :=
  fun a b => ⟨(⟨a.val * 4 + b.val, lt_of_lt_of_eq (by omega) N_0.symm⟩ : Fin grid0.N),
    (by decide +kernel : ∀ (a : Fin 8) (b : Fin 4), win0_2.flush ⟨a.val * 4 + b.val, lt_of_lt_of_eq (by omega) N_0.symm⟩ = true
      ∧ win0_2.index ⟨a.val * 4 + b.val, lt_of_lt_of_eq (by omega) N_0.symm⟩ 0 = a.val
      ∧ win0_2.index ⟨a.val * 4 + b.val, lt_of_lt_of_eq (by omega) N_0.symm⟩ 1 = b.val) a b⟩

/-- The blocks tile the result. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, hf, h0, h1⟩ := onto ⟨(i 0).val / 1024, by omega⟩ ⟨(i 1).val / 1024, by omega⟩
  refine ⟨t, hf, ?_⟩
  show i ∈ ((View.whole main_v4).slice (win0_2.rect t)).set
  rw [View.set_slice_whole, Rect.mem_set_unit]
  dsimp only at h0 h1
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The result array after the run. -/
theorem final (c : Dev nD) : (dats m 0 c).arrAt 2 cfg0.N = G (aX m c) (aW m c) :=
  (dats m 0 c).arrAt_eq_of_cover 2 _ (fun t _ => flushed_eq m c t) cover

/-- The claim: the kernel and the plain lines end with the same array. -/
theorem algebraic : Cert.algebraic_Kernel14Ideal_Reference14Ideal (hKernel14Ideal := Cert.Kernel14Ideal.Gen.facts) (hReference14Ideal := Cert.Reference14Ideal.Gen.facts) := by
  intro m ρ m' ρ' _ hag
  refine ⟨fun c => G (aX m c) (aW m c), (θ_run _ _ _).mono (fun _ h c => ⟨(h c).1.trans (final m c), (h c).2⟩) (Value.run_blocks m ρ),
    (θ_run _ _ _).mono (fun _ h c => ⟨(h c).1.trans ?_, (h c).2⟩) (Cert.Reference14Ideal.Value.run m' ρ')⟩
  rw [(hag c).1, (hag c).2]
  funext j
  idx_vars j
  show _ = grad (aX m c) (aW m c) j0 j1
  unfold grad
  pointwise

end Cert.Kernel14Ideal.Kv
end
-- ==== Proof.Query.lean ====
module

public import proofs.«01_k».proof.Defs
public import proofs.«01_k».proof.Proof.Gen.Kernel15Ideal.Value
public import proofs.«01_k».proof.Proof.Gen.Reference15Ideal.Run
public import Idealize.ShloMosaic.Lib.Pointwise
public import Idealize.ShloMosaic.Lib.StableHlo.ReadAt

@[expose] public section

set_option maxRecDepth 16384

/-! The query projection. -/

noncomputable section

namespace Cert.Kernel15Ideal.Query

open Cert.Kernel15Ideal Cert.Kernel15Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the input; the weight. -/
abbrev aX (c : Dev nD) : FVec Ideal S8192x2048 .f32 := m ((c : Thread nD τ).loc main_arg0)
abbrev aW (c : Dev nD) : FVec Ideal S2048x2048 .f32 := m ((c : Thread nD τ).loc main_arg1)

/-- The product. -/
def grad (x : FVec Ideal S8192x2048 .f32) (w : FVec Ideal S2048x2048 .f32) (i : Fin 8192) (j : Fin 2048) : EReal :=
  (∑ k : Fin 2048, x (ix2 i k) * w (ix2 k j))

/-- The same as an array. -/
def G (x : FVec Ideal S8192x2048 .f32) (w : FVec Ideal S2048x2048 .f32) : FVec Ideal S8192x2048 .f32 :=
  fun i => grad x w (i 0) (i 1)

/-- One block of the kernel at an entry. -/
theorem pay_at (x0 : Vec Ideal S1024x2048 .bf16) (x1 : Vec Ideal S2048x1024 .bf16)  (p q : Fin 1024) :
    k0_pay1 x0 x1  (ix2 p q) = (∑ k : Fin 2048, x0 (ix2 p k) * x1 (ix2 k q)) := by
  unfold k0_pay1
  pointwise

/-- What the host lines before the launch leave: the arguments, cast and cut into shards. -/
theorem V_0 (c : Dev nD) : V m c main_v0 = (truncf .bf16 (aX m c) bitsLt_bf16_f32 : FVec Ideal S8192x2048 .bf16) := by
  unfold V
  after_reads_simp
theorem V_1 (c : Dev nD) : V m c main_v3 = (truncf .bf16 (aW m c) bitsLt_bf16_f32 : FVec Ideal S2048x2048 .bf16) := by
  unfold V
  after_reads_simp
  exact shapeCast_shapeCast _ _ _

/-- The blocks the windows visit at point `t`. -/
theorem idx_eqs : ∀ t : Fin cfg0.N, (win0_0.index t 0 = win0_2.index t 0 ∧ win0_0.index t 1 = 0)
    ∧ (win0_1.index t 0 = 0 ∧ win0_1.index t 1 = win0_2.index t 1)
    ∧ (win0_2.index t 0 < 8 ∧ win0_2.index t 1 < 2) :=
  (by decide +kernel : ∀ t : Fin grid0.N, _)

/-- The row and the column of the result that place `p` of the block that point `t` writes is. -/
abbrev row (t : Fin cfg0.N) (p : Fin 1024) : Fin 8192 := ⟨win0_2.index t 0 * 1024 + p.val, by have := (idx_eqs t).2.2.1; omega⟩
abbrev col (t : Fin cfg0.N) (q : Fin 1024) : Fin 2048 := ⟨win0_2.index t 1 * 1024 + q.val, by have := (idx_eqs t).2.2.2; omega⟩

theorem blk_0 (c : Dev nD) (t : Fin cfg0.N) (p : Fin 1024) (k : Fin 2048) :
    iblk m c 0 t (ix2 p k) = aX m c (ix2 (row t p) k) := by
  obtain ⟨⟨h0, h1⟩, -⟩ := idx_eqs t
  refine Eq.trans ?_ (congrFun (V_0 m c) _)
  refine congrArg (V m c main_v0) (funext fun a => Fin.ext ?_)
  match a with
  | ⟨0, _⟩ => show win0_0.index t 0 * 1024 + 1 * p.val = win0_2.index t 0 * 1024 + p.val; rw [h0]; omega
  | ⟨1, _⟩ => show win0_0.index t 1 * 2048 + 1 * k.val = k.val; rw [h1]; omega

theorem blk_1 (c : Dev nD) (t : Fin cfg0.N) (k : Fin 2048) (q : Fin 1024) :
    iblk m c 1 t (ix2 k q) = aW m c (ix2 k (col t q)) := by
  obtain ⟨-, ⟨h0, h1⟩, -⟩ := idx_eqs t
  refine Eq.trans ?_ (congrFun (V_1 m c) _)
  refine congrArg (V m c main_v3) (funext fun a => Fin.ext ?_)
  match a with
  | ⟨0, _⟩ => show win0_1.index t 0 * 2048 + 1 * k.val = k.val; rw [h0]; omega
  | ⟨1, _⟩ => show win0_1.index t 1 * 1024 + 1 * q.val = win0_2.index t 1 * 1024 + q.val; rw [h1]; omega

theorem hz : (![0, 0] : Fin 2 → Nat) = fun _ => 0 := funext fun a => by fin_cases a <;> rfl

/-- Point `t` writes back its block of the result. -/
theorem flushed_eq (c : Dev nD) (t : Fin cfg0.N) :
    (dats m 0 c).flushed 2 t = ((cfg0.win 2).blk t).view.read (Elt Ideal) (G (aX m c) (aW m c)) := by
  rw [Value.flushed2]
  unfold out0_2
  rw [View.canon_unit_zero hz, View.ld_unit_zero hz, View.ld_unit_zero hz]
  funext y
  obtain ⟨p, q, rfl⟩ : ∃ p q : Fin 1024, y = ix2 p q := ⟨y 0, y 1, eq_ix2 y⟩
  have e (q : Fin 1024) : ((cfg0.win 2).blk t).view.emb (ix2 p q) = ix2 (row t p) (col t q) := funext fun a => Fin.ext (by
    match a with
    | ⟨0, _⟩ => show win0_2.index t 0 * 1024 + 1 * p.val = win0_2.index t 0 * 1024 + p.val; omega
    | ⟨1, _⟩ => show win0_2.index t 1 * 1024 + 1 * q.val = win0_2.index t 1 * 1024 + q.val; omega)
  show _ = G (aX m c) (aW m c) (((cfg0.win 2).blk t).view.emb (ix2 p q))
  rw [e]
  show _ = grad _ _ (row t p) (col t q)
  unfold grad
  refine (pay_at _ _  p q).trans ?_
  exact congrArg (fun s : EReal => s) (Finset.sum_congr rfl fun k _ => by rw [blk_0, blk_1])

/-- Every pair of block numbers is some point's. -/
theorem onto : ∀ (a : Fin 8) (b : Fin 2), ∃ t : Fin cfg0.N, (cfg0.win 2).flush t = true ∧ win0_2.index t 0 = a.val ∧ win0_2.index t 1 = b.val :=
  fun a b => ⟨(⟨a.val * 2 + b.val, lt_of_lt_of_eq (by omega) N_0.symm⟩ : Fin grid0.N),
    (by decide +kernel : ∀ (a : Fin 8) (b : Fin 2), win0_2.flush ⟨a.val * 2 + b.val, lt_of_lt_of_eq (by omega) N_0.symm⟩ = true
      ∧ win0_2.index ⟨a.val * 2 + b.val, lt_of_lt_of_eq (by omega) N_0.symm⟩ 0 = a.val
      ∧ win0_2.index ⟨a.val * 2 + b.val, lt_of_lt_of_eq (by omega) N_0.symm⟩ 1 = b.val) a b⟩

/-- The blocks tile the result. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, hf, h0, h1⟩ := onto ⟨(i 0).val / 1024, by omega⟩ ⟨(i 1).val / 1024, by omega⟩
  refine ⟨t, hf, ?_⟩
  show i ∈ ((View.whole main_v4).slice (win0_2.rect t)).set
  rw [View.set_slice_whole, Rect.mem_set_unit]
  dsimp only at h0 h1
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The result array after the run. -/
theorem final (c : Dev nD) : (dats m 0 c).arrAt 2 cfg0.N = G (aX m c) (aW m c) :=
  (dats m 0 c).arrAt_eq_of_cover 2 _ (fun t _ => flushed_eq m c t) cover

/-- The claim: the kernel and the plain lines end with the same array. -/
theorem algebraic : Cert.algebraic_Kernel15Ideal_Reference15Ideal (hKernel15Ideal := Cert.Kernel15Ideal.Gen.facts) (hReference15Ideal := Cert.Reference15Ideal.Gen.facts) := by
  intro m ρ m' ρ' _ hag
  refine ⟨fun c => G (aX m c) (aW m c), (θ_run _ _ _).mono (fun _ h c => ⟨(h c).1.trans (final m c), (h c).2⟩) (Value.run_blocks m ρ),
    (θ_run _ _ _).mono (fun _ h c => ⟨(h c).1.trans ?_, (h c).2⟩) (Cert.Reference15Ideal.Value.run m' ρ')⟩
  rw [(hag c).1, (hag c).2]
  funext j
  idx_vars j
  show _ = grad (aX m c) (aW m c) j0 j1
  unfold grad
  pointwise

end Cert.Kernel15Ideal.Query
end
-- ==== Proof.Proj.lean ====
module

public import proofs.«01_k».proof.Defs
public import proofs.«01_k».proof.Proof.Gen.Kernel16Ideal.Value
public import proofs.«01_k».proof.Proof.Gen.Reference16Ideal.Run
public import Idealize.ShloMosaic.Lib.Pointwise
public import Idealize.ShloMosaic.Lib.StableHlo.ReadAt

@[expose] public section

set_option maxRecDepth 16384

/-! The output projection of the attention, with the residual. -/

noncomputable section

namespace Cert.Kernel16Ideal.Proj

open Cert.Kernel16Ideal Cert.Kernel16Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the attention's output; the weight; the input of the block. -/
abbrev aO (c : Dev nD) : FVec Ideal S8192x2048 .f32 := m ((c : Thread nD τ).loc main_arg0)
abbrev aW (c : Dev nD) : FVec Ideal S2048x2048 .f32 := m ((c : Thread nD τ).loc main_arg1)
abbrev aX (c : Dev nD) : FVec Ideal S8192x2048 .f32 := m ((c : Thread nD τ).loc main_arg2)

/-- The product and the residual. -/
def grad (o : FVec Ideal S8192x2048 .f32) (w : FVec Ideal S2048x2048 .f32) (x : FVec Ideal S8192x2048 .f32) (i : Fin 8192) (j : Fin 2048) : EReal :=
  Ideal.ofBits .f32 0x3FB504F3#32 * x (ix2 i j) + (∑ k : Fin 2048, o (ix2 i k) * w (ix2 k j))

/-- The same as an array. -/
def G (o : FVec Ideal S8192x2048 .f32) (w : FVec Ideal S2048x2048 .f32) (x : FVec Ideal S8192x2048 .f32) : FVec Ideal S8192x2048 .f32 :=
  fun i => grad o w x (i 0) (i 1)

/-- One block of the kernel at an entry. -/
theorem pay_at (x0 : Vec Ideal S1024x2048 .f32) (x1 : Vec Ideal S2048x1024 .bf16) (r : Vec Ideal S1024x1024 .f32) (p q : Fin 1024) :
    k0_pay1 x0 x1 r (ix2 p q) = Ideal.ofBits .f32 0x3FB504F3#32 * r (ix2 p q) + (∑ k : Fin 2048, x0 (ix2 p k) * x1 (ix2 k q)) := by
  unfold k0_pay1
  pointwise

/-- What the host lines before the launch leave: the arguments, cast and cut into shards. -/
theorem V_0 (c : Dev nD) : V m c main_arg0 = aO m c := V_main_arg0 m c
theorem V_1 (c : Dev nD) : V m c main_v2 = (truncf .bf16 (aW m c) bitsLt_bf16_f32 : FVec Ideal S2048x2048 .bf16) := by
  unfold V
  after_reads_simp
  exact shapeCast_shapeCast _ _ _
theorem V_2 (c : Dev nD) : V m c main_arg2 = aX m c := V_main_arg2 m c

/-- The blocks the windows visit at point `t`. -/
theorem idx_eqs : ∀ t : Fin cfg0.N, (win0_0.index t 0 = win0_3.index t 0 ∧ win0_0.index t 1 = 0)
    ∧ (win0_1.index t 0 = 0 ∧ win0_1.index t 1 = win0_3.index t 1)
    ∧ (win0_2.index t 0 = win0_3.index t 0 ∧ win0_2.index t 1 = win0_3.index t 1)
    ∧ (win0_3.index t 0 < 8 ∧ win0_3.index t 1 < 2) :=
  (by decide +kernel : ∀ t : Fin grid0.N, _)

/-- The row and the column of the result that place `p` of the block that point `t` writes is. -/
abbrev row (t : Fin cfg0.N) (p : Fin 1024) : Fin 8192 := ⟨win0_3.index t 0 * 1024 + p.val, by have := (idx_eqs t).2.2.2.1; omega⟩
abbrev col (t : Fin cfg0.N) (q : Fin 1024) : Fin 2048 := ⟨win0_3.index t 1 * 1024 + q.val, by have := (idx_eqs t).2.2.2.2; omega⟩

theorem blk_0 (c : Dev nD) (t : Fin cfg0.N) (p : Fin 1024) (k : Fin 2048) :
    iblk m c 0 t (ix2 p k) = aO m c (ix2 (row t p) k) := by
  obtain ⟨⟨h0, h1⟩, -⟩ := idx_eqs t
  rw [← V_0 m c]
  refine congrArg (V m c main_arg0) (funext fun a => Fin.ext ?_)
  match a with
  | ⟨0, _⟩ => show win0_0.index t 0 * 1024 + 1 * p.val = win0_3.index t 0 * 1024 + p.val; rw [h0]; omega
  | ⟨1, _⟩ => show win0_0.index t 1 * 2048 + 1 * k.val = k.val; rw [h1]; omega

theorem blk_1 (c : Dev nD) (t : Fin cfg0.N) (k : Fin 2048) (q : Fin 1024) :
    iblk m c 1 t (ix2 k q) = aW m c (ix2 k (col t q)) := by
  obtain ⟨-, ⟨h0, h1⟩, -⟩ := idx_eqs t
  refine Eq.trans ?_ (congrFun (V_1 m c) _)
  refine congrArg (V m c main_v2) (funext fun a => Fin.ext ?_)
  match a with
  | ⟨0, _⟩ => show win0_1.index t 0 * 2048 + 1 * k.val = k.val; rw [h0]; omega
  | ⟨1, _⟩ => show win0_1.index t 1 * 1024 + 1 * q.val = win0_3.index t 1 * 1024 + q.val; rw [h1]; omega

theorem blk_2 (c : Dev nD) (t : Fin cfg0.N) (p q : Fin 1024) :
    iblk m c 2 t (ix2 p q) = aX m c (ix2 (row t p) (col t q)) := by
  obtain ⟨-, -, ⟨h0, h1⟩, -⟩ := idx_eqs t
  rw [← V_2 m c]
  refine congrArg (V m c main_arg2) (funext fun a => Fin.ext ?_)
  match a with
  | ⟨0, _⟩ => show win0_2.index t 0 * 1024 + 1 * p.val = win0_3.index t 0 * 1024 + p.val; rw [h0]; omega
  | ⟨1, _⟩ => show win0_2.index t 1 * 1024 + 1 * q.val = win0_3.index t 1 * 1024 + q.val; rw [h1]; omega

theorem hz : (![0, 0] : Fin 2 → Nat) = fun _ => 0 := funext fun a => by fin_cases a <;> rfl

/-- Point `t` writes back its block of the result. -/
theorem flushed_eq (c : Dev nD) (t : Fin cfg0.N) :
    (dats m 0 c).flushed 3 t = ((cfg0.win 3).blk t).view.read (Elt Ideal) (G (aO m c) (aW m c) (aX m c)) := by
  rw [Value.flushed3]
  unfold out0_3
  rw [View.canon_unit_zero hz, View.ld_unit_zero hz, View.ld_unit_zero hz, View.ld_unit_zero hz]
  funext y
  obtain ⟨p, q, rfl⟩ : ∃ p q : Fin 1024, y = ix2 p q := ⟨y 0, y 1, eq_ix2 y⟩
  have e (q : Fin 1024) : ((cfg0.win 3).blk t).view.emb (ix2 p q) = ix2 (row t p) (col t q) := funext fun a => Fin.ext (by
    match a with
    | ⟨0, _⟩ => show win0_3.index t 0 * 1024 + 1 * p.val = win0_3.index t 0 * 1024 + p.val; omega
    | ⟨1, _⟩ => show win0_3.index t 1 * 1024 + 1 * q.val = win0_3.index t 1 * 1024 + q.val; omega)
  show _ = G (aO m c) (aW m c) (aX m c) (((cfg0.win 3).blk t).view.emb (ix2 p q))
  rw [e]
  show _ = grad _ _ _ (row t p) (col t q)
  unfold grad
  refine (pay_at _ _ _ p q).trans ?_
  rw [blk_2]
  exact congrArg (fun s : EReal => Ideal.ofBits .f32 0x3FB504F3#32 * aX m c (ix2 (row t p) (col t q)) + s) (Finset.sum_congr rfl fun k _ => by rw [blk_0, blk_1])

/-- Every pair of block numbers is some point's. -/
theorem onto : ∀ (a : Fin 8) (b : Fin 2), ∃ t : Fin cfg0.N, (cfg0.win 3).flush t = true ∧ win0_3.index t 0 = a.val ∧ win0_3.index t 1 = b.val :=
  fun a b => ⟨(⟨a.val * 2 + b.val, lt_of_lt_of_eq (by omega) N_0.symm⟩ : Fin grid0.N),
    (by decide +kernel : ∀ (a : Fin 8) (b : Fin 2), win0_3.flush ⟨a.val * 2 + b.val, lt_of_lt_of_eq (by omega) N_0.symm⟩ = true
      ∧ win0_3.index ⟨a.val * 2 + b.val, lt_of_lt_of_eq (by omega) N_0.symm⟩ 0 = a.val
      ∧ win0_3.index ⟨a.val * 2 + b.val, lt_of_lt_of_eq (by omega) N_0.symm⟩ 1 = b.val) a b⟩

/-- The blocks tile the result. -/
theorem cover (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, hf, h0, h1⟩ := onto ⟨(i 0).val / 1024, by omega⟩ ⟨(i 1).val / 1024, by omega⟩
  refine ⟨t, hf, ?_⟩
  show i ∈ ((View.whole main_v3).slice (win0_3.rect t)).set
  rw [View.set_slice_whole, Rect.mem_set_unit]
  dsimp only at h0 h1
  intro a
  match a with
  | ⟨0, _⟩ => show win0_3.index t 0 * 1024 ≤ (i 0).val ∧ (i 0).val < win0_3.index t 0 * 1024 + 1024; omega
  | ⟨1, _⟩ => show win0_3.index t 1 * 1024 ≤ (i 1).val ∧ (i 1).val < win0_3.index t 1 * 1024 + 1024; omega

/-- The result array after the run. -/
theorem final (c : Dev nD) : (dats m 0 c).arrAt 3 cfg0.N = G (aO m c) (aW m c) (aX m c) :=
  (dats m 0 c).arrAt_eq_of_cover 3 _ (fun t _ => flushed_eq m c t) cover

/-- The claim: the kernel and the plain lines end with the same array. -/
theorem algebraic : Cert.algebraic_Kernel16Ideal_Reference16Ideal (hKernel16Ideal := Cert.Kernel16Ideal.Gen.facts) (hReference16Ideal := Cert.Reference16Ideal.Gen.facts) := by
  intro m ρ m' ρ' _ hag
  refine ⟨fun c => G (aO m c) (aW m c) (aX m c), (θ_run _ _ _).mono (fun _ h c => ⟨(h c).1.trans (final m c), (h c).2⟩) (Value.run_blocks m ρ),
    (θ_run _ _ _).mono (fun _ h c => ⟨(h c).1.trans ?_, (h c).2⟩) (Cert.Reference16Ideal.Value.run m' ρ')⟩
  rw [(hag c).1, (hag c).2.1, (hag c).2.2]
  funext j
  idx_vars j
  show _ = grad (aO m c) (aW m c) (aX m c) j0 j1
  unfold grad
  pointwise

end Cert.Kernel16Ideal.Proj
end
-- ==== Proof.Up.lean ====
module

public import proofs.«01_k».proof.Defs
public import proofs.«01_k».proof.Proof.Gen.Kernel17Ideal.Value
public import proofs.«01_k».proof.Proof.Gen.Reference17Ideal.Run
public import Idealize.ShloMosaic.Lib.Pointwise
public import Idealize.ShloMosaic.Lib.StableHlo.ReadAt

@[expose] public section

set_option maxRecDepth 16384

/-! The first product of the squared-ReLU block, with its activation. -/

noncomputable section

namespace Cert.Kernel17Ideal.Up

open Cert.Kernel17Ideal Cert.Kernel17Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the input; the weight. -/
abbrev aX (c : Dev nD) : FVec Ideal S8192x2048 .f32 := m ((c : Thread nD τ).loc main_arg0)
abbrev aW (c : Dev nD) : FVec Ideal S2048x8192 .f32 := m ((c : Thread nD τ).loc main_arg1)

/-- The square of the rectified product. -/
def grad (x : FVec Ideal S8192x2048 .f32) (w : FVec Ideal S2048x8192 .f32) (i : Fin 8192) (j : Fin 8192) : EReal :=
  max (∑ k : Fin 2048, x (ix2 i k) * w (ix2 k j)) 0 * max (∑ k : Fin 2048, x (ix2 i k) * w (ix2 k j)) 0

/-- The same as an array. -/
def G (x : FVec Ideal S8192x2048 .f32) (w : FVec Ideal S2048x8192 .f32) : FVec Ideal S8192x8192 .bf16 :=
  fun i => grad x w (i 0) (i 1)

/-- The rectified product. -/
def relu (x : FVec Ideal S8192x2048 .f32) (w : FVec Ideal S2048x8192 .f32) (i : Fin 8192) (j : Fin 8192) : EReal :=
  max (∑ k : Fin 2048, x (ix2 i k) * w (ix2 k j)) 0

/-- The same as an array. -/
def H (x : FVec Ideal S8192x2048 .f32) (w : FVec Ideal S2048x8192 .f32) : FVec Ideal S8192x8192 .f32 :=
  fun i => relu x w (i 0) (i 1)

/-- One block of the kernel at an entry. -/
theorem pay_at (x0 : Vec Ideal S1024x2048 .bf16) (x1 : Vec Ideal S1x2048x1024 .bf16)  (p q : Fin 1024) :
    k0_pay2 x0 x1  (ix2 p q) = max (∑ k : Fin 2048, x0 (ix2 p k) * x1 (ix3 0 k q)) 0 * max (∑ k : Fin 2048, x0 (ix2 p k) * x1 (ix3 0 k q)) 0 := by
  unfold k0_pay2
  unfold k0_pay1
  pointwise
theorem pay_at1 (x0 : Vec Ideal S1024x2048 .bf16) (x1 : Vec Ideal S1x2048x1024 .bf16)  (p q : Fin 1024) :
    k0_pay1 x0 x1  (ix2 p q) = max (∑ k : Fin 2048, x0 (ix2 p k) * x1 (ix3 0 k q)) 0 := by
  unfold k0_pay1
  pointwise

/-- What the host lines before the launch leave: the arguments, cast and cut into shards. -/
theorem V_0 (c : Dev nD) : V m c main_v0 = (truncf .bf16 (aX m c) bitsLt_bf16_f32 : FVec Ideal S8192x2048 .bf16) := by
  unfold V
  after_reads_simp
theorem V_1 (c : Dev nD) (s : Fin 8) (i : Fin 2048) (j : Fin 1024) :
    V m c main_v3 (ix3 s i j) = aW m c (ix2 i ⟨s.val * 1024 + j.val, by omega⟩) := by
  unfold V
  after_reads_at

/-- The blocks the windows visit at point `t`. -/
theorem idx_eqs : ∀ t : Fin cfg0.N, (win0_0.index t 0 = win0_2.index t 0 ∧ win0_0.index t 1 = 0)
    ∧ (win0_1.index t 0 = win0_2.index t 1 ∧ win0_1.index t 1 = 0 ∧ win0_1.index t 2 = 0)
    ∧ (win0_3.index t 0 = win0_2.index t 0 ∧ win0_3.index t 1 = win0_2.index t 1)
    ∧ (win0_2.index t 0 < 8 ∧ win0_2.index t 1 < 8) :=
  (by decide +kernel : ∀ t : Fin grid0.N, _)

/-- The row and the column of the result that place `p` of the block that point `t` writes is. -/
abbrev row (t : Fin cfg0.N) (p : Fin 1024) : Fin 8192 := ⟨win0_2.index t 0 * 1024 + p.val, by have := (idx_eqs t).2.2.2.1; omega⟩
abbrev col (t : Fin cfg0.N) (q : Fin 1024) : Fin 8192 := ⟨win0_2.index t 1 * 1024 + q.val, by have := (idx_eqs t).2.2.2.2; omega⟩

theorem blk_0 (c : Dev nD) (t : Fin cfg0.N) (p : Fin 1024) (k : Fin 2048) :
    iblk m c 0 t (ix2 p k) = aX m c (ix2 (row t p) k) := by
  obtain ⟨⟨h0, h1⟩, -⟩ := idx_eqs t
  refine Eq.trans ?_ (congrFun (V_0 m c) _)
  refine congrArg (V m c main_v0) (funext fun a => Fin.ext ?_)
  match a with
  | ⟨0, _⟩ => show win0_0.index t 0 * 1024 + 1 * p.val = win0_2.index t 0 * 1024 + p.val; rw [h0]; omega
  | ⟨1, _⟩ => show win0_0.index t 1 * 2048 + 1 * k.val = k.val; rw [h1]; omega

theorem blk_1 (c : Dev nD) (t : Fin cfg0.N) (k : Fin 2048) (q : Fin 1024) :
    iblk m c 1 t (ix3 0 k q) = aW m c (ix2 k (col t q)) := by
  obtain ⟨-, ⟨h0, h1, h2⟩, -⟩ := idx_eqs t
  have hb := (idx_eqs t).2.2.2.2
  refine Eq.trans ?_ (V_1 m c ⟨win0_2.index t 1, by omega⟩ k q)
  refine congrArg (V m c main_v3) (funext fun a => Fin.ext ?_)
  match a with
  | ⟨0, _⟩ => show win0_1.index t 0 * 1 + 1 * 0 = win0_2.index t 1; rw [h0]; omega
  | ⟨1, _⟩ => show win0_1.index t 1 * 2048 + 1 * k.val = k.val; rw [h1]; omega
  | ⟨2, _⟩ => show win0_1.index t 2 * 1024 + 1 * q.val = q.val; rw [h2]; omega

theorem hz : (![0, 0] : Fin 2 → Nat) = fun _ => 0 := funext fun a => by fin_cases a <;> rfl
theorem hz3 : (![0, 0, 0] : Fin 3 → Nat) = fun _ => 0 := funext fun a => by fin_cases a <;> rfl

/-- Point `t` writes back its block of the result. -/
theorem flushed_eq (c : Dev nD) (t : Fin cfg0.N) :
    (dats m 0 c).flushed 2 t = ((cfg0.win 2).blk t).view.read (Elt Ideal) (G (aX m c) (aW m c)) := by
  rw [Value.flushed2]
  unfold out0_2
  rw [View.canon_unit_zero hz, View.ld_unit_zero hz, View.ld_unit_zero hz3]
  funext y
  obtain ⟨p, q, rfl⟩ : ∃ p q : Fin 1024, y = ix2 p q := ⟨y 0, y 1, eq_ix2 y⟩
  have e (q : Fin 1024) : ((cfg0.win 2).blk t).view.emb (ix2 p q) = ix2 (row t p) (col t q) := funext fun a => Fin.ext (by
    match a with
    | ⟨0, _⟩ => show win0_2.index t 0 * 1024 + 1 * p.val = win0_2.index t 0 * 1024 + p.val; omega
    | ⟨1, _⟩ => show win0_2.index t 1 * 1024 + 1 * q.val = win0_2.index t 1 * 1024 + q.val; omega)
  show _ = G (aX m c) (aW m c) (((cfg0.win 2).blk t).view.emb (ix2 p q))
  rw [e]
  show _ = grad _ _ (row t p) (col t q)
  unfold grad
  refine (pay_at _ _  p q).trans ?_
  exact congrArg (fun s : EReal => max s 0 * max s 0) (Finset.sum_congr rfl fun k _ => by rw [blk_0, blk_1])

/-- Point `t` writes back its block of the result. -/
theorem flushed1_eq (c : Dev nD) (t : Fin cfg0.N) :
    (dats m 0 c).flushed 3 t = ((cfg0.win 3).blk t).view.read (Elt Ideal) (H (aX m c) (aW m c)) := by
  obtain ⟨g0, g1⟩ := (idx_eqs t).2.2.1
  rw [Value.flushed3]
  unfold out0_3
  rw [View.canon_unit_zero hz, View.ld_unit_zero hz, View.ld_unit_zero hz3]
  funext y
  obtain ⟨p, q, rfl⟩ : ∃ p q : Fin 1024, y = ix2 p q := ⟨y 0, y 1, eq_ix2 y⟩
  have e (q : Fin 1024) : ((cfg0.win 3).blk t).view.emb (ix2 p q) = ix2 (row t p) (col t q) := funext fun a => Fin.ext (by
    match a with
    | ⟨0, _⟩ => show win0_3.index t 0 * 1024 + 1 * p.val = win0_2.index t 0 * 1024 + p.val; rw [g0]; omega
    | ⟨1, _⟩ => show win0_3.index t 1 * 1024 + 1 * q.val = win0_2.index t 1 * 1024 + q.val; rw [g1]; omega)
  show _ = H (aX m c) (aW m c) (((cfg0.win 3).blk t).view.emb (ix2 p q))
  rw [e]
  show _ = relu _ _ (row t p) (col t q)
  unfold relu
  refine (pay_at1 _ _  p q).trans ?_
  exact congrArg (fun s : EReal => max s 0) (Finset.sum_congr rfl fun k _ => by rw [blk_0, blk_1])

/-- Every pair of block numbers is some point's. -/
theorem onto : ∀ (a : Fin 8) (b : Fin 8), ∃ t : Fin cfg0.N, (cfg0.win 2).flush t = true ∧ win0_2.index t 0 = a.val ∧ win0_2.index t 1 = b.val ∧ (cfg0.win 3).flush t = true :=
  fun a b => ⟨(⟨a.val * 8 + b.val, lt_of_lt_of_eq (by omega) N_0.symm⟩ : Fin grid0.N),
    (by decide +kernel : ∀ (a : Fin 8) (b : Fin 8), win0_2.flush ⟨a.val * 8 + b.val, lt_of_lt_of_eq (by omega) N_0.symm⟩ = true
      ∧ win0_2.index ⟨a.val * 8 + b.val, lt_of_lt_of_eq (by omega) N_0.symm⟩ 0 = a.val
      ∧ win0_2.index ⟨a.val * 8 + b.val, lt_of_lt_of_eq (by omega) N_0.symm⟩ 1 = b.val
      ∧ win0_3.flush ⟨a.val * 8 + b.val, lt_of_lt_of_eq (by omega) N_0.symm⟩ = true) a b⟩

/-- The blocks tile the result. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, hf, h0, h1, hf1⟩ := onto ⟨(i 0).val / 1024, by omega⟩ ⟨(i 1).val / 1024, by omega⟩
  refine ⟨t, hf, ?_⟩
  show i ∈ ((View.whole main_v4_0).slice (win0_2.rect t)).set
  rw [View.set_slice_whole, Rect.mem_set_unit]
  dsimp only at h0 h1
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The result array after the run. -/
theorem final (c : Dev nD) : (dats m 0 c).arrAt 2 cfg0.N = G (aX m c) (aW m c) :=
  (dats m 0 c).arrAt_eq_of_cover 2 _ (fun t _ => flushed_eq m c t) cover

/-- The blocks tile the result. -/
theorem cover1 (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, hf, h0, h1, hf1⟩ := onto ⟨(i 0).val / 1024, by omega⟩ ⟨(i 1).val / 1024, by omega⟩
  refine ⟨t, hf1, ?_⟩
  show i ∈ ((View.whole main_v4_1).slice (win0_3.rect t)).set
  rw [View.set_slice_whole, Rect.mem_set_unit]
  dsimp only at h0 h1
  intro a
  match a with
  | ⟨0, _⟩ => show win0_3.index t 0 * 1024 ≤ (i 0).val ∧ (i 0).val < win0_3.index t 0 * 1024 + 1024; rw [(idx_eqs t).2.2.1.1]; omega
  | ⟨1, _⟩ => show win0_3.index t 1 * 1024 ≤ (i 1).val ∧ (i 1).val < win0_3.index t 1 * 1024 + 1024; rw [(idx_eqs t).2.2.1.2]; omega

/-- The result array after the run. -/
theorem final1 (c : Dev nD) : (dats m 0 c).arrAt 3 cfg0.N = H (aX m c) (aW m c) :=
  (dats m 0 c).arrAt_eq_of_cover 3 _ (fun t _ => flushed1_eq m c t) cover1

/-- The claim: the kernel and the plain lines end with the same arrays. -/
theorem algebraic : Cert.algebraic_Kernel17Ideal_Reference17Ideal (hKernel17Ideal := Cert.Kernel17Ideal.Gen.facts) (hReference17Ideal := Cert.Reference17Ideal.Gen.facts) := by
  intro m ρ m' ρ' _ hag
  refine ⟨fun c => G (aX m c) (aW m c), fun c => H (aX m c) (aW m c),
    (θ_run _ _ _).mono (fun _ h c => ⟨(h c).1.trans (final m c), (h c).2.1.trans (final1 m c), (h c).2.2⟩) (Value.run_blocks m ρ),
    (θ_run _ _ _).mono (fun _ h c => ⟨(h c).1.trans ?_, (h c).2.1.trans ?_, (h c).2.2⟩) (Cert.Reference17Ideal.Value.run m' ρ')⟩
  · rw [(hag c).1, (hag c).2]
    funext j
    idx_vars j
    show _ = grad (aX m c) (aW m c) j0 j1
    unfold grad
    pointwise
  · rw [(hag c).1, (hag c).2]
    funext j
    idx_vars j
    show _ = relu (aX m c) (aW m c) j0 j1
    unfold relu
    pointwise

end Cert.Kernel17Ideal.Up
end
-- ==== Proof.Down.lean ====
module

public import proofs.«01_k».proof.Defs
public import proofs.«01_k».proof.Proof.Gen.Kernel18Ideal.Value
public import proofs.«01_k».proof.Proof.Gen.Reference18Ideal.Run
public import Idealize.ShloMosaic.Lib.Pointwise
public import Idealize.ShloMosaic.Lib.StableHlo.ReadAt

@[expose] public section

set_option maxRecDepth 16384

/-! The second product of the squared-ReLU block, with the residual. -/

noncomputable section

namespace Cert.Kernel18Ideal.Down

open Cert.Kernel18Ideal Cert.Kernel18Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the activations, the weight and the input of the block. -/
abbrev aA (c : Dev nD) : FVec Ideal S8192x8192 .f32 := m ((c : Thread nD τ).loc main_arg0)
abbrev aW (c : Dev nD) : FVec Ideal S8192x2048 .f32 := m ((c : Thread nD τ).loc main_arg1)
abbrev aX (c : Dev nD) : FVec Ideal S8192x2048 .f32 := m ((c : Thread nD τ).loc main_arg2)

/-- The product and the residual. -/
def grad (a : FVec Ideal S8192x8192 .f32) (w : FVec Ideal S8192x2048 .f32) (x : FVec Ideal S8192x2048 .f32) (i : Fin 8192) (j : Fin 2048) : EReal :=
  Ideal.ofBits .f32 0x3FB504F3#32 * x (ix2 i j) + ∑ k : Fin 8192, a (ix2 i k) * w (ix2 k j)

/-- The same as an array. -/
def G (a : FVec Ideal S8192x8192 .f32) (w : FVec Ideal S8192x2048 .f32) (x : FVec Ideal S8192x2048 .f32) : FVec Ideal S8192x2048 .f32 := fun i => grad a w x (i 0) (i 1)

/-- One block's part of the product at an entry. The inner axis lies in four blocks of 2048. -/
def part (a : FVec Ideal S8192x8192 .f32) (w : FVec Ideal S8192x2048 .f32) (s : ℕ) (hs : s < 4) (i : Fin 8192) (j : Fin 2048) : EReal :=
  ∑ k : Fin 2048, a (ix2 i ⟨s * 2048 + k.val, by omega⟩) * w (ix2 ⟨s * 2048 + k.val, by omega⟩ j)

theorem sum_parts (a : FVec Ideal S8192x8192 .f32) (w : FVec Ideal S8192x2048 .f32) (i : Fin 8192) (j : Fin 2048) :
    ∑ k : Fin 8192, a (ix2 i k) * w (ix2 k j)
      = part a w 0 (by omega) i j + part a w 1 (by omega) i j + part a w 2 (by omega) i j + part a w 3 (by omega) i j := by
  rw [Fin.sum_univ_tiles 4 2048 rfl, Fin.sum_univ_four]
  rfl

/-- What the host lines before the launch leave: the arguments as they are. -/
theorem V_0 (c : Dev nD) : V m c main_v0 = (truncf .bf16 (aA m c) bitsLt_bf16_f32 : FVec Ideal S8192x8192 .bf16) := by
  unfold V
  after_reads_simp
theorem V_1 (c : Dev nD) : V m c main_v3 = (truncf .bf16 (aW m c) bitsLt_bf16_f32 : FVec Ideal S8192x2048 .bf16) := by
  unfold V
  after_reads_simp
  exact shapeCast_shapeCast _ _ _
theorem V_2 (c : Dev nD) : V m c main_arg2 = aX m c := V_main_arg2 m c

theorem hz : (![0, 0] : Fin 2 → Nat) = fun _ => 0 := funext fun a => by fin_cases a <;> rfl

/-- What one point multiplies. -/
def one (x0 : Vec Ideal S1024x2048 .bf16) (x1 : Vec Ideal S2048x1024 .bf16) (p q : Fin 1024) : EReal := ∑ k : Fin 2048, x0 (ix2 p k) * x1 (ix2 k q)

/-- The payloads of the three kinds of points at an entry. -/
theorem pay1_at (x0 : Vec Ideal S1024x2048 .bf16) (x1 : Vec Ideal S2048x1024 .bf16) (p q : Fin 1024) : k0_pay1 x0 x1 (ix2 p q) = one x0 x1 p q := by
  unfold k0_pay1 one
  pointwise
theorem pay2_at (s : Vec Ideal S1024x1024 .f32) (x0 : Vec Ideal S1024x2048 .bf16) (x1 : Vec Ideal S2048x1024 .bf16) (p q : Fin 1024) : k0_pay2 s x0 x1 (ix2 p q) = s (ix2 p q) + one x0 x1 p q := by
  unfold k0_pay2 one
  pointwise
theorem pay3_at (s : Vec Ideal S1024x1024 .f32) (x0 : Vec Ideal S1024x2048 .bf16) (x1 : Vec Ideal S2048x1024 .bf16) (r : Vec Ideal S1024x1024 .f32) (p q : Fin 1024) :
    k0_pay3 s x0 x1 r (ix2 p q) = Ideal.ofBits .f32 0x3FB504F3#32 * r (ix2 p q) + (s (ix2 p q) + one x0 x1 p q) := by
  unfold k0_pay3 one
  pointwise

section points
variable (c : Dev nD) (i : grid0.Coords) (a1 : Memref sig .tc .vmem S1024x2048 .bf16) (h1 : a1.IsWhole) (a2 : Memref sig .tc .vmem S2048x1024 .bf16) (h2 : a2.IsWhole) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole)
    (x0 : Vec Ideal S1024x2048 .bf16) (x1 : Vec Ideal S2048x1024 .bf16) (x2 : Vec Ideal S1024x1024 .f32) (xs : Vec Ideal S1024x1024 .f32) (p q : Fin 1024)

/-- The first point of a run leaves its product in the accumulator, … -/
theorem first_eq (hc0 : cond0_0 i) (hc1 : ¬cond0_1 i) (hc2 : ¬cond0_2 i) :
    sout0_A_0 c i a1 h1 a2 h2 a3 h3 a4 h4 a5 h5 hc0 hc1 hc2 x0 x1 x2 (ix2 p q) = one x0 x1 p q := by
  unfold sout0_A_0
  rw [View.read_writes_eq_canon _ _ _ (scover0_A_0 c i a1 h1 a2 h2 a3 h3 a4 h4 a5 h5 hc0 hc1 hc2 x0 x1 x2)]
  unfold kernelRun0_A
  dsimp only
  rw [View.canon_unit_zero hz]
  simp only [View.readAt_eq_ld, h1.read_unread, h2.read_unread, View.ld_unit_zero (S := S1024x2048) hz, View.ld_unit_zero (S := S2048x1024) hz]
  exact pay1_at ..

/-- … the middle ones add theirs, … -/
theorem middle_eq (hc0 : ¬cond0_0 i) (hc1 : cond0_1 i) (hc2 : ¬cond0_2 i) :
    sout0_B_0 c i a1 h1 a2 h2 a3 h3 a4 h4 a5 h5 hc0 hc1 hc2 x0 x1 x2 xs (ix2 p q) = xs (ix2 p q) + one x0 x1 p q := by
  unfold sout0_B_0
  rw [View.read_writes_eq_canon _ _ _ (scover0_B_0 c i a1 h1 a2 h2 a3 h3 a4 h4 a5 h5 hc0 hc1 hc2 x0 x1 x2 xs)]
  unfold kernelRun0_B
  dsimp only
  rw [View.canon_unit_zero hz]
  simp only [View.readAt_eq_ld, h5.read_unread, h1.read_unread, h2.read_unread, View.ld_unit_zero (S := S1024x2048) hz, View.ld_unit_zero (S := S2048x1024) hz, View.ld_unit_zero (S := S1024x1024) hz]
  exact pay2_at ..

/-- … and the last adds its own and the residual. -/
theorem last_eq (hc0 : ¬cond0_0 i) (hc1 : ¬cond0_1 i) (hc2 : cond0_2 i) :
    out0_C_3 c i a1 h1 a2 h2 a3 h3 a4 h4 a5 h5 hc0 hc1 hc2 x0 x1 x2 xs (ix2 p q) = Ideal.ofBits .f32 0x3FB504F3#32 * x2 (ix2 p q) + (xs (ix2 p q) + one x0 x1 p q) := by
  unfold out0_C_3
  rw [View.read_writes_eq_canon _ _ _ (cover0_C_3 c i a1 h1 a2 h2 a3 h3 a4 h4 a5 h5 hc0 hc1 hc2 x0 x1 x2 xs)]
  unfold kernelRun0_C
  dsimp only
  rw [View.canon_unit_zero hz]
  simp only [View.readAt_eq_ld, h5.read_unread, h3.read_unread, h1.read_unread, h2.read_unread, View.ld_unit_zero (S := S1024x2048) hz, View.ld_unit_zero (S := S2048x1024) hz, View.ld_unit_zero (S := S1024x1024) hz]
  exact pay3_at ..

end points

/-- The blocks the windows visit at point `t`. -/
theorem idx_eqs : ∀ t : Fin cfg0.N, (win0_0.index t 0 = t.val / 8 ∧ win0_0.index t 1 = t.val % 4)
    ∧ (win0_1.index t 0 = t.val % 4 ∧ win0_1.index t 1 = t.val / 4 % 2)
    ∧ (win0_2.index t 0 = t.val / 8 ∧ win0_2.index t 1 = t.val / 4 % 2)
    ∧ (win0_3.index t 0 = t.val / 8 ∧ win0_3.index t 1 = t.val / 4 % 2) ∧ t.val < 64 :=
  (by decide +kernel : ∀ t : Fin grid0.N, _)

/-- The row and the column of the result that entry `(p, q)` of block `b` (row block `b / 2`, column block `b % 2`) is. -/
abbrev rowOf (b : ℕ) (hb : b < 16) (p : Fin 1024) : Fin 8192 := ⟨b / 2 * 1024 + p.val, by omega⟩
abbrev colOf (b : ℕ) (q : Fin 1024) : Fin 2048 := ⟨b % 2 * 1024 + q.val, by omega⟩

/-- Point `t` multiplies part `t mod 4` for block `t / 4`. -/
theorem one_eq (c : Dev nD) (t : Fin cfg0.N) (b s : ℕ) (hb : b < 16) (hs : s < 4) (hbt : t.val = b * 4 + s) (p q : Fin 1024) :
    one (iblk m c 0 t) (iblk m c 1 t) p q = part (aA m c) (aW m c) s hs (rowOf b hb p) (colOf b q) := by
  obtain ⟨⟨e0, e1⟩, ⟨f0, f1⟩, -, -, -⟩ := idx_eqs t
  have hd (k : Fin 2048) : iblk m c 0 t (ix2 p k) = aA m c (ix2 (rowOf b hb p) ⟨s * 2048 + k.val, by omega⟩) := by
    refine Eq.trans ?_ (congrFun (V_0 m c) _)
    refine congrArg (V m c main_v0) (funext fun a => Fin.ext ?_)
    match a with
    | ⟨0, _⟩ => show win0_0.index t 0 * 1024 + 1 * p.val = b / 2 * 1024 + p.val; rw [e0]; omega
    | ⟨1, _⟩ => show win0_0.index t 1 * 2048 + 1 * k.val = s * 2048 + k.val; rw [e1]; omega
  have hw (k : Fin 2048) : iblk m c 1 t (ix2 k q) = aW m c (ix2 ⟨s * 2048 + k.val, by omega⟩ (colOf b q)) := by
    refine Eq.trans ?_ (congrFun (V_1 m c) _)
    refine congrArg (V m c main_v3) (funext fun a => Fin.ext ?_)
    match a with
    | ⟨0, _⟩ => show win0_1.index t 0 * 2048 + 1 * k.val = s * 2048 + k.val; rw [f0]; omega
    | ⟨1, _⟩ => show win0_1.index t 1 * 1024 + 1 * q.val = b % 2 * 1024 + q.val; rw [f1]; omega
  unfold one part
  exact Finset.sum_congr rfl fun k _ => by rw [hd, hw]

/-- The accumulator after the first three points of block `b`'s run. -/
theorem acc_eq (c : Dev nD) (b : ℕ) (h : b * 4 + 2 < cfg0.N) (p q : Fin 1024) :
    (outsAt0 m c (b * 4 + 2) h).2 (ix2 p q)
      = one (iblk m c 0 ⟨b * 4, by omega⟩) (iblk m c 1 ⟨b * 4, by omega⟩) p q
        + one (iblk m c 0 ⟨b * 4 + 1, by omega⟩) (iblk m c 1 ⟨b * 4 + 1, by omega⟩) p q
        + one (iblk m c 0 ⟨b * 4 + 2, h⟩) (iblk m c 1 ⟨b * 4 + 2, h⟩) p q := by
  have s0 : (outsAt0 m c (b * 4) (by omega)).2 (ix2 p q) = one (iblk m c 0 ⟨b * 4, by omega⟩) (iblk m c 1 ⟨b * 4, by omega⟩) p q := by
    rw [outsAt0_A m c ⟨b * 4, by omega⟩ (by show b * 4 % 4 = 0; omega) (by show ¬(1 ≤ b * 4 % 4 ∧ b * 4 % 4 ≤ 2); omega) (by show ¬b * 4 % 4 = 3; omega)]
    dsimp only
    rw [first_eq]
  have s1 : (outsAt0 m c (b * 4 + 1) (by omega)).2 (ix2 p q) = one (iblk m c 0 ⟨b * 4, by omega⟩) (iblk m c 1 ⟨b * 4, by omega⟩) p q
        + one (iblk m c 0 ⟨b * 4 + 1, by omega⟩) (iblk m c 1 ⟨b * 4 + 1, by omega⟩) p q := by
    rw [outsAt0_B m c ⟨b * 4 + 1, by omega⟩ (by show ¬(b * 4 + 1) % 4 = 0; omega) (by show 1 ≤ (b * 4 + 1) % 4 ∧ (b * 4 + 1) % 4 ≤ 2; omega) (by show ¬(b * 4 + 1) % 4 = 3; omega)]
    dsimp only
    rw [middle_eq]
    exact congrArg (· + _) s0
  rw [outsAt0_B m c ⟨b * 4 + 2, h⟩ (by show ¬(b * 4 + 2) % 4 = 0; omega) (by show 1 ≤ (b * 4 + 2) % 4 ∧ (b * 4 + 2) % 4 ≤ 2; omega) (by show ¬(b * 4 + 2) % 4 = 3; omega)]
  dsimp only
  rw [middle_eq]
  exact congrArg (· + _) s1

/-- A point that writes back writes its block of the result. -/
theorem flushed_eq (c : Dev nD) (t : Fin cfg0.N) (hf : (cfg0.win 3).flush t = true) :
    (dats m 0 c).flushed 3 t = ((cfg0.win 3).blk t).view.read (Elt Ideal) (G (aA m c) (aW m c) (aX m c)) := by
  have ht : t.val % 4 = 3 := (flush0_3 t).mp hf
  obtain ⟨-, -, ⟨g0, g1⟩, ⟨e0, e1⟩, hN⟩ := idx_eqs t
  obtain ⟨b, hb⟩ : ∃ b, t.val = b * 4 + 3 := ⟨t.val / 4, by omega⟩
  have hbn : b < 16 := by omega
  have hN' : cfg0.N = 64 := N_0
  have hp : t.val - 1 = b * 4 + 2 := by omega
  rw [Value.flushed3_C m c t (by omega) (by omega) ht]
  funext y
  obtain ⟨p, q, rfl⟩ : ∃ p q : Fin 1024, y = ix2 p q := ⟨y 0, y 1, eq_ix2 y⟩
  refine (last_eq ..).trans ?_
  have e : ((cfg0.win 3).blk t).view.emb (ix2 p q) = ix2 (rowOf b hbn p) (colOf b q) := funext fun a => Fin.ext (by
    match a with
    | ⟨0, _⟩ => show win0_3.index t 0 * 1024 + 1 * p.val = b / 2 * 1024 + p.val; rw [e0]; omega
    | ⟨1, _⟩ => show win0_3.index t 1 * 1024 + 1 * q.val = b % 2 * 1024 + q.val; rw [e1]; omega)
  have er : iblk m c 2 t (ix2 p q) = aX m c (ix2 (rowOf b hbn p) (colOf b q)) := by
    rw [← V_2 m c]
    refine congrArg (V m c main_arg2) (funext fun a => Fin.ext ?_)
    match a with
    | ⟨0, _⟩ => show win0_2.index t 0 * 1024 + 1 * p.val = b / 2 * 1024 + p.val; rw [g0]; omega
    | ⟨1, _⟩ => show win0_2.index t 1 * 1024 + 1 * q.val = b % 2 * 1024 + q.val; rw [g1]; omega
  show _ = G (aA m c) (aW m c) (aX m c) (((cfg0.win 3).blk t).view.emb (ix2 p q))
  rw [e, er]
  show _ = grad _ _ _ (rowOf b hbn p) (colOf b q)
  unfold grad
  have ea : (outsAt0 m c (t.val - 1) (Nat.lt_of_le_of_lt (Nat.sub_le _ _) t.isLt)).2 (ix2 p q) = _ :=
    (congrArg (fun s : Vec Ideal S1024x1024 .f32 => s (ix2 p q)) (by simp only [hp])).trans (acc_eq m c b (by omega) p q)
  rw [ea, one_eq m c ⟨b * 4, _⟩ b 0 hbn (by omega) rfl, one_eq m c ⟨b * 4 + 1, _⟩ b 1 hbn (by omega) rfl,
    one_eq m c ⟨b * 4 + 2, _⟩ b 2 hbn (by omega) rfl, one_eq m c t b 3 hbn (by omega) hb, sum_parts]

/-- The result array after the run. -/
theorem final (c : Dev nD) : (dats m 0 c).arrAt 3 cfg0.N = G (aA m c) (aW m c) (aX m c) :=
  (dats m 0 c).arrAt_eq_of_cover 3 _ (fun t hf => flushed_eq m c t hf) (fun i => (Value.covered_iff3 i).2 (by
    have h0 : (i 0).val < 8192 := (i 0).isLt; have h1 : (i 1).val < 2048 := (i 1).isLt; omega))

/-- The claim: the kernel and the plain lines end with the same array. -/
theorem algebraic : Cert.algebraic_Kernel18Ideal_Reference18Ideal (hKernel18Ideal := Cert.Kernel18Ideal.Gen.facts) (hReference18Ideal := Cert.Reference18Ideal.Gen.facts) := by
  intro m ρ m' ρ' _ hag
  refine ⟨fun c => G (aA m c) (aW m c) (aX m c), (θ_run _ _ _).mono (fun _ h c => ⟨(h c).1.trans (final m c), (h c).2⟩) (Value.run_blocks m ρ),
    (θ_run _ _ _).mono (fun _ h c => ⟨(h c).1.trans ?_, (h c).2⟩) (Cert.Reference18Ideal.Value.run m' ρ')⟩
  rw [(hag c).1, (hag c).2.1, (hag c).2.2]
  funext j
  idx_vars j
  show _ = grad (aA m c) (aW m c) (aX m c) j0 j1
  unfold grad
  pointwise

end Cert.Kernel18Ideal.Down
end
-- ==== Proof.AdamW.lean ====
module

public import Idealize.ShloMosaic.PureOps.Ideal
public import Idealize.ShloMosaic.Lib.Pointwise

@[expose] public section

/-! AdamW at one entry of a weight, over the extended reals. -/

noncomputable section

namespace Cert.AdamW

open Idealize.ShloMosaic

/-- The new first moment: 0.9 of the old one and 0.1 of the gradient, at the binary32 values of these weights. -/
def newM (g m : EReal) : EReal := Ideal.ofBits .f32 0x3F666666#32 * m + Ideal.ofBits .f32 0x3DCCCCCD#32 * g

/-- The new second moment: 0.999 of the old one and 0.001 of the gradient's square. -/
def newV (g v : EReal) : EReal := Ideal.ofBits .f32 0x3F7FBE77#32 * v + Ideal.ofBits .f32 0x3A83126F#32 * (g * g)

/-- The change of the weight `w` from the new moments: each is divided by its bias correction first. -/
def delta (w m v : EReal) : EReal :=
  Ideal.ofBits .f32 0xBA83126F#32 *
    (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- The two bias corrections as reals. -/
theorem bias1_eq : Ideal.ofBits .f32 0x3F26BD02#32 = ((5463681 / 8388608 : ℝ) : EReal) := by
  simp [Ideal.ofBits, Ideal.ieee, -EReal.coe_mul]; norm_num
theorem bias2_eq : Ideal.ofBits .f32 0x3C231ACC#32 = ((2672307 / 268435456 : ℝ) : EReal) := by
  simp [Ideal.ofBits, Ideal.ieee, -EReal.coe_mul]; norm_num

/-- Dividing by a bias correction is multiplying by its inverse. -/
theorem mul_inv1 (x : EReal) : x * ((8388608 / 5463681 : ℝ) : EReal) = Ideal.div x (Ideal.ofBits .f32 0x3F26BD02#32) := by
  rw [bias1_eq, Ideal.div_coe (by norm_num)]; norm_num
theorem mul_inv2 (x : EReal) : x * ((268435456 / 2672307 : ℝ) : EReal) = Ideal.div x (Ideal.ofBits .f32 0x3C231ACC#32) := by
  rw [bias2_eq, Ideal.div_coe (by norm_num)]; norm_num

/-- The change as the kernel writes it: with products by the inverses. -/
theorem delta_eq (w m v : EReal) : Ideal.ofBits .f32 0xBA83126F#32 *
    (Ideal.div (m * ((8388608 / 5463681 : ℝ) : EReal))
        (Ideal.sqrt (v * ((268435456 / 2672307 : ℝ) : EReal)) + Ideal.ofBits .f32 0x322BCC77#32)
      + Ideal.ofBits .f32 0x3C23D70A#32 * w) = delta w m v := by
  rw [mul_inv1, mul_inv2]; rfl

/-- A choice between two whole arrays by one bit. -/
theorem select_one {α : Type} (a b : α) : Scalar.select 1#1 a b = a := if_pos rfl
theorem select_zero {α : Type} (a b : α) : Scalar.select 0#1 a b = b := if_neg (by decide)

end Cert.AdamW

end
-- ==== Proof.AdColumns.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.AdamW
public import Idealize.ShloMosaic.Lib.Pointwise
public import Idealize.ShloMosaic.Lib.StableHlo.ReadAt

@[expose] public section

set_option maxRecDepth 16384

/-! AdamW on a shard of a weight whose columns are sharded: the kernel's four results, entry by entry, in the terms of `AdamW`. -/

noncomputable section

namespace Cert.Kernel19Ideal.AdColumns

open Cert.Kernel19Ideal Cert.Kernel19Ideal.Gen Idealize.ShloMosaic Idealize.ShloMosaic.TcCoe Idealize.SL.Sem
open Idealize.ShloMosaic.Tactic

variable (m : (ℓ : Loc nD τ sig) → Buf (Elt Ideal) ℓ)

/-- The arguments: what each of the four chips adds to the gradient, the weight, its two moments. -/
abbrev aP (c : Dev nD) : FVec Ideal S4x2048x512 .bf16 := m ((c : Thread nD τ).loc main_arg0)
abbrev aW (c : Dev nD) : FVec Ideal S1x2048x512 .f32 := m ((c : Thread nD τ).loc main_arg1)
abbrev aM (c : Dev nD) : FVec Ideal S1x2048x512 .f32 := m ((c : Thread nD τ).loc main_arg2)
abbrev aV (c : Dev nD) : FVec Ideal S1x2048x512 .f32 := m ((c : Thread nD τ).loc main_arg3)

/-- The four results as arrays: the gradient, the new moments, the change of the weight. -/
def grad (p : FVec Ideal S4x2048x512 .bf16) : FVec Ideal S1x2048x512 .f32 := fun i => ∑ k : Fin 4, p (ix3 k (i 1) (i 2))
def outM (p : FVec Ideal S4x2048x512 .bf16) (y : FVec Ideal S1x2048x512 .f32) : FVec Ideal S1x2048x512 .f32 := fun i => AdamW.newM (grad p i) (y i)
def outV (p : FVec Ideal S4x2048x512 .bf16) (y : FVec Ideal S1x2048x512 .f32) : FVec Ideal S1x2048x512 .f32 := fun i => AdamW.newV (grad p i) (y i)
def outD (p : FVec Ideal S4x2048x512 .bf16) (yw ym yv : FVec Ideal S1x2048x512 .f32) : FVec Ideal S1x2048x512 .f32 := fun i =>
  AdamW.delta (yw i) (outM p ym i) (outV p yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block. -/
theorem pay_g (x0 x1 x2 x3 : Vec Ideal S1x512x512 .bf16) (q : Fin 512) (r : Fin 512) : k0_pay7 x0 x1 x2 x3 (ix3 0 q r) = x0 (ix3 0 q r) + x1 (ix3 0 q r) + x2 (ix3 0 q r) + x3 (ix3 0 q r) := by
  unfold k0_pay7 k0_pay4
  pointwise
theorem pay_m (x0 x1 x2 x3 : Vec Ideal S1x512x512 .bf16) (y : Vec Ideal S1x512x512 .f32) (q : Fin 512) (r : Fin 512) :
    k0_pay1 (k0_pay5 x0 x1 x2 x3 y) (ix3 0 q r) = AdamW.newM (x0 (ix3 0 q r) + x1 (ix3 0 q r) + x2 (ix3 0 q r) + x3 (ix3 0 q r)) (y (ix3 0 q r)) := by
  unfold k0_pay1 k0_pay5 k0_pay4 AdamW.newM
  pointwise
theorem pay_v (x0 x1 x2 x3 : Vec Ideal S1x512x512 .bf16) (y : Vec Ideal S1x512x512 .f32) (q : Fin 512) (r : Fin 512) :
    k0_pay2 (k0_pay6 x0 x1 x2 x3 y) (ix3 0 q r) = AdamW.newV (x0 (ix3 0 q r) + x1 (ix3 0 q r) + x2 (ix3 0 q r) + x3 (ix3 0 q r)) (y (ix3 0 q r)) := by
  unfold k0_pay2 k0_pay6 k0_pay4 AdamW.newV
  pointwise
theorem pay_d (x0 x1 x2 x3 : Vec Ideal S1x512x512 .bf16) (yw ym yv : Vec Ideal S1x512x512 .f32) (q : Fin 512) (r : Fin 512) :
    k0_pay3 (k0_pay5 x0 x1 x2 x3 ym) (k0_pay6 x0 x1 x2 x3 yv) yw (ix3 0 q r) = AdamW.delta (yw (ix3 0 q r))
      (AdamW.newM (x0 (ix3 0 q r) + x1 (ix3 0 q r) + x2 (ix3 0 q r) + x3 (ix3 0 q r)) (ym (ix3 0 q r))) (AdamW.newV (x0 (ix3 0 q r) + x1 (ix3 0 q r) + x2 (ix3 0 q r) + x3 (ix3 0 q r)) (yv (ix3 0 q r))) := by
  rw [← AdamW.delta_eq]
  unfold k0_pay3 k0_pay5 k0_pay6 k0_pay4 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x512x512.Idx) : S1x2048x512.Idx := ((cfg0.win 4).blk t).view.emb y

/-- The blocks the windows visit at point `t`. -/
theorem idx_eqs : ∀ t : Fin cfg0.N, (win0_0.index t 0 = 0 ∧ win0_0.index t 1 = win0_4.index t 1 ∧ win0_0.index t 2 = 0)
    ∧ win0_4.index t 0 = 0 ∧ win0_4.index t 2 = 0 :=
  (by decide +kernel : ∀ t : Fin grid0.N, _)

/-- What is loaded from the blocks of the weight and of its moments. -/
theorem ld_w (c : Dev nD) (t : Fin cfg0.N) (y : S1x512x512.Idx) : View.ld (iblk m c 1 t) r0_4 y = aW m c (place t y) :=
  (congrFun (View.ld_unit_zero (S := S1x512x512) hz _ _) y).trans rfl
theorem ld_m (c : Dev nD) (t : Fin cfg0.N) (y : S1x512x512.Idx) : View.ld (iblk m c 2 t) r0_4 y = aM m c (place t y) :=
  (congrFun (View.ld_unit_zero (S := S1x512x512) hz _ _) y).trans rfl
theorem ld_v (c : Dev nD) (t : Fin cfg0.N) (y : S1x512x512.Idx) : View.ld (iblk m c 3 t) r0_4 y = aV m c (place t y) :=
  (congrFun (View.ld_unit_zero (S := S1x512x512) hz _ _) y).trans rfl

/-- What is loaded from the four chips' shares. -/
theorem ld_0 (c : Dev nD) (t : Fin cfg0.N) (q : Fin 512) (r : Fin 512) : View.ld (iblk m c 0 t) r0_0 (ix3 0 q r)
    = aP m c (ix3 0 (place t (ix3 0 q r) 1) (place t (ix3 0 q r) 2)) := by
  obtain ⟨⟨h0, h1, h2⟩, h3, h4⟩ := idx_eqs t
  refine congrArg (aP m c) (funext fun a => Fin.ext ?_)
  match a with
  | ⟨0, _⟩ => show win0_0.index t 0 * 4 + 1 * (0 + 1 * 0) = 0; rw [h0]
  | ⟨1, _⟩ => show win0_0.index t 1 * 512 + 1 * (0 + 1 * q.val) = win0_4.index t 1 * 512 + 1 * q.val; rw [h1]; omega
  | ⟨2, _⟩ => show win0_0.index t 2 * 512 + 1 * (0 + 1 * r.val) = win0_4.index t 2 * 512 + 1 * r.val; rw [h2, h4]; omega
theorem ld_1 (c : Dev nD) (t : Fin cfg0.N) (q : Fin 512) (r : Fin 512) : View.ld (iblk m c 0 t) r0_1 (ix3 0 q r)
    = aP m c (ix3 1 (place t (ix3 0 q r) 1) (place t (ix3 0 q r) 2)) := by
  obtain ⟨⟨h0, h1, h2⟩, h3, h4⟩ := idx_eqs t
  refine congrArg (aP m c) (funext fun a => Fin.ext ?_)
  match a with
  | ⟨0, _⟩ => show win0_0.index t 0 * 4 + 1 * (1 + 1 * 0) = 1; rw [h0]
  | ⟨1, _⟩ => show win0_0.index t 1 * 512 + 1 * (0 + 1 * q.val) = win0_4.index t 1 * 512 + 1 * q.val; rw [h1]; omega
  | ⟨2, _⟩ => show win0_0.index t 2 * 512 + 1 * (0 + 1 * r.val) = win0_4.index t 2 * 512 + 1 * r.val; rw [h2, h4]; omega
theorem ld_2 (c : Dev nD) (t : Fin cfg0.N) (q : Fin 512) (r : Fin 512) : View.ld (iblk m c 0 t) r0_2 (ix3 0 q r)
    = aP m c (ix3 2 (place t (ix3 0 q r) 1) (place t (ix3 0 q r) 2)) := by
  obtain ⟨⟨h0, h1, h2⟩, h3, h4⟩ := idx_eqs t
  refine congrArg (aP m c) (funext fun a => Fin.ext ?_)
  match a with
  | ⟨0, _⟩ => show win0_0.index t 0 * 4 + 1 * (2 + 1 * 0) = 2; rw [h0]
  | ⟨1, _⟩ => show win0_0.index t 1 * 512 + 1 * (0 + 1 * q.val) = win0_4.index t 1 * 512 + 1 * q.val; rw [h1]; omega
  | ⟨2, _⟩ => show win0_0.index t 2 * 512 + 1 * (0 + 1 * r.val) = win0_4.index t 2 * 512 + 1 * r.val; rw [h2, h4]; omega
theorem ld_3 (c : Dev nD) (t : Fin cfg0.N) (q : Fin 512) (r : Fin 512) : View.ld (iblk m c 0 t) r0_3 (ix3 0 q r)
    = aP m c (ix3 3 (place t (ix3 0 q r) 1) (place t (ix3 0 q r) 2)) := by
  obtain ⟨⟨h0, h1, h2⟩, h3, h4⟩ := idx_eqs t
  refine congrArg (aP m c) (funext fun a => Fin.ext ?_)
  match a with
  | ⟨0, _⟩ => show win0_0.index t 0 * 4 + 1 * (3 + 1 * 0) = 3; rw [h0]
  | ⟨1, _⟩ => show win0_0.index t 1 * 512 + 1 * (0 + 1 * q.val) = win0_4.index t 1 * 512 + 1 * q.val; rw [h1]; omega
  | ⟨2, _⟩ => show win0_0.index t 2 * 512 + 1 * (0 + 1 * r.val) = win0_4.index t 2 * 512 + 1 * r.val; rw [h2, h4]; omega

/-- The sum of the four shares is the gradient. -/
theorem grad_eq (p : FVec Ideal S4x2048x512 .bf16) (i : S1x2048x512.Idx) :
    grad p i = p (ix3 0 (i 1) (i 2)) + p (ix3 1 (i 1) (i 2)) + p (ix3 2 (i 1) (i 2)) + p (ix3 3 (i 1) (i 2)) :=
  Fin.sum_univ_four _

/-- Point `t` writes back its block of each result. -/
theorem flushed_g (c : Dev nD) (t : Fin cfg0.N) :
    (dats m 0 c).flushed 4 t = ((cfg0.win 4).blk t).view.read (Elt Ideal) (grad (aP m c)) := by
  rw [Value.flushed4]
  unfold out0_4
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ _ _ _ q r).trans ?_
  rw [ld_0, ld_1, ld_2, ld_3]
  exact (grad_eq _ _).symm
theorem flushed_d (c : Dev nD) (t : Fin cfg0.N) :
    (dats m 0 c).flushed 5 t = ((cfg0.win 5).blk t).view.read (Elt Ideal) (outD (aP m c) (aW m c) (aM m c) (aV m c)) := by
  rw [Value.flushed5]
  unfold out0_5 k0_pay8 k0_pay9
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ _ _ _ q r).trans ?_
  rw [ld_0, ld_1, ld_2, ld_3, ld_w, ld_m, ld_v]
  exact congrArg (fun s : EReal => AdamW.delta _ (AdamW.newM s _) (AdamW.newV s _)) (grad_eq _ _).symm
theorem flushed_m (c : Dev nD) (t : Fin cfg0.N) :
    (dats m 0 c).flushed 6 t = ((cfg0.win 6).blk t).view.read (Elt Ideal) (outM (aP m c) (aM m c)) := by
  rw [Value.flushed6]
  unfold out0_6 k0_pay8
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ _ _ _ q r).trans ?_
  rw [ld_0, ld_1, ld_2, ld_3, ld_m]
  exact congrArg (fun s : EReal => AdamW.newM s _) (grad_eq _ _).symm
theorem flushed_v (c : Dev nD) (t : Fin cfg0.N) :
    (dats m 0 c).flushed 7 t = ((cfg0.win 7).blk t).view.read (Elt Ideal) (outV (aP m c) (aV m c)) := by
  rw [Value.flushed7]
  unfold out0_7 k0_pay9
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ _ _ _ q r).trans ?_
  rw [ld_0, ld_1, ld_2, ld_3, ld_v]
  exact congrArg (fun s : EReal => AdamW.newV s _) (grad_eq _ _).symm

/-- The blocks tile the result. -/
theorem onto : ∀ a : Fin 4, ∃ t : Fin cfg0.N, (cfg0.win 4).flush t = true ∧ win0_4.index t 1 = a.val :=
  (by decide +kernel : ∀ a : Fin 4, ∃ t : Fin grid0.N, win0_4.flush t = true ∧ win0_4.index t 1 = a.val)
theorem cover (i : S1x2048x512.Idx) : ∃ t : Fin cfg0.N, (cfg0.win 4).flush t = true ∧ i ∈ ((cfg0.win 4).blk t).view.set := by
  have hi0 : (i 0).val < 1 := (i 0).isLt
  have hi1 : (i 1).val < 2048 := (i 1).isLt
  have hi2 : (i 2).val < 512 := (i 2).isLt
  obtain ⟨t, hf, h1⟩ := onto ⟨(i 1).val / 512, by omega⟩
  obtain ⟨-, h0, h2⟩ := idx_eqs t
  refine ⟨t, hf, ?_⟩
  show i ∈ ((View.whole main_v0_0).slice (win0_4.rect t)).set
  rw [View.set_slice_whole, Rect.mem_set_unit]
  dsimp only at h1
  intro a
  match a with
  | ⟨0, _⟩ => show win0_4.index t 0 * 1 ≤ (i 0).val ∧ (i 0).val < win0_4.index t 0 * 1 + 1; omega
  | ⟨1, _⟩ => show win0_4.index t 1 * 512 ≤ (i 1).val ∧ (i 1).val < win0_4.index t 1 * 512 + 512; omega
  | ⟨2, _⟩ => show win0_4.index t 2 * 512 ≤ (i 2).val ∧ (i 2).val < win0_4.index t 2 * 512 + 512; omega

/-- The claim: the kernel and the plain lines end with the same four arrays. -/
theorem algebraic : Cert.algebraic_Kernel19Ideal_Reference19Ideal (hKernel19Ideal := Cert.Kernel19Ideal.Gen.facts) (hReference19Ideal := Cert.Reference19Ideal.Gen.facts) := by
  intro m ρ m' ρ' _ hag
  refine ⟨fun c => grad (aP m c), fun c => outD (aP m c) (aW m c) (aM m c) (aV m c), fun c => outM (aP m c) (aM m c),
    fun c => outV (aP m c) (aV m c),
    (θ_run _ _ _).mono (fun _ h c =>
      ⟨(h c).1.trans ((dats m 0 c).arrAt_eq_of_cover 4 _ (fun t _ => flushed_g m c t) cover),
        (h c).2.1.trans ((dats m 0 c).arrAt_eq_of_cover 5 _ (fun t _ => flushed_d m c t) cover),
        (h c).2.2.1.trans ((dats m 0 c).arrAt_eq_of_cover 6 _ (fun t _ => flushed_m m c t) cover),
        (h c).2.2.2.1.trans ((dats m 0 c).arrAt_eq_of_cover 7 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference19Ideal.Value.run m' ρ')⟩
  all_goals
    simp only [(hag c).1, (hag c).2.1, (hag c).2.2.1, (hag c).2.2.2]
    funext j
    idx_vars j
    simp only [outD, outM, outV, grad, AdamW.delta, AdamW.newM, AdamW.newV]
    pointwise

/-- The named constants stand for the values the statement gives them. -/
theorem preserves : Cert.preserves_Kernel19_Kernel19Ideal :=
  ⟨IdealRules.named_const.statement _ _ _ _ _ rfl, IdealRules.named_const.statement _ _ _ _ _ rfl⟩

end Cert.Kernel19Ideal.AdColumns
end
-- ==== Proof.AdSquare.lean ====
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.AdamW
public import Idealize.ShloMosaic.Lib.Pointwise
public import Idealize.ShloMosaic.Lib.StableHlo.ReadAt

@[expose] public section

set_option maxRecDepth 16384

/-! AdamW on a shard of a square projection: the kernel's four results, entry by entry, in the terms of `AdamW`. -/

noncomputable section

namespace Cert.Kernel20Ideal.AdSquare

open Cert.Kernel20Ideal Cert.Kernel20Ideal.Gen Idealize.ShloMosaic Idealize.ShloMosaic.TcCoe Idealize.SL.Sem
open Idealize.ShloMosaic.Tactic

variable (m : (ℓ : Loc nD τ sig) → Buf (Elt Ideal) ℓ)

/-- The arguments: what each of the four chips adds to the gradient, the weight, its two moments. -/
abbrev aP (c : Dev nD) : FVec Ideal S4x256x2048 .bf16 := m ((c : Thread nD τ).loc main_arg0)
abbrev aW (c : Dev nD) : FVec Ideal S1x256x2048 .f32 := m ((c : Thread nD τ).loc main_arg1)
abbrev aM (c : Dev nD) : FVec Ideal S1x256x2048 .f32 := m ((c : Thread nD τ).loc main_arg2)
abbrev aV (c : Dev nD) : FVec Ideal S1x256x2048 .f32 := m ((c : Thread nD τ).loc main_arg3)

/-- The four results as arrays: the gradient, the new moments, the change of the weight. -/
def grad (p : FVec Ideal S4x256x2048 .bf16) : FVec Ideal S1x256x2048 .f32 := fun i => ∑ k : Fin 4, p (ix3 k (i 1) (i 2))
def outM (p : FVec Ideal S4x256x2048 .bf16) (y : FVec Ideal S1x256x2048 .f32) : FVec Ideal S1x256x2048 .f32 := fun i => AdamW.newM (grad p i) (y i)
def outV (p : FVec Ideal S4x256x2048 .bf16) (y : FVec Ideal S1x256x2048 .f32) : FVec Ideal S1x256x2048 .f32 := fun i => AdamW.newV (grad p i) (y i)
def outD (p : FVec Ideal S4x256x2048 .bf16) (yw ym yv : FVec Ideal S1x256x2048 .f32) : FVec Ideal S1x256x2048 .f32 := fun i =>
  AdamW.delta (yw i) (outM p ym i) (outV p yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block. -/
theorem pay_g (x0 x1 x2 x3 : Vec Ideal S1x128x2048 .bf16) (q : Fin 128) (r : Fin 2048) : k0_pay7 x0 x1 x2 x3 (ix3 0 q r) = x0 (ix3 0 q r) + x1 (ix3 0 q r) + x2 (ix3 0 q r) + x3 (ix3 0 q r) := by
  unfold k0_pay7 k0_pay4
  pointwise
theorem pay_m (x0 x1 x2 x3 : Vec Ideal S1x128x2048 .bf16) (y : Vec Ideal S1x128x2048 .f32) (q : Fin 128) (r : Fin 2048) :
    k0_pay1 (k0_pay5 x0 x1 x2 x3 y) (ix3 0 q r) = AdamW.newM (x0 (ix3 0 q r) + x1 (ix3 0 q r) + x2 (ix3 0 q r) + x3 (ix3 0 q r)) (y (ix3 0 q r)) := by
  unfold k0_pay1 k0_pay5 k0_pay4 AdamW.newM
  pointwise
theorem pay_v (x0 x1 x2 x3 : Vec Ideal S1x128x2048 .bf16) (y : Vec Ideal S1x128x2048 .f32) (q : Fin 128) (r : Fin 2048) :
    k0_pay2 (k0_pay6 x0 x1 x2 x3 y) (ix3 0 q r) = AdamW.newV (x0 (ix3 0 q r) + x1 (ix3 0 q r) + x2 (ix3 0 q r) + x3 (ix3 0 q r)) (y (ix3 0 q r)) := by
  unfold k0_pay2 k0_pay6 k0_pay4 AdamW.newV
  pointwise
theorem pay_d (x0 x1 x2 x3 : Vec Ideal S1x128x2048 .bf16) (yw ym yv : Vec Ideal S1x128x2048 .f32) (q : Fin 128) (r : Fin 2048) :
    k0_pay3 (k0_pay5 x0 x1 x2 x3 ym) (k0_pay6 x0 x1 x2 x3 yv) yw (ix3 0 q r) = AdamW.delta (yw (ix3 0 q r))
      (AdamW.newM (x0 (ix3 0 q r) + x1 (ix3 0 q r) + x2 (ix3 0 q r) + x3 (ix3 0 q r)) (ym (ix3 0 q r))) (AdamW.newV (x0 (ix3 0 q r) + x1 (ix3 0 q r) + x2 (ix3 0 q r) + x3 (ix3 0 q r)) (yv (ix3 0 q r))) := by
  rw [← AdamW.delta_eq]
  unfold k0_pay3 k0_pay5 k0_pay6 k0_pay4 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x128x2048.Idx) : S1x256x2048.Idx := ((cfg0.win 4).blk t).view.emb y

/-- The blocks the windows visit at point `t`. -/
theorem idx_eqs : ∀ t : Fin cfg0.N, (win0_0.index t 0 = 0 ∧ win0_0.index t 1 = win0_4.index t 1 ∧ win0_0.index t 2 = 0)
    ∧ win0_4.index t 0 = 0 ∧ win0_4.index t 2 = 0 :=
  (by decide +kernel : ∀ t : Fin grid0.N, _)

/-- What is loaded from the blocks of the weight and of its moments. -/
theorem ld_w (c : Dev nD) (t : Fin cfg0.N) (y : S1x128x2048.Idx) : View.ld (iblk m c 1 t) r0_4 y = aW m c (place t y) :=
  (congrFun (View.ld_unit_zero (S := S1x128x2048) hz _ _) y).trans rfl
theorem ld_m (c : Dev nD) (t : Fin cfg0.N) (y : S1x128x2048.Idx) : View.ld (iblk m c 2 t) r0_4 y = aM m c (place t y) :=
  (congrFun (View.ld_unit_zero (S := S1x128x2048) hz _ _) y).trans rfl
theorem ld_v (c : Dev nD) (t : Fin cfg0.N) (y : S1x128x2048.Idx) : View.ld (iblk m c 3 t) r0_4 y = aV m c (place t y) :=
  (congrFun (View.ld_unit_zero (S := S1x128x2048) hz _ _) y).trans rfl

/-- What is loaded from the four chips' shares. -/
theorem ld_0 (c : Dev nD) (t : Fin cfg0.N) (q : Fin 128) (r : Fin 2048) : View.ld (iblk m c 0 t) r0_0 (ix3 0 q r)
    = aP m c (ix3 0 (place t (ix3 0 q r) 1) (place t (ix3 0 q r) 2)) := by
  obtain ⟨⟨h0, h1, h2⟩, h3, h4⟩ := idx_eqs t
  refine congrArg (aP m c) (funext fun a => Fin.ext ?_)
  match a with
  | ⟨0, _⟩ => show win0_0.index t 0 * 4 + 1 * (0 + 1 * 0) = 0; rw [h0]
  | ⟨1, _⟩ => show win0_0.index t 1 * 128 + 1 * (0 + 1 * q.val) = win0_4.index t 1 * 128 + 1 * q.val; rw [h1]; omega
  | ⟨2, _⟩ => show win0_0.index t 2 * 2048 + 1 * (0 + 1 * r.val) = win0_4.index t 2 * 2048 + 1 * r.val; rw [h2, h4]; omega
theorem ld_1 (c : Dev nD) (t : Fin cfg0.N) (q : Fin 128) (r : Fin 2048) : View.ld (iblk m c 0 t) r0_1 (ix3 0 q r)
    = aP m c (ix3 1 (place t (ix3 0 q r) 1) (place t (ix3 0 q r) 2)) := by
  obtain ⟨⟨h0, h1, h2⟩, h3, h4⟩ := idx_eqs t
  refine congrArg (aP m c) (funext fun a => Fin.ext ?_)
  match a with
  | ⟨0, _⟩ => show win0_0.index t 0 * 4 + 1 * (1 + 1 * 0) = 1; rw [h0]
  | ⟨1, _⟩ => show win0_0.index t 1 * 128 + 1 * (0 + 1 * q.val) = win0_4.index t 1 * 128 + 1 * q.val; rw [h1]; omega
  | ⟨2, _⟩ => show win0_0.index t 2 * 2048 + 1 * (0 + 1 * r.val) = win0_4.index t 2 * 2048 + 1 * r.val; rw [h2, h4]; omega
theorem ld_2 (c : Dev nD) (t : Fin cfg0.N) (q : Fin 128) (r : Fin 2048) : View.ld (iblk m c 0 t) r0_2 (ix3 0 q r)
    = aP m c (ix3 2 (place t (ix3 0 q r) 1) (place t (ix3 0 q r) 2)) := by
  obtain ⟨⟨h0, h1, h2⟩, h3, h4⟩ := idx_eqs t
  refine congrArg (aP m c) (funext fun a => Fin.ext ?_)
  match a with
  | ⟨0, _⟩ => show win0_0.index t 0 * 4 + 1 * (2 + 1 * 0) = 2; rw [h0]
  | ⟨1, _⟩ => show win0_0.index t 1 * 128 + 1 * (0 + 1 * q.val) = win0_4.index t 1 * 128 + 1 * q.val; rw [h1]; omega
  | ⟨2, _⟩ => show win0_0.index t 2 * 2048 + 1 * (0 + 1 * r.val) = win0_4.index t 2 * 2048 + 1 * r.val; rw [h2, h4]; omega
theorem ld_3 (c : Dev nD) (t : Fin cfg0.N) (q : Fin 128) (r : Fin 2048) : View.ld (iblk m c 0 t) r0_3 (ix3 0 q r)
    = aP m c (ix3 3 (place t (ix3 0 q r) 1) (place t (ix3 0 q r) 2)) := by
  obtain ⟨⟨h0, h1, h2⟩, h3, h4⟩ := idx_eqs t
  refine congrArg (aP m c) (funext fun a => Fin.ext ?_)
  match a with
  | ⟨0, _⟩ => show win0_0.index t 0 * 4 + 1 * (3 + 1 * 0) = 3; rw [h0]
  | ⟨1, _⟩ => show win0_0.index t 1 * 128 + 1 * (0 + 1 * q.val) = win0_4.index t 1 * 128 + 1 * q.val; rw [h1]; omega
  | ⟨2, _⟩ => show win0_0.index t 2 * 2048 + 1 * (0 + 1 * r.val) = win0_4.index t 2 * 2048 + 1 * r.val; rw [h2, h4]; omega

/-- The sum of the four shares is the gradient. -/
theorem grad_eq (p : FVec Ideal S4x256x2048 .bf16) (i : S1x256x2048.Idx) :
    grad p i = p (ix3 0 (i 1) (i 2)) + p (ix3 1 (i 1) (i 2)) + p (ix3 2 (i 1) (i 2)) + p (ix3 3 (i 1) (i 2)) :=
  Fin.sum_univ_four _

/-- Point `t` writes back its block of each result. -/
theorem flushed_g (c : Dev nD) (t : Fin cfg0.N) :
    (dats m 0 c).flushed 4 t = ((cfg0.win 4).blk t).view.read (Elt Ideal) (grad (aP m c)) := by
  rw [Value.flushed4]
  unfold out0_4
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ _ _ _ q r).trans ?_
  rw [ld_0, ld_1, ld_2, ld_3]
  exact (grad_eq _ _).symm
theorem flushed_d (c : Dev nD) (t : Fin cfg0.N) :
    (dats m 0 c).flushed 5 t = ((cfg0.win 5).blk t).view.read (Elt Ideal) (outD (aP m c) (aW m c) (aM m c) (aV m c)) := by
  rw [Value.flushed5]
  unfold out0_5 k0_pay8 k0_pay9
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ _ _ _ q r).trans ?_
  rw [ld_0, ld_1, ld_2, ld_3, ld_w, ld_m, ld_v]
  exact congrArg (fun s : EReal => AdamW.delta _ (AdamW.newM s _) (AdamW.newV s _)) (grad_eq _ _).symm
theorem flushed_m (c : Dev nD) (t : Fin cfg0.N) :
    (dats m 0 c).flushed 6 t = ((cfg0.win 6).blk t).view.read (Elt Ideal) (outM (aP m c) (aM m c)) := by
  rw [Value.flushed6]
  unfold out0_6 k0_pay8
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ _ _ _ q r).trans ?_
  rw [ld_0, ld_1, ld_2, ld_3, ld_m]
  exact congrArg (fun s : EReal => AdamW.newM s _) (grad_eq _ _).symm
theorem flushed_v (c : Dev nD) (t : Fin cfg0.N) :
    (dats m 0 c).flushed 7 t = ((cfg0.win 7).blk t).view.read (Elt Ideal) (outV (aP m c) (aV m c)) := by
  rw [Value.flushed7]
  unfold out0_7 k0_pay9
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ _ _ _ q r).trans ?_
  rw [ld_0, ld_1, ld_2, ld_3, ld_v]
  exact congrArg (fun s : EReal => AdamW.newV s _) (grad_eq _ _).symm

/-- The blocks tile the result. -/
theorem onto : ∀ a : Fin 2, ∃ t : Fin cfg0.N, (cfg0.win 4).flush t = true ∧ win0_4.index t 1 = a.val :=
  (by decide +kernel : ∀ a : Fin 2, ∃ t : Fin grid0.N, win0_4.flush t = true ∧ win0_4.index t 1 = a.val)
theorem cover (i : S1x256x2048.Idx) : ∃ t : Fin cfg0.N, (cfg0.win 4).flush t = true ∧ i ∈ ((cfg0.win 4).blk t).view.set := by
  have hi0 : (i 0).val < 1 := (i 0).isLt
  have hi1 : (i 1).val < 256 := (i 1).isLt
  have hi2 : (i 2).val < 2048 := (i 2).isLt
  obtain ⟨t, hf, h1⟩ := onto ⟨(i 1).val / 128, by omega⟩
  obtain ⟨-, h0, h2⟩ := idx_eqs t
  refine ⟨t, hf, ?_⟩
  show i ∈ ((View.whole main_v0_0).slice (win0_4.rect t)).set
  rw [View.set_slice_whole, Rect.mem_set_unit]
  dsimp only at h1
  intro a
  match a with
  | ⟨0, _⟩ => show win0_4.index t 0 * 1 ≤ (i 0).val ∧ (i 0).val < win0_4.index t 0 * 1 + 1; omega
  | ⟨1, _⟩ => show win0_4.index t 1 * 128 ≤ (i 1).val ∧ (i 1).val < win0_4.index t 1 * 128 + 128; omega
  | ⟨2, _⟩ => show win0_4.index t 2 * 2048 ≤ (i 2).val ∧ (i 2).val < win0_4.index t 2 * 2048 + 2048; omega

/-- The claim: the kernel and the plain lines end with the same four arrays. -/
theorem algebraic : Cert.algebraic_Kernel20Ideal_Reference20Ideal (hKernel20Ideal := Cert.Kernel20Ideal.Gen.facts) (hReference20Ideal := Cert.Reference20Ideal.Gen.facts) := by
  intro m ρ m' ρ' _ hag
  refine ⟨fun c => grad (aP m c), fun c => outD (aP m c) (aW m c) (aM m c) (aV m c), fun c => outM (aP m c) (aM m c),
    fun c => outV (aP m c) (aV m c),
    (θ_run _ _ _).mono (fun _ h c =>
      ⟨(h c).1.trans ((dats m 0 c).arrAt_eq_of_cover 4 _ (fun t _ => flushed_g m c t) cover),
        (h c).2.1.trans ((dats m 0 c).arrAt_eq_of_cover 5 _ (fun t _ => flushed_d m c t) cover),
        (h c).2.2.1.trans ((dats m 0 c).arrAt_eq_of_cover 6 _ (fun t _ => flushed_m m c t) cover),
        (h c).2.2.2.1.trans ((dats m 0 c).arrAt_eq_of_cover 7 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference20Ideal.Value.run m' ρ')⟩
  all_goals
    simp only [(hag c).1, (hag c).2.1, (hag c).2.2.1, (hag c).2.2.2]
    funext j
    idx_vars j
    simp only [outD, outM, outV, grad, AdamW.delta, AdamW.newM, AdamW.newV]
    pointwise

/-- The named constants stand for the values the statement gives them. -/
theorem preserves : Cert.preserves_Kernel20_Kernel20Ideal :=
  ⟨IdealRules.named_const.statement _ _ _ _ _ rfl, IdealRules.named_const.statement _ _ _ _ _ rfl⟩

end Cert.Kernel20Ideal.AdSquare
end
-- ==== Proof.AdMlpUp.lean ====
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.AdamW
public import Idealize.ShloMosaic.Lib.Pointwise
public import Idealize.ShloMosaic.Lib.StableHlo.ReadAt

@[expose] public section

set_option maxRecDepth 16384

/-! AdamW on a shard of the first weight of the MLP, whose two layers take their gradients from two arrays: the kernel's four results, entry by
    entry, in the terms of `AdamW`. -/

noncomputable section

namespace Cert.Kernel21Ideal.AdMlpUp

open Cert.Kernel21Ideal Cert.Kernel21Ideal.Gen Idealize.ShloMosaic Idealize.ShloMosaic.TcCoe Idealize.SL.Sem
open Idealize.ShloMosaic.Tactic

variable (m : (ℓ : Loc nD τ sig) → Buf (Elt Ideal) ℓ)

/-- The arguments: what each of the four chips adds to the gradient of layer 0 and of layer 1, the weight, its two moments. -/
abbrev aP (c : Dev nD) : FVec Ideal S4x2048x1024 .bf16 := m ((c : Thread nD τ).loc main_arg0)
abbrev aQ (c : Dev nD) : FVec Ideal S4x2048x1024 .bf16 := m ((c : Thread nD τ).loc main_arg1)
abbrev aW (c : Dev nD) : FVec Ideal S2x2048x1024 .f32 := m ((c : Thread nD τ).loc main_arg2)
abbrev aM (c : Dev nD) : FVec Ideal S2x2048x1024 .f32 := m ((c : Thread nD τ).loc main_arg3)
abbrev aV (c : Dev nD) : FVec Ideal S2x2048x1024 .f32 := m ((c : Thread nD τ).loc main_arg4)

/-- The sum of the four shares at a place of one layer. -/
def total (p : FVec Ideal S4x2048x1024 .bf16) (b : Fin 2048) (d : Fin 1024) : EReal := ∑ k : Fin 4, p (ix3 k b d)
theorem total_eq (p : FVec Ideal S4x2048x1024 .bf16) (b : Fin 2048) (d : Fin 1024) :
    total p b d = p (ix3 0 b d) + p (ix3 1 b d) + p (ix3 2 b d) + p (ix3 3 b d) := Fin.sum_univ_four _

/-- The four results as arrays: the gradient, the new moments, the change of the weight. -/
def grad (p p' : FVec Ideal S4x2048x1024 .bf16) : FVec Ideal S2x2048x1024 .f32 := fun i =>
  if (i 0).val = 1 then total p' (i 1) (i 2) else total p (i 1) (i 2)
def outM (p p' : FVec Ideal S4x2048x1024 .bf16) (y : FVec Ideal S2x2048x1024 .f32) : FVec Ideal S2x2048x1024 .f32 := fun i => AdamW.newM (grad p p' i) (y i)
def outV (p p' : FVec Ideal S4x2048x1024 .bf16) (y : FVec Ideal S2x2048x1024 .f32) : FVec Ideal S2x2048x1024 .f32 := fun i => AdamW.newV (grad p p' i) (y i)
def outD (p p' : FVec Ideal S4x2048x1024 .bf16) (yw ym yv : FVec Ideal S2x2048x1024 .f32) : FVec Ideal S2x2048x1024 .f32 := fun i =>
  AdamW.delta (yw i) (outM p p' ym i) (outV p p' yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block: the gradient is the second array's in layer 1, the first one's in layer 0. -/
theorem pay_1 (i : grid0.Coords) (hi : (i 0).val = 1) (x0 x1 x2 x3 z0 z1 z2 z3 : Vec Ideal S1x256x1024 .bf16) (q : Fin 256) (r : Fin 1024) :
    k0_pay2 i x0 x1 x2 x3 z0 z1 z2 z3 (ix2 q r) = z0 (ix3 0 q r) + z1 (ix3 0 q r) + z2 (ix3 0 q r) + z3 (ix3 0 q r) := by
  unfold k0_pay2
  rw [hi]
  rw [show Scalar.cmpi .eq (BitVec.ofNat 32 1) 1#32 = 1#1 from by decide, AdamW.select_one]
  pointwise
theorem pay_0 (i : grid0.Coords) (hi : (i 0).val = 0) (x0 x1 x2 x3 z0 z1 z2 z3 : Vec Ideal S1x256x1024 .bf16) (q : Fin 256) (r : Fin 1024) :
    k0_pay2 i x0 x1 x2 x3 z0 z1 z2 z3 (ix2 q r) = x0 (ix3 0 q r) + x1 (ix3 0 q r) + x2 (ix3 0 q r) + x3 (ix3 0 q r) := by
  unfold k0_pay2
  rw [hi]
  rw [show Scalar.cmpi .eq (BitVec.ofNat 32 0) 1#32 = 0#1 from by decide, AdamW.select_zero]
  pointwise
theorem pay_g (g : FVec Ideal S256x1024 .f32) (q : Fin 256) (r : Fin 1024) : k0_pay5 g (ix3 0 q r) = g (ix2 q r) := by
  unfold k0_pay5
  pointwise
theorem pay_m (g : FVec Ideal S256x1024 .f32) (y : Vec Ideal S1x256x1024 .f32) (q : Fin 256) (r : Fin 1024) :
    k0_pay6 g y (ix3 0 q r) = AdamW.newM (g (ix2 q r)) (y (ix3 0 q r)) := by
  unfold k0_pay6 k0_pay3 AdamW.newM
  pointwise
theorem pay_v (g : FVec Ideal S256x1024 .f32) (y : Vec Ideal S1x256x1024 .f32) (q : Fin 256) (r : Fin 1024) :
    k0_pay7 g y (ix3 0 q r) = AdamW.newV (g (ix2 q r)) (y (ix3 0 q r)) := by
  unfold k0_pay7 k0_pay4 AdamW.newV
  pointwise
theorem pay_d (g : FVec Ideal S256x1024 .f32) (yw ym yv : Vec Ideal S1x256x1024 .f32) (q : Fin 256) (r : Fin 1024) :
    k0_pay1 (k0_pay8 g ym yv) yw (ix3 0 q r) = AdamW.delta (yw (ix3 0 q r))
      (AdamW.newM (g (ix2 q r)) (ym (ix3 0 q r))) (AdamW.newV (g (ix2 q r)) (yv (ix3 0 q r))) := by
  rw [← AdamW.delta_eq]
  unfold k0_pay1 k0_pay8 k0_pay3 k0_pay4 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x256x1024.Idx) : S2x2048x1024.Idx := ((cfg0.win 5).blk t).view.emb y

/-- The blocks the windows visit at point `t`: the layer is the point's first coordinate. -/
theorem idx_eqs : ∀ t : Fin cfg0.N, (win0_0.index t 0 = 0 ∧ win0_0.index t 2 = 0 ∧ win0_1.index t 0 = 0 ∧ win0_1.index t 2 = 0)
    ∧ win0_5.index t 2 = 0 ∧ win0_5.index t 0 = (grid0.coords t 0).val
    ∧ ((grid0.coords t 0).val = 1 ∧ win0_1.index t 1 = win0_5.index t 1
      ∨ (grid0.coords t 0).val = 0 ∧ win0_0.index t 1 = win0_5.index t 1) :=
  (by decide +kernel : ∀ t : Fin grid0.N, _)

/-- What is loaded from the blocks of the weight and of its moments. -/
theorem ld_w (c : Dev nD) (t : Fin cfg0.N) (y : S1x256x1024.Idx) : View.ld (iblk m c 2 t) r0_4 y = aW m c (place t y) :=
  (congrFun (View.ld_unit_zero (S := S1x256x1024) hz _ _) y).trans rfl
theorem ld_m (c : Dev nD) (t : Fin cfg0.N) (y : S1x256x1024.Idx) : View.ld (iblk m c 3 t) r0_4 y = aM m c (place t y) :=
  (congrFun (View.ld_unit_zero (S := S1x256x1024) hz _ _) y).trans rfl
theorem ld_v (c : Dev nD) (t : Fin cfg0.N) (y : S1x256x1024.Idx) : View.ld (iblk m c 4 t) r0_4 y = aV m c (place t y) :=
  (congrFun (View.ld_unit_zero (S := S1x256x1024) hz _ _) y).trans rfl

/-- What is loaded from the four chips' shares, at a point of the layer they belong to. -/
theorem ld_00 (c : Dev nD) (t : Fin cfg0.N) (h : win0_0.index t 1 = win0_5.index t 1) (q : Fin 256) (r : Fin 1024) :
    View.ld (iblk m c 0 t) r0_0 (ix3 0 q r) = aP m c (ix3 0 (place t (ix3 0 q r) 1) (place t (ix3 0 q r) 2)) := by
  obtain ⟨⟨a0, a2, b0, b2⟩, h2, -, -⟩ := idx_eqs t
  refine congrArg (aP m c) (funext fun a => Fin.ext ?_)
  match a with
  | ⟨0, _⟩ => show win0_0.index t 0 * 4 + 1 * (0 + 1 * 0) = 0; omega
  | ⟨1, _⟩ => show win0_0.index t 1 * 256 + 1 * (0 + 1 * q.val) = win0_5.index t 1 * 256 + 1 * q.val; omega
  | ⟨2, _⟩ => show win0_0.index t 2 * 1024 + 1 * (0 + 1 * r.val) = win0_5.index t 2 * 1024 + 1 * r.val; omega
theorem ld_01 (c : Dev nD) (t : Fin cfg0.N) (h : win0_0.index t 1 = win0_5.index t 1) (q : Fin 256) (r : Fin 1024) :
    View.ld (iblk m c 0 t) r0_1 (ix3 0 q r) = aP m c (ix3 1 (place t (ix3 0 q r) 1) (place t (ix3 0 q r) 2)) := by
  obtain ⟨⟨a0, a2, b0, b2⟩, h2, -, -⟩ := idx_eqs t
  refine congrArg (aP m c) (funext fun a => Fin.ext ?_)
  match a with
  | ⟨0, _⟩ => show win0_0.index t 0 * 4 + 1 * (1 + 1 * 0) = 1; omega
  | ⟨1, _⟩ => show win0_0.index t 1 * 256 + 1 * (0 + 1 * q.val) = win0_5.index t 1 * 256 + 1 * q.val; omega
  | ⟨2, _⟩ => show win0_0.index t 2 * 1024 + 1 * (0 + 1 * r.val) = win0_5.index t 2 * 1024 + 1 * r.val; omega
theorem ld_02 (c : Dev nD) (t : Fin cfg0.N) (h : win0_0.index t 1 = win0_5.index t 1) (q : Fin 256) (r : Fin 1024) :
    View.ld (iblk m c 0 t) r0_2 (ix3 0 q r) = aP m c (ix3 2 (place t (ix3 0 q r) 1) (place t (ix3 0 q r) 2)) := by
  obtain ⟨⟨a0, a2, b0, b2⟩, h2, -, -⟩ := idx_eqs t
  refine congrArg (aP m c) (funext fun a => Fin.ext ?_)
  match a with
  | ⟨0, _⟩ => show win0_0.index t 0 * 4 + 1 * (2 + 1 * 0) = 2; omega
  | ⟨1, _⟩ => show win0_0.index t 1 * 256 + 1 * (0 + 1 * q.val) = win0_5.index t 1 * 256 + 1 * q.val; omega
  | ⟨2, _⟩ => show win0_0.index t 2 * 1024 + 1 * (0 + 1 * r.val) = win0_5.index t 2 * 1024 + 1 * r.val; omega
theorem ld_03 (c : Dev nD) (t : Fin cfg0.N) (h : win0_0.index t 1 = win0_5.index t 1) (q : Fin 256) (r : Fin 1024) :
    View.ld (iblk m c 0 t) r0_3 (ix3 0 q r) = aP m c (ix3 3 (place t (ix3 0 q r) 1) (place t (ix3 0 q r) 2)) := by
  obtain ⟨⟨a0, a2, b0, b2⟩, h2, -, -⟩ := idx_eqs t
  refine congrArg (aP m c) (funext fun a => Fin.ext ?_)
  match a with
  | ⟨0, _⟩ => show win0_0.index t 0 * 4 + 1 * (3 + 1 * 0) = 3; omega
  | ⟨1, _⟩ => show win0_0.index t 1 * 256 + 1 * (0 + 1 * q.val) = win0_5.index t 1 * 256 + 1 * q.val; omega
  | ⟨2, _⟩ => show win0_0.index t 2 * 1024 + 1 * (0 + 1 * r.val) = win0_5.index t 2 * 1024 + 1 * r.val; omega
theorem ld_10 (c : Dev nD) (t : Fin cfg0.N) (h : win0_1.index t 1 = win0_5.index t 1) (q : Fin 256) (r : Fin 1024) :
    View.ld (iblk m c 1 t) r0_0 (ix3 0 q r) = aQ m c (ix3 0 (place t (ix3 0 q r) 1) (place t (ix3 0 q r) 2)) := by
  obtain ⟨⟨a0, a2, b0, b2⟩, h2, -, -⟩ := idx_eqs t
  refine congrArg (aQ m c) (funext fun a => Fin.ext ?_)
  match a with
  | ⟨0, _⟩ => show win0_1.index t 0 * 4 + 1 * (0 + 1 * 0) = 0; omega
  | ⟨1, _⟩ => show win0_1.index t 1 * 256 + 1 * (0 + 1 * q.val) = win0_5.index t 1 * 256 + 1 * q.val; omega
  | ⟨2, _⟩ => show win0_1.index t 2 * 1024 + 1 * (0 + 1 * r.val) = win0_5.index t 2 * 1024 + 1 * r.val; omega
theorem ld_11 (c : Dev nD) (t : Fin cfg0.N) (h : win0_1.index t 1 = win0_5.index t 1) (q : Fin 256) (r : Fin 1024) :
    View.ld (iblk m c 1 t) r0_1 (ix3 0 q r) = aQ m c (ix3 1 (place t (ix3 0 q r) 1) (place t (ix3 0 q r) 2)) := by
  obtain ⟨⟨a0, a2, b0, b2⟩, h2, -, -⟩ := idx_eqs t
  refine congrArg (aQ m c) (funext fun a => Fin.ext ?_)
  match a with
  | ⟨0, _⟩ => show win0_1.index t 0 * 4 + 1 * (1 + 1 * 0) = 1; omega
  | ⟨1, _⟩ => show win0_1.index t 1 * 256 + 1 * (0 + 1 * q.val) = win0_5.index t 1 * 256 + 1 * q.val; omega
  | ⟨2, _⟩ => show win0_1.index t 2 * 1024 + 1 * (0 + 1 * r.val) = win0_5.index t 2 * 1024 + 1 * r.val; omega
theorem ld_12 (c : Dev nD) (t : Fin cfg0.N) (h : win0_1.index t 1 = win0_5.index t 1) (q : Fin 256) (r : Fin 1024) :
    View.ld (iblk m c 1 t) r0_2 (ix3 0 q r) = aQ m c (ix3 2 (place t (ix3 0 q r) 1) (place t (ix3 0 q r) 2)) := by
  obtain ⟨⟨a0, a2, b0, b2⟩, h2, -, -⟩ := idx_eqs t
  refine congrArg (aQ m c) (funext fun a => Fin.ext ?_)
  match a with
  | ⟨0, _⟩ => show win0_1.index t 0 * 4 + 1 * (2 + 1 * 0) = 2; omega
  | ⟨1, _⟩ => show win0_1.index t 1 * 256 + 1 * (0 + 1 * q.val) = win0_5.index t 1 * 256 + 1 * q.val; omega
  | ⟨2, _⟩ => show win0_1.index t 2 * 1024 + 1 * (0 + 1 * r.val) = win0_5.index t 2 * 1024 + 1 * r.val; omega
theorem ld_13 (c : Dev nD) (t : Fin cfg0.N) (h : win0_1.index t 1 = win0_5.index t 1) (q : Fin 256) (r : Fin 1024) :
    View.ld (iblk m c 1 t) r0_3 (ix3 0 q r) = aQ m c (ix3 3 (place t (ix3 0 q r) 1) (place t (ix3 0 q r) 2)) := by
  obtain ⟨⟨a0, a2, b0, b2⟩, h2, -, -⟩ := idx_eqs t
  refine congrArg (aQ m c) (funext fun a => Fin.ext ?_)
  match a with
  | ⟨0, _⟩ => show win0_1.index t 0 * 4 + 1 * (3 + 1 * 0) = 3; omega
  | ⟨1, _⟩ => show win0_1.index t 1 * 256 + 1 * (0 + 1 * q.val) = win0_5.index t 1 * 256 + 1 * q.val; omega
  | ⟨2, _⟩ => show win0_1.index t 2 * 1024 + 1 * (0 + 1 * r.val) = win0_5.index t 2 * 1024 + 1 * r.val; omega

/-- The gradient that point `t` finds. -/
theorem g_at (c : Dev nD) (t : Fin cfg0.N) (q : Fin 256) (r : Fin 1024) :
    k0_pay9 (grid0.coords t) (iblk m c 0 t) (iblk m c 1 t) (iblk m c 2 t) (iblk m c 3 t) (iblk m c 4 t) (ix2 q r)
      = grad (aP m c) (aQ m c) (place t (ix3 0 q r)) := by
  unfold k0_pay9
  obtain ⟨-, -, h0, h⟩ := idx_eqs t
  have hp : (place t (ix3 0 q r) 0).val = (grid0.coords t 0).val :=
    (show win0_5.index t 0 * 1 + 1 * 0 = (grid0.coords t 0).val by omega)
  rcases h with ⟨hc, h⟩ | ⟨hc, h⟩
  · refine (pay_1 _ hc _ _ _ _ _ _ _ _ q r).trans ?_
    rw [ld_10 m c t h, ld_11 m c t h, ld_12 m c t h, ld_13 m c t h]
    exact (total_eq _ _ _).symm.trans (if_pos (hp.trans hc)).symm
  · refine (pay_0 _ hc _ _ _ _ _ _ _ _ q r).trans ?_
    rw [ld_00 m c t h, ld_01 m c t h, ld_02 m c t h, ld_03 m c t h]
    exact (total_eq _ _ _).symm.trans (if_neg (by rw [hp, hc]; decide)).symm

/-- Point `t` writes back its block of each result. -/
theorem flushed_g (c : Dev nD) (t : Fin cfg0.N) :
    (dats m 0 c).flushed 5 t = ((cfg0.win 5).blk t).view.read (Elt Ideal) (grad (aP m c) (aQ m c)) := by
  rw [Value.flushed5]
  unfold out0_5
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ q r).trans ?_
  rw [g_at]
  rfl
theorem flushed_d (c : Dev nD) (t : Fin cfg0.N) :
    (dats m 0 c).flushed 6 t = ((cfg0.win 6).blk t).view.read (Elt Ideal) (outD (aP m c) (aQ m c) (aW m c) (aM m c) (aV m c)) := by
  rw [Value.flushed6]
  unfold out0_6
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ q r).trans ?_
  rw [g_at, ld_w, ld_m, ld_v]
  rfl
theorem flushed_m (c : Dev nD) (t : Fin cfg0.N) :
    (dats m 0 c).flushed 7 t = ((cfg0.win 7).blk t).view.read (Elt Ideal) (outM (aP m c) (aQ m c) (aM m c)) := by
  rw [Value.flushed7]
  unfold out0_7
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ q r).trans ?_
  rw [g_at, ld_m]
  rfl
theorem flushed_v (c : Dev nD) (t : Fin cfg0.N) :
    (dats m 0 c).flushed 8 t = ((cfg0.win 8).blk t).view.read (Elt Ideal) (outV (aP m c) (aQ m c) (aV m c)) := by
  rw [Value.flushed8]
  unfold out0_8
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ q r).trans ?_
  rw [g_at, ld_v]
  rfl

/-- The blocks tile the result. -/
theorem onto : ∀ (l : Fin 2) (a : Fin 8), ∃ t : Fin cfg0.N, (cfg0.win 5).flush t = true ∧ win0_5.index t 0 = l.val ∧ win0_5.index t 1 = a.val :=
  (by decide +kernel : ∀ (l : Fin 2) (a : Fin 8), ∃ t : Fin grid0.N, win0_5.flush t = true ∧ win0_5.index t 0 = l.val ∧ win0_5.index t 1 = a.val)
theorem cover (i : S2x2048x1024.Idx) : ∃ t : Fin cfg0.N, (cfg0.win 5).flush t = true ∧ i ∈ ((cfg0.win 5).blk t).view.set := by
  have hi0 : (i 0).val < 2 := (i 0).isLt
  have hi1 : (i 1).val < 2048 := (i 1).isLt
  have hi2 : (i 2).val < 1024 := (i 2).isLt
  obtain ⟨t, hf, h0, h1⟩ := onto ⟨(i 0).val, hi0⟩ ⟨(i 1).val / 256, by omega⟩
  obtain ⟨-, h2, -⟩ := idx_eqs t
  refine ⟨t, hf, ?_⟩
  show i ∈ ((View.whole main_v0_0).slice (win0_5.rect t)).set
  rw [View.set_slice_whole, Rect.mem_set_unit]
  dsimp only at h0 h1
  intro a
  match a with
  | ⟨0, _⟩ => show win0_5.index t 0 * 1 ≤ (i 0).val ∧ (i 0).val < win0_5.index t 0 * 1 + 1; omega
  | ⟨1, _⟩ => show win0_5.index t 1 * 256 ≤ (i 1).val ∧ (i 1).val < win0_5.index t 1 * 256 + 256; omega
  | ⟨2, _⟩ => show win0_5.index t 2 * 1024 ≤ (i 2).val ∧ (i 2).val < win0_5.index t 2 * 1024 + 1024; omega

/-- The claim: the kernel and the plain lines end with the same four arrays. -/
theorem algebraic : Cert.algebraic_Kernel21Ideal_Reference21Ideal (hKernel21Ideal := Cert.Kernel21Ideal.Gen.facts) (hReference21Ideal := Cert.Reference21Ideal.Gen.facts) := by
  intro m ρ m' ρ' _ hag
  refine ⟨fun c => grad (aP m c) (aQ m c), fun c => outD (aP m c) (aQ m c) (aW m c) (aM m c) (aV m c), fun c => outM (aP m c) (aQ m c) (aM m c),
    fun c => outV (aP m c) (aQ m c) (aV m c),
    (θ_run _ _ _).mono (fun _ h c =>
      ⟨(h c).1.trans ((dats m 0 c).arrAt_eq_of_cover 5 _ (fun t _ => flushed_g m c t) cover),
        (h c).2.1.trans ((dats m 0 c).arrAt_eq_of_cover 6 _ (fun t _ => flushed_d m c t) cover),
        (h c).2.2.1.trans ((dats m 0 c).arrAt_eq_of_cover 7 _ (fun t _ => flushed_m m c t) cover),
        (h c).2.2.2.1.trans ((dats m 0 c).arrAt_eq_of_cover 8 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference21Ideal.Value.run m' ρ')⟩
  all_goals
    rw [(hag c).1, (hag c).2.1]
    try rw [(hag c).2.2.1]
    try rw [(hag c).2.2.2.1]
    try rw [(hag c).2.2.2.2]
    funext j
    idx_vars j
    try simp only [outD, outM, outV, AdamW.delta, AdamW.newM, AdamW.newV]
    fin_cases j0 <;> simp only [grad, total] <;> pointwise

/-- The named constants stand for the values the statement gives them. -/
theorem preserves : Cert.preserves_Kernel21_Kernel21Ideal :=
  ⟨IdealRules.named_const.statement _ _ _ _ _ rfl, IdealRules.named_const.statement _ _ _ _ _ rfl⟩

end Cert.Kernel21Ideal.AdMlpUp
end
-- ==== Proof.AdMlpDown.lean ====
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.AdamW
public import Idealize.ShloMosaic.Lib.Pointwise
public import Idealize.ShloMosaic.Lib.StableHlo.ReadAt

@[expose] public section

set_option maxRecDepth 16384

/-! AdamW on a shard of the second weight of the MLP, whose two layers take their gradients from two arrays: the kernel's four results, entry by
    entry, in the terms of `AdamW`. -/

noncomputable section

namespace Cert.Kernel22Ideal.AdMlpDown

open Cert.Kernel22Ideal Cert.Kernel22Ideal.Gen Idealize.ShloMosaic Idealize.ShloMosaic.TcCoe Idealize.SL.Sem
open Idealize.ShloMosaic.Tactic

variable (m : (ℓ : Loc nD τ sig) → Buf (Elt Ideal) ℓ)

/-- The arguments: what each of the four chips adds to the gradient of layer 0 and of layer 1, the weight, its two moments. -/
abbrev aP (c : Dev nD) : FVec Ideal S4x1024x2048 .bf16 := m ((c : Thread nD τ).loc main_arg0)
abbrev aQ (c : Dev nD) : FVec Ideal S4x1024x2048 .bf16 := m ((c : Thread nD τ).loc main_arg1)
abbrev aW (c : Dev nD) : FVec Ideal S2x1024x2048 .f32 := m ((c : Thread nD τ).loc main_arg2)
abbrev aM (c : Dev nD) : FVec Ideal S2x1024x2048 .f32 := m ((c : Thread nD τ).loc main_arg3)
abbrev aV (c : Dev nD) : FVec Ideal S2x1024x2048 .f32 := m ((c : Thread nD τ).loc main_arg4)

/-- The sum of the four shares at a place of one layer. -/
def total (p : FVec Ideal S4x1024x2048 .bf16) (b : Fin 1024) (d : Fin 2048) : EReal := ∑ k : Fin 4, p (ix3 k b d)
theorem total_eq (p : FVec Ideal S4x1024x2048 .bf16) (b : Fin 1024) (d : Fin 2048) :
    total p b d = p (ix3 0 b d) + p (ix3 1 b d) + p (ix3 2 b d) + p (ix3 3 b d) := Fin.sum_univ_four _

/-- The four results as arrays: the gradient, the new moments, the change of the weight. -/
def grad (p p' : FVec Ideal S4x1024x2048 .bf16) : FVec Ideal S2x1024x2048 .f32 := fun i =>
  if (i 0).val = 1 then total p' (i 1) (i 2) else total p (i 1) (i 2)
def outM (p p' : FVec Ideal S4x1024x2048 .bf16) (y : FVec Ideal S2x1024x2048 .f32) : FVec Ideal S2x1024x2048 .f32 := fun i => AdamW.newM (grad p p' i) (y i)
def outV (p p' : FVec Ideal S4x1024x2048 .bf16) (y : FVec Ideal S2x1024x2048 .f32) : FVec Ideal S2x1024x2048 .f32 := fun i => AdamW.newV (grad p p' i) (y i)
def outD (p p' : FVec Ideal S4x1024x2048 .bf16) (yw ym yv : FVec Ideal S2x1024x2048 .f32) : FVec Ideal S2x1024x2048 .f32 := fun i =>
  AdamW.delta (yw i) (outM p p' ym i) (outV p p' yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block: the gradient is the second array's in layer 1, the first one's in layer 0. -/
theorem pay_1 (i : grid0.Coords) (hi : (i 0).val = 1) (x0 x1 x2 x3 z0 z1 z2 z3 : Vec Ideal S1x128x2048 .bf16) (q : Fin 128) (r : Fin 2048) :
    k0_pay2 i x0 x1 x2 x3 z0 z1 z2 z3 (ix2 q r) = z0 (ix3 0 q r) + z1 (ix3 0 q r) + z2 (ix3 0 q r) + z3 (ix3 0 q r) := by
  unfold k0_pay2
  rw [hi]
  rw [show Scalar.cmpi .eq (BitVec.ofNat 32 1) 1#32 = 1#1 from by decide, AdamW.select_one]
  pointwise
theorem pay_0 (i : grid0.Coords) (hi : (i 0).val = 0) (x0 x1 x2 x3 z0 z1 z2 z3 : Vec Ideal S1x128x2048 .bf16) (q : Fin 128) (r : Fin 2048) :
    k0_pay2 i x0 x1 x2 x3 z0 z1 z2 z3 (ix2 q r) = x0 (ix3 0 q r) + x1 (ix3 0 q r) + x2 (ix3 0 q r) + x3 (ix3 0 q r) := by
  unfold k0_pay2
  rw [hi]
  rw [show Scalar.cmpi .eq (BitVec.ofNat 32 0) 1#32 = 0#1 from by decide, AdamW.select_zero]
  pointwise
theorem pay_g (g : FVec Ideal S128x2048 .f32) (q : Fin 128) (r : Fin 2048) : k0_pay5 g (ix3 0 q r) = g (ix2 q r) := by
  unfold k0_pay5
  pointwise
theorem pay_m (g : FVec Ideal S128x2048 .f32) (y : Vec Ideal S1x128x2048 .f32) (q : Fin 128) (r : Fin 2048) :
    k0_pay6 g y (ix3 0 q r) = AdamW.newM (g (ix2 q r)) (y (ix3 0 q r)) := by
  unfold k0_pay6 k0_pay3 AdamW.newM
  pointwise
theorem pay_v (g : FVec Ideal S128x2048 .f32) (y : Vec Ideal S1x128x2048 .f32) (q : Fin 128) (r : Fin 2048) :
    k0_pay7 g y (ix3 0 q r) = AdamW.newV (g (ix2 q r)) (y (ix3 0 q r)) := by
  unfold k0_pay7 k0_pay4 AdamW.newV
  pointwise
theorem pay_d (g : FVec Ideal S128x2048 .f32) (yw ym yv : Vec Ideal S1x128x2048 .f32) (q : Fin 128) (r : Fin 2048) :
    k0_pay1 (k0_pay8 g ym yv) yw (ix3 0 q r) = AdamW.delta (yw (ix3 0 q r))
      (AdamW.newM (g (ix2 q r)) (ym (ix3 0 q r))) (AdamW.newV (g (ix2 q r)) (yv (ix3 0 q r))) := by
  rw [← AdamW.delta_eq]
  unfold k0_pay1 k0_pay8 k0_pay3 k0_pay4 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x128x2048.Idx) : S2x1024x2048.Idx := ((cfg0.win 5).blk t).view.emb y

/-- The blocks the windows visit at point `t`: the layer is the point's first coordinate. -/
theorem idx_eqs : ∀ t : Fin cfg0.N, (win0_0.index t 0 = 0 ∧ win0_0.index t 2 = 0 ∧ win0_1.index t 0 = 0 ∧ win0_1.index t 2 = 0)
    ∧ win0_5.index t 2 = 0 ∧ win0_5.index t 0 = (grid0.coords t 0).val
    ∧ ((grid0.coords t 0).val = 1 ∧ win0_1.index t 1 = win0_5.index t 1
      ∨ (grid0.coords t 0).val = 0 ∧ win0_0.index t 1 = win0_5.index t 1) :=
  (by decide +kernel : ∀ t : Fin grid0.N, _)

/-- What is loaded from the blocks of the weight and of its moments. -/
theorem ld_w (c : Dev nD) (t : Fin cfg0.N) (y : S1x128x2048.Idx) : View.ld (iblk m c 2 t) r0_4 y = aW m c (place t y) :=
  (congrFun (View.ld_unit_zero (S := S1x128x2048) hz _ _) y).trans rfl
theorem ld_m (c : Dev nD) (t : Fin cfg0.N) (y : S1x128x2048.Idx) : View.ld (iblk m c 3 t) r0_4 y = aM m c (place t y) :=
  (congrFun (View.ld_unit_zero (S := S1x128x2048) hz _ _) y).trans rfl
theorem ld_v (c : Dev nD) (t : Fin cfg0.N) (y : S1x128x2048.Idx) : View.ld (iblk m c 4 t) r0_4 y = aV m c (place t y) :=
  (congrFun (View.ld_unit_zero (S := S1x128x2048) hz _ _) y).trans rfl

/-- What is loaded from the four chips' shares, at a point of the layer they belong to. -/
theorem ld_00 (c : Dev nD) (t : Fin cfg0.N) (h : win0_0.index t 1 = win0_5.index t 1) (q : Fin 128) (r : Fin 2048) :
    View.ld (iblk m c 0 t) r0_0 (ix3 0 q r) = aP m c (ix3 0 (place t (ix3 0 q r) 1) (place t (ix3 0 q r) 2)) := by
  obtain ⟨⟨a0, a2, b0, b2⟩, h2, -, -⟩ := idx_eqs t
  refine congrArg (aP m c) (funext fun a => Fin.ext ?_)
  match a with
  | ⟨0, _⟩ => show win0_0.index t 0 * 4 + 1 * (0 + 1 * 0) = 0; omega
  | ⟨1, _⟩ => show win0_0.index t 1 * 128 + 1 * (0 + 1 * q.val) = win0_5.index t 1 * 128 + 1 * q.val; omega
  | ⟨2, _⟩ => show win0_0.index t 2 * 2048 + 1 * (0 + 1 * r.val) = win0_5.index t 2 * 2048 + 1 * r.val; omega
theorem ld_01 (c : Dev nD) (t : Fin cfg0.N) (h : win0_0.index t 1 = win0_5.index t 1) (q : Fin 128) (r : Fin 2048) :
    View.ld (iblk m c 0 t) r0_1 (ix3 0 q r) = aP m c (ix3 1 (place t (ix3 0 q r) 1) (place t (ix3 0 q r) 2)) := by
  obtain ⟨⟨a0, a2, b0, b2⟩, h2, -, -⟩ := idx_eqs t
  refine congrArg (aP m c) (funext fun a => Fin.ext ?_)
  match a with
  | ⟨0, _⟩ => show win0_0.index t 0 * 4 + 1 * (1 + 1 * 0) = 1; omega
  | ⟨1, _⟩ => show win0_0.index t 1 * 128 + 1 * (0 + 1 * q.val) = win0_5.index t 1 * 128 + 1 * q.val; omega
  | ⟨2, _⟩ => show win0_0.index t 2 * 2048 + 1 * (0 + 1 * r.val) = win0_5.index t 2 * 2048 + 1 * r.val; omega
theorem ld_02 (c : Dev nD) (t : Fin cfg0.N) (h : win0_0.index t 1 = win0_5.index t 1) (q : Fin 128) (r : Fin 2048) :
    View.ld (iblk m c 0 t) r0_2 (ix3 0 q r) = aP m c (ix3 2 (place t (ix3 0 q r) 1) (place t (ix3 0 q r) 2)) := by
  obtain ⟨⟨a0, a2, b0, b2⟩, h2, -, -⟩ := idx_eqs t
  refine congrArg (aP m c) (funext fun a => Fin.ext ?_)
  match a with
  | ⟨0, _⟩ => show win0_0.index t 0 * 4 + 1 * (2 + 1 * 0) = 2; omega
  | ⟨1, _⟩ => show win0_0.index t 1 * 128 + 1 * (0 + 1 * q.val) = win0_5.index t 1 * 128 + 1 * q.val; omega
  | ⟨2, _⟩ => show win0_0.index t 2 * 2048 + 1 * (0 + 1 * r.val) = win0_5.index t 2 * 2048 + 1 * r.val; omega
theorem ld_03 (c : Dev nD) (t : Fin cfg0.N) (h : win0_0.index t 1 = win0_5.index t 1) (q : Fin 128) (r : Fin 2048) :
    View.ld (iblk m c 0 t) r0_3 (ix3 0 q r) = aP m c (ix3 3 (place t (ix3 0 q r) 1) (place t (ix3 0 q r) 2)) := by
  obtain ⟨⟨a0, a2, b0, b2⟩, h2, -, -⟩ := idx_eqs t
  refine congrArg (aP m c) (funext fun a => Fin.ext ?_)
  match a with
  | ⟨0, _⟩ => show win0_0.index t 0 * 4 + 1 * (3 + 1 * 0) = 3; omega
  | ⟨1, _⟩ => show win0_0.index t 1 * 128 + 1 * (0 + 1 * q.val) = win0_5.index t 1 * 128 + 1 * q.val; omega
  | ⟨2, _⟩ => show win0_0.index t 2 * 2048 + 1 * (0 + 1 * r.val) = win0_5.index t 2 * 2048 + 1 * r.val; omega
theorem ld_10 (c : Dev nD) (t : Fin cfg0.N) (h : win0_1.index t 1 = win0_5.index t 1) (q : Fin 128) (r : Fin 2048) :
    View.ld (iblk m c 1 t) r0_0 (ix3 0 q r) = aQ m c (ix3 0 (place t (ix3 0 q r) 1) (place t (ix3 0 q r) 2)) := by
  obtain ⟨⟨a0, a2, b0, b2⟩, h2, -, -⟩ := idx_eqs t
  refine congrArg (aQ m c) (funext fun a => Fin.ext ?_)
  match a with
  | ⟨0, _⟩ => show win0_1.index t 0 * 4 + 1 * (0 + 1 * 0) = 0; omega
  | ⟨1, _⟩ => show win0_1.index t 1 * 128 + 1 * (0 + 1 * q.val) = win0_5.index t 1 * 128 + 1 * q.val; omega
  | ⟨2, _⟩ => show win0_1.index t 2 * 2048 + 1 * (0 + 1 * r.val) = win0_5.index t 2 * 2048 + 1 * r.val; omega
theorem ld_11 (c : Dev nD) (t : Fin cfg0.N) (h : win0_1.index t 1 = win0_5.index t 1) (q : Fin 128) (r : Fin 2048) :
    View.ld (iblk m c 1 t) r0_1 (ix3 0 q r) = aQ m c (ix3 1 (place t (ix3 0 q r) 1) (place t (ix3 0 q r) 2)) := by
  obtain ⟨⟨a0, a2, b0, b2⟩, h2, -, -⟩ := idx_eqs t
  refine congrArg (aQ m c) (funext fun a => Fin.ext ?_)
  match a with
  | ⟨0, _⟩ => show win0_1.index t 0 * 4 + 1 * (1 + 1 * 0) = 1; omega
  | ⟨1, _⟩ => show win0_1.index t 1 * 128 + 1 * (0 + 1 * q.val) = win0_5.index t 1 * 128 + 1 * q.val; omega
  | ⟨2, _⟩ => show win0_1.index t 2 * 2048 + 1 * (0 + 1 * r.val) = win0_5.index t 2 * 2048 + 1 * r.val; omega
theorem ld_12 (c : Dev nD) (t : Fin cfg0.N) (h : win0_1.index t 1 = win0_5.index t 1) (q : Fin 128) (r : Fin 2048) :
    View.ld (iblk m c 1 t) r0_2 (ix3 0 q r) = aQ m c (ix3 2 (place t (ix3 0 q r) 1) (place t (ix3 0 q r) 2)) := by
  obtain ⟨⟨a0, a2, b0, b2⟩, h2, -, -⟩ := idx_eqs t
  refine congrArg (aQ m c) (funext fun a => Fin.ext ?_)
  match a with
  | ⟨0, _⟩ => show win0_1.index t 0 * 4 + 1 * (2 + 1 * 0) = 2; omega
  | ⟨1, _⟩ => show win0_1.index t 1 * 128 + 1 * (0 + 1 * q.val) = win0_5.index t 1 * 128 + 1 * q.val; omega
  | ⟨2, _⟩ => show win0_1.index t 2 * 2048 + 1 * (0 + 1 * r.val) = win0_5.index t 2 * 2048 + 1 * r.val; omega
theorem ld_13 (c : Dev nD) (t : Fin cfg0.N) (h : win0_1.index t 1 = win0_5.index t 1) (q : Fin 128) (r : Fin 2048) :
    View.ld (iblk m c 1 t) r0_3 (ix3 0 q r) = aQ m c (ix3 3 (place t (ix3 0 q r) 1) (place t (ix3 0 q r) 2)) := by
  obtain ⟨⟨a0, a2, b0, b2⟩, h2, -, -⟩ := idx_eqs t
  refine congrArg (aQ m c) (funext fun a => Fin.ext ?_)
  match a with
  | ⟨0, _⟩ => show win0_1.index t 0 * 4 + 1 * (3 + 1 * 0) = 3; omega
  | ⟨1, _⟩ => show win0_1.index t 1 * 128 + 1 * (0 + 1 * q.val) = win0_5.index t 1 * 128 + 1 * q.val; omega
  | ⟨2, _⟩ => show win0_1.index t 2 * 2048 + 1 * (0 + 1 * r.val) = win0_5.index t 2 * 2048 + 1 * r.val; omega

/-- The gradient that point `t` finds. -/
theorem g_at (c : Dev nD) (t : Fin cfg0.N) (q : Fin 128) (r : Fin 2048) :
    k0_pay9 (grid0.coords t) (iblk m c 0 t) (iblk m c 1 t) (iblk m c 2 t) (iblk m c 3 t) (iblk m c 4 t) (ix2 q r)
      = grad (aP m c) (aQ m c) (place t (ix3 0 q r)) := by
  unfold k0_pay9
  obtain ⟨-, -, h0, h⟩ := idx_eqs t
  have hp : (place t (ix3 0 q r) 0).val = (grid0.coords t 0).val :=
    (show win0_5.index t 0 * 1 + 1 * 0 = (grid0.coords t 0).val by omega)
  rcases h with ⟨hc, h⟩ | ⟨hc, h⟩
  · refine (pay_1 _ hc _ _ _ _ _ _ _ _ q r).trans ?_
    rw [ld_10 m c t h, ld_11 m c t h, ld_12 m c t h, ld_13 m c t h]
    exact (total_eq _ _ _).symm.trans (if_pos (hp.trans hc)).symm
  · refine (pay_0 _ hc _ _ _ _ _ _ _ _ q r).trans ?_
    rw [ld_00 m c t h, ld_01 m c t h, ld_02 m c t h, ld_03 m c t h]
    exact (total_eq _ _ _).symm.trans (if_neg (by rw [hp, hc]; decide)).symm

/-- Point `t` writes back its block of each result. -/
theorem flushed_g (c : Dev nD) (t : Fin cfg0.N) :
    (dats m 0 c).flushed 5 t = ((cfg0.win 5).blk t).view.read (Elt Ideal) (grad (aP m c) (aQ m c)) := by
  rw [Value.flushed5]
  unfold out0_5
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ q r).trans ?_
  rw [g_at]
  rfl
theorem flushed_d (c : Dev nD) (t : Fin cfg0.N) :
    (dats m 0 c).flushed 6 t = ((cfg0.win 6).blk t).view.read (Elt Ideal) (outD (aP m c) (aQ m c) (aW m c) (aM m c) (aV m c)) := by
  rw [Value.flushed6]
  unfold out0_6
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ q r).trans ?_
  rw [g_at, ld_w, ld_m, ld_v]
  rfl
theorem flushed_m (c : Dev nD) (t : Fin cfg0.N) :
    (dats m 0 c).flushed 7 t = ((cfg0.win 7).blk t).view.read (Elt Ideal) (outM (aP m c) (aQ m c) (aM m c)) := by
  rw [Value.flushed7]
  unfold out0_7
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ q r).trans ?_
  rw [g_at, ld_m]
  rfl
theorem flushed_v (c : Dev nD) (t : Fin cfg0.N) :
    (dats m 0 c).flushed 8 t = ((cfg0.win 8).blk t).view.read (Elt Ideal) (outV (aP m c) (aQ m c) (aV m c)) := by
  rw [Value.flushed8]
  unfold out0_8
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ q r).trans ?_
  rw [g_at, ld_v]
  rfl

/-- The blocks tile the result. -/
theorem onto : ∀ (l : Fin 2) (a : Fin 8), ∃ t : Fin cfg0.N, (cfg0.win 5).flush t = true ∧ win0_5.index t 0 = l.val ∧ win0_5.index t 1 = a.val :=
  (by decide +kernel : ∀ (l : Fin 2) (a : Fin 8), ∃ t : Fin grid0.N, win0_5.flush t = true ∧ win0_5.index t 0 = l.val ∧ win0_5.index t 1 = a.val)
theorem cover (i : S2x1024x2048.Idx) : ∃ t : Fin cfg0.N, (cfg0.win 5).flush t = true ∧ i ∈ ((cfg0.win 5).blk t).view.set := by
  have hi0 : (i 0).val < 2 := (i 0).isLt
  have hi1 : (i 1).val < 1024 := (i 1).isLt
  have hi2 : (i 2).val < 2048 := (i 2).isLt
  obtain ⟨t, hf, h0, h1⟩ := onto ⟨(i 0).val, hi0⟩ ⟨(i 1).val / 128, by omega⟩
  obtain ⟨-, h2, -⟩ := idx_eqs t
  refine ⟨t, hf, ?_⟩
  show i ∈ ((View.whole main_v0_0).slice (win0_5.rect t)).set
  rw [View.set_slice_whole, Rect.mem_set_unit]
  dsimp only at h0 h1
  intro a
  match a with
  | ⟨0, _⟩ => show win0_5.index t 0 * 1 ≤ (i 0).val ∧ (i 0).val < win0_5.index t 0 * 1 + 1; omega
  | ⟨1, _⟩ => show win0_5.index t 1 * 128 ≤ (i 1).val ∧ (i 1).val < win0_5.index t 1 * 128 + 128; omega
  | ⟨2, _⟩ => show win0_5.index t 2 * 2048 ≤ (i 2).val ∧ (i 2).val < win0_5.index t 2 * 2048 + 2048; omega

/-- The claim: the kernel and the plain lines end with the same four arrays. -/
theorem algebraic : Cert.algebraic_Kernel22Ideal_Reference22Ideal (hKernel22Ideal := Cert.Kernel22Ideal.Gen.facts) (hReference22Ideal := Cert.Reference22Ideal.Gen.facts) := by
  intro m ρ m' ρ' _ hag
  refine ⟨fun c => grad (aP m c) (aQ m c), fun c => outD (aP m c) (aQ m c) (aW m c) (aM m c) (aV m c), fun c => outM (aP m c) (aQ m c) (aM m c),
    fun c => outV (aP m c) (aQ m c) (aV m c),
    (θ_run _ _ _).mono (fun _ h c =>
      ⟨(h c).1.trans ((dats m 0 c).arrAt_eq_of_cover 5 _ (fun t _ => flushed_g m c t) cover),
        (h c).2.1.trans ((dats m 0 c).arrAt_eq_of_cover 6 _ (fun t _ => flushed_d m c t) cover),
        (h c).2.2.1.trans ((dats m 0 c).arrAt_eq_of_cover 7 _ (fun t _ => flushed_m m c t) cover),
        (h c).2.2.2.1.trans ((dats m 0 c).arrAt_eq_of_cover 8 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference22Ideal.Value.run m' ρ')⟩
  all_goals
    rw [(hag c).1, (hag c).2.1]
    try rw [(hag c).2.2.1]
    try rw [(hag c).2.2.2.1]
    try rw [(hag c).2.2.2.2]
    funext j
    idx_vars j
    try simp only [outD, outM, outV, AdamW.delta, AdamW.newM, AdamW.newV]
    fin_cases j0 <;> simp only [grad, total] <;> pointwise

/-- The named constants stand for the values the statement gives them. -/
theorem preserves : Cert.preserves_Kernel22_Kernel22Ideal :=
  ⟨IdealRules.named_const.statement _ _ _ _ _ rfl, IdealRules.named_const.statement _ _ _ _ _ rfl⟩

end Cert.Kernel22Ideal.AdMlpDown
end
-- ==== Proof.AdLn.lean ====
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.AdamW
public import Idealize.ShloMosaic.Lib.Pointwise
public import Idealize.ShloMosaic.Lib.StableHlo.ReadAt

@[expose] public section

set_option maxRecDepth 16384

/-! AdamW on a shard of a LayerNorm's scale or shift, both layers together: the kernel's four results, entry by entry, in the terms of `AdamW`. -/

noncomputable section

namespace Cert.Kernel23Ideal.AdLn

open Cert.Kernel23Ideal Cert.Kernel23Ideal.Gen Idealize.ShloMosaic Idealize.ShloMosaic.TcCoe Idealize.SL.Sem
open Idealize.ShloMosaic.Tactic

variable (m : (ℓ : Loc nD τ sig) → Buf (Elt Ideal) ℓ)

/-- The arguments: the gradient, the weight, its two moments. -/
abbrev aP (c : Dev nD) : FVec Ideal S1x2x2048 .f32 := m ((c : Thread nD τ).loc main_arg0)
abbrev aW (c : Dev nD) : FVec Ideal S1x2x2048 .f32 := m ((c : Thread nD τ).loc main_arg1)
abbrev aM (c : Dev nD) : FVec Ideal S1x2x2048 .f32 := m ((c : Thread nD τ).loc main_arg2)
abbrev aV (c : Dev nD) : FVec Ideal S1x2x2048 .f32 := m ((c : Thread nD τ).loc main_arg3)

/-- The four results as arrays: the gradient, the new moments, the change of the weight. -/
def grad (p : FVec Ideal S1x2x2048 .f32) : FVec Ideal S1x2x2048 .f32 := fun i => p i
def outM (p : FVec Ideal S1x2x2048 .f32) (y : FVec Ideal S1x2x2048 .f32) : FVec Ideal S1x2x2048 .f32 := fun i => AdamW.newM (grad p i) (y i)
def outV (p : FVec Ideal S1x2x2048 .f32) (y : FVec Ideal S1x2x2048 .f32) : FVec Ideal S1x2x2048 .f32 := fun i => AdamW.newV (grad p i) (y i)
def outD (p : FVec Ideal S1x2x2048 .f32) (yw ym yv : FVec Ideal S1x2x2048 .f32) : FVec Ideal S1x2x2048 .f32 := fun i =>
  AdamW.delta (yw i) (outM p ym i) (outV p yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block. -/
theorem pay_g (x : Vec Ideal S1x2x2048 .f32) (q : Fin 2) (r : Fin 2048) : k0_pay5 x (ix3 0 q r) = x (ix3 0 q r) := by
  unfold k0_pay5 k0_pay2
  pointwise
theorem pay_m (x : Vec Ideal S1x2x2048 .f32) (y : Vec Ideal S1x2x2048 .f32) (q : Fin 2) (r : Fin 2048) :
    k0_pay6 x y (ix3 0 q r) = AdamW.newM (x (ix3 0 q r)) (y (ix3 0 q r)) := by
  unfold k0_pay6 k0_pay3 k0_pay2 AdamW.newM
  pointwise
theorem pay_v (x : Vec Ideal S1x2x2048 .f32) (y : Vec Ideal S1x2x2048 .f32) (q : Fin 2) (r : Fin 2048) :
    k0_pay7 x y (ix3 0 q r) = AdamW.newV (x (ix3 0 q r)) (y (ix3 0 q r)) := by
  unfold k0_pay7 k0_pay4 k0_pay2 AdamW.newV
  pointwise
theorem pay_d (x : Vec Ideal S1x2x2048 .f32) (yw ym yv : Vec Ideal S1x2x2048 .f32) (q : Fin 2) (r : Fin 2048) :
    k0_pay1 (k0_pay8 x ym) (k0_pay9 x yv) yw (ix3 0 q r) = AdamW.delta (yw (ix3 0 q r))
      (AdamW.newM (x (ix3 0 q r)) (ym (ix3 0 q r))) (AdamW.newV (x (ix3 0 q r)) (yv (ix3 0 q r))) := by
  rw [← AdamW.delta_eq]
  unfold k0_pay1 k0_pay8 k0_pay9 k0_pay3 k0_pay4 k0_pay2 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x2x2048.Idx) : S1x2x2048.Idx := ((cfg0.win 4).blk t).view.emb y

/-- The blocks the windows visit at point `t`. -/
theorem idx_eqs : ∀ t : Fin cfg0.N, (win0_0.index t 0 = 0 ∧ win0_0.index t 1 = win0_4.index t 1 ∧ win0_0.index t 2 = 0)
    ∧ win0_4.index t 0 = 0 ∧ win0_4.index t 2 = 0 :=
  (by decide +kernel : ∀ t : Fin grid0.N, _)

/-- What is loaded from the blocks of the weight and of its moments. -/
theorem ld_w (c : Dev nD) (t : Fin cfg0.N) (y : S1x2x2048.Idx) : View.ld (iblk m c 1 t) r0_0 y = aW m c (place t y) :=
  (congrFun (View.ld_unit_zero (S := S1x2x2048) hz _ _) y).trans rfl
theorem ld_m (c : Dev nD) (t : Fin cfg0.N) (y : S1x2x2048.Idx) : View.ld (iblk m c 2 t) r0_0 y = aM m c (place t y) :=
  (congrFun (View.ld_unit_zero (S := S1x2x2048) hz _ _) y).trans rfl
theorem ld_v (c : Dev nD) (t : Fin cfg0.N) (y : S1x2x2048.Idx) : View.ld (iblk m c 3 t) r0_0 y = aV m c (place t y) :=
  (congrFun (View.ld_unit_zero (S := S1x2x2048) hz _ _) y).trans rfl

/-- What is loaded from the gradient. -/
theorem ld_g (c : Dev nD) (t : Fin cfg0.N) (q : Fin 2) (r : Fin 2048) :
    View.ld (iblk m c 0 t) r0_0 (ix3 0 q r) = (grad (aP m c) (place t (ix3 0 q r)) : EReal) := by
  obtain ⟨⟨h0, h1, h2⟩, h3, h4⟩ := idx_eqs t
  refine congrArg (aP m c) (funext fun a => Fin.ext ?_)
  match a with
  | ⟨0, _⟩ => show win0_0.index t 0 * 1 + 1 * (0 + 1 * 0) = win0_4.index t 0 * 1 + 1 * 0; rw [h0, h3]
  | ⟨1, _⟩ => show win0_0.index t 1 * 2 + 1 * (0 + 1 * q.val) = win0_4.index t 1 * 2 + 1 * q.val; rw [h1]; omega
  | ⟨2, _⟩ => show win0_0.index t 2 * 2048 + 1 * (0 + 1 * r.val) = win0_4.index t 2 * 2048 + 1 * r.val; rw [h2, h4]; omega

/-- Point `t` writes back its block of each result. -/
theorem flushed_g (c : Dev nD) (t : Fin cfg0.N) :
    (dats m 0 c).flushed 4 t = ((cfg0.win 4).blk t).view.read (Elt Ideal) (grad (aP m c)) := by
  rw [Value.flushed4]
  unfold out0_4
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ q r).trans ?_
  rw [ld_g]
  rfl
theorem flushed_d (c : Dev nD) (t : Fin cfg0.N) :
    (dats m 0 c).flushed 5 t = ((cfg0.win 5).blk t).view.read (Elt Ideal) (outD (aP m c) (aW m c) (aM m c) (aV m c)) := by
  rw [Value.flushed5]
  unfold out0_5
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ q r).trans ?_
  rw [ld_g, ld_w, ld_m, ld_v]
  rfl
theorem flushed_m (c : Dev nD) (t : Fin cfg0.N) :
    (dats m 0 c).flushed 6 t = ((cfg0.win 6).blk t).view.read (Elt Ideal) (outM (aP m c) (aM m c)) := by
  rw [Value.flushed6]
  unfold out0_6
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ q r).trans ?_
  rw [ld_g, ld_m]
  rfl
theorem flushed_v (c : Dev nD) (t : Fin cfg0.N) :
    (dats m 0 c).flushed 7 t = ((cfg0.win 7).blk t).view.read (Elt Ideal) (outV (aP m c) (aV m c)) := by
  rw [Value.flushed7]
  unfold out0_7
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ q r).trans ?_
  rw [ld_g, ld_v]
  rfl

/-- The blocks tile the result. -/
theorem onto : ∀ a : Fin 1, ∃ t : Fin cfg0.N, (cfg0.win 4).flush t = true ∧ win0_4.index t 1 = a.val :=
  (by decide +kernel : ∀ a : Fin 1, ∃ t : Fin grid0.N, win0_4.flush t = true ∧ win0_4.index t 1 = a.val)
theorem cover (i : S1x2x2048.Idx) : ∃ t : Fin cfg0.N, (cfg0.win 4).flush t = true ∧ i ∈ ((cfg0.win 4).blk t).view.set := by
  have hi0 : (i 0).val < 1 := (i 0).isLt
  have hi1 : (i 1).val < 2 := (i 1).isLt
  have hi2 : (i 2).val < 2048 := (i 2).isLt
  obtain ⟨t, hf, h1⟩ := onto ⟨(i 1).val / 2, by omega⟩
  obtain ⟨-, h0, h2⟩ := idx_eqs t
  refine ⟨t, hf, ?_⟩
  show i ∈ ((View.whole main_v0_0).slice (win0_4.rect t)).set
  rw [View.set_slice_whole, Rect.mem_set_unit]
  dsimp only at h1
  intro a
  match a with
  | ⟨0, _⟩ => show win0_4.index t 0 * 1 ≤ (i 0).val ∧ (i 0).val < win0_4.index t 0 * 1 + 1; omega
  | ⟨1, _⟩ => show win0_4.index t 1 * 2 ≤ (i 1).val ∧ (i 1).val < win0_4.index t 1 * 2 + 2; omega
  | ⟨2, _⟩ => show win0_4.index t 2 * 2048 ≤ (i 2).val ∧ (i 2).val < win0_4.index t 2 * 2048 + 2048; omega

/-- The claim: the kernel and the plain lines end with the same four arrays. -/
theorem algebraic : Cert.algebraic_Kernel23Ideal_Reference23Ideal (hKernel23Ideal := Cert.Kernel23Ideal.Gen.facts) (hReference23Ideal := Cert.Reference23Ideal.Gen.facts) := by
  intro m ρ m' ρ' _ hag
  refine ⟨fun c => grad (aP m c), fun c => outD (aP m c) (aW m c) (aM m c) (aV m c), fun c => outM (aP m c) (aM m c),
    fun c => outV (aP m c) (aV m c),
    (θ_run _ _ _).mono (fun _ h c =>
      ⟨(h c).1.trans ((dats m 0 c).arrAt_eq_of_cover 4 _ (fun t _ => flushed_g m c t) cover),
        (h c).2.1.trans ((dats m 0 c).arrAt_eq_of_cover 5 _ (fun t _ => flushed_d m c t) cover),
        (h c).2.2.1.trans ((dats m 0 c).arrAt_eq_of_cover 6 _ (fun t _ => flushed_m m c t) cover),
        (h c).2.2.2.1.trans ((dats m 0 c).arrAt_eq_of_cover 7 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference23Ideal.Value.run m' ρ')⟩
  all_goals
    simp only [(hag c).1, (hag c).2.1, (hag c).2.2.1, (hag c).2.2.2]
    funext j
    idx_vars j
    first | rfl | (simp only [outD, outM, outV, grad, AdamW.delta, AdamW.newM, AdamW.newV]; pointwise)

/-- The named constants stand for the values the statement gives them. -/
theorem preserves : Cert.preserves_Kernel23_Kernel23Ideal :=
  ⟨IdealRules.named_const.statement _ _ _ _ _ rfl, IdealRules.named_const.statement _ _ _ _ _ rfl⟩

end Cert.Kernel23Ideal.AdLn
end
-- ==== Proof.AdVec256.lean ====
module

public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.AdamW
public import Idealize.ShloMosaic.Lib.Pointwise
public import Idealize.ShloMosaic.Lib.StableHlo.ReadAt

@[expose] public section

set_option maxRecDepth 16384

/-! AdamW on a shard of a vector of the convolution block: the kernel's four results, entry by entry, in the terms of `AdamW`. -/

noncomputable section

namespace Cert.Kernel24Ideal.AdVec256

open Cert.Kernel24Ideal Cert.Kernel24Ideal.Gen Idealize.ShloMosaic Idealize.ShloMosaic.TcCoe Idealize.SL.Sem
open Idealize.ShloMosaic.Tactic

variable (m : (ℓ : Loc nD τ sig) → Buf (Elt Ideal) ℓ)

/-- The arguments: the gradient, the weight, its two moments. -/
abbrev aP (c : Dev nD) : FVec Ideal S1x1x256 .f32 := m ((c : Thread nD τ).loc main_arg0)
abbrev aW (c : Dev nD) : FVec Ideal S1x1x256 .f32 := m ((c : Thread nD τ).loc main_arg1)
abbrev aM (c : Dev nD) : FVec Ideal S1x1x256 .f32 := m ((c : Thread nD τ).loc main_arg2)
abbrev aV (c : Dev nD) : FVec Ideal S1x1x256 .f32 := m ((c : Thread nD τ).loc main_arg3)

/-- The four results as arrays: the gradient, the new moments, the change of the weight. -/
def grad (p : FVec Ideal S1x1x256 .f32) : FVec Ideal S1x1x256 .f32 := fun i => p i
def outM (p : FVec Ideal S1x1x256 .f32) (y : FVec Ideal S1x1x256 .f32) : FVec Ideal S1x1x256 .f32 := fun i => AdamW.newM (grad p i) (y i)
def outV (p : FVec Ideal S1x1x256 .f32) (y : FVec Ideal S1x1x256 .f32) : FVec Ideal S1x1x256 .f32 := fun i => AdamW.newV (grad p i) (y i)
def outD (p : FVec Ideal S1x1x256 .f32) (yw ym yv : FVec Ideal S1x1x256 .f32) : FVec Ideal S1x1x256 .f32 := fun i =>
  AdamW.delta (yw i) (outM p ym i) (outV p yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block. -/
theorem pay_g (x : Vec Ideal S1x1x256 .f32) (q : Fin 1) (r : Fin 256) : k0_pay5 x (ix3 0 q r) = x (ix3 0 q r) := by
  obtain rfl : q = 0 := Subsingleton.elim _ _
  unfold k0_pay5 k0_pay2
  pointwise
theorem pay_m (x : Vec Ideal S1x1x256 .f32) (y : Vec Ideal S1x1x256 .f32) (q : Fin 1) (r : Fin 256) :
    k0_pay6 x y (ix3 0 q r) = AdamW.newM (x (ix3 0 q r)) (y (ix3 0 q r)) := by
  obtain rfl : q = 0 := Subsingleton.elim _ _
  unfold k0_pay6 k0_pay3 k0_pay2 AdamW.newM
  pointwise
theorem pay_v (x : Vec Ideal S1x1x256 .f32) (y : Vec Ideal S1x1x256 .f32) (q : Fin 1) (r : Fin 256) :
    k0_pay7 x y (ix3 0 q r) = AdamW.newV (x (ix3 0 q r)) (y (ix3 0 q r)) := by
  obtain rfl : q = 0 := Subsingleton.elim _ _
  unfold k0_pay7 k0_pay4 k0_pay2 AdamW.newV
  pointwise
theorem pay_d (x : Vec Ideal S1x1x256 .f32) (yw ym yv : Vec Ideal S1x1x256 .f32) (q : Fin 1) (r : Fin 256) :
    k0_pay1 (k0_pay8 x ym) (k0_pay9 x yv) yw (ix3 0 q r) = AdamW.delta (yw (ix3 0 q r))
      (AdamW.newM (x (ix3 0 q r)) (ym (ix3 0 q r))) (AdamW.newV (x (ix3 0 q r)) (yv (ix3 0 q r))) := by
  obtain rfl : q = 0 := Subsingleton.elim _ _
  rw [← AdamW.delta_eq]
  unfold k0_pay1 k0_pay8 k0_pay9 k0_pay3 k0_pay4 k0_pay2 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x1x256.Idx) : S1x1x256.Idx := ((cfg0.win 4).blk t).view.emb y

/-- The blocks the windows visit at point `t`. -/
theorem idx_eqs : ∀ t : Fin cfg0.N, (win0_0.index t 0 = 0 ∧ win0_0.index t 1 = win0_4.index t 1 ∧ win0_0.index t 2 = 0)
    ∧ win0_4.index t 0 = 0 ∧ win0_4.index t 2 = 0 :=
  (by decide +kernel : ∀ t : Fin grid0.N, _)

/-- What is loaded from the blocks of the weight and of its moments. -/
theorem ld_w (c : Dev nD) (t : Fin cfg0.N) (y : S1x1x256.Idx) : View.ld (iblk m c 1 t) r0_0 y = aW m c (place t y) :=
  (congrFun (View.ld_unit_zero (S := S1x1x256) hz _ _) y).trans rfl
theorem ld_m (c : Dev nD) (t : Fin cfg0.N) (y : S1x1x256.Idx) : View.ld (iblk m c 2 t) r0_0 y = aM m c (place t y) :=
  (congrFun (View.ld_unit_zero (S := S1x1x256) hz _ _) y).trans rfl
theorem ld_v (c : Dev nD) (t : Fin cfg0.N) (y : S1x1x256.Idx) : View.ld (iblk m c 3 t) r0_0 y = aV m c (place t y) :=
  (congrFun (View.ld_unit_zero (S := S1x1x256) hz _ _) y).trans rfl

/-- What is loaded from the gradient. -/
theorem ld_g (c : Dev nD) (t : Fin cfg0.N) (q : Fin 1) (r : Fin 256) :
    View.ld (iblk m c 0 t) r0_0 (ix3 0 q r) = (grad (aP m c) (place t (ix3 0 q r)) : EReal) := by
  obtain ⟨⟨h0, h1, h2⟩, h3, h4⟩ := idx_eqs t
  refine congrArg (aP m c) (funext fun a => Fin.ext ?_)
  match a with
  | ⟨0, _⟩ => show win0_0.index t 0 * 1 + 1 * (0 + 1 * 0) = win0_4.index t 0 * 1 + 1 * 0; rw [h0, h3]
  | ⟨1, _⟩ => show win0_0.index t 1 * 1 + 1 * (0 + 1 * q.val) = win0_4.index t 1 * 1 + 1 * q.val; rw [h1]; omega
  | ⟨2, _⟩ => show win0_0.index t 2 * 256 + 1 * (0 + 1 * r.val) = win0_4.index t 2 * 256 + 1 * r.val; rw [h2, h4]; omega

/-- Point `t` writes back its block of each result. -/
theorem flushed_g (c : Dev nD) (t : Fin cfg0.N) :
    (dats m 0 c).flushed 4 t = ((cfg0.win 4).blk t).view.read (Elt Ideal) (grad (aP m c)) := by
  rw [Value.flushed4]
  unfold out0_4
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ q r).trans ?_
  rw [ld_g]
  rfl
theorem flushed_d (c : Dev nD) (t : Fin cfg0.N) :
    (dats m 0 c).flushed 5 t = ((cfg0.win 5).blk t).view.read (Elt Ideal) (outD (aP m c) (aW m c) (aM m c) (aV m c)) := by
  rw [Value.flushed5]
  unfold out0_5
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ q r).trans ?_
  rw [ld_g, ld_w, ld_m, ld_v]
  rfl
theorem flushed_m (c : Dev nD) (t : Fin cfg0.N) :
    (dats m 0 c).flushed 6 t = ((cfg0.win 6).blk t).view.read (Elt Ideal) (outM (aP m c) (aM m c)) := by
  rw [Value.flushed6]
  unfold out0_6
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ q r).trans ?_
  rw [ld_g, ld_m]
  rfl
theorem flushed_v (c : Dev nD) (t : Fin cfg0.N) :
    (dats m 0 c).flushed 7 t = ((cfg0.win 7).blk t).view.read (Elt Ideal) (outV (aP m c) (aV m c)) := by
  rw [Value.flushed7]
  unfold out0_7
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ q r).trans ?_
  rw [ld_g, ld_v]
  rfl

/-- The blocks tile the result. -/
theorem onto : ∀ a : Fin 1, ∃ t : Fin cfg0.N, (cfg0.win 4).flush t = true ∧ win0_4.index t 1 = a.val :=
  (by decide +kernel : ∀ a : Fin 1, ∃ t : Fin grid0.N, win0_4.flush t = true ∧ win0_4.index t 1 = a.val)
theorem cover (i : S1x1x256.Idx) : ∃ t : Fin cfg0.N, (cfg0.win 4).flush t = true ∧ i ∈ ((cfg0.win 4).blk t).view.set := by
  have hi0 : (i 0).val < 1 := (i 0).isLt
  have hi1 : (i 1).val < 1 := (i 1).isLt
  have hi2 : (i 2).val < 256 := (i 2).isLt
  obtain ⟨t, hf, h1⟩ := onto ⟨(i 1).val / 1, by omega⟩
  obtain ⟨-, h0, h2⟩ := idx_eqs t
  refine ⟨t, hf, ?_⟩
  show i ∈ ((View.whole main_v0_0).slice (win0_4.rect t)).set
  rw [View.set_slice_whole, Rect.mem_set_unit]
  dsimp only at h1
  intro a
  match a with
  | ⟨0, _⟩ => show win0_4.index t 0 * 1 ≤ (i 0).val ∧ (i 0).val < win0_4.index t 0 * 1 + 1; omega
  | ⟨1, _⟩ => show win0_4.index t 1 * 1 ≤ (i 1).val ∧ (i 1).val < win0_4.index t 1 * 1 + 1; omega
  | ⟨2, _⟩ => show win0_4.index t 2 * 256 ≤ (i 2).val ∧ (i 2).val < win0_4.index t 2 * 256 + 256; omega

/-- The claim: the kernel and the plain lines end with the same four arrays. -/
theorem algebraic : Cert.algebraic_Kernel24Ideal_Reference24Ideal (hKernel24Ideal := Cert.Kernel24Ideal.Gen.facts) (hReference24Ideal := Cert.Reference24Ideal.Gen.facts) := by
  intro m ρ m' ρ' _ hag
  refine ⟨fun c => grad (aP m c), fun c => outD (aP m c) (aW m c) (aM m c) (aV m c), fun c => outM (aP m c) (aM m c),
    fun c => outV (aP m c) (aV m c),
    (θ_run _ _ _).mono (fun _ h c =>
      ⟨(h c).1.trans ((dats m 0 c).arrAt_eq_of_cover 4 _ (fun t _ => flushed_g m c t) cover),
        (h c).2.1.trans ((dats m 0 c).arrAt_eq_of_cover 5 _ (fun t _ => flushed_d m c t) cover),
        (h c).2.2.1.trans ((dats m 0 c).arrAt_eq_of_cover 6 _ (fun t _ => flushed_m m c t) cover),
        (h c).2.2.2.1.trans ((dats m 0 c).arrAt_eq_of_cover 7 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference24Ideal.Value.run m' ρ')⟩
  all_goals
    simp only [(hag c).1, (hag c).2.1, (hag c).2.2.1, (hag c).2.2.2]
    funext j
    idx_vars j
    first | rfl | (simp only [outD, outM, outV, grad, AdamW.delta, AdamW.newM, AdamW.newV]; pointwise)

/-- The named constants stand for the values the statement gives them. -/
theorem preserves : Cert.preserves_Kernel24_Kernel24Ideal :=
  ⟨IdealRules.named_const.statement _ _ _ _ _ rfl, IdealRules.named_const.statement _ _ _ _ _ rfl⟩

end Cert.Kernel24Ideal.AdVec256
end
-- ==== Proof.AdVec512.lean ====
module

public import proofs.«01_k».proof.Defs
public import proofs.«01_k».proof.Proof.Gen.Kernel25.Frame
public import proofs.«01_k».proof.Proof.Gen.Kernel25Ideal.Value
public import proofs.«01_k».proof.Proof.Gen.Reference25Ideal.Run
public import proofs.«01_k».proof.Proof.AdamW
public import Idealize.ShloMosaic.Lib.Pointwise
public import Idealize.ShloMosaic.Lib.StableHlo.ReadAt

@[expose] public section

set_option maxRecDepth 16384

/-! AdamW on a shard of the bias before the gate: the kernel's four results, entry by entry, in the terms of `AdamW`. -/

noncomputable section

namespace Cert.Kernel25Ideal.AdVec512

open Cert.Kernel25Ideal Cert.Kernel25Ideal.Gen Idealize.ShloMosaic Idealize.ShloMosaic.TcCoe Idealize.SL.Sem
open Idealize.ShloMosaic.Tactic

variable (m : (ℓ : Loc nD τ sig) → Buf (Elt Ideal) ℓ)

/-- The arguments: the gradient, the weight, its two moments. -/
abbrev aP (c : Dev nD) : FVec Ideal S1x1x512 .f32 := m ((c : Thread nD τ).loc main_arg0)
abbrev aW (c : Dev nD) : FVec Ideal S1x1x512 .f32 := m ((c : Thread nD τ).loc main_arg1)
abbrev aM (c : Dev nD) : FVec Ideal S1x1x512 .f32 := m ((c : Thread nD τ).loc main_arg2)
abbrev aV (c : Dev nD) : FVec Ideal S1x1x512 .f32 := m ((c : Thread nD τ).loc main_arg3)

/-- The four results as arrays: the gradient, the new moments, the change of the weight. -/
def grad (p : FVec Ideal S1x1x512 .f32) : FVec Ideal S1x1x512 .f32 := fun i => p i
def outM (p : FVec Ideal S1x1x512 .f32) (y : FVec Ideal S1x1x512 .f32) : FVec Ideal S1x1x512 .f32 := fun i => AdamW.newM (grad p i) (y i)
def outV (p : FVec Ideal S1x1x512 .f32) (y : FVec Ideal S1x1x512 .f32) : FVec Ideal S1x1x512 .f32 := fun i => AdamW.newV (grad p i) (y i)
def outD (p : FVec Ideal S1x1x512 .f32) (yw ym yv : FVec Ideal S1x1x512 .f32) : FVec Ideal S1x1x512 .f32 := fun i =>
  AdamW.delta (yw i) (outM p ym i) (outV p yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block. -/
theorem pay_g (x : Vec Ideal S1x1x512 .f32) (q : Fin 1) (r : Fin 512) : k0_pay5 x (ix3 0 q r) = x (ix3 0 q r) := by
  obtain rfl : q = 0 := Subsingleton.elim _ _
  unfold k0_pay5 k0_pay2
  pointwise
theorem pay_m (x : Vec Ideal S1x1x512 .f32) (y : Vec Ideal S1x1x512 .f32) (q : Fin 1) (r : Fin 512) :
    k0_pay6 x y (ix3 0 q r) = AdamW.newM (x (ix3 0 q r)) (y (ix3 0 q r)) := by
  obtain rfl : q = 0 := Subsingleton.elim _ _
  unfold k0_pay6 k0_pay3 k0_pay2 AdamW.newM
  pointwise
theorem pay_v (x : Vec Ideal S1x1x512 .f32) (y : Vec Ideal S1x1x512 .f32) (q : Fin 1) (r : Fin 512) :
    k0_pay7 x y (ix3 0 q r) = AdamW.newV (x (ix3 0 q r)) (y (ix3 0 q r)) := by
  obtain rfl : q = 0 := Subsingleton.elim _ _
  unfold k0_pay7 k0_pay4 k0_pay2 AdamW.newV
  pointwise
theorem pay_d (x : Vec Ideal S1x1x512 .f32) (yw ym yv : Vec Ideal S1x1x512 .f32) (q : Fin 1) (r : Fin 512) :
    k0_pay1 (k0_pay8 x ym) (k0_pay9 x yv) yw (ix3 0 q r) = AdamW.delta (yw (ix3 0 q r))
      (AdamW.newM (x (ix3 0 q r)) (ym (ix3 0 q r))) (AdamW.newV (x (ix3 0 q r)) (yv (ix3 0 q r))) := by
  obtain rfl : q = 0 := Subsingleton.elim _ _
  rw [← AdamW.delta_eq]
  unfold k0_pay1 k0_pay8 k0_pay9 k0_pay3 k0_pay4 k0_pay2 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x1x512.Idx) : S1x1x512.Idx := ((cfg0.win 4).blk t).view.emb y

/-- The blocks the windows visit at point `t`. -/
theorem idx_eqs : ∀ t : Fin cfg0.N, (win0_0.index t 0 = 0 ∧ win0_0.index t 1 = win0_4.index t 1 ∧ win0_0.index t 2 = 0)
    ∧ win0_4.index t 0 = 0 ∧ win0_4.index t 2 = 0 :=
  (by decide +kernel : ∀ t : Fin grid0.N, _)

/-- What is loaded from the blocks of the weight and of its moments. -/
theorem ld_w (c : Dev nD) (t : Fin cfg0.N) (y : S1x1x512.Idx) : View.ld (iblk m c 1 t) r0_0 y = aW m c (place t y) :=
  (congrFun (View.ld_unit_zero (S := S1x1x512) hz _ _) y).trans rfl
theorem ld_m (c : Dev nD) (t : Fin cfg0.N) (y : S1x1x512.Idx) : View.ld (iblk m c 2 t) r0_0 y = aM m c (place t y) :=
  (congrFun (View.ld_unit_zero (S := S1x1x512) hz _ _) y).trans rfl
theorem ld_v (c : Dev nD) (t : Fin cfg0.N) (y : S1x1x512.Idx) : View.ld (iblk m c 3 t) r0_0 y = aV m c (place t y) :=
  (congrFun (View.ld_unit_zero (S := S1x1x512) hz _ _) y).trans rfl

/-- What is loaded from the gradient. -/
theorem ld_g (c : Dev nD) (t : Fin cfg0.N) (q : Fin 1) (r : Fin 512) :
    View.ld (iblk m c 0 t) r0_0 (ix3 0 q r) = (grad (aP m c) (place t (ix3 0 q r)) : EReal) := by
  obtain ⟨⟨h0, h1, h2⟩, h3, h4⟩ := idx_eqs t
  refine congrArg (aP m c) (funext fun a => Fin.ext ?_)
  match a with
  | ⟨0, _⟩ => show win0_0.index t 0 * 1 + 1 * (0 + 1 * 0) = win0_4.index t 0 * 1 + 1 * 0; rw [h0, h3]
  | ⟨1, _⟩ => show win0_0.index t 1 * 1 + 1 * (0 + 1 * q.val) = win0_4.index t 1 * 1 + 1 * q.val; rw [h1]; omega
  | ⟨2, _⟩ => show win0_0.index t 2 * 512 + 1 * (0 + 1 * r.val) = win0_4.index t 2 * 512 + 1 * r.val; rw [h2, h4]; omega

/-- Point `t` writes back its block of each result. -/
theorem flushed_g (c : Dev nD) (t : Fin cfg0.N) :
    (dats m 0 c).flushed 4 t = ((cfg0.win 4).blk t).view.read (Elt Ideal) (grad (aP m c)) := by
  rw [Value.flushed4]
  unfold out0_4
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ q r).trans ?_
  rw [ld_g]
  rfl
theorem flushed_d (c : Dev nD) (t : Fin cfg0.N) :
    (dats m 0 c).flushed 5 t = ((cfg0.win 5).blk t).view.read (Elt Ideal) (outD (aP m c) (aW m c) (aM m c) (aV m c)) := by
  rw [Value.flushed5]
  unfold out0_5
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ q r).trans ?_
  rw [ld_g, ld_w, ld_m, ld_v]
  rfl
theorem flushed_m (c : Dev nD) (t : Fin cfg0.N) :
    (dats m 0 c).flushed 6 t = ((cfg0.win 6).blk t).view.read (Elt Ideal) (outM (aP m c) (aM m c)) := by
  rw [Value.flushed6]
  unfold out0_6
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ q r).trans ?_
  rw [ld_g, ld_m]
  rfl
theorem flushed_v (c : Dev nD) (t : Fin cfg0.N) :
    (dats m 0 c).flushed 7 t = ((cfg0.win 7).blk t).view.read (Elt Ideal) (outV (aP m c) (aV m c)) := by
  rw [Value.flushed7]
  unfold out0_7
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ q r).trans ?_
  rw [ld_g, ld_v]
  rfl

/-- The blocks tile the result. -/
theorem onto : ∀ a : Fin 1, ∃ t : Fin cfg0.N, (cfg0.win 4).flush t = true ∧ win0_4.index t 1 = a.val :=
  (by decide +kernel : ∀ a : Fin 1, ∃ t : Fin grid0.N, win0_4.flush t = true ∧ win0_4.index t 1 = a.val)
theorem cover (i : S1x1x512.Idx) : ∃ t : Fin cfg0.N, (cfg0.win 4).flush t = true ∧ i ∈ ((cfg0.win 4).blk t).view.set := by
  have hi0 : (i 0).val < 1 := (i 0).isLt
  have hi1 : (i 1).val < 1 := (i 1).isLt
  have hi2 : (i 2).val < 512 := (i 2).isLt
  obtain ⟨t, hf, h1⟩ := onto ⟨(i 1).val / 1, by omega⟩
  obtain ⟨-, h0, h2⟩ := idx_eqs t
  refine ⟨t, hf, ?_⟩
  show i ∈ ((View.whole main_v0_0).slice (win0_4.rect t)).set
  rw [View.set_slice_whole, Rect.mem_set_unit]
  dsimp only at h1
  intro a
  match a with
  | ⟨0, _⟩ => show win0_4.index t 0 * 1 ≤ (i 0).val ∧ (i 0).val < win0_4.index t 0 * 1 + 1; omega
  | ⟨1, _⟩ => show win0_4.index t 1 * 1 ≤ (i 1).val ∧ (i 1).val < win0_4.index t 1 * 1 + 1; omega
  | ⟨2, _⟩ => show win0_4.index t 2 * 512 ≤ (i 2).val ∧ (i 2).val < win0_4.index t 2 * 512 + 512; omega

/-- The claim: the kernel and the plain lines end with the same four arrays. -/
theorem algebraic : Cert.algebraic_Kernel25Ideal_Reference25Ideal (hKernel25Ideal := Cert.Kernel25Ideal.Gen.facts) (hReference25Ideal := Cert.Reference25Ideal.Gen.facts) := by
  intro m ρ m' ρ' _ hag
  refine ⟨fun c => grad (aP m c), fun c => outD (aP m c) (aW m c) (aM m c) (aV m c), fun c => outM (aP m c) (aM m c),
    fun c => outV (aP m c) (aV m c),
    (θ_run _ _ _).mono (fun _ h c =>
      ⟨(h c).1.trans ((dats m 0 c).arrAt_eq_of_cover 4 _ (fun t _ => flushed_g m c t) cover),
        (h c).2.1.trans ((dats m 0 c).arrAt_eq_of_cover 5 _ (fun t _ => flushed_d m c t) cover),
        (h c).2.2.1.trans ((dats m 0 c).arrAt_eq_of_cover 6 _ (fun t _ => flushed_m m c t) cover),
        (h c).2.2.2.1.trans ((dats m 0 c).arrAt_eq_of_cover 7 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference25Ideal.Value.run m' ρ')⟩
  all_goals
    simp only [(hag c).1, (hag c).2.1, (hag c).2.2.1, (hag c).2.2.2]
    funext j
    idx_vars j
    first | rfl | (simp only [outD, outM, outV, grad, AdamW.delta, AdamW.newM, AdamW.newV]; pointwise)

/-- The named constants stand for the values the statement gives them. -/
theorem preserves : Cert.preserves_Kernel25_Kernel25Ideal :=
  ⟨IdealRules.named_const.statement _ _ _ _ _ rfl, IdealRules.named_const.statement _ _ _ _ _ rfl⟩

end Cert.Kernel25Ideal.AdVec512
end
-- ==== Proof.AdTaps.lean ====
module

public import proofs.«01_k».proof.Defs
public import proofs.«01_k».proof.Proof.Gen.Kernel26.Frame
public import proofs.«01_k».proof.Proof.Gen.Kernel26Ideal.Value
public import proofs.«01_k».proof.Proof.Gen.Reference26Ideal.Run
public import proofs.«01_k».proof.Proof.AdamW
public import Idealize.ShloMosaic.Lib.Pointwise
public import Idealize.ShloMosaic.Lib.StableHlo.ReadAt

@[expose] public section

set_option maxRecDepth 16384

/-! AdamW on a shard of the taps of the depthwise convolution: the kernel's four results, entry by entry, in the terms of `AdamW`. -/

noncomputable section

namespace Cert.Kernel26Ideal.AdTaps

open Cert.Kernel26Ideal Cert.Kernel26Ideal.Gen Idealize.ShloMosaic Idealize.ShloMosaic.TcCoe Idealize.SL.Sem
open Idealize.ShloMosaic.Tactic

variable (m : (ℓ : Loc nD τ sig) → Buf (Elt Ideal) ℓ)

/-- The arguments: the gradient, the weight, its two moments. -/
abbrev aP (c : Dev nD) : FVec Ideal S1x31x256 .f32 := m ((c : Thread nD τ).loc main_arg0)
abbrev aW (c : Dev nD) : FVec Ideal S1x31x256 .f32 := m ((c : Thread nD τ).loc main_arg1)
abbrev aM (c : Dev nD) : FVec Ideal S1x31x256 .f32 := m ((c : Thread nD τ).loc main_arg2)
abbrev aV (c : Dev nD) : FVec Ideal S1x31x256 .f32 := m ((c : Thread nD τ).loc main_arg3)

/-- The four results as arrays: the gradient, the new moments, the change of the weight. -/
def grad (p : FVec Ideal S1x31x256 .f32) : FVec Ideal S1x31x256 .f32 := fun i => p i
def outM (p : FVec Ideal S1x31x256 .f32) (y : FVec Ideal S1x31x256 .f32) : FVec Ideal S1x31x256 .f32 := fun i => AdamW.newM (grad p i) (y i)
def outV (p : FVec Ideal S1x31x256 .f32) (y : FVec Ideal S1x31x256 .f32) : FVec Ideal S1x31x256 .f32 := fun i => AdamW.newV (grad p i) (y i)
def outD (p : FVec Ideal S1x31x256 .f32) (yw ym yv : FVec Ideal S1x31x256 .f32) : FVec Ideal S1x31x256 .f32 := fun i =>
  AdamW.delta (yw i) (outM p ym i) (outV p yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block. -/
theorem pay_g (x : Vec Ideal S1x31x256 .f32) (q : Fin 31) (r : Fin 256) : k0_pay5 x (ix3 0 q r) = x (ix3 0 q r) := by
  unfold k0_pay5 k0_pay2
  pointwise
theorem pay_m (x : Vec Ideal S1x31x256 .f32) (y : Vec Ideal S1x31x256 .f32) (q : Fin 31) (r : Fin 256) :
    k0_pay6 x y (ix3 0 q r) = AdamW.newM (x (ix3 0 q r)) (y (ix3 0 q r)) := by
  unfold k0_pay6 k0_pay3 k0_pay2 AdamW.newM
  pointwise
theorem pay_v (x : Vec Ideal S1x31x256 .f32) (y : Vec Ideal S1x31x256 .f32) (q : Fin 31) (r : Fin 256) :
    k0_pay7 x y (ix3 0 q r) = AdamW.newV (x (ix3 0 q r)) (y (ix3 0 q r)) := by
  unfold k0_pay7 k0_pay4 k0_pay2 AdamW.newV
  pointwise
theorem pay_d (x : Vec Ideal S1x31x256 .f32) (yw ym yv : Vec Ideal S1x31x256 .f32) (q : Fin 31) (r : Fin 256) :
    k0_pay1 (k0_pay8 x ym) (k0_pay9 x yv) yw (ix3 0 q r) = AdamW.delta (yw (ix3 0 q r))
      (AdamW.newM (x (ix3 0 q r)) (ym (ix3 0 q r))) (AdamW.newV (x (ix3 0 q r)) (yv (ix3 0 q r))) := by
  rw [← AdamW.delta_eq]
  unfold k0_pay1 k0_pay8 k0_pay9 k0_pay3 k0_pay4 k0_pay2 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x31x256.Idx) : S1x31x256.Idx := ((cfg0.win 4).blk t).view.emb y

/-- The blocks the windows visit at point `t`. -/
theorem idx_eqs : ∀ t : Fin cfg0.N, (win0_0.index t 0 = 0 ∧ win0_0.index t 1 = win0_4.index t 1 ∧ win0_0.index t 2 = 0)
    ∧ win0_4.index t 0 = 0 ∧ win0_4.index t 2 = 0 :=
  (by decide +kernel : ∀ t : Fin grid0.N, _)

/-- What is loaded from the blocks of the weight and of its moments. -/
theorem ld_w (c : Dev nD) (t : Fin cfg0.N) (y : S1x31x256.Idx) : View.ld (iblk m c 1 t) r0_0 y = aW m c (place t y) :=
  (congrFun (View.ld_unit_zero (S := S1x31x256) hz _ _) y).trans rfl
theorem ld_m (c : Dev nD) (t : Fin cfg0.N) (y : S1x31x256.Idx) : View.ld (iblk m c 2 t) r0_0 y = aM m c (place t y) :=
  (congrFun (View.ld_unit_zero (S := S1x31x256) hz _ _) y).trans rfl
theorem ld_v (c : Dev nD) (t : Fin cfg0.N) (y : S1x31x256.Idx) : View.ld (iblk m c 3 t) r0_0 y = aV m c (place t y) :=
  (congrFun (View.ld_unit_zero (S := S1x31x256) hz _ _) y).trans rfl

/-- What is loaded from the gradient. -/
theorem ld_g (c : Dev nD) (t : Fin cfg0.N) (q : Fin 31) (r : Fin 256) :
    View.ld (iblk m c 0 t) r0_0 (ix3 0 q r) = (grad (aP m c) (place t (ix3 0 q r)) : EReal) := by
  obtain ⟨⟨h0, h1, h2⟩, h3, h4⟩ := idx_eqs t
  refine congrArg (aP m c) (funext fun a => Fin.ext ?_)
  match a with
  | ⟨0, _⟩ => show win0_0.index t 0 * 1 + 1 * (0 + 1 * 0) = win0_4.index t 0 * 1 + 1 * 0; rw [h0, h3]
  | ⟨1, _⟩ => show win0_0.index t 1 * 31 + 1 * (0 + 1 * q.val) = win0_4.index t 1 * 31 + 1 * q.val; rw [h1]; omega
  | ⟨2, _⟩ => show win0_0.index t 2 * 256 + 1 * (0 + 1 * r.val) = win0_4.index t 2 * 256 + 1 * r.val; rw [h2, h4]; omega

/-- Point `t` writes back its block of each result. -/
theorem flushed_g (c : Dev nD) (t : Fin cfg0.N) :
    (dats m 0 c).flushed 4 t = ((cfg0.win 4).blk t).view.read (Elt Ideal) (grad (aP m c)) := by
  rw [Value.flushed4]
  unfold out0_4
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ q r).trans ?_
  rw [ld_g]
  rfl
theorem flushed_d (c : Dev nD) (t : Fin cfg0.N) :
    (dats m 0 c).flushed 5 t = ((cfg0.win 5).blk t).view.read (Elt Ideal) (outD (aP m c) (aW m c) (aM m c) (aV m c)) := by
  rw [Value.flushed5]
  unfold out0_5
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ q r).trans ?_
  rw [ld_g, ld_w, ld_m, ld_v]
  rfl
theorem flushed_m (c : Dev nD) (t : Fin cfg0.N) :
    (dats m 0 c).flushed 6 t = ((cfg0.win 6).blk t).view.read (Elt Ideal) (outM (aP m c) (aM m c)) := by
  rw [Value.flushed6]
  unfold out0_6
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ q r).trans ?_
  rw [ld_g, ld_m]
  rfl
theorem flushed_v (c : Dev nD) (t : Fin cfg0.N) :
    (dats m 0 c).flushed 7 t = ((cfg0.win 7).blk t).view.read (Elt Ideal) (outV (aP m c) (aV m c)) := by
  rw [Value.flushed7]
  unfold out0_7
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ q r).trans ?_
  rw [ld_g, ld_v]
  rfl

/-- The blocks tile the result. -/
theorem onto : ∀ a : Fin 1, ∃ t : Fin cfg0.N, (cfg0.win 4).flush t = true ∧ win0_4.index t 1 = a.val :=
  (by decide +kernel : ∀ a : Fin 1, ∃ t : Fin grid0.N, win0_4.flush t = true ∧ win0_4.index t 1 = a.val)
theorem cover (i : S1x31x256.Idx) : ∃ t : Fin cfg0.N, (cfg0.win 4).flush t = true ∧ i ∈ ((cfg0.win 4).blk t).view.set := by
  have hi0 : (i 0).val < 1 := (i 0).isLt
  have hi1 : (i 1).val < 31 := (i 1).isLt
  have hi2 : (i 2).val < 256 := (i 2).isLt
  obtain ⟨t, hf, h1⟩ := onto ⟨(i 1).val / 31, by omega⟩
  obtain ⟨-, h0, h2⟩ := idx_eqs t
  refine ⟨t, hf, ?_⟩
  show i ∈ ((View.whole main_v0_0).slice (win0_4.rect t)).set
  rw [View.set_slice_whole, Rect.mem_set_unit]
  dsimp only at h1
  intro a
  match a with
  | ⟨0, _⟩ => show win0_4.index t 0 * 1 ≤ (i 0).val ∧ (i 0).val < win0_4.index t 0 * 1 + 1; omega
  | ⟨1, _⟩ => show win0_4.index t 1 * 31 ≤ (i 1).val ∧ (i 1).val < win0_4.index t 1 * 31 + 31; omega
  | ⟨2, _⟩ => show win0_4.index t 2 * 256 ≤ (i 2).val ∧ (i 2).val < win0_4.index t 2 * 256 + 256; omega

/-- The claim: the kernel and the plain lines end with the same four arrays. -/
theorem algebraic : Cert.algebraic_Kernel26Ideal_Reference26Ideal (hKernel26Ideal := Cert.Kernel26Ideal.Gen.facts) (hReference26Ideal := Cert.Reference26Ideal.Gen.facts) := by
  intro m ρ m' ρ' _ hag
  refine ⟨fun c => grad (aP m c), fun c => outD (aP m c) (aW m c) (aM m c) (aV m c), fun c => outM (aP m c) (aM m c),
    fun c => outV (aP m c) (aV m c),
    (θ_run _ _ _).mono (fun _ h c =>
      ⟨(h c).1.trans ((dats m 0 c).arrAt_eq_of_cover 4 _ (fun t _ => flushed_g m c t) cover),
        (h c).2.1.trans ((dats m 0 c).arrAt_eq_of_cover 5 _ (fun t _ => flushed_d m c t) cover),
        (h c).2.2.1.trans ((dats m 0 c).arrAt_eq_of_cover 6 _ (fun t _ => flushed_m m c t) cover),
        (h c).2.2.2.1.trans ((dats m 0 c).arrAt_eq_of_cover 7 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference26Ideal.Value.run m' ρ')⟩
  all_goals
    simp only [(hag c).1, (hag c).2.1, (hag c).2.2.1, (hag c).2.2.2]
    funext j
    idx_vars j
    first | rfl | (simp only [outD, outM, outV, grad, AdamW.delta, AdamW.newM, AdamW.newV]; pointwise)

/-- The named constants stand for the values the statement gives them. -/
theorem preserves : Cert.preserves_Kernel26_Kernel26Ideal :=
  ⟨IdealRules.named_const.statement _ _ _ _ _ rfl, IdealRules.named_const.statement _ _ _ _ _ rfl⟩

end Cert.Kernel26Ideal.AdTaps
end
-- ==== Proof.AdBias.lean ====
module

public import proofs.«01_k».proof.Defs
public import proofs.«01_k».proof.Proof.Gen.Kernel27.Frame
public import proofs.«01_k».proof.Proof.Gen.Kernel27Ideal.Value
public import proofs.«01_k».proof.Proof.Gen.Reference27Ideal.Run
public import proofs.«01_k».proof.Proof.AdamW
public import Idealize.ShloMosaic.Lib.Pointwise
public import Idealize.ShloMosaic.Lib.StableHlo.ReadAt

@[expose] public section

set_option maxRecDepth 16384

/-! AdamW on a shard of the relative position bias: the kernel's four results, entry by entry, in the terms of `AdamW`. -/

noncomputable section

namespace Cert.Kernel27Ideal.AdBias

open Cert.Kernel27Ideal Cert.Kernel27Ideal.Gen Idealize.ShloMosaic Idealize.ShloMosaic.TcCoe Idealize.SL.Sem
open Idealize.ShloMosaic.Tactic

variable (m : (ℓ : Loc nD τ sig) → Buf (Elt Ideal) ℓ)

/-- The arguments: the gradient, the weight, its two moments. -/
abbrev aP (c : Dev nD) : FVec Ideal S1x32x16 .f32 := m ((c : Thread nD τ).loc main_arg0)
abbrev aW (c : Dev nD) : FVec Ideal S1x32x16 .f32 := m ((c : Thread nD τ).loc main_arg1)
abbrev aM (c : Dev nD) : FVec Ideal S1x32x16 .f32 := m ((c : Thread nD τ).loc main_arg2)
abbrev aV (c : Dev nD) : FVec Ideal S1x32x16 .f32 := m ((c : Thread nD τ).loc main_arg3)

/-- The four results as arrays: the gradient, the new moments, the change of the weight. -/
def grad (p : FVec Ideal S1x32x16 .f32) : FVec Ideal S1x32x16 .f32 := fun i => p i
def outM (p : FVec Ideal S1x32x16 .f32) (y : FVec Ideal S1x32x16 .f32) : FVec Ideal S1x32x16 .f32 := fun i => AdamW.newM (grad p i) (y i)
def outV (p : FVec Ideal S1x32x16 .f32) (y : FVec Ideal S1x32x16 .f32) : FVec Ideal S1x32x16 .f32 := fun i => AdamW.newV (grad p i) (y i)
def outD (p : FVec Ideal S1x32x16 .f32) (yw ym yv : FVec Ideal S1x32x16 .f32) : FVec Ideal S1x32x16 .f32 := fun i =>
  AdamW.delta (yw i) (outM p ym i) (outV p yv i)

/-- The kernel's two named constants. -/
theorem named1 : (Named.named (F := Ideal) (φ := .f32) κ "inv_bias1" 0x3FC48605#32 : EReal) = ((8388608 / 5463681 : ℝ) : EReal) :=
  IdealRules.named_const.ideal_named_scalar κ "inv_bias1" _ _ rfl
theorem named2 : (Named.named (F := Ideal) (φ := .f32) κ "inv_bias2" 0x42C8E6D3#32 : EReal) = ((268435456 / 2672307 : ℝ) : EReal) :=
  IdealRules.named_const.ideal_named_scalar κ "inv_bias2" _ _ rfl

/-- The payloads at an entry of the block. -/
theorem pay_g (x : Vec Ideal S1x32x16 .f32) (q : Fin 32) (r : Fin 16) : k0_pay5 x (ix3 0 q r) = x (ix3 0 q r) := by
  unfold k0_pay5 k0_pay2
  pointwise
theorem pay_m (x : Vec Ideal S1x32x16 .f32) (y : Vec Ideal S1x32x16 .f32) (q : Fin 32) (r : Fin 16) :
    k0_pay6 x y (ix3 0 q r) = AdamW.newM (x (ix3 0 q r)) (y (ix3 0 q r)) := by
  unfold k0_pay6 k0_pay3 k0_pay2 AdamW.newM
  pointwise
theorem pay_v (x : Vec Ideal S1x32x16 .f32) (y : Vec Ideal S1x32x16 .f32) (q : Fin 32) (r : Fin 16) :
    k0_pay7 x y (ix3 0 q r) = AdamW.newV (x (ix3 0 q r)) (y (ix3 0 q r)) := by
  unfold k0_pay7 k0_pay4 k0_pay2 AdamW.newV
  pointwise
theorem pay_d (x : Vec Ideal S1x32x16 .f32) (yw ym yv : Vec Ideal S1x32x16 .f32) (q : Fin 32) (r : Fin 16) :
    k0_pay1 (k0_pay8 x ym) (k0_pay9 x yv) yw (ix3 0 q r) = AdamW.delta (yw (ix3 0 q r))
      (AdamW.newM (x (ix3 0 q r)) (ym (ix3 0 q r))) (AdamW.newV (x (ix3 0 q r)) (yv (ix3 0 q r))) := by
  rw [← AdamW.delta_eq]
  unfold k0_pay1 k0_pay8 k0_pay9 k0_pay3 k0_pay4 k0_pay2 AdamW.newM AdamW.newV
  rw [← named1, ← named2]
  pointwise

theorem hz : (![0, 0, 0] : Fin 3 → Nat) = fun _ => 0 := funext fun a => by fin_cases a <;> rfl

/-- Where place `y` of the block that point `t` works on lies in the whole array. -/
abbrev place (t : Fin cfg0.N) (y : S1x32x16.Idx) : S1x32x16.Idx := ((cfg0.win 4).blk t).view.emb y

/-- The blocks the windows visit at point `t`. -/
theorem idx_eqs : ∀ t : Fin cfg0.N, (win0_0.index t 0 = 0 ∧ win0_0.index t 1 = win0_4.index t 1 ∧ win0_0.index t 2 = 0)
    ∧ win0_4.index t 0 = 0 ∧ win0_4.index t 2 = 0 :=
  (by decide +kernel : ∀ t : Fin grid0.N, _)

/-- What is loaded from the blocks of the weight and of its moments. -/
theorem ld_w (c : Dev nD) (t : Fin cfg0.N) (y : S1x32x16.Idx) : View.ld (iblk m c 1 t) r0_0 y = aW m c (place t y) :=
  (congrFun (View.ld_unit_zero (S := S1x32x16) hz _ _) y).trans rfl
theorem ld_m (c : Dev nD) (t : Fin cfg0.N) (y : S1x32x16.Idx) : View.ld (iblk m c 2 t) r0_0 y = aM m c (place t y) :=
  (congrFun (View.ld_unit_zero (S := S1x32x16) hz _ _) y).trans rfl
theorem ld_v (c : Dev nD) (t : Fin cfg0.N) (y : S1x32x16.Idx) : View.ld (iblk m c 3 t) r0_0 y = aV m c (place t y) :=
  (congrFun (View.ld_unit_zero (S := S1x32x16) hz _ _) y).trans rfl

/-- What is loaded from the gradient. -/
theorem ld_g (c : Dev nD) (t : Fin cfg0.N) (q : Fin 32) (r : Fin 16) :
    View.ld (iblk m c 0 t) r0_0 (ix3 0 q r) = (grad (aP m c) (place t (ix3 0 q r)) : EReal) := by
  obtain ⟨⟨h0, h1, h2⟩, h3, h4⟩ := idx_eqs t
  refine congrArg (aP m c) (funext fun a => Fin.ext ?_)
  match a with
  | ⟨0, _⟩ => show win0_0.index t 0 * 1 + 1 * (0 + 1 * 0) = win0_4.index t 0 * 1 + 1 * 0; rw [h0, h3]
  | ⟨1, _⟩ => show win0_0.index t 1 * 32 + 1 * (0 + 1 * q.val) = win0_4.index t 1 * 32 + 1 * q.val; rw [h1]; omega
  | ⟨2, _⟩ => show win0_0.index t 2 * 16 + 1 * (0 + 1 * r.val) = win0_4.index t 2 * 16 + 1 * r.val; rw [h2, h4]; omega

/-- Point `t` writes back its block of each result. -/
theorem flushed_g (c : Dev nD) (t : Fin cfg0.N) :
    (dats m 0 c).flushed 4 t = ((cfg0.win 4).blk t).view.read (Elt Ideal) (grad (aP m c)) := by
  rw [Value.flushed4]
  unfold out0_4
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_g _ q r).trans ?_
  rw [ld_g]
  rfl
theorem flushed_d (c : Dev nD) (t : Fin cfg0.N) :
    (dats m 0 c).flushed 5 t = ((cfg0.win 5).blk t).view.read (Elt Ideal) (outD (aP m c) (aW m c) (aM m c) (aV m c)) := by
  rw [Value.flushed5]
  unfold out0_5
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_d _ _ _ _ q r).trans ?_
  rw [ld_g, ld_w, ld_m, ld_v]
  rfl
theorem flushed_m (c : Dev nD) (t : Fin cfg0.N) :
    (dats m 0 c).flushed 6 t = ((cfg0.win 6).blk t).view.read (Elt Ideal) (outM (aP m c) (aM m c)) := by
  rw [Value.flushed6]
  unfold out0_6
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_m _ _ q r).trans ?_
  rw [ld_g, ld_m]
  rfl
theorem flushed_v (c : Dev nD) (t : Fin cfg0.N) :
    (dats m 0 c).flushed 7 t = ((cfg0.win 7).blk t).view.read (Elt Ideal) (outV (aP m c) (aV m c)) := by
  rw [Value.flushed7]
  unfold out0_7
  rw [View.canon_unit_zero hz]
  funext y
  obtain ⟨p, q, r, rfl⟩ : ∃ p q r, y = ix3 p q r := ⟨y 0, y 1, y 2, eq_ix3 y⟩
  obtain rfl : p = 0 := Subsingleton.elim _ _
  refine (pay_v _ _ q r).trans ?_
  rw [ld_g, ld_v]
  rfl

/-- The blocks tile the result. -/
theorem onto : ∀ a : Fin 1, ∃ t : Fin cfg0.N, (cfg0.win 4).flush t = true ∧ win0_4.index t 1 = a.val :=
  (by decide +kernel : ∀ a : Fin 1, ∃ t : Fin grid0.N, win0_4.flush t = true ∧ win0_4.index t 1 = a.val)
theorem cover (i : S1x32x16.Idx) : ∃ t : Fin cfg0.N, (cfg0.win 4).flush t = true ∧ i ∈ ((cfg0.win 4).blk t).view.set := by
  have hi0 : (i 0).val < 1 := (i 0).isLt
  have hi1 : (i 1).val < 32 := (i 1).isLt
  have hi2 : (i 2).val < 16 := (i 2).isLt
  obtain ⟨t, hf, h1⟩ := onto ⟨(i 1).val / 32, by omega⟩
  obtain ⟨-, h0, h2⟩ := idx_eqs t
  refine ⟨t, hf, ?_⟩
  show i ∈ ((View.whole main_v0_0).slice (win0_4.rect t)).set
  rw [View.set_slice_whole, Rect.mem_set_unit]
  dsimp only at h1
  intro a
  match a with
  | ⟨0, _⟩ => show win0_4.index t 0 * 1 ≤ (i 0).val ∧ (i 0).val < win0_4.index t 0 * 1 + 1; omega
  | ⟨1, _⟩ => show win0_4.index t 1 * 32 ≤ (i 1).val ∧ (i 1).val < win0_4.index t 1 * 32 + 32; omega
  | ⟨2, _⟩ => show win0_4.index t 2 * 16 ≤ (i 2).val ∧ (i 2).val < win0_4.index t 2 * 16 + 16; omega

/-- The claim: the kernel and the plain lines end with the same four arrays. -/
theorem algebraic : Cert.algebraic_Kernel27Ideal_Reference27Ideal (hKernel27Ideal := Cert.Kernel27Ideal.Gen.facts) (hReference27Ideal := Cert.Reference27Ideal.Gen.facts) := by
  intro m ρ m' ρ' _ hag
  refine ⟨fun c => grad (aP m c), fun c => outD (aP m c) (aW m c) (aM m c) (aV m c), fun c => outM (aP m c) (aM m c),
    fun c => outV (aP m c) (aV m c),
    (θ_run _ _ _).mono (fun _ h c =>
      ⟨(h c).1.trans ((dats m 0 c).arrAt_eq_of_cover 4 _ (fun t _ => flushed_g m c t) cover),
        (h c).2.1.trans ((dats m 0 c).arrAt_eq_of_cover 5 _ (fun t _ => flushed_d m c t) cover),
        (h c).2.2.1.trans ((dats m 0 c).arrAt_eq_of_cover 6 _ (fun t _ => flushed_m m c t) cover),
        (h c).2.2.2.1.trans ((dats m 0 c).arrAt_eq_of_cover 7 _ (fun t _ => flushed_v m c t) cover), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference27Ideal.Value.run m' ρ')⟩
  all_goals
    simp only [(hag c).1, (hag c).2.1, (hag c).2.2.1, (hag c).2.2.2]
    funext j
    idx_vars j
    first | rfl | (simp only [outD, outM, outV, grad, AdamW.delta, AdamW.newM, AdamW.newV]; pointwise)

/-- The named constants stand for the values the statement gives them. -/
theorem preserves : Cert.preserves_Kernel27_Kernel27Ideal :=
  ⟨IdealRules.named_const.statement _ _ _ _ _ rfl, IdealRules.named_const.statement _ _ _ _ _ rfl⟩

end Cert.Kernel27Ideal.AdBias
end
-- ==== Proof.Norm.lean ====
module

public import Idealize.ShloMosaic.PureOps.Ideal
public import Idealize.ShloMosaic.Lib.Pointwise

@[expose] public section

/-! A layer norm of rows of 2048 entries and its derivative, over the extended reals. -/

noncomputable section

namespace Cert.Norm

open Idealize.ShloMosaic

/-- The width of a row, and the number added to its variance. -/
def width : EReal := Ideal.ofBits .f32 0x45000000#32
def eps : EReal := Ideal.ofBits .f32 0x3727C5AC#32

/-- A row without its mean, its variance with the small number added, and the inverse of that root. -/
def cen (z : Fin 2048 → EReal) (i : Fin 2048) : EReal := z i - Ideal.div (∑ k, z k) width
def shifted (z : Fin 2048 → EReal) : EReal := Ideal.div (∑ k, cen z k * cen z k) width + eps
def root (z : Fin 2048 → EReal) : EReal := Ideal.rsqrt (shifted z)

/-- The normalised row. -/
def xhat (z : Fin 2048 → EReal) (i : Fin 2048) : EReal := cen z i * root z

/-- The derivative by the row: `a` is the cotangent of the normalised row. -/
def dx (z a : Fin 2048 → EReal) (i : Fin 2048) : EReal :=
  root z * (a i - Ideal.div (∑ k, a k) width - xhat z i * Ideal.div (∑ k, a k * xhat z k) width)

theorem width_eq : width = ((2048 : ℝ) : EReal) := by
  simp [width, Ideal.ofBits, Ideal.ieee, -EReal.coe_mul]; norm_num

theorem eps_eq : eps = ((2748779 / 274877906944 : ℝ) : EReal) := by
  simp [eps, Ideal.ofBits, Ideal.ieee, -EReal.coe_mul]; norm_num

/-- Dividing by the width. -/
theorem div_width (x : EReal) : Ideal.div x width = x * ((1 / 2048 : ℝ) : EReal) := by
  rw [width_eq, Ideal.div_coe (by norm_num)]

/-- A sum of reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A row either has real entries only, or its variance is infinite. -/
theorem real_or_top (z : Fin 2048 → EReal) : (∃ x : Fin 2048 → ℝ, z = fun i => (x i : EReal)) ∨ shifted z = ⊤ := by
  have hp : (0 : ℝ) < 1 / 2048 := by norm_num
  have sq : (∀ k, cen z k = ⊤ ∨ cen z k = ⊥) → shifted z = ⊤ := by
    intro h
    have h1 : ∀ k, cen z k * cen z k = ⊤ := fun k => by rcases h k with e | e <;> rw [e] <;> rfl
    have h2 : ∑ k, cen z k * cen z k = ⊤ := by
      rw [Fin.sum_univ_castSucc (n := 2047), h1]
      refine EReal.add_top_of_ne_bot (ne_of_gt (lt_of_lt_of_le EReal.bot_lt_zero (Finset.sum_nonneg fun k _ => ?_)))
      rw [h1]
      exact le_top
    rw [shifted, h2, div_width, EReal.top_mul_coe_of_pos hp, eps_eq]
    rfl
  have cases : ∀ k, cen z k = z k - (∑ k, z k) * ((1 / 2048 : ℝ) : EReal) := fun k => by rw [cen, div_width]
  induction hs : ∑ k, z k with
  | bot =>
    refine .inr (sq fun k => ?_)
    rw [cases, hs, EReal.bot_mul_coe_of_pos hp]
    induction z k <;> simp
  | top =>
    refine .inr (sq fun k => .inr ?_)
    rw [cases, hs, EReal.top_mul_coe_of_pos hp]
    induction z k <;> simp
  | coe s =>
    refine .inl ?_
    have hz : ∀ i, ∃ x : ℝ, z i = x := fun i => by
      have h := Finset.add_sum_erase Finset.univ z (Finset.mem_univ i)
      rw [hs] at h
      generalize ∑ k ∈ Finset.univ.erase i, z k = r at h
      induction hi : z i with
      | bot => rw [hi] at h; simp at h
      | top => rw [hi] at h; induction r <;> simp at h
      | coe x => exact ⟨x, rfl⟩
    choose x hx using hz
    exact ⟨x, funext hx⟩

/-- The derivative by the row as the chain rule gives it: through the root, through the squares and through the mean. -/
def thru (z a : Fin 2048 → EReal) : EReal :=
  ∑ _x : Fin 1, Ideal.div ((∑ k, cen z k * a k) * (Ideal.ofBits .f32 0xBF000000#32 * Ideal.div (root z) (shifted z))) width
def chain (z a : Fin 2048 → EReal) (i : Fin 2048) : EReal :=
  a i * root z + thru z a * (Ideal.ofBits .f32 0x40000000#32 * cen z i)
    + ∑ _x : Fin 1, Ideal.div ((∑ k, -(a k * root z)) + ∑ k, -(thru z a * (Ideal.ofBits .f32 0x40000000#32 * cen z k))) width

theorem two_eq : Ideal.ofBits .f32 0x40000000#32 = ((2 : ℝ) : EReal) := by
  simp [Ideal.ofBits, Ideal.ieee, -EReal.coe_mul]; norm_num
theorem half_eq : Ideal.ofBits .f32 0xBF000000#32 = ((-(1 / 2) : ℝ) : EReal) := by
  simp [Ideal.ofBits, Ideal.ieee, -EReal.coe_mul]; norm_num

/-- Where the variance is infinite everything vanishes. -/
theorem root_top {z : Fin 2048 → EReal} (h : shifted z = ⊤) : root z = 0 := by rw [root, h]; rfl

/-- A real row: its centred entries, its variance with the small number, and the inverse root are reals. -/
theorem real_row (x : Fin 2048 → ℝ) : ∃ (c : Fin 2048 → ℝ) (v : ℝ), 0 < v ∧ ∑ k, c k = 0
    ∧ (∀ i, cen (fun k => (x k : EReal)) i = (c i : EReal)) ∧ shifted (fun k => (x k : EReal)) = (v : EReal)
    ∧ root (fun k => (x k : EReal)) = (((Real.sqrt v)⁻¹ : ℝ) : EReal) := by
  have hc : ∀ i, cen (fun k => (x k : EReal)) i = ((x i - (∑ k, x k) * (1 / 2048) : ℝ) : EReal) := fun i => by
    rw [cen, div_width, sum_coe, ← EReal.coe_mul, ← EReal.coe_sub]
  have hv : shifted (fun k => (x k : EReal)) = (((∑ k, (x k - (∑ k, x k) * (1 / 2048)) * (x k - (∑ k, x k) * (1 / 2048))) * (1 / 2048) + 2748779 / 274877906944 : ℝ) : EReal) := by
    rw [shifted, div_width, eps_eq, EReal.coe_add, EReal.coe_mul, ← sum_coe]
    simp only [hc, EReal.coe_mul]
  have hpos : 0 < (∑ k, (x k - (∑ k, x k) * (1 / 2048)) * (x k - (∑ k, x k) * (1 / 2048))) * (1 / 2048) + (2748779 / 274877906944 : ℝ) :=
    add_pos_of_nonneg_of_pos (mul_nonneg (Finset.sum_nonneg fun k _ => mul_self_nonneg _) (by norm_num)) (by norm_num)
  refine ⟨_, _, hpos, ?_, hc, hv, ?_⟩
  · rw [Finset.sum_sub_distrib, Finset.sum_const, Finset.card_univ, Fintype.card_fin, nsmul_eq_mul]
    push_cast
    ring
  · rw [root, hv, Ideal.rsqrt_coe, if_neg (not_lt.2 hpos.le), if_neg hpos.ne']

/-- The normalised row is real, whatever the row. -/
theorem xhat_real (z : Fin 2048 → EReal) : ∃ x : Fin 2048 → ℝ, ∀ i, xhat z i = (x i : EReal) := by
  rcases real_or_top z with ⟨x, rfl⟩ | h
  · obtain ⟨c, v, -, -, hc, -, hr⟩ := real_row x
    exact ⟨fun i => c i * (Real.sqrt v)⁻¹, fun i => by rw [xhat, hc, hr, EReal.coe_mul]⟩
  · exact ⟨fun _ => 0, fun i => by rw [xhat, root_top h, mul_zero, EReal.coe_zero]⟩

/-- The chain rule's derivative is the closed form. -/
theorem chain_eq (z : Fin 2048 → EReal) (a : Fin 2048 → ℝ) (i : Fin 2048) :
    chain z (fun k => (a k : EReal)) i = dx z (fun k => (a k : EReal)) i := by
  rcases real_or_top z with ⟨x, rfl⟩ | h
  · obtain ⟨c, v, hv, hs, hc, hz, hr⟩ := real_row x
    have hd : Ideal.div (((Real.sqrt v)⁻¹ : ℝ) : EReal) (v : EReal) = (((Real.sqrt v)⁻¹ * (1 / v) : ℝ) : EReal) := by
      rw [Ideal.div_coe hv.ne', EReal.coe_mul]
    have hq : (Real.sqrt v)⁻¹ * (Real.sqrt v)⁻¹ = 1 / v := by
      rw [← mul_inv, Real.mul_self_sqrt hv.le, one_div]
    simp only [chain, thru, dx, xhat, hc, hr, hz, hd, div_width, two_eq, half_eq, ← EReal.coe_mul, ← EReal.coe_neg, sum_coe,
      ← EReal.coe_add, ← EReal.coe_sub, Fin.sum_univ_one]
    congr 1
    have e1 : ∑ k, c k * a k = ∑ k, a k * c k := Finset.sum_congr rfl fun k _ => mul_comm _ _
    have e2 : ∑ k, a k * (c k * (Real.sqrt v)⁻¹) = (∑ k, a k * c k) * (Real.sqrt v)⁻¹ := by
      rw [Finset.sum_mul]; exact Finset.sum_congr rfl fun k _ => (mul_assoc _ _ _).symm
    have e3 : ∑ k, -(a k * (Real.sqrt v)⁻¹) = -((∑ k, a k) * (Real.sqrt v)⁻¹) := by
      rw [Finset.sum_neg_distrib, Finset.sum_mul]
    have e4 : ∀ t : ℝ, ∑ k, -(t * (2 * c k)) = 0 := fun t => by
      rw [Finset.sum_neg_distrib, ← Finset.mul_sum, ← Finset.mul_sum, hs]; ring
    rw [e1, e2, e3, e4, ← hq]
    ring
  · have ht : thru z (fun k => (a k : EReal)) = 0 := by
      rw [thru, root_top h, h, Fin.sum_univ_one]
      have : Ideal.div 0 ⊤ = 0 := by simp [Ideal.div]
      rw [this, mul_zero, mul_zero, div_width, zero_mul]
    simp only [chain, dx, ht, root_top h, mul_zero, zero_mul, neg_zero, Finset.sum_const_zero, add_zero, div_width]

/-- The pattern the preconditions compare with is the top element, … -/
theorem inf_eq : Ideal.ofBits .f32 0x7F800000#32 = ⊤ := by
  simp [Ideal.ofBits, Ideal.ieee]
/-- … so what is below it in absolute value is real. -/
theorem real_of_olt {x : EReal} (h : Ideal.cmp .olt (max x (-x)) (Ideal.ofBits .f32 0x7F800000#32) = 1#1) : ∃ r : ℝ, x = r := by
  rw [inf_eq] at h
  have hl : max x (-x) < ⊤ := by
    by_contra hn
    simp [Ideal.cmp, hn] at h
  obtain ⟨h1, h2⟩ := max_lt_iff.mp hl
  refine ⟨x.toReal, (EReal.coe_toReal h1.ne fun hb => ?_).symm⟩
  rw [hb] at h2
  exact absurd h2 (by simp)

/-- A running sum: what starts at the first term and adds the next one at every step. -/
theorem run_sum {n : ℕ} (o : (t : ℕ) → t < n → EReal) (s : Fin n → EReal) (h0 : ∀ h, o 0 h = s ⟨0, h⟩)
    (hs : ∀ t h, o (t + 1) h = o t (Nat.lt_of_succ_lt h) + s ⟨t + 1, h⟩) :
    ∀ t h, o t h = ∑ b : Fin (t + 1), s ⟨b.val, Nat.lt_of_lt_of_le b.isLt h⟩
  | 0, h => by rw [h0, Fin.sum_univ_one]; rfl
  | t + 1, h => by
    rw [hs, run_sum o s h0 hs t]
    exact (Fin.sum_univ_castSucc fun b : Fin (t + 2) => s ⟨b.val, Nat.lt_of_lt_of_le b.isLt h⟩).symm

/-- The rows of sixteen blocks are all rows. -/
theorem sum_rows (f : Fin 8192 → EReal) :
    ∑ b : Fin 16, ∑ p : Fin 512, f ⟨b.val * 512 + p.val, by omega⟩ = ∑ r, f r := by
  rw [← Fintype.sum_prod_type']
  refine Fintype.sum_equiv (finProdFinEquiv.trans (finCongr (by norm_num))) _ _ fun x => congrArg f (Fin.ext ?_)
  show x.1.val * 512 + x.2.val = x.2.val + 512 * x.1.val
  omega

end Cert.Norm

end
-- ==== Proof.LossGrad.lean ====
module

public import proofs.«01_k».proof.Defs
public import proofs.«01_k».proof.Proof.Gen.Kernel28Ideal.Value
public import proofs.«01_k».proof.Proof.Gen.Reference28Ideal.Run
public import proofs.«01_k».proof.Proof.Gen.Pre_finite28
public import proofs.«01_k».proof.Proof.Norm
public import Idealize.ShloMosaic.Lib.Pointwise
public import Idealize.ShloMosaic.Lib.StableHlo.ReadAt

@[expose] public section

set_option maxRecDepth 16384

noncomputable section

namespace Cert.Kernel28Ideal.LossGrad

open Cert.Kernel28Ideal Cert.Kernel28Ideal.Gen Idealize.ShloMosaic Idealize.ShloMosaic.TcCoe Idealize.SL.Sem
open Idealize.ShloMosaic.Tactic
abbrev row {n : Nat} (x : FVec Ideal ⟨2, ![n, 2048]⟩ .f32) (p : Fin n) : Fin 2048 → EReal := fun k => x (ix2 p k)

/-! ## What the kernel's expressions are at an entry -/

theorem pay2_at (z : Vec Ideal S512x2048 .f32) (p : Fin 512) (q : Fin 2048) : k0_pay2 z (ix2 p q) = Norm.cen (row z p) q := by
  unfold k0_pay2 Norm.cen Norm.width row
  pointwise
theorem pay3_at (z : Vec Ideal S512x2048 .f32) (p : Fin 512) : k0_pay3 z (ix2 p 0) = Norm.root (row z p) := by
  unfold k0_pay3 Norm.root Norm.shifted Norm.eps Norm.width
  simp only [← pay2_at]
  pointwise
theorem pay4_at (z : Vec Ideal S512x2048 .f32) (p : Fin 512) (q : Fin 2048) : k0_pay4 z (ix2 p q) = Norm.xhat (row z p) q := by
  unfold k0_pay4 Norm.xhat
  simp only [← pay2_at, ← pay3_at]
  pointwise

/-- An entry of the last norm's output less the target, from the norm's row, the weight, the bias and the target. -/
def miss (z g b t : Fin 2048 → EReal) (q : Fin 2048) : EReal := (Norm.xhat z q * g q + b q) - t q
/-- The kernel's factor of the cotangent, 1/2048. -/
def scale : EReal := Ideal.ofBits .f32 0x3A000000#32
theorem scale_eq : scale = ((1 / 2048 : ℝ) : EReal) := by simp [scale, Ideal.ofBits, Ideal.ieee, -EReal.coe_mul]; norm_num
/-- The row of products the norm's gradient starts from. -/
def seed (z g b t : Fin 2048 → EReal) (q : Fin 2048) : EReal := miss z g b t q * scale * g q

theorem pay5_at (z t : Vec Ideal S512x2048 .f32) (g b : Vec Ideal S1x2048 .f32) (p : Fin 512) (q : Fin 2048) :
    k0_pay5 z g b t (ix2 p q) = miss (row z p) (row g 0) (row b 0) (row t p) q := by
  unfold k0_pay5 miss
  simp only [← pay4_at]
  pointwise
theorem pay6_at (z t : Vec Ideal S512x2048 .f32) (g b : Vec Ideal S1x2048 .f32) (p : Fin 512) (q : Fin 2048) :
    k0_pay6 z g b t (ix2 p q) = miss (row z p) (row g 0) (row b 0) (row t p) q * scale := by
  unfold k0_pay6 scale
  simp only [← pay5_at]
  pointwise
theorem pay7_at (z t : Vec Ideal S512x2048 .f32) (g b : Vec Ideal S1x2048 .f32) (p : Fin 512) (q : Fin 2048) :
    k0_pay7 z g b t g (ix2 p q) = seed (row z p) (row g 0) (row b 0) (row t p) q := by
  unfold k0_pay7 seed
  simp only [← pay6_at]
  pointwise

/-- The derivative by the rows as the kernel's body writes it, wide and in the storage type. -/
def dzOf (z : Vec Ideal S512x2048 .f32) (g b : Vec Ideal S1x2048 .f32) (t : Vec Ideal S512x2048 .f32) : Vec Ideal S512x2048 .f32 :=
  k0_pay10 (k0_pay3 z) (k0_pay4 z) (k0_pay7 z g b t g) (k0_pay8 z g b t g) (k0_pay9 z g b t g)
def dzbOf (z : Vec Ideal S512x2048 .f32) (g b : Vec Ideal S1x2048 .f32) (t : Vec Ideal S512x2048 .f32) : Vec Ideal S512x2048 .bf16 :=
  k0_pay11 (k0_pay3 z) (k0_pay4 z) (k0_pay7 z g b t g) (k0_pay8 z g b t g) (k0_pay9 z g b t g)
theorem dzOf_at (z t : Vec Ideal S512x2048 .f32) (g b : Vec Ideal S1x2048 .f32) (p : Fin 512) (q : Fin 2048) :
    dzOf z g b t (ix2 p q) = Norm.dx (row z p) (seed (row z p) (row g 0) (row b 0) (row t p)) q := by
  unfold dzOf k0_pay10 k0_pay8 k0_pay9 Norm.dx Norm.width
  simp only [← pay3_at, ← pay4_at, ← pay7_at]
  pointwise
theorem dzbOf_at (z t : Vec Ideal S512x2048 .f32) (g b : Vec Ideal S1x2048 .f32) (p : Fin 512) (q : Fin 2048) :
    dzbOf z g b t (ix2 p q) = Norm.dx (row z p) (seed (row z p) (row g 0) (row b 0) (row t p)) q := by
  rw [← dzOf_at]
  rfl

theorem pay15_at (e : Vec Ideal S512x2048 .f32) (o : Vec Ideal S1x2048 .f32) (q : Fin 2048) :
    k0_pay15 e o (ix2 0 q) = o (ix2 0 q) + ∑ p : Fin 512, e (ix2 p q) * e (ix2 p q) := by
  unfold k0_pay15
  pointwise
theorem pay16_at (xh dy : Vec Ideal S512x2048 .f32) (o : Vec Ideal S1x2048 .f32) (q : Fin 2048) :
    k0_pay16 xh dy o (ix2 0 q) = o (ix2 0 q) + ∑ p : Fin 512, dy (ix2 p q) * xh (ix2 p q) := by
  unfold k0_pay16
  pointwise
theorem pay17_at (dy : Vec Ideal S512x2048 .f32) (o : Vec Ideal S1x2048 .f32) (q : Fin 2048) :
    k0_pay17 dy o (ix2 0 q) = o (ix2 0 q) + ∑ p : Fin 512, dy (ix2 p q) := by
  unfold k0_pay17
  pointwise
theorem pay1_at (s : Vec Ideal S1x2048 .f32) : k0_pay1 s (ix2 0 0) = Ideal.ofBits .f32 0x39800000#32 * ∑ q : Fin 2048, s (ix2 0 q) := by
  unfold k0_pay1
  pointwise
theorem pay12_at (q : Fin 2048) : k0_pay12 (F := Ideal) (ix2 0 q) = 0 := by
  unfold k0_pay12
  pointwise
theorem pay13_at (q : Fin 2048) : k0_pay13 (F := Ideal) (ix2 0 q) = 0 := by
  unfold k0_pay13
  pointwise
theorem pay14_at (q : Fin 2048) : k0_pay14 (F := Ideal) (ix2 0 q) = 0 := by
  unfold k0_pay14
  pointwise

theorem hz : (![0, 0] : Fin 2 → Nat) = fun _ => 0 := funext fun a => by fin_cases a <;> rfl

section points
variable (c : Dev nD) (i : grid0.Coords) (a1 : Memref sig .tc .vmem S512x2048 .f32) (h1 : a1.IsWhole)
  (a2 : Memref sig .tc .vmem S1x2048 .f32) (h2 : a2.IsWhole) (a3 : Memref sig .tc .vmem S1x2048 .f32) (h3 : a3.IsWhole)
  (a4 : Memref sig .tc .vmem S512x2048 .f32) (h4 : a4.IsWhole) (a5 : Memref sig .tc .vmem S1x1 .f32) (h5 : a5.IsWhole)
  (a6 : Memref sig .tc .vmem S512x2048 .f32) (h6 : a6.IsWhole) (a7 : Memref sig .tc .vmem S512x2048 .bf16) (h7 : a7.IsWhole)
  (a8 : Memref sig .tc .vmem S1x2048 .f32) (h8 : a8.IsWhole) (a9 : Memref sig .tc .vmem S1x2048 .f32) (h9 : a9.IsWhole)
  (a10 : Memref sig .tc .vmem S1x2048 .f32) (h10 : a10.IsWhole)
  (x0 : Vec Ideal S512x2048 .f32) (x1 x2 : Vec Ideal S1x2048 .f32) (x3 : Vec Ideal S512x2048 .f32)

/-- What the first point leaves: the sums start from zeros. -/
theorem atA (hc : cond0_0 i) (hd : ¬cond0_1 i) :
    out0_A_5 c i a1 h1 a2 h2 a3 h3 a4 h4 a5 h5 a6 h6 a7 h7 a8 h8 a9 h9 a10 h10 hc hd x0 x1 x2 x3 = dzOf x0 x1 x2 x3
      ∧ out0_A_6 c i a1 h1 a2 h2 a3 h3 a4 h4 a5 h5 a6 h6 a7 h7 a8 h8 a9 h9 a10 h10 hc hd x0 x1 x2 x3 = dzbOf x0 x1 x2 x3
      ∧ out0_A_7 c i a1 h1 a2 h2 a3 h3 a4 h4 a5 h5 a6 h6 a7 h7 a8 h8 a9 h9 a10 h10 hc hd x0 x1 x2 x3 = k0_pay16 (k0_pay4 x0) (k0_pay6 x0 x1 x2 x3) (k0_pay13 (F := Ideal))
      ∧ out0_A_8 c i a1 h1 a2 h2 a3 h3 a4 h4 a5 h5 a6 h6 a7 h7 a8 h8 a9 h9 a10 h10 hc hd x0 x1 x2 x3 = k0_pay17 (k0_pay6 x0 x1 x2 x3) (k0_pay14 (F := Ideal))
      ∧ sout0_A_0 c i a1 h1 a2 h2 a3 h3 a4 h4 a5 h5 a6 h6 a7 h7 a8 h8 a9 h9 a10 h10 hc hd x0 x1 x2 x3 = k0_pay15 (k0_pay5 x0 x1 x2 x3) (k0_pay12 (F := Ideal)) := by
  refine ⟨(View.read_writes_eq_canon _ _ _ (cover0_A_5 c i a1 h1 a2 h2 a3 h3 a4 h4 a5 h5 a6 h6 a7 h7 a8 h8 a9 h9 a10 h10 hc hd x0 x1 x2 x3)).trans ?_,
    (View.read_writes_eq_canon _ _ _ (cover0_A_6 c i a1 h1 a2 h2 a3 h3 a4 h4 a5 h5 a6 h6 a7 h7 a8 h8 a9 h9 a10 h10 hc hd x0 x1 x2 x3)).trans ?_,
    (View.read_writes_eq_canon _ _ _ (cover0_A_7 c i a1 h1 a2 h2 a3 h3 a4 h4 a5 h5 a6 h6 a7 h7 a8 h8 a9 h9 a10 h10 hc hd x0 x1 x2 x3)).trans ?_,
    (View.read_writes_eq_canon _ _ _ (cover0_A_8 c i a1 h1 a2 h2 a3 h3 a4 h4 a5 h5 a6 h6 a7 h7 a8 h8 a9 h9 a10 h10 hc hd x0 x1 x2 x3)).trans ?_,
    (View.read_writes_eq_canon _ _ _ (scover0_A_0 c i a1 h1 a2 h2 a3 h3 a4 h4 a5 h5 a6 h6 a7 h7 a8 h8 a9 h9 a10 h10 hc hd x0 x1 x2 x3)).trans ?_⟩
  all_goals
    unfold kernelRun0_A
    dsimp only
    rw [View.canon_cons_unit_zero hz]
    simp only [dzOf, dzbOf, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.v52, kernelRun0_A.sl.v60, kernelRun0_A.sl.v67, kernelRun0_A.sl.H7_1, kernelRun0_A.sl.H8_1, kernelRun0_A.sl.HS0_1,
      View.readCov_unit_zero (S := S1x2048) _ hz, View.readAt_eq_ld, h1.read_unread, h2.read_unread, h3.read_unread, h4.read_unread,
      View.ld_unit_zero (S := S512x2048) hz, View.ld_unit_zero (S := S1x2048) hz]

/-- What a point between leaves: it adds to the sums so far. -/
theorem atB (hc : ¬cond0_0 i) (hd : ¬cond0_1 i) (o7 o8 s0 : Vec Ideal S1x2048 .f32) :
    out0_B_5 c i a1 h1 a2 h2 a3 h3 a4 h4 a5 h5 a6 h6 a7 h7 a8 h8 a9 h9 a10 h10 hc hd x0 x1 x2 x3 o7 o8 s0 = dzOf x0 x1 x2 x3
      ∧ out0_B_6 c i a1 h1 a2 h2 a3 h3 a4 h4 a5 h5 a6 h6 a7 h7 a8 h8 a9 h9 a10 h10 hc hd x0 x1 x2 x3 o7 o8 s0 = dzbOf x0 x1 x2 x3
      ∧ out0_B_7 c i a1 h1 a2 h2 a3 h3 a4 h4 a5 h5 a6 h6 a7 h7 a8 h8 a9 h9 a10 h10 hc hd x0 x1 x2 x3 o7 o8 s0 = k0_pay16 (k0_pay4 x0) (k0_pay6 x0 x1 x2 x3) o7
      ∧ out0_B_8 c i a1 h1 a2 h2 a3 h3 a4 h4 a5 h5 a6 h6 a7 h7 a8 h8 a9 h9 a10 h10 hc hd x0 x1 x2 x3 o7 o8 s0 = k0_pay17 (k0_pay6 x0 x1 x2 x3) o8
      ∧ sout0_B_0 c i a1 h1 a2 h2 a3 h3 a4 h4 a5 h5 a6 h6 a7 h7 a8 h8 a9 h9 a10 h10 hc hd x0 x1 x2 x3 o7 o8 s0 = k0_pay15 (k0_pay5 x0 x1 x2 x3) s0 := by
  refine ⟨(View.read_writes_eq_canon _ _ _ (cover0_B_5 c i a1 h1 a2 h2 a3 h3 a4 h4 a5 h5 a6 h6 a7 h7 a8 h8 a9 h9 a10 h10 hc hd x0 x1 x2 x3 o7 o8 s0)).trans ?_,
    (View.read_writes_eq_canon _ _ _ (cover0_B_6 c i a1 h1 a2 h2 a3 h3 a4 h4 a5 h5 a6 h6 a7 h7 a8 h8 a9 h9 a10 h10 hc hd x0 x1 x2 x3 o7 o8 s0)).trans ?_,
    (View.read_writes_eq_canon _ _ _ (cover0_B_7 c i a1 h1 a2 h2 a3 h3 a4 h4 a5 h5 a6 h6 a7 h7 a8 h8 a9 h9 a10 h10 hc hd x0 x1 x2 x3 o7 o8 s0)).trans ?_,
    (View.read_writes_eq_canon _ _ _ (cover0_B_8 c i a1 h1 a2 h2 a3 h3 a4 h4 a5 h5 a6 h6 a7 h7 a8 h8 a9 h9 a10 h10 hc hd x0 x1 x2 x3 o7 o8 s0)).trans ?_,
    (View.read_writes_eq_canon _ _ _ (scover0_B_0 c i a1 h1 a2 h2 a3 h3 a4 h4 a5 h5 a6 h6 a7 h7 a8 h8 a9 h9 a10 h10 hc hd x0 x1 x2 x3 o7 o8 s0)).trans ?_⟩
  all_goals
    unfold kernelRun0_B
    dsimp only
    rw [View.canon_unit_zero hz]
    simp only [dzOf, dzbOf, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
      View.readCov_unit_zero (S := S1x2048) _ hz, View.readAt_eq_ld, h1.read_unread, h2.read_unread, h3.read_unread, h4.read_unread, h8.read_unread, h9.read_unread, h10.read_unread,
      View.ld_unit_zero (S := S512x2048) hz, View.ld_unit_zero (S := S1x2048) hz]

/-- The last point also stores the loss. -/
theorem atC (hc : ¬cond0_0 i) (hd : cond0_1 i) (o7 o8 s0 : Vec Ideal S1x2048 .f32) :
    out0_C_4 c i a1 h1 a2 h2 a3 h3 a4 h4 a5 h5 a6 h6 a7 h7 a8 h8 a9 h9 a10 h10 hc hd x0 x1 x2 x3 o7 o8 s0 = k0_pay1 (k0_pay15 (k0_pay5 x0 x1 x2 x3) s0)
      ∧ out0_C_5 c i a1 h1 a2 h2 a3 h3 a4 h4 a5 h5 a6 h6 a7 h7 a8 h8 a9 h9 a10 h10 hc hd x0 x1 x2 x3 o7 o8 s0 = dzOf x0 x1 x2 x3
      ∧ out0_C_6 c i a1 h1 a2 h2 a3 h3 a4 h4 a5 h5 a6 h6 a7 h7 a8 h8 a9 h9 a10 h10 hc hd x0 x1 x2 x3 o7 o8 s0 = dzbOf x0 x1 x2 x3
      ∧ out0_C_7 c i a1 h1 a2 h2 a3 h3 a4 h4 a5 h5 a6 h6 a7 h7 a8 h8 a9 h9 a10 h10 hc hd x0 x1 x2 x3 o7 o8 s0 = k0_pay16 (k0_pay4 x0) (k0_pay6 x0 x1 x2 x3) o7
      ∧ out0_C_8 c i a1 h1 a2 h2 a3 h3 a4 h4 a5 h5 a6 h6 a7 h7 a8 h8 a9 h9 a10 h10 hc hd x0 x1 x2 x3 o7 o8 s0 = k0_pay17 (k0_pay6 x0 x1 x2 x3) o8
      ∧ sout0_C_0 c i a1 h1 a2 h2 a3 h3 a4 h4 a5 h5 a6 h6 a7 h7 a8 h8 a9 h9 a10 h10 hc hd x0 x1 x2 x3 o7 o8 s0 = k0_pay15 (k0_pay5 x0 x1 x2 x3) s0 := by
  refine ⟨(View.read_writes_eq_canon _ _ _ (cover0_C_4 c i a1 h1 a2 h2 a3 h3 a4 h4 a5 h5 a6 h6 a7 h7 a8 h8 a9 h9 a10 h10 hc hd x0 x1 x2 x3 o7 o8 s0)).trans ?_,
    (View.read_writes_eq_canon _ _ _ (cover0_C_5 c i a1 h1 a2 h2 a3 h3 a4 h4 a5 h5 a6 h6 a7 h7 a8 h8 a9 h9 a10 h10 hc hd x0 x1 x2 x3 o7 o8 s0)).trans ?_,
    (View.read_writes_eq_canon _ _ _ (cover0_C_6 c i a1 h1 a2 h2 a3 h3 a4 h4 a5 h5 a6 h6 a7 h7 a8 h8 a9 h9 a10 h10 hc hd x0 x1 x2 x3 o7 o8 s0)).trans ?_,
    (View.read_writes_eq_canon _ _ _ (cover0_C_7 c i a1 h1 a2 h2 a3 h3 a4 h4 a5 h5 a6 h6 a7 h7 a8 h8 a9 h9 a10 h10 hc hd x0 x1 x2 x3 o7 o8 s0)).trans ?_,
    (View.read_writes_eq_canon _ _ _ (cover0_C_8 c i a1 h1 a2 h2 a3 h3 a4 h4 a5 h5 a6 h6 a7 h7 a8 h8 a9 h9 a10 h10 hc hd x0 x1 x2 x3 o7 o8 s0)).trans ?_,
    (View.read_writes_eq_canon _ _ _ (scover0_C_0 c i a1 h1 a2 h2 a3 h3 a4 h4 a5 h5 a6 h6 a7 h7 a8 h8 a9 h9 a10 h10 hc hd x0 x1 x2 x3 o7 o8 s0)).trans ?_⟩
  all_goals
    unfold kernelRun0_C
    dsimp only
    try unfold kernelRun0_C.sl.HS0_1
    rw [View.canon_unit_zero hz]
    simp only [dzOf, dzbOf, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.v76, kernelRun0_C.sl.HS0_1,
      View.readCov_unit_zero (S := S1x2048) _ hz, View.readAt_eq_ld, h1.read_unread, h2.read_unread, h3.read_unread, h4.read_unread, h8.read_unread, h9.read_unread, h10.read_unread,
      View.ld_unit_zero (S := S512x2048) hz, View.ld_unit_zero (S := S1x2048) hz]
end points

variable (m : (ℓ : Loc nD τ sig) → Buf (Elt Ideal) ℓ)

/-! ## What the points leave, at the arguments -/

/-- The arguments as arrays of extended reals: the rows, the norm's weight and bias, and the target. -/
abbrev aZ (c : Dev nD) : FVec Ideal S8192x2048 .f32 := m ((c : Thread nD τ).loc main_arg0)
abbrev aG (c : Dev nD) : FVec Ideal S1x2048 .f32 := m ((c : Thread nD τ).loc main_arg1)
abbrev aB (c : Dev nD) : FVec Ideal S1x2048 .f32 := m ((c : Thread nD τ).loc main_arg2)
abbrev aT (c : Dev nD) : FVec Ideal S8192x2048 .f32 := m ((c : Thread nD τ).loc main_arg3)

section arrays
variable (z : FVec Ideal S8192x2048 .f32) (g b : FVec Ideal S1x2048 .f32) (t : FVec Ideal S8192x2048 .f32)
/-- The miss and the derivative by the rows, at an entry of the whole arrays. -/
def missAt (r : Fin 8192) (q : Fin 2048) : EReal := miss (row z r) (row g 0) (row b 0) (row t r) q
def dz (r : Fin 8192) (q : Fin 2048) : EReal := Norm.dx (row z r) (seed (row z r) (row g 0) (row b 0) (row t r)) q
/-- The arrays the kernel ends with: the loss, and the derivatives by the rows, by the weight and by the bias. -/
def outL : FVec Ideal S1x1 .f32 := fun _ => Ideal.ofBits .f32 0x39800000#32 * ∑ q : Fin 2048, ∑ r : Fin 8192, missAt z g b t r q * missAt z g b t r q
def outZ : FVec Ideal S8192x2048 .f32 := fun i => dz z g b t (i 0) (i 1)
def outB : FVec Ideal S8192x2048 .bf16 := fun i => dz z g b t (i 0) (i 1)
def outG : FVec Ideal S1x2048 .f32 := fun i => ∑ r : Fin 8192, missAt z g b t r (i 1) * scale * Norm.xhat (row z r) (i 1)
def outBias : FVec Ideal S1x2048 .f32 := fun i => ∑ r : Fin 8192, missAt z g b t r (i 1) * scale
end arrays

/-- The blocks the windows visit at point `t`. -/
theorem idx_eqs : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_7.index t 0 = 0 ∧ win0_7.index t 1 = 0) ∧ t.val < 16 :=
  (by decide +kernel : ∀ t : Fin grid0.N, _)
theorem pt_lt (t : Fin cfg0.N) : t.val < 16 := (idx_eqs t).2.2.2.2.2.2.2

theorem blk_z (c : Dev nD) (t : Fin cfg0.N) (p : Fin 512) (q : Fin 2048) (h : t.val * 512 + p.val < 8192) :
    iblk m c 0 t (ix2 p q) = aZ m c (ix2 ⟨t.val * 512 + p.val, h⟩ q) := by
  obtain ⟨⟨h0, h1⟩, -⟩ := idx_eqs t
  refine congrArg (aZ m c) (funext fun a => Fin.ext ?_)
  match a with
  | ⟨0, _⟩ => show win0_0.index t 0 * 512 + 1 * p.val = t.val * 512 + p.val; rw [h0]; omega
  | ⟨1, _⟩ => show win0_0.index t 1 * 2048 + 1 * q.val = q.val; rw [h1]; omega
theorem blk_g (c : Dev nD) (t : Fin cfg0.N) (q : Fin 2048) : iblk m c 1 t (ix2 0 q) = aG m c (ix2 0 q) := by
  obtain ⟨-, ⟨h0, h1⟩, -⟩ := idx_eqs t
  refine congrArg (aG m c) (funext fun a => Fin.ext ?_)
  match a with
  | ⟨0, _⟩ => show win0_1.index t 0 * 1 + 1 * 0 = 0; rw [h0]
  | ⟨1, _⟩ => show win0_1.index t 1 * 2048 + 1 * q.val = q.val; rw [h1]; omega
theorem blk_b (c : Dev nD) (t : Fin cfg0.N) (q : Fin 2048) : iblk m c 2 t (ix2 0 q) = aB m c (ix2 0 q) := by
  obtain ⟨-, -, ⟨h0, h1⟩, -⟩ := idx_eqs t
  refine congrArg (aB m c) (funext fun a => Fin.ext ?_)
  match a with
  | ⟨0, _⟩ => show win0_2.index t 0 * 1 + 1 * 0 = 0; rw [h0]
  | ⟨1, _⟩ => show win0_2.index t 1 * 2048 + 1 * q.val = q.val; rw [h1]; omega
theorem blk_t (c : Dev nD) (t : Fin cfg0.N) (p : Fin 512) (q : Fin 2048) (h : t.val * 512 + p.val < 8192) :
    iblk m c 3 t (ix2 p q) = aT m c (ix2 ⟨t.val * 512 + p.val, h⟩ q) := by
  obtain ⟨-, -, -, ⟨h0, h1⟩, -⟩ := idx_eqs t
  refine congrArg (aT m c) (funext fun a => Fin.ext ?_)
  match a with
  | ⟨0, _⟩ => show win0_3.index t 0 * 512 + 1 * p.val = t.val * 512 + p.val; rw [h0]; omega
  | ⟨1, _⟩ => show win0_3.index t 1 * 2048 + 1 * q.val = q.val; rw [h1]; omega

theorem row_z (c : Dev nD) (t : Fin cfg0.N) (p : Fin 512) (h : t.val * 512 + p.val < 8192) :
    row (n := 512) (iblk m c 0 t) p = row (aZ m c) ⟨t.val * 512 + p.val, h⟩ := funext fun k => blk_z m c t p k h
theorem row_g (c : Dev nD) (t : Fin cfg0.N) : row (n := 1) (iblk m c 1 t) 0 = row (aG m c) 0 := funext fun k => blk_g m c t k
theorem row_b (c : Dev nD) (t : Fin cfg0.N) : row (n := 1) (iblk m c 2 t) 0 = row (aB m c) 0 := funext fun k => blk_b m c t k
theorem row_t (c : Dev nD) (t : Fin cfg0.N) (p : Fin 512) (h : t.val * 512 + p.val < 8192) :
    row (n := 512) (iblk m c 3 t) p = row (aT m c) ⟨t.val * 512 + p.val, h⟩ := funext fun k => blk_t m c t p k h

theorem dz_blk (c : Dev nD) (t : Fin cfg0.N) (p : Fin 512) (q : Fin 2048) (h : t.val * 512 + p.val < 8192) :
    dzOf (iblk m c 0 t) (iblk m c 1 t) (iblk m c 2 t) (iblk m c 3 t) (ix2 p q) = dz (aZ m c) (aG m c) (aB m c) (aT m c) ⟨t.val * 512 + p.val, h⟩ q := by
  rw [dzOf_at, row_z m c t p h, row_g, row_b, row_t m c t p h, dz]
theorem dzb_blk (c : Dev nD) (t : Fin cfg0.N) (p : Fin 512) (q : Fin 2048) (h : t.val * 512 + p.val < 8192) :
    dzbOf (iblk m c 0 t) (iblk m c 1 t) (iblk m c 2 t) (iblk m c 3 t) (ix2 p q) = dz (aZ m c) (aG m c) (aB m c) (aT m c) ⟨t.val * 512 + p.val, h⟩ q := by
  rw [dzbOf_at, row_z m c t p h, row_g, row_b, row_t m c t p h, dz]

/-- A point's rows of a sum. -/
def rowsOf (f : Fin 8192 → EReal) (b : Fin cfg0.N) : EReal :=
  ∑ p : Fin 512, f ⟨b.val * 512 + p.val, by have := pt_lt b; omega⟩
abbrev eAt (c : Dev nD) (r : Fin 8192) (q : Fin 2048) : EReal := missAt (aZ m c) (aG m c) (aB m c) (aT m c) r q
theorem sum_e (c : Dev nD) (t : Fin cfg0.N) (o : Vec Ideal S1x2048 .f32) (q : Fin 2048) :
    k0_pay15 (k0_pay5 (iblk m c 0 t) (iblk m c 1 t) (iblk m c 2 t) (iblk m c 3 t)) o (ix2 0 q)
      = o (ix2 0 q) + rowsOf (fun r => eAt m c r q * eAt m c r q) t := by
  have ht := pt_lt t
  rw [pay15_at, rowsOf]
  refine congrArg (o (ix2 0 q) + ·) (Finset.sum_congr rfl fun p _ => ?_)
  have h : t.val * 512 + p.val < 8192 := by omega
  rw [pay5_at, row_z m c t p h, row_g, row_b, row_t m c t p h]
  rfl
theorem sum_g (c : Dev nD) (t : Fin cfg0.N) (o : Vec Ideal S1x2048 .f32) (q : Fin 2048) :
    k0_pay16 (k0_pay4 (iblk m c 0 t)) (k0_pay6 (iblk m c 0 t) (iblk m c 1 t) (iblk m c 2 t) (iblk m c 3 t)) o (ix2 0 q)
      = o (ix2 0 q) + rowsOf (fun r => eAt m c r q * scale * Norm.xhat (row (aZ m c) r) q) t := by
  have ht := pt_lt t
  rw [pay16_at, rowsOf]
  refine congrArg (o (ix2 0 q) + ·) (Finset.sum_congr rfl fun p _ => ?_)
  have h : t.val * 512 + p.val < 8192 := by omega
  rw [pay4_at, pay6_at, row_z m c t p h, row_g, row_b, row_t m c t p h]
  rfl
theorem sum_b (c : Dev nD) (t : Fin cfg0.N) (o : Vec Ideal S1x2048 .f32) (q : Fin 2048) :
    k0_pay17 (k0_pay6 (iblk m c 0 t) (iblk m c 1 t) (iblk m c 2 t) (iblk m c 3 t)) o (ix2 0 q)
      = o (ix2 0 q) + rowsOf (fun r => eAt m c r q * scale) t := by
  have ht := pt_lt t
  rw [pay17_at, rowsOf]
  refine congrArg (o (ix2 0 q) + ·) (Finset.sum_congr rfl fun p _ => ?_)
  have h : t.val * 512 + p.val < 8192 := by omega
  rw [pay6_at, row_z m c t p h, row_g, row_b, row_t m c t p h]
  rfl

/-- The windows but the loss's, and the carried sum of squares, after a point that found `o7`, `o8` and `s0` in the three sums. -/
def left (c : Dev nD) (t : Fin cfg0.N) (o7 o8 s0 : Vec Ideal S1x2048 .f32) :
    Vec Ideal S512x2048 .f32 × Vec Ideal S512x2048 .bf16 × Vec Ideal S1x2048 .f32 × Vec Ideal S1x2048 .f32 × Vec Ideal S1x2048 .f32 :=
  (dzOf (iblk m c 0 t) (iblk m c 1 t) (iblk m c 2 t) (iblk m c 3 t), dzbOf (iblk m c 0 t) (iblk m c 1 t) (iblk m c 2 t) (iblk m c 3 t),
    k0_pay16 (k0_pay4 (iblk m c 0 t)) (k0_pay6 (iblk m c 0 t) (iblk m c 1 t) (iblk m c 2 t) (iblk m c 3 t)) o7,
    k0_pay17 (k0_pay6 (iblk m c 0 t) (iblk m c 1 t) (iblk m c 2 t) (iblk m c 3 t)) o8,
    k0_pay15 (k0_pay5 (iblk m c 0 t) (iblk m c 1 t) (iblk m c 2 t) (iblk m c 3 t)) s0)

theorem outs_first (c : Dev nD) (h : 0 < cfg0.N) :
    (outsAt0 m c 0 h).2 = left m c ⟨0, h⟩ (k0_pay13 (F := Ideal)) (k0_pay14 (F := Ideal)) (k0_pay12 (F := Ideal)) := by
  have n1 : ¬0 % 16 = 15 := by decide
  obtain ⟨e5, e6, e7, e8, es⟩ := atA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) (iblk m c 0 ⟨0, h⟩) (iblk m c 1 ⟨0, h⟩) (iblk m c 2 ⟨0, h⟩) (iblk m c 3 ⟨0, h⟩)
    ((hcond0_0 ⟨0, h⟩).mpr (Nat.zero_mod _)) (fun x => n1 ((hcond0_1 ⟨0, h⟩).mp x))
  rw [outsAt0_A m c ⟨0, h⟩ (Nat.zero_mod _) n1, e5, e6, e7, e8, es, left]
theorem outs_next (c : Dev nD) (t : ℕ) (h : t + 1 < cfg0.N) :
    (outsAt0 m c (t + 1) h).2 = left m c ⟨t + 1, h⟩ (outsAt0 m c t (Nat.lt_of_succ_lt h)).2.2.2.1 (outsAt0 m c t (Nat.lt_of_succ_lt h)).2.2.2.2.1
      (outsAt0 m c t (Nat.lt_of_succ_lt h)).2.2.2.2.2
    ∧ ((t + 1) % 16 = 15 → (outsAt0 m c (t + 1) h).1 = k0_pay1 (outsAt0 m c (t + 1) h).2.2.2.2.2) := by
  have h0 : ¬(t + 1) % 16 = 0 := by have := pt_lt ⟨t + 1, h⟩; dsimp only at this; omega
  by_cases h1 : (t + 1) % 16 = 15
  · obtain ⟨e4, e5, e6, e7, e8, es⟩ := atC c (grid0.coords ⟨t + 1, h⟩) (ms0_0 ⟨t + 1, h⟩) (hs0_0 ⟨t + 1, h⟩) (ms0_1 ⟨t + 1, h⟩) (hs0_1 ⟨t + 1, h⟩) (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) (ms0_5 ⟨t + 1, h⟩) (hs0_5 ⟨t + 1, h⟩) (ms0_6 ⟨t + 1, h⟩) (hs0_6 ⟨t + 1, h⟩) (ms0_7 ⟨t + 1, h⟩) (hs0_7 ⟨t + 1, h⟩) (ms0_8 ⟨t + 1, h⟩) (hs0_8 ⟨t + 1, h⟩) scM0_0 (Memref.isWhole_whole _) (iblk m c 0 ⟨t + 1, h⟩) (iblk m c 1 ⟨t + 1, h⟩) (iblk m c 2 ⟨t + 1, h⟩) (iblk m c 3 ⟨t + 1, h⟩)
      (fun x => h0 ((hcond0_0 ⟨t + 1, h⟩).mp x)) ((hcond0_1 ⟨t + 1, h⟩).mpr h1)
      (outsAt0 m c t (Nat.lt_of_succ_lt h)).2.2.2.1 (outsAt0 m c t (Nat.lt_of_succ_lt h)).2.2.2.2.1 (outsAt0 m c t (Nat.lt_of_succ_lt h)).2.2.2.2.2
    have e := (outsAt0_C m c ⟨t + 1, h⟩ h0 h1).trans
      (congr (congrArg Prod.mk e4) (congr (congrArg Prod.mk e5) (congr (congrArg Prod.mk e6) (congr (congrArg Prod.mk e7) (congr (congrArg Prod.mk e8) es)))))
    exact ⟨congrArg Prod.snd e, fun _ => (congrArg Prod.fst e).trans (congrArg (fun x => k0_pay1 x.2.2.2.2.2) e).symm⟩
  · obtain ⟨e5, e6, e7, e8, es⟩ := atB c (grid0.coords ⟨t + 1, h⟩) (ms0_0 ⟨t + 1, h⟩) (hs0_0 ⟨t + 1, h⟩) (ms0_1 ⟨t + 1, h⟩) (hs0_1 ⟨t + 1, h⟩) (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) (ms0_5 ⟨t + 1, h⟩) (hs0_5 ⟨t + 1, h⟩) (ms0_6 ⟨t + 1, h⟩) (hs0_6 ⟨t + 1, h⟩) (ms0_7 ⟨t + 1, h⟩) (hs0_7 ⟨t + 1, h⟩) (ms0_8 ⟨t + 1, h⟩) (hs0_8 ⟨t + 1, h⟩) scM0_0 (Memref.isWhole_whole _) (iblk m c 0 ⟨t + 1, h⟩) (iblk m c 1 ⟨t + 1, h⟩) (iblk m c 2 ⟨t + 1, h⟩) (iblk m c 3 ⟨t + 1, h⟩)
      (fun x => h0 ((hcond0_0 ⟨t + 1, h⟩).mp x)) (fun x => h1 ((hcond0_1 ⟨t + 1, h⟩).mp x))
      (outsAt0 m c t (Nat.lt_of_succ_lt h)).2.2.2.1 (outsAt0 m c t (Nat.lt_of_succ_lt h)).2.2.2.2.1 (outsAt0 m c t (Nat.lt_of_succ_lt h)).2.2.2.2.2
    exact ⟨(congrArg Prod.snd (outsAt0_B m c ⟨t + 1, h⟩ h0 h1)).trans
      (congr (congrArg Prod.mk e5) (congr (congrArg Prod.mk e6) (congr (congrArg Prod.mk e7) (congr (congrArg Prod.mk e8) es)))), fun x => absurd x h1⟩

theorem dz_left (c : Dev nD) (t : Fin cfg0.N) :
    (outsAt0 m c t.val t.isLt).2.1 = dzOf (iblk m c 0 t) (iblk m c 1 t) (iblk m c 2 t) (iblk m c 3 t)
      ∧ (outsAt0 m c t.val t.isLt).2.2.1 = dzbOf (iblk m c 0 t) (iblk m c 1 t) (iblk m c 2 t) (iblk m c 3 t) := by
  obtain ⟨_ | t, h⟩ := t
  · rw [outs_first m c h]; exact ⟨rfl, rfl⟩
  · rw [(outs_next m c t h).1]; exact ⟨rfl, rfl⟩

/-- After the last point the sums are over all rows. -/
theorem all_rows (f : Fin 8192 → EReal) (t : Fin cfg0.N) (e : t.val = 15) :
    ∑ b : Fin (t.val + 1), rowsOf f ⟨b.val, Nat.lt_of_lt_of_le b.isLt t.isLt⟩ = ∑ r, f r := by
  obtain ⟨t, h⟩ := t
  obtain rfl : t = 15 := e
  exact Norm.sum_rows f
theorem g_left (c : Dev nD) (t : Fin cfg0.N) (e : t.val = 15) (q : Fin 2048) :
    (outsAt0 m c t.val t.isLt).2.2.2.1 (ix2 0 q) = outG (aZ m c) (aG m c) (aB m c) (aT m c) (ix2 0 q) := by
  refine (Norm.run_sum (fun t h => (outsAt0 m c t h).2.2.2.1 (ix2 0 q)) (rowsOf fun r => eAt m c r q * scale * Norm.xhat (row (aZ m c) r) q)
    (fun h => ?_) (fun t h => ?_) t.val t.isLt).trans (all_rows _ t e)
  · rw [outs_first m c h]; exact (sum_g m c _ _ q).trans (by rw [pay13_at, zero_add])
  · rw [(outs_next m c t h).1]; exact sum_g m c _ _ q
theorem b_left (c : Dev nD) (t : Fin cfg0.N) (e : t.val = 15) (q : Fin 2048) :
    (outsAt0 m c t.val t.isLt).2.2.2.2.1 (ix2 0 q) = outBias (aZ m c) (aG m c) (aB m c) (aT m c) (ix2 0 q) := by
  refine (Norm.run_sum (fun t h => (outsAt0 m c t h).2.2.2.2.1 (ix2 0 q)) (rowsOf fun r => eAt m c r q * scale)
    (fun h => ?_) (fun t h => ?_) t.val t.isLt).trans (all_rows _ t e)
  · rw [outs_first m c h]; exact (sum_b m c _ _ q).trans (by rw [pay14_at, zero_add])
  · rw [(outs_next m c t h).1]; exact sum_b m c _ _ q
theorem e_left (c : Dev nD) (t : Fin cfg0.N) (e : t.val = 15) (q : Fin 2048) :
    (outsAt0 m c t.val t.isLt).2.2.2.2.2 (ix2 0 q) = ∑ r : Fin 8192, eAt m c r q * eAt m c r q := by
  refine (Norm.run_sum (fun t h => (outsAt0 m c t h).2.2.2.2.2 (ix2 0 q)) (rowsOf fun r => eAt m c r q * eAt m c r q)
    (fun h => ?_) (fun t h => ?_) t.val t.isLt).trans (all_rows _ t e)
  · rw [outs_first m c h]; exact (sum_e m c _ _ q).trans (by rw [pay12_at, zero_add])
  · rw [(outs_next m c t h).1]; exact sum_e m c _ _ q
theorem l_left (c : Dev nD) (t : Fin cfg0.N) (e : t.val = 15) :
    (outsAt0 m c t.val t.isLt).1 (ix2 0 0) = outL (aZ m c) (aG m c) (aB m c) (aT m c) (ix2 0 0) := by
  have es := e_left m c t e
  obtain ⟨_ | t, h⟩ := t
  · exact absurd e (show ¬0 = 15 by decide)
  · rw [(outs_next m c t h).2 (by dsimp only at e; omega), pay1_at]
    exact congrArg (Ideal.ofBits .f32 0x39800000#32 * ·) (Finset.sum_congr rfl fun q _ => es q)

/-! ## The arrays the kernel ends with -/

theorem place_z (t : Fin cfg0.N) (p : Fin 512) (q : Fin 2048) (h : t.val * 512 + p.val < 8192) :
    ((cfg0.win 5).blk t).view.emb (ix2 p q) = (ix2 ⟨t.val * 512 + p.val, h⟩ q : S8192x2048.Idx) := by
  obtain ⟨-, -, -, -, -, ⟨h0, h1⟩, -⟩ := idx_eqs t
  refine funext fun a => Fin.ext ?_
  match a with
  | ⟨0, _⟩ => show win0_5.index t 0 * 512 + 1 * p.val = t.val * 512 + p.val; rw [h0]; omega
  | ⟨1, _⟩ => show win0_5.index t 1 * 2048 + 1 * q.val = q.val; rw [h1]; omega
theorem place_s (t : Fin cfg0.N) (q : Fin 2048) : ((cfg0.win 7).blk t).view.emb (ix2 0 q) = (ix2 0 q : S1x2048.Idx) := by
  obtain ⟨-, -, -, -, -, -, ⟨h0, h1⟩, -⟩ := idx_eqs t
  refine funext fun a => Fin.ext ?_
  match a with
  | ⟨0, _⟩ => show win0_7.index t 0 * 1 + 1 * 0 = 0; rw [h0]
  | ⟨1, _⟩ => show win0_7.index t 1 * 2048 + 1 * q.val = q.val; rw [h1]; omega
theorem last (t : Fin cfg0.N) (h : t.val % 16 = 15) : t.val = 15 := by
  have := pt_lt t; omega

theorem flushed_l (c : Dev nD) (t : Fin cfg0.N) (h : (cfg0.win 4).flush t = true) :
    (dats m 0 c).flushed 4 t = ((cfg0.win 4).blk t).view.read (Elt Ideal) (outL (aZ m c) (aG m c) (aB m c) (aT m c)) := by
  have e := last t ((flush0_4 t).mp h)
  rw [Value.flushed4]
  funext y
  obtain ⟨p, q, rfl⟩ : ∃ (p : Fin 1) (q : Fin 1), y = ix2 p q := ⟨y 0, y 1, eq_ix2 y⟩
  obtain rfl : p = 0 := Subsingleton.elim _ _
  obtain rfl : q = 0 := Subsingleton.elim _ _
  exact l_left m c t e
theorem flushed_z (c : Dev nD) (t : Fin cfg0.N) :
    (dats m 0 c).flushed 5 t = ((cfg0.win 5).blk t).view.read (Elt Ideal) (outZ (aZ m c) (aG m c) (aB m c) (aT m c)) := by
  have ht := pt_lt t
  rw [Value.flushed5, (dz_left m c t).1]
  funext y
  obtain ⟨p, q, rfl⟩ : ∃ (p : Fin 512) (q : Fin 2048), y = ix2 p q := ⟨y 0, y 1, eq_ix2 y⟩
  have h : t.val * 512 + p.val < 8192 := by omega
  refine (dz_blk m c t p q h).trans ?_
  exact (congrArg (outZ (aZ m c) (aG m c) (aB m c) (aT m c)) (place_z t p q h)).symm
theorem flushed_zb (c : Dev nD) (t : Fin cfg0.N) :
    (dats m 0 c).flushed 6 t = ((cfg0.win 6).blk t).view.read (Elt Ideal) (outB (aZ m c) (aG m c) (aB m c) (aT m c)) := by
  have ht := pt_lt t
  rw [Value.flushed6, (dz_left m c t).2]
  funext y
  obtain ⟨p, q, rfl⟩ : ∃ (p : Fin 512) (q : Fin 2048), y = ix2 p q := ⟨y 0, y 1, eq_ix2 y⟩
  have h : t.val * 512 + p.val < 8192 := by omega
  refine (dzb_blk m c t p q h).trans ?_
  exact (congrArg (outB (aZ m c) (aG m c) (aB m c) (aT m c)) (place_z t p q h)).symm
theorem flushed_g (c : Dev nD) (t : Fin cfg0.N) (h : (cfg0.win 7).flush t = true) :
    (dats m 0 c).flushed 7 t = ((cfg0.win 7).blk t).view.read (Elt Ideal) (outG (aZ m c) (aG m c) (aB m c) (aT m c)) := by
  have e := last t ((flush0_7 t).mp h)
  rw [Value.flushed7]
  funext y
  obtain ⟨p, q, rfl⟩ : ∃ (p : Fin 1) (q : Fin 2048), y = ix2 p q := ⟨y 0, y 1, eq_ix2 y⟩
  obtain rfl : p = 0 := Subsingleton.elim _ _
  exact (g_left m c t e q).trans (congrArg (outG (aZ m c) (aG m c) (aB m c) (aT m c)) (place_s t q)).symm
theorem flushed_b (c : Dev nD) (t : Fin cfg0.N) (h : (cfg0.win 8).flush t = true) :
    (dats m 0 c).flushed 8 t = ((cfg0.win 8).blk t).view.read (Elt Ideal) (outBias (aZ m c) (aG m c) (aB m c) (aT m c)) := by
  have e := last t ((flush0_8 t).mp h)
  rw [Value.flushed8]
  funext y
  obtain ⟨p, q, rfl⟩ : ∃ (p : Fin 1) (q : Fin 2048), y = ix2 p q := ⟨y 0, y 1, eq_ix2 y⟩
  obtain rfl : p = 0 := Subsingleton.elim _ _
  exact (b_left m c t e q).trans (congrArg (outBias (aZ m c) (aG m c) (aB m c) (aT m c)) (place_s t q)).symm

theorem tiled : ∀ a : Fin 16, ∃ t : Fin cfg0.N, win0_5.index t 0 = a.val ∧ win0_5.index t 1 = 0 :=
  (by decide +kernel : ∀ a : Fin 16, ∃ t : Fin grid0.N, _)
theorem cover_z (i : S8192x2048.Idx) : ∃ t : Fin cfg0.N, i ∈ ((View.whole main_v0_1).slice (win0_5.rect t)).set := by
  have hi0 : (i 0).val < 8192 := (i 0).isLt
  have hi1 : (i 1).val < 2048 := (i 1).isLt
  obtain ⟨t, h0, h1⟩ := tiled ⟨(i 0).val / 512, by omega⟩
  dsimp only at h0
  refine ⟨t, ?_⟩
  rw [View.set_slice_whole, Rect.mem_set_unit]
  intro a
  match a with
  | ⟨0, _⟩ => show win0_5.index t 0 * 512 ≤ (i 0).val ∧ (i 0).val < win0_5.index t 0 * 512 + 512; omega
  | ⟨1, _⟩ => show win0_5.index t 1 * 2048 ≤ (i 1).val ∧ (i 1).val < win0_5.index t 1 * 2048 + 2048; omega

/-- The loss's window and a sum's are the whole arrays, written back at the last point. -/
theorem cover_l (i : S1x1.Idx) (t : Fin cfg0.N) : i ∈ ((View.whole main_v0_0).slice (win0_4.rect t)).set := by
  have hi0 : (i 0).val < 1 := (i 0).isLt
  have hi1 : (i 1).val < 1 := (i 1).isLt
  obtain ⟨-, -, -, -, ⟨h0, h1⟩, -⟩ := idx_eqs t
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 1 ≤ (i 1).val ∧ (i 1).val < win0_4.index t 1 * 1 + 1; omega
theorem cover_s (i : S1x2048.Idx) (t : Fin cfg0.N) : i ∈ ((View.whole main_v0_3).slice (win0_7.rect t)).set := by
  have hi0 : (i 0).val < 1 := (i 0).isLt
  have hi1 : (i 1).val < 2048 := (i 1).isLt
  obtain ⟨-, -, -, -, -, -, ⟨h0, h1⟩, -⟩ := idx_eqs t
  rw [View.set_slice_whole, Rect.mem_set_unit]
  intro a
  match a with
  | ⟨0, _⟩ => show win0_7.index t 0 * 1 ≤ (i 0).val ∧ (i 0).val < win0_7.index t 0 * 1 + 1; omega
  | ⟨1, _⟩ => show win0_7.index t 1 * 2048 ≤ (i 1).val ∧ (i 1).val < win0_7.index t 1 * 2048 + 2048; omega

theorem flushes : ∃ t : Fin cfg0.N, (cfg0.win 4).flush t = true ∧ (cfg0.win 7).flush t = true ∧ (cfg0.win 8).flush t = true :=
  ⟨⟨15, by decide⟩, (flush0_4 _).mpr rfl, (flush0_7 _).mpr rfl, (flush0_8 _).mpr rfl⟩

section reference
variable (m : (ℓ : Loc Reference28Ideal.nD Reference28Ideal.τ Reference28Ideal.sig) → Buf (Elt Ideal) ℓ) (c : Dev Reference28Ideal.nD)

abbrev rZ : FVec Ideal S8192x2048 .f32 := m ((c.tc : Thread Reference28Ideal.nD Reference28Ideal.τ).loc Reference28Ideal.main_arg0)
abbrev rG : FVec Ideal S1x2048 .f32 := m ((c.tc : Thread Reference28Ideal.nD Reference28Ideal.τ).loc Reference28Ideal.main_arg1)
abbrev rB : FVec Ideal S1x2048 .f32 := m ((c.tc : Thread Reference28Ideal.nD Reference28Ideal.τ).loc Reference28Ideal.main_arg2)
abbrev rT : FVec Ideal S8192x2048 .f32 := m ((c.tc : Thread Reference28Ideal.nD Reference28Ideal.τ).loc Reference28Ideal.main_arg3)

/-- The reference's factor of the miss: the mean's and the square's, and half. -/
theorem two_scale : Ideal.div (Ideal.ofBits .f32 0x3F000000#32 * Ideal.ofBits .f32 0x3F800000#32) (Ideal.ofBits .f32 0x45000000#32) * Ideal.ofBits .f32 0x40000000#32 = scale := by
  have eh : Ideal.ofBits .f32 0x3F000000#32 = ((1 / 2 : ℝ) : EReal) := by simp [Ideal.ofBits, Ideal.ieee, -EReal.coe_mul]; norm_num
  have eo : Ideal.ofBits .f32 0x3F800000#32 = ((1 : ℝ) : EReal) := by simp [Ideal.ofBits, Ideal.ieee, -EReal.coe_mul]; norm_num
  have e := Norm.div_width (Ideal.ofBits .f32 0x3F000000#32 * Ideal.ofBits .f32 0x3F800000#32)
  unfold Norm.width at e
  rw [e, eh, eo, scale_eq, Norm.two_eq, ← EReal.coe_mul, ← EReal.coe_mul, ← EReal.coe_mul]
  norm_num
theorem scaled (x : EReal) : Ideal.div (Ideal.ofBits .f32 0x3F000000#32 * Ideal.ofBits .f32 0x3F800000#32) (Ideal.ofBits .f32 0x45000000#32) * (Ideal.ofBits .f32 0x40000000#32 * x) = x * scale := by
  rw [← mul_assoc, two_scale, mul_comm]

theorem ref_at (p : Fin 8192) (q : Fin 2048) :
    Reference28Ideal.Value.res_main_v72 m c (ix2 p q) = Norm.chain (row (rZ m c) p) (seed (row (rZ m c) p) (row (rG m c) 0) (row (rB m c) 0) (row (rT m c) p)) q := by
  have e : seed (row (rZ m c) p) (row (rG m c) 0) (row (rB m c) 0) (row (rT m c) p) = fun k => (Ideal.div (Ideal.ofBits .f32 0x3F000000#32 * Ideal.ofBits .f32 0x3F800000#32) (Ideal.ofBits .f32 0x45000000#32) *
        (Ideal.ofBits .f32 0x40000000#32 * ((Norm.xhat (row (rZ m c) p) k * rG m c (ix2 0 k) + rB m c (ix2 0 k)) - rT m c (ix2 p k)))) * rG m c (ix2 0 k) :=
    funext fun k => (congrArg (· * rG m c (ix2 0 k)) (scaled _)).symm
  rw [e]
  unfold Reference28Ideal.Value.res_main_v72 Norm.chain Norm.thru Norm.xhat Norm.root Norm.shifted Norm.cen Norm.width Norm.eps row
  pointwise
theorem ref_dz (a : Fin 2048 → ℝ) (p : Fin 8192) (q : Fin 2048) (ha : seed (row (rZ m c) p) (row (rG m c) 0) (row (rB m c) 0) (row (rT m c) p) = fun k => (a k : EReal)) :
    Reference28Ideal.Value.res_main_v72 m c (ix2 p q) = dz (rZ m c) (rG m c) (rB m c) (rT m c) p q := by
  rw [ref_at, ha, Norm.chain_eq, dz, ha]
abbrev rDz : FVec Ideal S8192x2048 .f32 := Reference28Ideal.Value.res_main_v72 m c
theorem ref_b (p : Fin 8192) (q : Fin 2048) : Reference28Ideal.Value.res_main_v74 m c (ix2 p q) = rDz m c (ix2 p q) := by
  unfold Reference28Ideal.Value.res_main_v74 rDz Reference28Ideal.Value.res_main_v72
  rfl
end reference

/-- Two bits that are on together. -/
theorem both : ∀ {a b : BitVec 1}, a &&& b = 1#1 → a = 1#1 ∧ b = 1#1 := by decide

/-- Where the precondition holds, the misses are real, and so is the row of products the norm's gradient starts from. -/
theorem real_row (z : FVec Ideal S8192x2048 .f32) (g b : FVec Ideal S1x2048 .f32) (t : FVec Ideal S8192x2048 .f32)
    (h : (letI := Cert.Pre_finite28.Gen.facts; Cert.Pre_finite28.fn z g b t) = fun _ => 1#1) (p : Fin 8192) (q : Fin 2048) :
    ∃ e w : ℝ, missAt z g b t p q = (e : EReal) ∧ g (ix2 0 q) = (w : EReal) := by
  have e := congrFun h (ix2 p q)
  unfold Cert.Pre_finite28.fn at e
  have e' : (Ideal.cmp .olt (max (g (ix2 0 q)) (-g (ix2 0 q))) (Ideal.ofBits .f32 0x7F800000#32) &&& Ideal.cmp .olt (max (b (ix2 0 q)) (-b (ix2 0 q))) (Ideal.ofBits .f32 0x7F800000#32))
      &&& Ideal.cmp .olt (max (t (ix2 p q)) (-t (ix2 p q))) (Ideal.ofBits .f32 0x7F800000#32) = 1#1 := by
    refine Eq.trans ?_ e
    pointwise
    rfl
  obtain ⟨w, hw⟩ := Norm.real_of_olt (both (both e').1).1
  obtain ⟨v, hv⟩ := Norm.real_of_olt (both (both e').1).2
  obtain ⟨u, hu⟩ := Norm.real_of_olt (both e').2
  obtain ⟨x, hx⟩ := Norm.xhat_real (row z p)
  refine ⟨x q * w + v - u, w, ?_, hw⟩
  show (Norm.xhat (row z p) q * g (ix2 0 q) + b (ix2 0 q)) - t (ix2 p q) = _
  rw [hx, hw, hv, hu, EReal.coe_sub, EReal.coe_add, EReal.coe_mul]

/-- The loss either way: half the sum of the rows' mean squares, or a fraction of the sum of the columns' sums of squares. -/
theorem loss_eq (e : Fin 8192 → Fin 2048 → EReal) (h : ∀ r q, ∃ x : ℝ, e r q = x) :
    Ideal.ofBits .f32 0x3F000000#32 * ∑ r, Ideal.div (∑ q, e r q * e r q) Norm.width = Ideal.ofBits .f32 0x39800000#32 * ∑ q, ∑ r, e r q * e r q := by
  choose x hx using h
  have eh : Ideal.ofBits .f32 0x3F000000#32 = ((1 / 2 : ℝ) : EReal) := by simp [Ideal.ofBits, Ideal.ieee, -EReal.coe_mul]; norm_num
  have ef : Ideal.ofBits .f32 0x39800000#32 = ((1 / 4096 : ℝ) : EReal) := by simp [Ideal.ofBits, Ideal.ieee, -EReal.coe_mul]; norm_num
  simp only [hx, Norm.div_width, eh, ef, ← EReal.coe_mul, Norm.sum_coe]
  rw [← Finset.sum_mul, Finset.sum_comm]
  congr 1
  ring

/-- The claim: the kernel and the plain lines end with the same five arrays. -/
theorem algebraic : Cert.algebraic_Kernel28Ideal_Reference28Ideal_pre_finite28 (hKernel28Ideal := Cert.Kernel28Ideal.Gen.facts) (hReference28Ideal := Cert.Reference28Ideal.Gen.facts) (hPre_finite28 := Cert.Pre_finite28.Gen.facts) := by
  intro m ρ m' ρ' hpre hag
  obtain ⟨t₁, f4, f7, f8⟩ := flushes
  have real : ∀ (c : Dev nD) (p : Fin 8192) (q : Fin 2048), ∃ e w : ℝ, missAt (aZ m c) (aG m c) (aB m c) (aT m c) p q = (e : EReal) ∧ aG m c (ix2 0 q) = (w : EReal) :=
    fun c => real_row (aZ m c) (aG m c) (aB m c) (aT m c) (hpre c)
  have hdz : ∀ (c : Dev nD) (p : Fin 8192) (q : Fin 2048), rDz m' c (ix2 p q) = dz (aZ m c) (aG m c) (aB m c) (aT m c) p q := fun c p q => by
    have e0 : rZ m' c = aZ m c := (hag c).1
    have e1 : rG m' c = aG m c := (hag c).2.1
    have e2 : rB m' c = aB m c := (hag c).2.2.1
    have e3 : rT m' c = aT m c := (hag c).2.2.2
    choose e w he hw using real c p
    have ha : seed (row (aZ m c) p) (row (aG m c) 0) (row (aB m c) 0) (row (aT m c) p) = fun k => ((e k * (1 / 2048) * w k : ℝ) : EReal) :=
      funext fun k => by rw [EReal.coe_mul, EReal.coe_mul, ← he, ← hw, ← scale_eq]; rfl
    exact (ref_dz m' c _ p q (by rw [e0, e1, e2, e3]; exact ha)).trans (by rw [e0, e1, e2, e3])
  refine ⟨fun c => outL (aZ m c) (aG m c) (aB m c) (aT m c), fun c => outZ (aZ m c) (aG m c) (aB m c) (aT m c), fun c => outB (aZ m c) (aG m c) (aB m c) (aT m c),
    fun c => outG (aZ m c) (aG m c) (aB m c) (aT m c), fun c => outBias (aZ m c) (aG m c) (aB m c) (aT m c),
    (θ_run _ _ _).mono (fun _ h c =>
      ⟨(h c).1.trans ((dats m 0 c).arrAt_eq_of_cover 4 _ (flushed_l m c) fun i => ⟨t₁, f4, cover_l i t₁⟩),
        (h c).2.1.trans ((dats m 0 c).arrAt_eq_of_cover 5 _ (fun t _ => flushed_z m c t) fun i => (cover_z i).imp fun t h => ⟨flush0_5 t, h⟩),
        (h c).2.2.1.trans ((dats m 0 c).arrAt_eq_of_cover 6 _ (fun t _ => flushed_zb m c t) fun i => (cover_z i).imp fun t h => ⟨flush0_6 t, h⟩),
        (h c).2.2.2.1.trans ((dats m 0 c).arrAt_eq_of_cover 7 _ (flushed_g m c) fun i => ⟨t₁, f7, cover_s i t₁⟩),
        (h c).2.2.2.2.1.trans ((dats m 0 c).arrAt_eq_of_cover 8 _ (flushed_b m c) fun i => ⟨t₁, f8, cover_s i t₁⟩), (h c).2.2.2.2.2⟩)
      (Value.run_blocks m ρ),
    (θ_run _ _ _).mono (fun _ h c => ⟨(h c).1.trans ?_, (h c).2.1.trans ?_, (h c).2.2.1.trans ?_, (h c).2.2.2.1.trans ?_, (h c).2.2.2.2.1.trans ?_,
      (h c).2.2.2.2.2⟩) (Cert.Reference28Ideal.Value.run m' ρ')⟩
  · simp only [(hag c).1, (hag c).2.1, (hag c).2.2.1, (hag c).2.2.2]
    funext j
    obtain ⟨p, q, rfl⟩ : ∃ (p : Fin 1) (q : Fin 1), j = ix2 p q := ⟨j 0, j 1, eq_ix2 j⟩
    obtain rfl : p = 0 := Subsingleton.elim _ _
    obtain rfl : q = 0 := Subsingleton.elim _ _
    refine Eq.trans ?_ (loss_eq (missAt (aZ m c) (aG m c) (aB m c) (aT m c)) fun r q => (real c r q).imp fun e h => h.choose_spec.1)
    simp only [missAt, miss, Norm.xhat, Norm.cen, Norm.root, Norm.shifted, Norm.width, Norm.eps, row]
    pointwise
  · funext j
    obtain ⟨p, q, rfl⟩ : ∃ p q, j = ix2 p q := ⟨j 0, j 1, eq_ix2 j⟩
    exact hdz c p q
  · funext j
    obtain ⟨p, q, rfl⟩ : ∃ p q, j = ix2 p q := ⟨j 0, j 1, eq_ix2 j⟩
    exact (ref_b m' c p q).trans (hdz c p q)
  · simp only [(hag c).1, (hag c).2.1, (hag c).2.2.1, (hag c).2.2.2]
    funext j
    idx_vars j
    simp only [outG, missAt, miss, ← scaled, Norm.xhat, Norm.cen, Norm.root, Norm.shifted, Norm.width, Norm.eps, row]
    pointwise
    exact Finset.sum_congr rfl fun r _ => mul_comm _ _
  · simp only [(hag c).1, (hag c).2.1, (hag c).2.2.1, (hag c).2.2.2]
    funext j
    idx_vars j
    simp only [outBias, missAt, miss, ← scaled, Norm.xhat, Norm.cen, Norm.root, Norm.shifted, Norm.width, Norm.eps, row]
    pointwise

end Cert.Kernel28Ideal.LossGrad

end
-- ==== Proof.NormGrad.lean ====
module

public import proofs.«01_k».proof.Defs
public import proofs.«01_k».proof.Proof.Gen.Kernel29Ideal.Value
public import proofs.«01_k».proof.Proof.Gen.Reference29Ideal.Run
public import proofs.«01_k».proof.Proof.Gen.Pre_finite29
public import proofs.«01_k».proof.Proof.Norm
public import Idealize.ShloMosaic.Lib.Pointwise
public import Idealize.ShloMosaic.Lib.StableHlo.ReadAt

@[expose] public section

set_option maxRecDepth 16384

noncomputable section

namespace Cert.Kernel29Ideal.NormGrad

open Cert.Kernel29Ideal Cert.Kernel29Ideal.Gen Idealize.ShloMosaic Idealize.ShloMosaic.TcCoe Idealize.SL.Sem
open Idealize.ShloMosaic.Tactic

/-- A row of a block. -/
abbrev row {n : Nat} (x : FVec Ideal ⟨2, ![n, 2048]⟩ .f32) (p : Fin n) : Fin 2048 → EReal := fun k => x (ix2 p k)

theorem pay7_at (z : Vec Ideal S512x2048 .f32) (p : Fin 512) (q : Fin 2048) : k0_pay7 z (ix2 p q) = Norm.cen (row z p) q := by
  unfold k0_pay7 Norm.cen Norm.width row
  pointwise

theorem pay8_at (z : Vec Ideal S512x2048 .f32) (p : Fin 512) : k0_pay8 z (ix2 p 0) = Norm.root (row z p) := by
  unfold k0_pay8 Norm.root Norm.shifted Norm.eps Norm.width
  simp only [← pay7_at]
  pointwise

theorem pay9_at (z : Vec Ideal S512x2048 .f32) (p : Fin 512) (q : Fin 2048) : k0_pay9 z (ix2 p q) = Norm.xhat (row z p) q := by
  unfold k0_pay9 Norm.xhat
  simp only [← pay7_at, ← pay8_at]
  pointwise

theorem pay10_at (z dy : Vec Ideal S512x2048 .f32) (g : Vec Ideal S1x2048 .f32) (p : Fin 512) (q : Fin 2048) :
    k0_pay10 z dy g (ix2 p q) = Norm.dx (row z p) (fun k => dy (ix2 p k) * g (ix2 0 k)) q := by
  unfold k0_pay10 Norm.dx Norm.width
  simp only [← pay8_at, ← pay9_at]
  pointwise

theorem pay11_at (z dy : Vec Ideal S512x2048 .f32) (g : Vec Ideal S1x2048 .f32) (p : Fin 512) (q : Fin 2048) :
    k0_pay11 z dy g (ix2 p q) = Norm.dx (row z p) (fun k => dy (ix2 p k) * g (ix2 0 k)) q := by
  unfold k0_pay11
  rw [← pay10_at]
  rfl

theorem pay4_at (dy xh : Vec Ideal S512x2048 .f32) (o : Vec Ideal S1x2048 .f32) (q : Fin 2048) :
    k0_pay4 dy xh o (ix2 0 q) = o (ix2 0 q) + ∑ p : Fin 512, dy (ix2 p q) * xh (ix2 p q) := by
  unfold k0_pay4
  pointwise
theorem pay5_at (dy : Vec Ideal S512x2048 .f32) (o : Vec Ideal S1x2048 .f32) (q : Fin 2048) :
    k0_pay5 dy o (ix2 0 q) = o (ix2 0 q) + ∑ p : Fin 512, dy (ix2 p q) := by
  unfold k0_pay5
  pointwise
theorem pay6_at (d : Vec Ideal S512x2048 .f32) (o : Vec Ideal S1x2048 .f32) (q : Fin 2048) :
    k0_pay6 d o (ix2 0 q) = o (ix2 0 q) + ∑ p : Fin 512, d (ix2 p q) := by
  unfold k0_pay6
  pointwise
theorem pay1_at (q : Fin 2048) : k0_pay1 (F := Ideal) (ix2 0 q) = 0 := by
  unfold k0_pay1
  pointwise
theorem pay2_at (q : Fin 2048) : k0_pay2 (F := Ideal) (ix2 0 q) = 0 := by
  unfold k0_pay2
  pointwise
theorem pay3_at (q : Fin 2048) : k0_pay3 (F := Ideal) (ix2 0 q) = 0 := by
  unfold k0_pay3
  pointwise

variable (m : (ℓ : Loc nD τ sig) → Buf (Elt Ideal) ℓ)

/-- The arguments as arrays of extended reals: the cotangent, the rows and the norm's weight. -/
abbrev aDy (c : Dev nD) : FVec Ideal S8192x2048 .f32 := m ((c : Thread nD τ).loc main_arg0)
abbrev aZ (c : Dev nD) : FVec Ideal S8192x2048 .f32 := m ((c : Thread nD τ).loc main_arg1)
abbrev aG (c : Dev nD) : FVec Ideal S1x2048 .f32 := m ((c : Thread nD τ).loc main_arg2)

/-- The derivatives by the rows, by the weight and by the bias, and the first one summed over the rows. -/
def dz (dy z : FVec Ideal S8192x2048 .f32) (g : FVec Ideal S1x2048 .f32) (r : Fin 8192) (q : Fin 2048) : EReal :=
  Norm.dx (row z r) (fun k => dy (ix2 r k) * g (ix2 0 k)) q
def outZ (dy z : FVec Ideal S8192x2048 .f32) (g : FVec Ideal S1x2048 .f32) : FVec Ideal S8192x2048 .f32 := fun i => dz dy z g (i 0) (i 1)
def outB (dy z : FVec Ideal S8192x2048 .f32) (g : FVec Ideal S1x2048 .f32) : FVec Ideal S8192x2048 .bf16 := fun i => dz dy z g (i 0) (i 1)
def outG (dy z : FVec Ideal S8192x2048 .f32) : FVec Ideal S1x2048 .f32 := fun i => ∑ r : Fin 8192, dy (ix2 r (i 1)) * Norm.xhat (row z r) (i 1)
def outBias (dy : FVec Ideal S8192x2048 .f32) : FVec Ideal S1x2048 .f32 := fun i => ∑ r : Fin 8192, dy (ix2 r (i 1))
def outS (dy z : FVec Ideal S8192x2048 .f32) (g : FVec Ideal S1x2048 .f32) : FVec Ideal S1x2048 .f32 := fun i => ∑ r : Fin 8192, dz dy z g r (i 1)

theorem hz : (![0, 0] : Fin 2 → Nat) = fun _ => 0 := funext fun a => by fin_cases a <;> rfl

/-- The blocks the windows visit at point `t`. -/
theorem idx_eqs : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_5.index t 0 = 0 ∧ win0_5.index t 1 = 0) ∧ t.val < 16 :=
  (by decide +kernel : ∀ t : Fin grid0.N, _)

theorem blk_dy (c : Dev nD) (t : Fin cfg0.N) (p : Fin 512) (q : Fin 2048) (h : t.val * 512 + p.val < 8192) :
    iblk m c 0 t (ix2 p q) = aDy m c (ix2 ⟨t.val * 512 + p.val, h⟩ q) := by
  obtain ⟨⟨h0, h1⟩, -⟩ := idx_eqs t
  refine congrArg (aDy m c) (funext fun a => Fin.ext ?_)
  match a with
  | ⟨0, _⟩ => show win0_0.index t 0 * 512 + 1 * p.val = t.val * 512 + p.val; rw [h0]; omega
  | ⟨1, _⟩ => show win0_0.index t 1 * 2048 + 1 * q.val = q.val; rw [h1]; omega
theorem blk_z (c : Dev nD) (t : Fin cfg0.N) (p : Fin 512) (q : Fin 2048) (h : t.val * 512 + p.val < 8192) :
    iblk m c 1 t (ix2 p q) = aZ m c (ix2 ⟨t.val * 512 + p.val, h⟩ q) := by
  obtain ⟨-, ⟨h0, h1⟩, -⟩ := idx_eqs t
  refine congrArg (aZ m c) (funext fun a => Fin.ext ?_)
  match a with
  | ⟨0, _⟩ => show win0_1.index t 0 * 512 + 1 * p.val = t.val * 512 + p.val; rw [h0]; omega
  | ⟨1, _⟩ => show win0_1.index t 1 * 2048 + 1 * q.val = q.val; rw [h1]; omega
theorem blk_g (c : Dev nD) (t : Fin cfg0.N) (q : Fin 2048) : iblk m c 2 t (ix2 0 q) = aG m c (ix2 0 q) := by
  obtain ⟨-, -, ⟨h0, h1⟩, -⟩ := idx_eqs t
  refine congrArg (aG m c) (funext fun a => Fin.ext ?_)
  match a with
  | ⟨0, _⟩ => show win0_2.index t 0 * 1 + 1 * 0 = 0; rw [h0]
  | ⟨1, _⟩ => show win0_2.index t 1 * 2048 + 1 * q.val = q.val; rw [h1]; omega

section points
variable (c : Dev nD) (i : grid0.Coords) (a1 : Memref sig .tc .vmem S512x2048 .f32) (h1 : a1.IsWhole)
  (a2 : Memref sig .tc .vmem S512x2048 .f32) (h2 : a2.IsWhole) (a3 : Memref sig .tc .vmem S1x2048 .f32) (h3 : a3.IsWhole)
  (a4 : Memref sig .tc .vmem S512x2048 .f32) (h4 : a4.IsWhole) (a5 : Memref sig .tc .vmem S512x2048 .bf16) (h5 : a5.IsWhole)
  (a6 : Memref sig .tc .vmem S1x2048 .f32) (h6 : a6.IsWhole) (a7 : Memref sig .tc .vmem S1x2048 .f32) (h7 : a7.IsWhole)
  (a8 : Memref sig .tc .vmem S1x2048 .f32) (h8 : a8.IsWhole) (x0 x1 : Vec Ideal S512x2048 .f32) (x2 : Vec Ideal S1x2048 .f32)

/-- What the first point leaves in the five windows: the sums start from zeros. -/
theorem atA (hc : cond0_0 i) :
    out0_A_3 c i a1 h1 a2 h2 a3 h3 a4 h4 a5 h5 a6 h6 a7 h7 a8 h8 hc x0 x1 x2 = k0_pay10 x1 x0 x2
      ∧ out0_A_4 c i a1 h1 a2 h2 a3 h3 a4 h4 a5 h5 a6 h6 a7 h7 a8 h8 hc x0 x1 x2 = k0_pay11 x1 x0 x2
      ∧ out0_A_5 c i a1 h1 a2 h2 a3 h3 a4 h4 a5 h5 a6 h6 a7 h7 a8 h8 hc x0 x1 x2 = k0_pay4 x0 (k0_pay9 x1) (k0_pay1 (F := Ideal))
      ∧ out0_A_6 c i a1 h1 a2 h2 a3 h3 a4 h4 a5 h5 a6 h6 a7 h7 a8 h8 hc x0 x1 x2 = k0_pay5 x0 (k0_pay2 (F := Ideal))
      ∧ out0_A_7 c i a1 h1 a2 h2 a3 h3 a4 h4 a5 h5 a6 h6 a7 h7 a8 h8 hc x0 x1 x2 = k0_pay6 (k0_pay10 x1 x0 x2) (k0_pay3 (F := Ideal)) := by
  refine ⟨(View.read_writes_eq_canon _ _ _ (cover0_A_3 c i a1 h1 a2 h2 a3 h3 a4 h4 a5 h5 a6 h6 a7 h7 a8 h8 hc x0 x1 x2)).trans ?_,
    (View.read_writes_eq_canon _ _ _ (cover0_A_4 c i a1 h1 a2 h2 a3 h3 a4 h4 a5 h5 a6 h6 a7 h7 a8 h8 hc x0 x1 x2)).trans ?_,
    (View.read_writes_eq_canon _ _ _ (cover0_A_5 c i a1 h1 a2 h2 a3 h3 a4 h4 a5 h5 a6 h6 a7 h7 a8 h8 hc x0 x1 x2)).trans ?_,
    (View.read_writes_eq_canon _ _ _ (cover0_A_6 c i a1 h1 a2 h2 a3 h3 a4 h4 a5 h5 a6 h6 a7 h7 a8 h8 hc x0 x1 x2)).trans ?_,
    (View.read_writes_eq_canon _ _ _ (cover0_A_7 c i a1 h1 a2 h2 a3 h3 a4 h4 a5 h5 a6 h6 a7 h7 a8 h8 hc x0 x1 x2)).trans ?_⟩
  all_goals
    unfold kernelRun0_A
    dsimp only
    rw [View.canon_cons_unit_zero hz]
    simp only [kernelRun0_A.sl.r, kernelRun0_A.sl.r_1, kernelRun0_A.sl.r_2, kernelRun0_A.sl.r_3, kernelRun0_A.sl.v43, kernelRun0_A.sl.v50, kernelRun0_A.sl.v56,
      kernelRun0_A.sl.H5_1, kernelRun0_A.sl.H6_1, kernelRun0_A.sl.H7_1, View.readCov_unit_zero (S := S1x2048) _ hz,
      View.readAt_eq_ld, h1.read_unread, h2.read_unread, h3.read_unread, View.ld_unit_zero (S := S512x2048) hz, View.ld_unit_zero (S := S1x2048) hz]

/-- What a later point leaves in them: it adds to the sums so far. -/
theorem atB (hc : ¬cond0_0 i) (o5 o6 o7 : Vec Ideal S1x2048 .f32) :
    out0_B_3 c i a1 h1 a2 h2 a3 h3 a4 h4 a5 h5 a6 h6 a7 h7 a8 h8 hc x0 x1 x2 o5 o6 o7 = k0_pay10 x1 x0 x2
      ∧ out0_B_4 c i a1 h1 a2 h2 a3 h3 a4 h4 a5 h5 a6 h6 a7 h7 a8 h8 hc x0 x1 x2 o5 o6 o7 = k0_pay11 x1 x0 x2
      ∧ out0_B_5 c i a1 h1 a2 h2 a3 h3 a4 h4 a5 h5 a6 h6 a7 h7 a8 h8 hc x0 x1 x2 o5 o6 o7 = k0_pay4 x0 (k0_pay9 x1) o5
      ∧ out0_B_6 c i a1 h1 a2 h2 a3 h3 a4 h4 a5 h5 a6 h6 a7 h7 a8 h8 hc x0 x1 x2 o5 o6 o7 = k0_pay5 x0 o6
      ∧ out0_B_7 c i a1 h1 a2 h2 a3 h3 a4 h4 a5 h5 a6 h6 a7 h7 a8 h8 hc x0 x1 x2 o5 o6 o7 = k0_pay6 (k0_pay10 x1 x0 x2) o7 := by
  refine ⟨(View.read_writes_eq_canon _ _ _ (cover0_B_3 c i a1 h1 a2 h2 a3 h3 a4 h4 a5 h5 a6 h6 a7 h7 a8 h8 hc x0 x1 x2 o5 o6 o7)).trans ?_,
    (View.read_writes_eq_canon _ _ _ (cover0_B_4 c i a1 h1 a2 h2 a3 h3 a4 h4 a5 h5 a6 h6 a7 h7 a8 h8 hc x0 x1 x2 o5 o6 o7)).trans ?_,
    (View.read_writes_eq_canon _ _ _ (cover0_B_5 c i a1 h1 a2 h2 a3 h3 a4 h4 a5 h5 a6 h6 a7 h7 a8 h8 hc x0 x1 x2 o5 o6 o7)).trans ?_,
    (View.read_writes_eq_canon _ _ _ (cover0_B_6 c i a1 h1 a2 h2 a3 h3 a4 h4 a5 h5 a6 h6 a7 h7 a8 h8 hc x0 x1 x2 o5 o6 o7)).trans ?_,
    (View.read_writes_eq_canon _ _ _ (cover0_B_7 c i a1 h1 a2 h2 a3 h3 a4 h4 a5 h5 a6 h6 a7 h7 a8 h8 hc x0 x1 x2 o5 o6 o7)).trans ?_⟩
  all_goals
    unfold kernelRun0_B
    dsimp only
    rw [View.canon_unit_zero hz]
    simp only [kernelRun0_B.sl.r, kernelRun0_B.sl.r_1, kernelRun0_B.sl.r_2, kernelRun0_B.sl.r_3,
      View.readAt_eq_ld, h1.read_unread, h2.read_unread, h3.read_unread, h6.read_unread, h7.read_unread, h8.read_unread,
      View.ld_unit_zero (S := S512x2048) hz, View.ld_unit_zero (S := S1x2048) hz]
end points

/-! ## What the points leave, at the arguments -/

theorem row_z (c : Dev nD) (t : Fin cfg0.N) (p : Fin 512) (h : t.val * 512 + p.val < 8192) :
    row (n := 512) (iblk m c 1 t) p = row (aZ m c) ⟨t.val * 512 + p.val, h⟩ :=
  funext fun k => blk_z m c t p k h
abbrev bDy (c : Dev nD) (t : Fin cfg0.N) : FVec Ideal S512x2048 .f32 := iblk m c 0 t
abbrev bG (c : Dev nD) (t : Fin cfg0.N) : FVec Ideal S1x2048 .f32 := iblk m c 2 t
theorem row_dy (c : Dev nD) (t : Fin cfg0.N) (p : Fin 512) (h : t.val * 512 + p.val < 8192) :
    (fun k => bDy m c t (ix2 p k) * bG m c t (ix2 0 k))
      = fun k => aDy m c (ix2 ⟨t.val * 512 + p.val, h⟩ k) * aG m c (ix2 0 k) :=
  funext fun k => congrArg₂ (fun x y : EReal => x * y) (blk_dy m c t p k h) (blk_g m c t k)

theorem dz_blk (c : Dev nD) (t : Fin cfg0.N) (p : Fin 512) (q : Fin 2048) (h : t.val * 512 + p.val < 8192) :
    k0_pay10 (iblk m c 1 t) (iblk m c 0 t) (iblk m c 2 t) (ix2 p q) = dz (aDy m c) (aZ m c) (aG m c) ⟨t.val * 512 + p.val, h⟩ q := by
  rw [pay10_at, row_z m c t p h, row_dy m c t p h, dz]
theorem dzb_blk (c : Dev nD) (t : Fin cfg0.N) (p : Fin 512) (q : Fin 2048) (h : t.val * 512 + p.val < 8192) :
    k0_pay11 (iblk m c 1 t) (iblk m c 0 t) (iblk m c 2 t) (ix2 p q) = dz (aDy m c) (aZ m c) (aG m c) ⟨t.val * 512 + p.val, h⟩ q := by
  rw [pay11_at, row_z m c t p h, row_dy m c t p h, dz]

/-- A point's rows of the three sums. -/
def rowsOf (f : Fin 8192 → EReal) (b : Fin cfg0.N) : EReal :=
  ∑ p : Fin 512, f ⟨b.val * 512 + p.val, by have := (idx_eqs b).2.2.2.2.2; omega⟩
theorem sum_g (c : Dev nD) (t : Fin cfg0.N) (o : Vec Ideal S1x2048 .f32) (q : Fin 2048) :
    k0_pay4 (iblk m c 0 t) (k0_pay9 (iblk m c 1 t)) o (ix2 0 q)
      = o (ix2 0 q) + rowsOf (fun r => aDy m c (ix2 r q) * Norm.xhat (row (aZ m c) r) q) t := by
  have ht := (idx_eqs t).2.2.2.2.2
  rw [pay4_at, rowsOf]
  refine congrArg (o (ix2 0 q) + ·) (Finset.sum_congr rfl fun p _ => ?_)
  have h : t.val * 512 + p.val < 8192 := by omega
  rw [pay9_at, row_z m c t p h]
  exact congrArg (fun x : EReal => x * Norm.xhat (row (aZ m c) ⟨t.val * 512 + p.val, h⟩) q) (blk_dy m c t p q h)
theorem sum_b (c : Dev nD) (t : Fin cfg0.N) (o : Vec Ideal S1x2048 .f32) (q : Fin 2048) :
    k0_pay5 (iblk m c 0 t) o (ix2 0 q) = o (ix2 0 q) + rowsOf (fun r => aDy m c (ix2 r q)) t := by
  have ht := (idx_eqs t).2.2.2.2.2
  rw [pay5_at, rowsOf]
  exact congrArg (o (ix2 0 q) + ·) (Finset.sum_congr rfl fun p _ => blk_dy m c t p q (by omega))
theorem sum_s (c : Dev nD) (t : Fin cfg0.N) (o : Vec Ideal S1x2048 .f32) (q : Fin 2048) :
    k0_pay6 (k0_pay10 (iblk m c 1 t) (iblk m c 0 t) (iblk m c 2 t)) o (ix2 0 q)
      = o (ix2 0 q) + rowsOf (fun r => dz (aDy m c) (aZ m c) (aG m c) r q) t := by
  have ht := (idx_eqs t).2.2.2.2.2
  rw [pay6_at, rowsOf]
  exact congrArg (o (ix2 0 q) + ·) (Finset.sum_congr rfl fun p _ => dz_blk m c t p q (by omega))

/-- The five windows after a point. The sums add the point's rows to what the point before left. -/
theorem outs_first (c : Dev nD) (h : 0 < cfg0.N) :
    outsAt0 m c 0 h = (k0_pay10 (iblk m c 1 ⟨0, h⟩) (iblk m c 0 ⟨0, h⟩) (iblk m c 2 ⟨0, h⟩), k0_pay11 (iblk m c 1 ⟨0, h⟩) (iblk m c 0 ⟨0, h⟩) (iblk m c 2 ⟨0, h⟩),
      k0_pay4 (iblk m c 0 ⟨0, h⟩) (k0_pay9 (iblk m c 1 ⟨0, h⟩)) (k0_pay1 (F := Ideal)), k0_pay5 (iblk m c 0 ⟨0, h⟩) (k0_pay2 (F := Ideal)),
      k0_pay6 (k0_pay10 (iblk m c 1 ⟨0, h⟩) (iblk m c 0 ⟨0, h⟩) (iblk m c 2 ⟨0, h⟩)) (k0_pay3 (F := Ideal))) := by
  obtain ⟨e3, e4, e5, e6, e7⟩ := atA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (iblk m c 0 ⟨0, h⟩) (iblk m c 1 ⟨0, h⟩) (iblk m c 2 ⟨0, h⟩) ((hcond0_0 ⟨0, h⟩).mpr (Nat.zero_mod _))
  rw [outsAt0_A m c ⟨0, h⟩ (Nat.zero_mod _), e3, e4, e5, e6, e7]
theorem outs_next (c : Dev nD) (t : ℕ) (h : t + 1 < cfg0.N) :
    outsAt0 m c (t + 1) h = (k0_pay10 (iblk m c 1 ⟨t + 1, h⟩) (iblk m c 0 ⟨t + 1, h⟩) (iblk m c 2 ⟨t + 1, h⟩), k0_pay11 (iblk m c 1 ⟨t + 1, h⟩) (iblk m c 0 ⟨t + 1, h⟩) (iblk m c 2 ⟨t + 1, h⟩),
      k0_pay4 (iblk m c 0 ⟨t + 1, h⟩) (k0_pay9 (iblk m c 1 ⟨t + 1, h⟩)) (outsAt0 m c t (Nat.lt_of_succ_lt h)).2.2.1, k0_pay5 (iblk m c 0 ⟨t + 1, h⟩) (outsAt0 m c t (Nat.lt_of_succ_lt h)).2.2.2.1,
      k0_pay6 (k0_pay10 (iblk m c 1 ⟨t + 1, h⟩) (iblk m c 0 ⟨t + 1, h⟩) (iblk m c 2 ⟨t + 1, h⟩)) (outsAt0 m c t (Nat.lt_of_succ_lt h)).2.2.2.2) := by
  have h0 : ¬(t + 1) % 16 = 0 := by have := (idx_eqs ⟨t + 1, h⟩).2.2.2.2.2; dsimp only at this; omega
  obtain ⟨e3, e4, e5, e6, e7⟩ := atB c (grid0.coords ⟨t + 1, h⟩) (ms0_0 ⟨t + 1, h⟩) (hs0_0 ⟨t + 1, h⟩) (ms0_1 ⟨t + 1, h⟩) (hs0_1 ⟨t + 1, h⟩) (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) (ms0_5 ⟨t + 1, h⟩) (hs0_5 ⟨t + 1, h⟩) (ms0_6 ⟨t + 1, h⟩) (hs0_6 ⟨t + 1, h⟩) (ms0_7 ⟨t + 1, h⟩) (hs0_7 ⟨t + 1, h⟩) (iblk m c 0 ⟨t + 1, h⟩) (iblk m c 1 ⟨t + 1, h⟩) (iblk m c 2 ⟨t + 1, h⟩) (fun x => h0 ((hcond0_0 ⟨t + 1, h⟩).mp x))
    (outsAt0 m c t (Nat.lt_of_succ_lt h)).2.2.1 (outsAt0 m c t (Nat.lt_of_succ_lt h)).2.2.2.1 (outsAt0 m c t (Nat.lt_of_succ_lt h)).2.2.2.2
  exact (outsAt0_B m c ⟨t + 1, h⟩ h0).trans (congr (congrArg Prod.mk e3) (congr (congrArg Prod.mk e4) (congr (congrArg Prod.mk e5) (congr (congrArg Prod.mk e6) e7))))

theorem dz_left (c : Dev nD) (t : Fin cfg0.N) :
    (outsAt0 m c t.val t.isLt).1 = k0_pay10 (iblk m c 1 t) (iblk m c 0 t) (iblk m c 2 t)
      ∧ (outsAt0 m c t.val t.isLt).2.1 = k0_pay11 (iblk m c 1 t) (iblk m c 0 t) (iblk m c 2 t) := by
  obtain ⟨_ | t, h⟩ := t
  · rw [outs_first m c h]; exact ⟨rfl, rfl⟩
  · rw [outs_next m c t h]; exact ⟨rfl, rfl⟩

/-- After the last point the sums are over all rows. -/
theorem all_rows (f : Fin 8192 → EReal) (t : Fin cfg0.N) (e : t.val = 15) :
    ∑ b : Fin (t.val + 1), rowsOf f ⟨b.val, Nat.lt_of_lt_of_le b.isLt t.isLt⟩ = ∑ r, f r := by
  obtain ⟨t, h⟩ := t
  obtain rfl : t = 15 := e
  exact Norm.sum_rows f
theorem g_left (c : Dev nD) (t : Fin cfg0.N) (e : t.val = 15) (q : Fin 2048) :
    (outsAt0 m c t.val t.isLt).2.2.1 (ix2 0 q) = outG (aDy m c) (aZ m c) (ix2 0 q) := by
  refine (Norm.run_sum (fun t h => (outsAt0 m c t h).2.2.1 (ix2 0 q)) (rowsOf fun r => aDy m c (ix2 r q) * Norm.xhat (row (aZ m c) r) q)
    (fun h => ?_) (fun t h => ?_) t.val t.isLt).trans (all_rows _ t e)
  · rw [outs_first m c h]; exact (sum_g m c _ _ q).trans (by rw [pay1_at, zero_add])
  · rw [outs_next m c t h]; exact sum_g m c _ _ q
theorem b_left (c : Dev nD) (t : Fin cfg0.N) (e : t.val = 15) (q : Fin 2048) :
    (outsAt0 m c t.val t.isLt).2.2.2.1 (ix2 0 q) = outBias (aDy m c) (ix2 0 q) := by
  refine (Norm.run_sum (fun t h => (outsAt0 m c t h).2.2.2.1 (ix2 0 q)) (rowsOf fun r => aDy m c (ix2 r q))
    (fun h => ?_) (fun t h => ?_) t.val t.isLt).trans (all_rows _ t e)
  · rw [outs_first m c h]; exact (sum_b m c _ _ q).trans (by rw [pay2_at, zero_add])
  · rw [outs_next m c t h]; exact sum_b m c _ _ q
theorem s_left (c : Dev nD) (t : Fin cfg0.N) (e : t.val = 15) (q : Fin 2048) :
    (outsAt0 m c t.val t.isLt).2.2.2.2 (ix2 0 q) = outS (aDy m c) (aZ m c) (aG m c) (ix2 0 q) := by
  refine (Norm.run_sum (fun t h => (outsAt0 m c t h).2.2.2.2 (ix2 0 q)) (rowsOf fun r => dz (aDy m c) (aZ m c) (aG m c) r q)
    (fun h => ?_) (fun t h => ?_) t.val t.isLt).trans (all_rows _ t e)
  · rw [outs_first m c h]; exact (sum_s m c _ _ q).trans (by rw [pay3_at, zero_add])
  · rw [outs_next m c t h]; exact sum_s m c _ _ q

/-! ## The arrays the kernel ends with -/

theorem place_z (t : Fin cfg0.N) (p : Fin 512) (q : Fin 2048) (h : t.val * 512 + p.val < 8192) :
    ((cfg0.win 3).blk t).view.emb (ix2 p q) = (ix2 ⟨t.val * 512 + p.val, h⟩ q : S8192x2048.Idx) := by
  obtain ⟨-, -, -, ⟨h0, h1⟩, -⟩ := idx_eqs t
  refine funext fun a => Fin.ext ?_
  match a with
  | ⟨0, _⟩ => show win0_3.index t 0 * 512 + 1 * p.val = t.val * 512 + p.val; rw [h0]; omega
  | ⟨1, _⟩ => show win0_3.index t 1 * 2048 + 1 * q.val = q.val; rw [h1]; omega
theorem place_zb (t : Fin cfg0.N) (p : Fin 512) (q : Fin 2048) (h : t.val * 512 + p.val < 8192) :
    ((cfg0.win 4).blk t).view.emb (ix2 p q) = (ix2 ⟨t.val * 512 + p.val, h⟩ q : S8192x2048.Idx) := by
  obtain ⟨-, -, -, ⟨h0, h1⟩, -⟩ := idx_eqs t
  refine funext fun a => Fin.ext ?_
  match a with
  | ⟨0, _⟩ => show win0_3.index t 0 * 512 + 1 * p.val = t.val * 512 + p.val; rw [h0]; omega
  | ⟨1, _⟩ => show win0_3.index t 1 * 2048 + 1 * q.val = q.val; rw [h1]; omega

theorem flushed_z (c : Dev nD) (t : Fin cfg0.N) :
    (dats m 0 c).flushed 3 t = ((cfg0.win 3).blk t).view.read (Elt Ideal) (outZ (aDy m c) (aZ m c) (aG m c)) := by
  have ht := (idx_eqs t).2.2.2.2.2
  rw [Value.flushed3, (dz_left m c t).1]
  funext y
  obtain ⟨p, q, rfl⟩ : ∃ (p : Fin 512) (q : Fin 2048), y = ix2 p q := ⟨y 0, y 1, eq_ix2 y⟩
  have h : t.val * 512 + p.val < 8192 := by omega
  refine (dz_blk m c t p q h).trans ?_
  show _ = outZ (aDy m c) (aZ m c) (aG m c) (((cfg0.win 3).blk t).view.emb (ix2 p q))
  rw [place_z t p q h]
  rfl
theorem flushed_zb (c : Dev nD) (t : Fin cfg0.N) :
    (dats m 0 c).flushed 4 t = ((cfg0.win 4).blk t).view.read (Elt Ideal) (outB (aDy m c) (aZ m c) (aG m c)) := by
  have ht := (idx_eqs t).2.2.2.2.2
  rw [Value.flushed4, (dz_left m c t).2]
  funext y
  obtain ⟨p, q, rfl⟩ : ∃ (p : Fin 512) (q : Fin 2048), y = ix2 p q := ⟨y 0, y 1, eq_ix2 y⟩
  have h : t.val * 512 + p.val < 8192 := by omega
  refine (dzb_blk m c t p q h).trans ?_
  show _ = outB (aDy m c) (aZ m c) (aG m c) (((cfg0.win 4).blk t).view.emb (ix2 p q))
  rw [place_zb t p q h]
  rfl

theorem tiled : ∀ a : Fin 16, ∃ t : Fin cfg0.N, win0_3.index t 0 = a.val ∧ win0_3.index t 1 = 0 :=
  (by decide +kernel : ∀ a : Fin 16, ∃ t : Fin grid0.N, _)
theorem cover_z (i : S8192x2048.Idx) : ∃ t : Fin cfg0.N, i ∈ ((View.whole main_v0_0).slice (win0_3.rect t)).set := by
  have hi0 : (i 0).val < 8192 := (i 0).isLt
  have hi1 : (i 1).val < 2048 := (i 1).isLt
  obtain ⟨t, h0, h1⟩ := tiled ⟨(i 0).val / 512, by omega⟩
  dsimp only at h0
  refine ⟨t, ?_⟩
  rw [View.set_slice_whole, Rect.mem_set_unit]
  intro a
  match a with
  | ⟨0, _⟩ => show win0_3.index t 0 * 512 ≤ (i 0).val ∧ (i 0).val < win0_3.index t 0 * 512 + 512; omega
  | ⟨1, _⟩ => show win0_3.index t 1 * 2048 ≤ (i 1).val ∧ (i 1).val < win0_3.index t 1 * 2048 + 2048; omega

/-- A sum's window is the whole array, written back at the last point. -/
theorem cover_s (i : S1x2048.Idx) (t : Fin cfg0.N) : i ∈ ((View.whole main_v0_2).slice (win0_5.rect t)).set := by
  have hi0 : (i 0).val < 1 := (i 0).isLt
  have hi1 : (i 1).val < 2048 := (i 1).isLt
  obtain ⟨-, -, -, -, ⟨h0, h1⟩, -⟩ := idx_eqs t
  rw [View.set_slice_whole, Rect.mem_set_unit]
  intro a
  match a with
  | ⟨0, _⟩ => show win0_5.index t 0 * 1 ≤ (i 0).val ∧ (i 0).val < win0_5.index t 0 * 1 + 1; omega
  | ⟨1, _⟩ => show win0_5.index t 1 * 2048 ≤ (i 1).val ∧ (i 1).val < win0_5.index t 1 * 2048 + 2048; omega
theorem place_s (t : Fin cfg0.N) (q : Fin 2048) : ((cfg0.win 5).blk t).view.emb (ix2 0 q) = (ix2 0 q : S1x2048.Idx) := by
  obtain ⟨-, -, -, -, ⟨h0, h1⟩, -⟩ := idx_eqs t
  refine funext fun a => Fin.ext ?_
  match a with
  | ⟨0, _⟩ => show win0_5.index t 0 * 1 + 1 * 0 = 0; rw [h0]
  | ⟨1, _⟩ => show win0_5.index t 1 * 2048 + 1 * q.val = q.val; rw [h1]; omega
theorem last (t : Fin cfg0.N) (h : t.val % 16 = 15) : t.val = 15 := by
  have := (idx_eqs t).2.2.2.2.2; omega

theorem flushed_g (c : Dev nD) (t : Fin cfg0.N) (h : (cfg0.win 5).flush t = true) :
    (dats m 0 c).flushed 5 t = ((cfg0.win 5).blk t).view.read (Elt Ideal) (outG (aDy m c) (aZ m c)) := by
  have e := last t ((flush0_5 t).mp h)
  rw [Value.flushed5]
  funext y
  obtain ⟨p, q, rfl⟩ : ∃ (p : Fin 1) (q : Fin 2048), y = ix2 p q := ⟨y 0, y 1, eq_ix2 y⟩
  obtain rfl : p = 0 := Subsingleton.elim _ _
  refine (g_left m c t e q).trans ?_
  show _ = outG (aDy m c) (aZ m c) (((cfg0.win 5).blk t).view.emb (ix2 0 q))
  exact congrArg (outG (aDy m c) (aZ m c)) (place_s t q).symm
theorem flushed_b (c : Dev nD) (t : Fin cfg0.N) (h : (cfg0.win 6).flush t = true) :
    (dats m 0 c).flushed 6 t = ((cfg0.win 6).blk t).view.read (Elt Ideal) (outBias (aDy m c)) := by
  have e := last t ((flush0_6 t).mp h)
  rw [Value.flushed6]
  funext y
  obtain ⟨p, q, rfl⟩ : ∃ (p : Fin 1) (q : Fin 2048), y = ix2 p q := ⟨y 0, y 1, eq_ix2 y⟩
  obtain rfl : p = 0 := Subsingleton.elim _ _
  refine (b_left m c t e q).trans ?_
  show _ = outBias (aDy m c) (((cfg0.win 6).blk t).view.emb (ix2 0 q))
  exact congrArg (outBias (aDy m c)) (place_s t q).symm
theorem flushed_s (c : Dev nD) (t : Fin cfg0.N) (h : (cfg0.win 7).flush t = true) :
    (dats m 0 c).flushed 7 t = ((cfg0.win 7).blk t).view.read (Elt Ideal) (outS (aDy m c) (aZ m c) (aG m c)) := by
  have e := last t ((flush0_7 t).mp h)
  rw [Value.flushed7]
  funext y
  obtain ⟨p, q, rfl⟩ : ∃ (p : Fin 1) (q : Fin 2048), y = ix2 p q := ⟨y 0, y 1, eq_ix2 y⟩
  obtain rfl : p = 0 := Subsingleton.elim _ _
  refine (s_left m c t e q).trans ?_
  show _ = outS (aDy m c) (aZ m c) (aG m c) (((cfg0.win 7).blk t).view.emb (ix2 0 q))
  exact congrArg (outS (aDy m c) (aZ m c) (aG m c)) (place_s t q).symm

theorem flushes : ∃ t : Fin cfg0.N, (cfg0.win 5).flush t = true ∧ (cfg0.win 6).flush t = true ∧ (cfg0.win 7).flush t = true :=
  ⟨⟨15, by decide⟩, (flush0_5 _).mpr rfl, (flush0_6 _).mpr rfl, (flush0_7 _).mpr rfl⟩

section reference
variable (m : (ℓ : Loc Reference29Ideal.nD Reference29Ideal.τ Reference29Ideal.sig) → Buf (Elt Ideal) ℓ) (c : Dev Reference29Ideal.nD)

abbrev rDy : FVec Ideal S8192x2048 .f32 := m ((c.tc : Thread Reference29Ideal.nD Reference29Ideal.τ).loc Reference29Ideal.main_arg0)
abbrev rZ : FVec Ideal S8192x2048 .f32 := m ((c.tc : Thread Reference29Ideal.nD Reference29Ideal.τ).loc Reference29Ideal.main_arg1)
abbrev rG : FVec Ideal S1x2048 .f32 := m ((c.tc : Thread Reference29Ideal.nD Reference29Ideal.τ).loc Reference29Ideal.main_arg2)

theorem ref_at (p : Fin 8192) (q : Fin 2048) :
    Reference29Ideal.Value.res_main_v59 m c (ix2 p q) = Norm.chain (row (rZ m c) p) (fun k => rDy m c (ix2 p k) * rG m c (ix2 0 k)) q := by
  unfold Reference29Ideal.Value.res_main_v59 Norm.chain Norm.thru Norm.root Norm.shifted Norm.cen Norm.width Norm.eps row
  pointwise
theorem ref_dz (a : Fin 2048 → ℝ) (p : Fin 8192) (q : Fin 2048) (ha : (fun k => rDy m c (ix2 p k) * rG m c (ix2 0 k)) = fun k => (a k : EReal)) :
    Reference29Ideal.Value.res_main_v59 m c (ix2 p q) = dz (rDy m c) (rZ m c) (rG m c) p q := by
  rw [ref_at, ha, Norm.chain_eq, dz, ha]
abbrev rDz : FVec Ideal S8192x2048 .f32 := Reference29Ideal.Value.res_main_v59 m c
theorem ref_b (p : Fin 8192) (q : Fin 2048) : Reference29Ideal.Value.res_main_v60 m c (ix2 p q) = rDz m c (ix2 p q) := by
  unfold Reference29Ideal.Value.res_main_v60 rDz Reference29Ideal.Value.res_main_v59
  rfl
theorem ref_s (q : Fin 2048) : Reference29Ideal.Value.res_main_v62 m c (ix2 0 q) = ∑ r : Fin 8192, rDz m c (ix2 r q) := by
  unfold Reference29Ideal.Value.res_main_v62 rDz Reference29Ideal.Value.res_main_v59
  pointwise
end reference

/-- Where the precondition holds, the row of products the norm's gradient starts from is real. -/
theorem real_row (dy z : FVec Ideal S8192x2048 .f32) (g : FVec Ideal S1x2048 .f32) (h : (letI := Cert.Pre_finite29.Gen.facts; Cert.Pre_finite29.fn dy z g) = fun _ => 1#1) (p : Fin 8192) :
    ∃ a : Fin 2048 → ℝ, (fun k => dy (ix2 p k) * g (ix2 0 k)) = fun k => (a k : EReal) := by
  have real : ∀ k, ∃ x : ℝ, dy (ix2 p k) * g (ix2 0 k) = x := fun k => by
    have e := congrFun h (ix2 p k)
    unfold Cert.Pre_finite29.fn at e
    refine Norm.real_of_olt (Eq.trans ?_ e)
    pointwise
    rfl
  choose a ha using real
  exact ⟨a, funext ha⟩

/-- The claim: the kernel and the gradient's plain lines end with the same five arrays. -/
theorem algebraic : Cert.algebraic_Kernel29Ideal_Reference29Ideal_pre_finite29 (hKernel29Ideal := Cert.Kernel29Ideal.Gen.facts) (hReference29Ideal := Cert.Reference29Ideal.Gen.facts) (hPre_finite29 := Cert.Pre_finite29.Gen.facts) := by
  intro m ρ m' ρ' hpre hag
  obtain ⟨t₁, f5, f6, f7⟩ := flushes
  have hdz : ∀ (c : Dev nD) (p : Fin 8192) (q : Fin 2048), rDz m' c (ix2 p q) = dz (aDy m c) (aZ m c) (aG m c) p q := fun c p q => by
    obtain ⟨a, ha⟩ := real_row (aDy m c) (aZ m c) (aG m c) (hpre c) p
    have e0 : rDy m' c = aDy m c := (hag c).1
    have e1 : rZ m' c = aZ m c := (hag c).2.1
    have e2 : rG m' c = aG m c := (hag c).2.2
    exact (ref_dz m' c a p q (by rw [e0, e2]; exact ha)).trans (by rw [e0, e1, e2])
  refine ⟨fun c => outZ (aDy m c) (aZ m c) (aG m c), fun c => outB (aDy m c) (aZ m c) (aG m c), fun c => outG (aDy m c) (aZ m c),
    fun c => outBias (aDy m c), fun c => outS (aDy m c) (aZ m c) (aG m c),
    (θ_run _ _ _).mono (fun _ h c =>
      ⟨(h c).1.trans ((dats m 0 c).arrAt_eq_of_cover 3 _ (fun t _ => flushed_z m c t) fun i => (cover_z i).imp fun t h => ⟨flush0_3 t, h⟩),
        (h c).2.1.trans ((dats m 0 c).arrAt_eq_of_cover 4 _ (fun t _ => flushed_zb m c t) fun i => (cover_z i).imp fun t h => ⟨flush0_4 t, h⟩),
        (h c).2.2.1.trans ((dats m 0 c).arrAt_eq_of_cover 5 _ (flushed_g m c) fun i => ⟨t₁, f5, cover_s i t₁⟩),
        (h c).2.2.2.1.trans ((dats m 0 c).arrAt_eq_of_cover 6 _ (flushed_b m c) fun i => ⟨t₁, f6, cover_s i t₁⟩),
        (h c).2.2.2.2.1.trans ((dats m 0 c).arrAt_eq_of_cover 7 _ (flushed_s m c) fun i => ⟨t₁, f7, cover_s i t₁⟩), (h c).2.2.2.2.2⟩)
      (Value.run_blocks m ρ),
    (θ_run _ _ _).mono (fun _ h c => ⟨(h c).1.trans ?_, (h c).2.1.trans ?_, (h c).2.2.1.trans ?_, (h c).2.2.2.1.trans ?_, (h c).2.2.2.2.1.trans ?_,
      (h c).2.2.2.2.2⟩) (Cert.Reference29Ideal.Value.run m' ρ')⟩
  · funext j
    obtain ⟨p, q, rfl⟩ : ∃ p q, j = ix2 p q := ⟨j 0, j 1, eq_ix2 j⟩
    exact hdz c p q
  · funext j
    obtain ⟨p, q, rfl⟩ : ∃ p q, j = ix2 p q := ⟨j 0, j 1, eq_ix2 j⟩
    exact (ref_b m' c p q).trans (hdz c p q)
  · simp only [(hag c).1, (hag c).2.1]
    funext j
    idx_vars j
    simp only [outG, Norm.xhat, Norm.cen, Norm.root, Norm.shifted, Norm.width, Norm.eps, row]
    pointwise
    exact Finset.sum_congr rfl fun r _ => mul_comm _ _
  · simp only [(hag c).1]
    funext j
    idx_vars j
    simp only [outBias]
    pointwise
  · funext j
    obtain ⟨p, q, rfl⟩ : ∃ p q, j = ix2 p q := ⟨j 0, j 1, eq_ix2 j⟩
    obtain rfl : p = 0 := Subsingleton.elim _ _
    have e : outS (aDy m c) (aZ m c) (aG m c) (ix2 0 q) = ∑ r : Fin 8192, dz (aDy m c) (aZ m c) (aG m c) r q := rfl
    exact (ref_s m' c q).trans ((Finset.sum_congr rfl fun r _ => hdz c r q).trans e.symm)

end Cert.Kernel29Ideal.NormGrad

end
-- ==== Proof.ConvNorm.lean ====
module

public import proofs.«01_k».proof.Defs
public import proofs.«01_k».proof.Proof.Gen.Kernel30Ideal.Value
public import proofs.«01_k».proof.Proof.Gen.Reference30Ideal.Run
public import proofs.«01_k».proof.Proof.Gen.Pre_finite30
public import proofs.«01_k».proof.Proof.Norm
public import Idealize.ShloMosaic.Lib.Pointwise
public import Idealize.ShloMosaic.Lib.StableHlo.ReadAt

@[expose] public section

set_option maxRecDepth 16384

noncomputable section

namespace Cert.Kernel30Ideal.ConvNorm

open Cert.Kernel30Ideal Cert.Kernel30Ideal.Gen Idealize.ShloMosaic Idealize.ShloMosaic.TcCoe Idealize.SL.Sem
open Idealize.ShloMosaic.Tactic
abbrev row {n : Nat} (x : FVec Ideal ⟨2, ![n, 2048]⟩ .f32) (p : Fin n) : Fin 2048 → EReal := fun k => x (ix2 p k)

/-! ## What the kernel's expressions are at an entry -/

theorem pay2_at (z : Vec Ideal S512x2048 .f32) (p : Fin 512) (q : Fin 2048) : k0_pay2 z (ix2 p q) = Norm.cen (row z p) q := by
  unfold k0_pay2 Norm.cen Norm.width row
  pointwise
theorem pay3_at (z : Vec Ideal S512x2048 .f32) (p : Fin 512) : k0_pay3 z (ix2 p 0) = Norm.root (row z p) := by
  unfold k0_pay3 Norm.root Norm.shifted Norm.eps Norm.width
  simp only [← pay2_at]
  pointwise
theorem pay4_at (z : Vec Ideal S512x2048 .f32) (p : Fin 512) (q : Fin 2048) : k0_pay4 z (ix2 p q) = Norm.xhat (row z p) q := by
  unfold k0_pay4 Norm.xhat
  simp only [← pay2_at, ← pay3_at]
  pointwise

/-- The sigmoid, and the cotangent of the gate's argument as the kernel writes it: `d` is the cotangent of the gate's result. -/
def sigm (y : EReal) : EReal := Ideal.div 1 (1 + Ideal.exp (-y))
def gated (d y : EReal) : EReal := d * (sigm y * (1 + y * (1 - sigm y)))
/-- The same for a row, whose gate's argument is the norm's output. -/
def dyOf (d z g b : Fin 2048 → EReal) (q : Fin 2048) : EReal := gated (d q) (Norm.xhat z q * g q + b q)
/-- The row of products the norm's gradient starts from. -/
def seed (d z g b : Fin 2048 → EReal) (q : Fin 2048) : EReal := dyOf d z g b q * g q

theorem pay5_at (d z : Vec Ideal S512x2048 .f32) (g b : Vec Ideal S1x2048 .f32) (p : Fin 512) (q : Fin 2048) :
    k0_pay5 z g b d (ix2 p q) = dyOf (row d p) (row z p) (row g 0) (row b 0) q := by
  unfold k0_pay5 dyOf gated sigm
  simp only [← pay4_at]
  pointwise
  simp only [zero_sub]

/-- The derivative by the convolution's rows as the kernel's body writes it. -/
def dcOf (d z : Vec Ideal S512x2048 .f32) (g b : Vec Ideal S1x2048 .f32) : Vec Ideal S512x2048 .f32 :=
  k0_pay6 (k0_pay3 z) (k0_pay4 z) (k0_pay5 z g b d) g
theorem dcOf_at (d z : Vec Ideal S512x2048 .f32) (g b : Vec Ideal S1x2048 .f32) (p : Fin 512) (q : Fin 2048) :
    dcOf d z g b (ix2 p q) = Norm.dx (row z p) (seed (row d p) (row z p) (row g 0) (row b 0)) q := by
  unfold dcOf k0_pay6 Norm.dx Norm.width seed
  simp only [← pay3_at, ← pay4_at, ← pay5_at]
  pointwise

theorem pay10_at (xh dy : Vec Ideal S512x2048 .f32) (o : Vec Ideal S1x2048 .f32) (q : Fin 2048) :
    k0_pay10 xh dy o (ix2 0 q) = o (ix2 0 q) + ∑ p : Fin 512, dy (ix2 p q) * xh (ix2 p q) := by
  unfold k0_pay10
  pointwise
theorem pay11_at (dy : Vec Ideal S512x2048 .f32) (o : Vec Ideal S1x2048 .f32) (q : Fin 2048) :
    k0_pay11 dy o (ix2 0 q) = o (ix2 0 q) + ∑ p : Fin 512, dy (ix2 p q) := by
  unfold k0_pay11
  pointwise
theorem pay1_at (d : Vec Ideal S512x2048 .f32) (o : Vec Ideal S1x2048 .f32) (q : Fin 2048) :
    k0_pay1 d o (ix2 0 q) = o (ix2 0 q) + ∑ p : Fin 512, d (ix2 p q) := by
  unfold k0_pay1
  pointwise
theorem pay7_at (q : Fin 2048) : k0_pay7 (F := Ideal) (ix2 0 q) = 0 := by
  unfold k0_pay7
  pointwise
theorem pay8_at (q : Fin 2048) : k0_pay8 (F := Ideal) (ix2 0 q) = 0 := by
  unfold k0_pay8
  pointwise
theorem pay9_at (q : Fin 2048) : k0_pay9 (F := Ideal) (ix2 0 q) = 0 := by
  unfold k0_pay9
  pointwise

theorem hz : (![0, 0] : Fin 2 → Nat) = fun _ => 0 := funext fun a => by fin_cases a <;> rfl

section points
variable (c : Dev nD) (i : grid0.Coords) (a1 : Memref sig .tc .vmem S512x2048 .f32) (h1 : a1.IsWhole)
  (a2 : Memref sig .tc .vmem S512x2048 .f32) (h2 : a2.IsWhole) (a3 : Memref sig .tc .vmem S1x2048 .f32) (h3 : a3.IsWhole)
  (a4 : Memref sig .tc .vmem S1x2048 .f32) (h4 : a4.IsWhole) (a5 : Memref sig .tc .vmem S512x2048 .f32) (h5 : a5.IsWhole)
  (a6 : Memref sig .tc .vmem S1x2048 .f32) (h6 : a6.IsWhole) (a7 : Memref sig .tc .vmem S1x2048 .f32) (h7 : a7.IsWhole)
  (a8 : Memref sig .tc .vmem S1x2048 .f32) (h8 : a8.IsWhole)
  (x0 x1 : Vec Ideal S512x2048 .f32) (x2 x3 : Vec Ideal S1x2048 .f32)

/-- What the first point leaves: the sums start from zeros. -/
theorem atA (hc : cond0_0 i) :
    out0_A_4 c i a1 h1 a2 h2 a3 h3 a4 h4 a5 h5 a6 h6 a7 h7 a8 h8 hc x0 x1 x2 x3 = dcOf x0 x1 x2 x3
      ∧ out0_A_5 c i a1 h1 a2 h2 a3 h3 a4 h4 a5 h5 a6 h6 a7 h7 a8 h8 hc x0 x1 x2 x3 = k0_pay10 (k0_pay4 x1) (k0_pay5 x1 x2 x3 x0) (k0_pay7 (F := Ideal))
      ∧ out0_A_6 c i a1 h1 a2 h2 a3 h3 a4 h4 a5 h5 a6 h6 a7 h7 a8 h8 hc x0 x1 x2 x3 = k0_pay11 (k0_pay5 x1 x2 x3 x0) (k0_pay8 (F := Ideal))
      ∧ out0_A_7 c i a1 h1 a2 h2 a3 h3 a4 h4 a5 h5 a6 h6 a7 h7 a8 h8 hc x0 x1 x2 x3 = k0_pay1 (F := Ideal) (dcOf x0 x1 x2 x3) (k0_pay9 (F := Ideal)) := by
  refine ⟨(View.read_writes_eq_canon _ _ _ (cover0_A_4 c i a1 h1 a2 h2 a3 h3 a4 h4 a5 h5 a6 h6 a7 h7 a8 h8 hc x0 x1 x2 x3)).trans ?_,
    (View.read_writes_eq_canon _ _ _ (cover0_A_5 c i a1 h1 a2 h2 a3 h3 a4 h4 a5 h5 a6 h6 a7 h7 a8 h8 hc x0 x1 x2 x3)).trans ?_,
    (View.read_writes_eq_canon _ _ _ (cover0_A_6 c i a1 h1 a2 h2 a3 h3 a4 h4 a5 h5 a6 h6 a7 h7 a8 h8 hc x0 x1 x2 x3)).trans ?_,
    (View.read_writes_eq_canon _ _ _ (cover0_A_7 c i a1 h1 a2 h2 a3 h3 a4 h4 a5 h5 a6 h6 a7 h7 a8 h8 hc x0 x1 x2 x3)).trans ?_⟩
  all_goals
    unfold kernelRun0_A
    dsimp only
    rw [View.canon_cons_unit_zero hz]
    simp only [dcOf, kernelRun0_A.sl.r, kernelRun0_A.sl.r_1, kernelRun0_A.sl.r_2, kernelRun0_A.sl.r_3, kernelRun0_A.sl.r_4, kernelRun0_A.sl.v61, kernelRun0_A.sl.v68, kernelRun0_A.sl.v74, kernelRun0_A.sl.H5_1, kernelRun0_A.sl.H6_1, kernelRun0_A.sl.H7_1,
      View.readCov_unit_zero (S := S1x2048) _ hz, View.readAt_eq_ld, h1.read_unread, h2.read_unread, h3.read_unread, h4.read_unread,
      View.ld_unit_zero (S := S512x2048) hz, View.ld_unit_zero (S := S1x2048) hz]

/-- What a later point leaves: it adds to the sums so far. -/
theorem atB (hc : ¬cond0_0 i) (o5 o6 o7 : Vec Ideal S1x2048 .f32) :
    out0_B_4 c i a1 h1 a2 h2 a3 h3 a4 h4 a5 h5 a6 h6 a7 h7 a8 h8 hc x0 x1 x2 x3 o5 o6 o7 = dcOf x0 x1 x2 x3
      ∧ out0_B_5 c i a1 h1 a2 h2 a3 h3 a4 h4 a5 h5 a6 h6 a7 h7 a8 h8 hc x0 x1 x2 x3 o5 o6 o7 = k0_pay10 (k0_pay4 x1) (k0_pay5 x1 x2 x3 x0) o5
      ∧ out0_B_6 c i a1 h1 a2 h2 a3 h3 a4 h4 a5 h5 a6 h6 a7 h7 a8 h8 hc x0 x1 x2 x3 o5 o6 o7 = k0_pay11 (k0_pay5 x1 x2 x3 x0) o6
      ∧ out0_B_7 c i a1 h1 a2 h2 a3 h3 a4 h4 a5 h5 a6 h6 a7 h7 a8 h8 hc x0 x1 x2 x3 o5 o6 o7 = k0_pay1 (F := Ideal) (dcOf x0 x1 x2 x3) o7 := by
  refine ⟨(View.read_writes_eq_canon _ _ _ (cover0_B_4 c i a1 h1 a2 h2 a3 h3 a4 h4 a5 h5 a6 h6 a7 h7 a8 h8 hc x0 x1 x2 x3 o5 o6 o7)).trans ?_,
    (View.read_writes_eq_canon _ _ _ (cover0_B_5 c i a1 h1 a2 h2 a3 h3 a4 h4 a5 h5 a6 h6 a7 h7 a8 h8 hc x0 x1 x2 x3 o5 o6 o7)).trans ?_,
    (View.read_writes_eq_canon _ _ _ (cover0_B_6 c i a1 h1 a2 h2 a3 h3 a4 h4 a5 h5 a6 h6 a7 h7 a8 h8 hc x0 x1 x2 x3 o5 o6 o7)).trans ?_,
    (View.read_writes_eq_canon _ _ _ (cover0_B_7 c i a1 h1 a2 h2 a3 h3 a4 h4 a5 h5 a6 h6 a7 h7 a8 h8 hc x0 x1 x2 x3 o5 o6 o7)).trans ?_⟩
  all_goals
    unfold kernelRun0_B
    dsimp only
    rw [View.canon_unit_zero hz]
    simp only [dcOf, kernelRun0_B.sl.r, kernelRun0_B.sl.r_1, kernelRun0_B.sl.r_2, kernelRun0_B.sl.r_3, kernelRun0_B.sl.r_4, kernelRun0_B.sl.r_5,
      View.readCov_unit_zero (S := S1x2048) _ hz, View.readAt_eq_ld, h1.read_unread, h2.read_unread, h3.read_unread, h4.read_unread, h6.read_unread, h7.read_unread, h8.read_unread,
      View.ld_unit_zero (S := S512x2048) hz, View.ld_unit_zero (S := S1x2048) hz]
end points

variable (m : (ℓ : Loc nD τ sig) → Buf (Elt Ideal) ℓ)

/-! ## What the points leave, at the arguments -/

/-- The arguments as arrays of extended reals: the gate's cotangent, the convolution's rows, and the norm's weight and bias. -/
abbrev aD (c : Dev nD) : FVec Ideal S8192x2048 .f32 := m ((c : Thread nD τ).loc main_arg0)
abbrev aC (c : Dev nD) : FVec Ideal S8192x2048 .f32 := m ((c : Thread nD τ).loc main_arg1)
abbrev aG (c : Dev nD) : FVec Ideal S1x2048 .f32 := m ((c : Thread nD τ).loc main_arg2)
abbrev aB (c : Dev nD) : FVec Ideal S1x2048 .f32 := m ((c : Thread nD τ).loc main_arg3)

section arrays
variable (d z : FVec Ideal S8192x2048 .f32) (g b : FVec Ideal S1x2048 .f32)
/-- The cotangent of the norm's output and the derivative by the rows, at an entry of the whole arrays. -/
def dyAt (r : Fin 8192) (q : Fin 2048) : EReal := dyOf (row d r) (row z r) (row g 0) (row b 0) q
def dc (r : Fin 8192) (q : Fin 2048) : EReal := Norm.dx (row z r) (seed (row d r) (row z r) (row g 0) (row b 0)) q
/-- The arrays the kernel ends with: the derivatives by the rows, by the weight and by the bias, and the first one summed over the rows. -/
def outC : FVec Ideal S8192x2048 .f32 := fun i => dc d z g b (i 0) (i 1)
def outG : FVec Ideal S1x2048 .f32 := fun i => ∑ r : Fin 8192, dyAt d z g b r (i 1) * Norm.xhat (row z r) (i 1)
def outBias : FVec Ideal S1x2048 .f32 := fun i => ∑ r : Fin 8192, dyAt d z g b r (i 1)
def outS : FVec Ideal S1x2048 .f32 := fun i => ∑ r : Fin 8192, dc d z g b r (i 1)
end arrays

/-- The blocks the windows visit at point `t`. -/
theorem idx_eqs : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0) ∧ t.val < 16 :=
  (by decide +kernel : ∀ t : Fin grid0.N, _)
theorem pt_lt (t : Fin cfg0.N) : t.val < 16 := (idx_eqs t).2.2.2.2.2.2

theorem blk_d (c : Dev nD) (t : Fin cfg0.N) (p : Fin 512) (q : Fin 2048) (h : t.val * 512 + p.val < 8192) :
    iblk m c 0 t (ix2 p q) = aD m c (ix2 ⟨t.val * 512 + p.val, h⟩ q) := by
  obtain ⟨⟨h0, h1⟩, -⟩ := idx_eqs t
  refine congrArg (aD m c) (funext fun a => Fin.ext ?_)
  match a with
  | ⟨0, _⟩ => show win0_0.index t 0 * 512 + 1 * p.val = t.val * 512 + p.val; rw [h0]; omega
  | ⟨1, _⟩ => show win0_0.index t 1 * 2048 + 1 * q.val = q.val; rw [h1]; omega
theorem blk_c (c : Dev nD) (t : Fin cfg0.N) (p : Fin 512) (q : Fin 2048) (h : t.val * 512 + p.val < 8192) :
    iblk m c 1 t (ix2 p q) = aC m c (ix2 ⟨t.val * 512 + p.val, h⟩ q) := by
  obtain ⟨-, ⟨h0, h1⟩, -⟩ := idx_eqs t
  refine congrArg (aC m c) (funext fun a => Fin.ext ?_)
  match a with
  | ⟨0, _⟩ => show win0_1.index t 0 * 512 + 1 * p.val = t.val * 512 + p.val; rw [h0]; omega
  | ⟨1, _⟩ => show win0_1.index t 1 * 2048 + 1 * q.val = q.val; rw [h1]; omega
theorem blk_g (c : Dev nD) (t : Fin cfg0.N) (q : Fin 2048) : iblk m c 2 t (ix2 0 q) = aG m c (ix2 0 q) := by
  obtain ⟨-, -, ⟨h0, h1⟩, -⟩ := idx_eqs t
  refine congrArg (aG m c) (funext fun a => Fin.ext ?_)
  match a with
  | ⟨0, _⟩ => show win0_2.index t 0 * 1 + 1 * 0 = 0; rw [h0]
  | ⟨1, _⟩ => show win0_2.index t 1 * 2048 + 1 * q.val = q.val; rw [h1]; omega
theorem blk_b (c : Dev nD) (t : Fin cfg0.N) (q : Fin 2048) : iblk m c 3 t (ix2 0 q) = aB m c (ix2 0 q) := by
  obtain ⟨-, -, -, ⟨h0, h1⟩, -⟩ := idx_eqs t
  refine congrArg (aB m c) (funext fun a => Fin.ext ?_)
  match a with
  | ⟨0, _⟩ => show win0_3.index t 0 * 1 + 1 * 0 = 0; rw [h0]
  | ⟨1, _⟩ => show win0_3.index t 1 * 2048 + 1 * q.val = q.val; rw [h1]; omega

theorem row_d (c : Dev nD) (t : Fin cfg0.N) (p : Fin 512) (h : t.val * 512 + p.val < 8192) :
    row (n := 512) (iblk m c 0 t) p = row (aD m c) ⟨t.val * 512 + p.val, h⟩ := funext fun k => blk_d m c t p k h
theorem row_c (c : Dev nD) (t : Fin cfg0.N) (p : Fin 512) (h : t.val * 512 + p.val < 8192) :
    row (n := 512) (iblk m c 1 t) p = row (aC m c) ⟨t.val * 512 + p.val, h⟩ := funext fun k => blk_c m c t p k h
theorem row_g (c : Dev nD) (t : Fin cfg0.N) : row (n := 1) (iblk m c 2 t) 0 = row (aG m c) 0 := funext fun k => blk_g m c t k
theorem row_b (c : Dev nD) (t : Fin cfg0.N) : row (n := 1) (iblk m c 3 t) 0 = row (aB m c) 0 := funext fun k => blk_b m c t k

theorem dy_blk (c : Dev nD) (t : Fin cfg0.N) (p : Fin 512) (q : Fin 2048) (h : t.val * 512 + p.val < 8192) :
    k0_pay5 (iblk m c 1 t) (iblk m c 2 t) (iblk m c 3 t) (iblk m c 0 t) (ix2 p q) = dyAt (aD m c) (aC m c) (aG m c) (aB m c) ⟨t.val * 512 + p.val, h⟩ q := by
  rw [pay5_at, row_d m c t p h, row_c m c t p h, row_g, row_b, dyAt]
theorem dc_blk (c : Dev nD) (t : Fin cfg0.N) (p : Fin 512) (q : Fin 2048) (h : t.val * 512 + p.val < 8192) :
    dcOf (iblk m c 0 t) (iblk m c 1 t) (iblk m c 2 t) (iblk m c 3 t) (ix2 p q) = dc (aD m c) (aC m c) (aG m c) (aB m c) ⟨t.val * 512 + p.val, h⟩ q := by
  rw [dcOf_at, row_d m c t p h, row_c m c t p h, row_g, row_b, dc]

/-- A point's rows of a sum. -/
def rowsOf (f : Fin 8192 → EReal) (b : Fin cfg0.N) : EReal :=
  ∑ p : Fin 512, f ⟨b.val * 512 + p.val, by have := pt_lt b; omega⟩
theorem sum_g (c : Dev nD) (t : Fin cfg0.N) (o : Vec Ideal S1x2048 .f32) (q : Fin 2048) :
    k0_pay10 (k0_pay4 (iblk m c 1 t)) (k0_pay5 (iblk m c 1 t) (iblk m c 2 t) (iblk m c 3 t) (iblk m c 0 t)) o (ix2 0 q)
      = o (ix2 0 q) + rowsOf (fun r => dyAt (aD m c) (aC m c) (aG m c) (aB m c) r q * Norm.xhat (row (aC m c) r) q) t := by
  have ht := pt_lt t
  rw [pay10_at, rowsOf]
  refine congrArg (o (ix2 0 q) + ·) (Finset.sum_congr rfl fun p _ => ?_)
  have h : t.val * 512 + p.val < 8192 := by omega
  rw [pay4_at, dy_blk m c t p q h, row_c m c t p h]
theorem sum_b (c : Dev nD) (t : Fin cfg0.N) (o : Vec Ideal S1x2048 .f32) (q : Fin 2048) :
    k0_pay11 (k0_pay5 (iblk m c 1 t) (iblk m c 2 t) (iblk m c 3 t) (iblk m c 0 t)) o (ix2 0 q) = o (ix2 0 q) + rowsOf (fun r => dyAt (aD m c) (aC m c) (aG m c) (aB m c) r q) t := by
  have ht := pt_lt t
  rw [pay11_at, rowsOf]
  exact congrArg (o (ix2 0 q) + ·) (Finset.sum_congr rfl fun p _ => dy_blk m c t p q (by omega))
theorem sum_s (c : Dev nD) (t : Fin cfg0.N) (o : Vec Ideal S1x2048 .f32) (q : Fin 2048) :
    k0_pay1 (dcOf (iblk m c 0 t) (iblk m c 1 t) (iblk m c 2 t) (iblk m c 3 t)) o (ix2 0 q) = o (ix2 0 q) + rowsOf (fun r => dc (aD m c) (aC m c) (aG m c) (aB m c) r q) t := by
  have ht := pt_lt t
  rw [pay1_at, rowsOf]
  exact congrArg (o (ix2 0 q) + ·) (Finset.sum_congr rfl fun p _ => dc_blk m c t p q (by omega))

/-- The four windows after a point that found `o5`, `o6` and `o7` in the sums. -/
def left (c : Dev nD) (t : Fin cfg0.N) (o5 o6 o7 : Vec Ideal S1x2048 .f32) :
    Vec Ideal S512x2048 .f32 × Vec Ideal S1x2048 .f32 × Vec Ideal S1x2048 .f32 × Vec Ideal S1x2048 .f32 :=
  (dcOf (iblk m c 0 t) (iblk m c 1 t) (iblk m c 2 t) (iblk m c 3 t), k0_pay10 (k0_pay4 (iblk m c 1 t)) (k0_pay5 (iblk m c 1 t) (iblk m c 2 t) (iblk m c 3 t) (iblk m c 0 t)) o5, k0_pay11 (k0_pay5 (iblk m c 1 t) (iblk m c 2 t) (iblk m c 3 t) (iblk m c 0 t)) o6, k0_pay1 (dcOf (iblk m c 0 t) (iblk m c 1 t) (iblk m c 2 t) (iblk m c 3 t)) o7)

theorem outs_first (c : Dev nD) (h : 0 < cfg0.N) :
    outsAt0 m c 0 h = left m c ⟨0, h⟩ (k0_pay7 (F := Ideal)) (k0_pay8 (F := Ideal)) (k0_pay9 (F := Ideal)) := by
  obtain ⟨e4, e5, e6, e7⟩ := atA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (iblk m c 0 ⟨0, h⟩) (iblk m c 1 ⟨0, h⟩) (iblk m c 2 ⟨0, h⟩) (iblk m c 3 ⟨0, h⟩)
    ((hcond0_0 ⟨0, h⟩).mpr (Nat.zero_mod _))
  rw [outsAt0_A m c ⟨0, h⟩ (Nat.zero_mod _), e4, e5, e6, e7, left]
theorem outs_next (c : Dev nD) (t : ℕ) (h : t + 1 < cfg0.N) :
    outsAt0 m c (t + 1) h = left m c ⟨t + 1, h⟩ (outsAt0 m c t (Nat.lt_of_succ_lt h)).2.1 (outsAt0 m c t (Nat.lt_of_succ_lt h)).2.2.1
      (outsAt0 m c t (Nat.lt_of_succ_lt h)).2.2.2 := by
  have h0 : ¬(t + 1) % 16 = 0 := by have := pt_lt ⟨t + 1, h⟩; dsimp only at this; omega
  obtain ⟨e4, e5, e6, e7⟩ := atB c (grid0.coords ⟨t + 1, h⟩) (ms0_0 ⟨t + 1, h⟩) (hs0_0 ⟨t + 1, h⟩) (ms0_1 ⟨t + 1, h⟩) (hs0_1 ⟨t + 1, h⟩) (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) (ms0_5 ⟨t + 1, h⟩) (hs0_5 ⟨t + 1, h⟩) (ms0_6 ⟨t + 1, h⟩) (hs0_6 ⟨t + 1, h⟩) (ms0_7 ⟨t + 1, h⟩) (hs0_7 ⟨t + 1, h⟩) (iblk m c 0 ⟨t + 1, h⟩) (iblk m c 1 ⟨t + 1, h⟩) (iblk m c 2 ⟨t + 1, h⟩) (iblk m c 3 ⟨t + 1, h⟩)
    (fun x => h0 ((hcond0_0 ⟨t + 1, h⟩).mp x))
    (outsAt0 m c t (Nat.lt_of_succ_lt h)).2.1 (outsAt0 m c t (Nat.lt_of_succ_lt h)).2.2.1 (outsAt0 m c t (Nat.lt_of_succ_lt h)).2.2.2
  exact (outsAt0_B m c ⟨t + 1, h⟩ h0).trans (congr (congrArg Prod.mk e4) (congr (congrArg Prod.mk e5) (congr (congrArg Prod.mk e6) e7)))

theorem c_left (c : Dev nD) (t : Fin cfg0.N) : (outsAt0 m c t.val t.isLt).1 = dcOf (iblk m c 0 t) (iblk m c 1 t) (iblk m c 2 t) (iblk m c 3 t) := by
  obtain ⟨_ | t, h⟩ := t
  · rw [outs_first m c h]; rfl
  · rw [outs_next m c t h]; rfl

/-- After the last point the sums are over all rows. -/
theorem all_rows (f : Fin 8192 → EReal) (t : Fin cfg0.N) (e : t.val = 15) :
    ∑ b : Fin (t.val + 1), rowsOf f ⟨b.val, Nat.lt_of_lt_of_le b.isLt t.isLt⟩ = ∑ r, f r := by
  obtain ⟨t, h⟩ := t
  obtain rfl : t = 15 := e
  exact Norm.sum_rows f
theorem g_left (c : Dev nD) (t : Fin cfg0.N) (e : t.val = 15) (q : Fin 2048) :
    (outsAt0 m c t.val t.isLt).2.1 (ix2 0 q) = outG (aD m c) (aC m c) (aG m c) (aB m c) (ix2 0 q) := by
  refine (Norm.run_sum (fun t h => (outsAt0 m c t h).2.1 (ix2 0 q)) (rowsOf fun r => dyAt (aD m c) (aC m c) (aG m c) (aB m c) r q * Norm.xhat (row (aC m c) r) q)
    (fun h => ?_) (fun t h => ?_) t.val t.isLt).trans (all_rows _ t e)
  · rw [outs_first m c h]; exact (sum_g m c _ _ q).trans (by rw [pay7_at, zero_add])
  · rw [outs_next m c t h]; exact sum_g m c _ _ q
theorem b_left (c : Dev nD) (t : Fin cfg0.N) (e : t.val = 15) (q : Fin 2048) :
    (outsAt0 m c t.val t.isLt).2.2.1 (ix2 0 q) = outBias (aD m c) (aC m c) (aG m c) (aB m c) (ix2 0 q) := by
  refine (Norm.run_sum (fun t h => (outsAt0 m c t h).2.2.1 (ix2 0 q)) (rowsOf fun r => dyAt (aD m c) (aC m c) (aG m c) (aB m c) r q)
    (fun h => ?_) (fun t h => ?_) t.val t.isLt).trans (all_rows _ t e)
  · rw [outs_first m c h]; exact (sum_b m c _ _ q).trans (by rw [pay8_at, zero_add])
  · rw [outs_next m c t h]; exact sum_b m c _ _ q
theorem s_left (c : Dev nD) (t : Fin cfg0.N) (e : t.val = 15) (q : Fin 2048) :
    (outsAt0 m c t.val t.isLt).2.2.2 (ix2 0 q) = outS (aD m c) (aC m c) (aG m c) (aB m c) (ix2 0 q) := by
  refine (Norm.run_sum (fun t h => (outsAt0 m c t h).2.2.2 (ix2 0 q)) (rowsOf fun r => dc (aD m c) (aC m c) (aG m c) (aB m c) r q)
    (fun h => ?_) (fun t h => ?_) t.val t.isLt).trans (all_rows _ t e)
  · rw [outs_first m c h]; exact (sum_s m c _ _ q).trans (by rw [pay9_at, zero_add])
  · rw [outs_next m c t h]; exact sum_s m c _ _ q

/-! ## The arrays the kernel ends with -/

theorem place_c (t : Fin cfg0.N) (p : Fin 512) (q : Fin 2048) (h : t.val * 512 + p.val < 8192) :
    ((cfg0.win 4).blk t).view.emb (ix2 p q) = (ix2 ⟨t.val * 512 + p.val, h⟩ q : S8192x2048.Idx) := by
  obtain ⟨-, -, -, -, ⟨h0, h1⟩, -⟩ := idx_eqs t
  refine funext fun a => Fin.ext ?_
  match a with
  | ⟨0, _⟩ => show win0_4.index t 0 * 512 + 1 * p.val = t.val * 512 + p.val; rw [h0]; omega
  | ⟨1, _⟩ => show win0_4.index t 1 * 2048 + 1 * q.val = q.val; rw [h1]; omega
theorem place_s (t : Fin cfg0.N) (q : Fin 2048) : ((cfg0.win 5).blk t).view.emb (ix2 0 q) = (ix2 0 q : S1x2048.Idx) := by
  obtain ⟨-, -, -, -, -, ⟨h0, h1⟩, -⟩ := idx_eqs t
  refine funext fun a => Fin.ext ?_
  match a with
  | ⟨0, _⟩ => show win0_5.index t 0 * 1 + 1 * 0 = 0; rw [h0]
  | ⟨1, _⟩ => show win0_5.index t 1 * 2048 + 1 * q.val = q.val; rw [h1]; omega
theorem last (t : Fin cfg0.N) (h : t.val % 16 = 15) : t.val = 15 := by
  have := pt_lt t; omega

theorem flushed_c (c : Dev nD) (t : Fin cfg0.N) :
    (dats m 0 c).flushed 4 t = ((cfg0.win 4).blk t).view.read (Elt Ideal) (outC (aD m c) (aC m c) (aG m c) (aB m c)) := by
  have ht := pt_lt t
  rw [Value.flushed4, c_left m c t]
  funext y
  obtain ⟨p, q, rfl⟩ : ∃ (p : Fin 512) (q : Fin 2048), y = ix2 p q := ⟨y 0, y 1, eq_ix2 y⟩
  have h : t.val * 512 + p.val < 8192 := by omega
  refine (dc_blk m c t p q h).trans ?_
  exact (congrArg (outC (aD m c) (aC m c) (aG m c) (aB m c)) (place_c t p q h)).symm
theorem flushed_g (c : Dev nD) (t : Fin cfg0.N) (h : (cfg0.win 5).flush t = true) :
    (dats m 0 c).flushed 5 t = ((cfg0.win 5).blk t).view.read (Elt Ideal) (outG (aD m c) (aC m c) (aG m c) (aB m c)) := by
  have e := last t ((flush0_5 t).mp h)
  rw [Value.flushed5]
  funext y
  obtain ⟨p, q, rfl⟩ : ∃ (p : Fin 1) (q : Fin 2048), y = ix2 p q := ⟨y 0, y 1, eq_ix2 y⟩
  obtain rfl : p = 0 := Subsingleton.elim _ _
  exact (g_left m c t e q).trans (congrArg (outG (aD m c) (aC m c) (aG m c) (aB m c)) (place_s t q)).symm
theorem flushed_b (c : Dev nD) (t : Fin cfg0.N) (h : (cfg0.win 6).flush t = true) :
    (dats m 0 c).flushed 6 t = ((cfg0.win 6).blk t).view.read (Elt Ideal) (outBias (aD m c) (aC m c) (aG m c) (aB m c)) := by
  have e := last t ((flush0_6 t).mp h)
  rw [Value.flushed6]
  funext y
  obtain ⟨p, q, rfl⟩ : ∃ (p : Fin 1) (q : Fin 2048), y = ix2 p q := ⟨y 0, y 1, eq_ix2 y⟩
  obtain rfl : p = 0 := Subsingleton.elim _ _
  exact (b_left m c t e q).trans (congrArg (outBias (aD m c) (aC m c) (aG m c) (aB m c)) (place_s t q)).symm
theorem flushed_s (c : Dev nD) (t : Fin cfg0.N) (h : (cfg0.win 7).flush t = true) :
    (dats m 0 c).flushed 7 t = ((cfg0.win 7).blk t).view.read (Elt Ideal) (outS (aD m c) (aC m c) (aG m c) (aB m c)) := by
  have e := last t ((flush0_7 t).mp h)
  rw [Value.flushed7]
  funext y
  obtain ⟨p, q, rfl⟩ : ∃ (p : Fin 1) (q : Fin 2048), y = ix2 p q := ⟨y 0, y 1, eq_ix2 y⟩
  obtain rfl : p = 0 := Subsingleton.elim _ _
  exact (s_left m c t e q).trans (congrArg (outS (aD m c) (aC m c) (aG m c) (aB m c)) (place_s t q)).symm

theorem tiled : ∀ a : Fin 16, ∃ t : Fin cfg0.N, win0_4.index t 0 = a.val ∧ win0_4.index t 1 = 0 :=
  (by decide +kernel : ∀ a : Fin 16, ∃ t : Fin grid0.N, _)
theorem cover_c (i : S8192x2048.Idx) : ∃ t : Fin cfg0.N, i ∈ ((View.whole main_v0_0).slice (win0_4.rect t)).set := by
  have hi0 : (i 0).val < 8192 := (i 0).isLt
  have hi1 : (i 1).val < 2048 := (i 1).isLt
  obtain ⟨t, h0, h1⟩ := tiled ⟨(i 0).val / 512, by omega⟩
  dsimp only at h0
  refine ⟨t, ?_⟩
  rw [View.set_slice_whole, Rect.mem_set_unit]
  intro a
  match a with
  | ⟨0, _⟩ => show win0_4.index t 0 * 512 ≤ (i 0).val ∧ (i 0).val < win0_4.index t 0 * 512 + 512; omega
  | ⟨1, _⟩ => show win0_4.index t 1 * 2048 ≤ (i 1).val ∧ (i 1).val < win0_4.index t 1 * 2048 + 2048; omega
/-- A sum's window is the whole array, written back at the last point. -/
theorem cover_s (i : S1x2048.Idx) (t : Fin cfg0.N) : i ∈ ((View.whole main_v0_1).slice (win0_5.rect t)).set := by
  have hi0 : (i 0).val < 1 := (i 0).isLt
  have hi1 : (i 1).val < 2048 := (i 1).isLt
  obtain ⟨-, -, -, -, -, ⟨h0, h1⟩, -⟩ := idx_eqs t
  rw [View.set_slice_whole, Rect.mem_set_unit]
  intro a
  match a with
  | ⟨0, _⟩ => show win0_5.index t 0 * 1 ≤ (i 0).val ∧ (i 0).val < win0_5.index t 0 * 1 + 1; omega
  | ⟨1, _⟩ => show win0_5.index t 1 * 2048 ≤ (i 1).val ∧ (i 1).val < win0_5.index t 1 * 2048 + 2048; omega

theorem flushes : ∃ t : Fin cfg0.N, (cfg0.win 5).flush t = true ∧ (cfg0.win 6).flush t = true ∧ (cfg0.win 7).flush t = true :=
  ⟨⟨15, by decide⟩, (flush0_5 _).mpr rfl, (flush0_6 _).mpr rfl, (flush0_7 _).mpr rfl⟩

section reference
variable (m : (ℓ : Loc Reference30Ideal.nD Reference30Ideal.τ Reference30Ideal.sig) → Buf (Elt Ideal) ℓ) (c : Dev Reference30Ideal.nD)

abbrev rD : FVec Ideal S8192x2048 .f32 := m ((c.tc : Thread Reference30Ideal.nD Reference30Ideal.τ).loc Reference30Ideal.main_arg0)
abbrev rC : FVec Ideal S8192x2048 .f32 := m ((c.tc : Thread Reference30Ideal.nD Reference30Ideal.τ).loc Reference30Ideal.main_arg1)
abbrev rG : FVec Ideal S1x2048 .f32 := m ((c.tc : Thread Reference30Ideal.nD Reference30Ideal.τ).loc Reference30Ideal.main_arg2)
abbrev rB : FVec Ideal S1x2048 .f32 := m ((c.tc : Thread Reference30Ideal.nD Reference30Ideal.τ).loc Reference30Ideal.main_arg3)

/-- The cotangent of the gate's argument as the reference's gradient has it: one term for each factor of `y * sigm y`. -/
def apart (d y : EReal) : EReal := d * sigm y + y * d * (sigm y * (1 - sigm y))
/-- The two forms agree where `d` and `y` are real. -/
theorem apart_eq (d y : ℝ) : ∃ x : ℝ, apart (d : EReal) y = x ∧ gated (d : EReal) y = x := by
  have hs : sigm (y : EReal) = ((1 / (1 + Real.exp (-y)) : ℝ) : EReal) := by
    have h : (1 + Real.exp (-y)) ≠ 0 := by positivity
    rw [sigm, ← EReal.coe_neg, Ideal.exp_coe, ← EReal.coe_one, ← EReal.coe_add, Ideal.div_coe h, ← EReal.coe_mul, one_mul]
  refine ⟨d * (1 / (1 + Real.exp (-y))) + y * d * (1 / (1 + Real.exp (-y)) * (1 - 1 / (1 + Real.exp (-y)))), ?_, ?_⟩
  · rw [apart, hs, ← EReal.coe_one, ← EReal.coe_sub, ← EReal.coe_mul, ← EReal.coe_mul, ← EReal.coe_mul, ← EReal.coe_mul, ← EReal.coe_add]
  · rw [gated, hs, ← EReal.coe_one, ← EReal.coe_sub, ← EReal.coe_mul, ← EReal.coe_add, ← EReal.coe_mul, ← EReal.coe_mul]
    congr 1
    ring

abbrev rY (p : Fin 8192) (k : Fin 2048) : EReal := apart (rD m c (ix2 p k)) (Norm.xhat (row (rC m c) p) k * rG m c (ix2 0 k) + rB m c (ix2 0 k))
theorem ref_at (p : Fin 8192) (q : Fin 2048) :
    Reference30Ideal.Value.res_main_v59 m c (ix2 p q) = Norm.chain (row (rC m c) p) (fun k => rY m c p k * rG m c (ix2 0 k)) q := by
  unfold Reference30Ideal.Value.res_main_v59 rY apart sigm Norm.chain Norm.thru Norm.xhat Norm.root Norm.shifted Norm.cen Norm.width Norm.eps row
  pointwise
theorem ref_g (q : Fin 2048) : Reference30Ideal.Value.res_main_v33 m c (ix2 0 q) = ∑ r : Fin 8192, Norm.xhat (row (rC m c) r) q * rY m c r q := by
  unfold Reference30Ideal.Value.res_main_v33 rY apart sigm Norm.xhat Norm.root Norm.shifted Norm.cen Norm.width Norm.eps row
  pointwise
theorem ref_bias (q : Fin 2048) : Reference30Ideal.Value.res_main_v30 m c (ix2 0 q) = ∑ r : Fin 8192, rY m c r q := by
  unfold Reference30Ideal.Value.res_main_v30 rY apart sigm Norm.xhat Norm.root Norm.shifted Norm.cen Norm.width Norm.eps row
  pointwise
abbrev rDc : FVec Ideal S8192x2048 .f32 := Reference30Ideal.Value.res_main_v59 m c
theorem ref_s (q : Fin 2048) : Reference30Ideal.Value.res_main_v61 m c (ix2 0 q) = ∑ r : Fin 8192, rDc m c (ix2 r q) := by
  unfold Reference30Ideal.Value.res_main_v61 rDc Reference30Ideal.Value.res_main_v59
  pointwise
end reference

/-- Two bits that are on together. -/
theorem both : ∀ {a b : BitVec 1}, a &&& b = 1#1 → a = 1#1 ∧ b = 1#1 := by decide

/-- Where the precondition holds, the gate's cotangent, the norm's weight and its output are real. -/
theorem real_row (d z : FVec Ideal S8192x2048 .f32) (g b : FVec Ideal S1x2048 .f32)
    (h : (letI := Cert.Pre_finite30.Gen.facts; Cert.Pre_finite30.fn d z g b) = fun _ => 1#1) (p : Fin 8192) (q : Fin 2048) :
    ∃ u w y : ℝ, d (ix2 p q) = (u : EReal) ∧ g (ix2 0 q) = (w : EReal) ∧ Norm.xhat (row z p) q * g (ix2 0 q) + b (ix2 0 q) = (y : EReal) := by
  have e := congrFun h (ix2 p q)
  unfold Cert.Pre_finite30.fn at e
  have e' : (Ideal.cmp .olt (max (d (ix2 p q)) (-d (ix2 p q))) (Ideal.ofBits .f32 0x7F800000#32) &&& Ideal.cmp .olt (max (g (ix2 0 q)) (-g (ix2 0 q))) (Ideal.ofBits .f32 0x7F800000#32))
      &&& Ideal.cmp .olt (max (b (ix2 0 q)) (-b (ix2 0 q))) (Ideal.ofBits .f32 0x7F800000#32) = 1#1 := by
    refine Eq.trans ?_ e
    pointwise
    rfl
  obtain ⟨u, hu⟩ := Norm.real_of_olt (both (both e').1).1
  obtain ⟨w, hw⟩ := Norm.real_of_olt (both (both e').1).2
  obtain ⟨v, hv⟩ := Norm.real_of_olt (both e').2
  obtain ⟨x, hx⟩ := Norm.xhat_real (row z p)
  refine ⟨u, w, x q * w + v, hu, hw, ?_⟩
  rw [hx, hw, hv, EReal.coe_add, EReal.coe_mul]

/-- The claim: the kernel and the gradient's plain lines end with the same four arrays. -/
theorem algebraic : Cert.algebraic_Kernel30Ideal_Reference30Ideal_pre_finite30 (hKernel30Ideal := Cert.Kernel30Ideal.Gen.facts) (hReference30Ideal := Cert.Reference30Ideal.Gen.facts) (hPre_finite30 := Cert.Pre_finite30.Gen.facts) := by
  intro m ρ m' ρ' hpre hag
  obtain ⟨t₁, f5, f6, f7⟩ := flushes
  have hdy : ∀ (c : Dev nD) (p : Fin 8192) (q : Fin 2048), ∃ x : ℝ, rY m' c p q = x ∧ dyAt (aD m c) (aC m c) (aG m c) (aB m c) p q = x := fun c p q => by
    obtain ⟨u, w, y, hu, -, hy⟩ := real_row (aD m c) (aC m c) (aG m c) (aB m c) (hpre c) p q
    have e0 : rD m' c = aD m c := (hag c).1
    have e1 : rC m' c = aC m c := (hag c).2.1
    have e2 : rG m' c = aG m c := (hag c).2.2.1
    have e3 : rB m' c = aB m c := (hag c).2.2.2
    have ha : dyAt (aD m c) (aC m c) (aG m c) (aB m c) p q = gated (aD m c (ix2 p q)) (Norm.xhat (row (aC m c) p) q * aG m c (ix2 0 q) + aB m c (ix2 0 q)) := rfl
    rw [rY, ha, e0, e1, e2, e3, hu, hy]
    exact apart_eq u y
  have hdc : ∀ (c : Dev nD) (p : Fin 8192) (q : Fin 2048), rDc m' c (ix2 p q) = dc (aD m c) (aC m c) (aG m c) (aB m c) p q := fun c p q => by
    have e1 : rC m' c = aC m c := (hag c).2.1
    have e2 : rG m' c = aG m c := (hag c).2.2.1
    choose x hr hk using hdy c p
    choose u w y hu hw hy using real_row (aD m c) (aC m c) (aG m c) (aB m c) (hpre c) p
    have ha : (fun k => rY m' c p k * rG m' c (ix2 0 k)) = fun k => ((x k * w k : ℝ) : EReal) :=
      funext fun k => by rw [e2, hr, hw, EReal.coe_mul]
    have hs : seed (row (aD m c) p) (row (aC m c) p) (row (aG m c) 0) (row (aB m c) 0) = fun k => ((x k * w k : ℝ) : EReal) :=
      funext fun k => by rw [EReal.coe_mul, ← hk, ← hw]; rfl
    exact (ref_at m' c p q).trans (by rw [ha, Norm.chain_eq, dc, hs, e1])
  refine ⟨fun c => outC (aD m c) (aC m c) (aG m c) (aB m c), fun c => outG (aD m c) (aC m c) (aG m c) (aB m c), fun c => outBias (aD m c) (aC m c) (aG m c) (aB m c), fun c => outS (aD m c) (aC m c) (aG m c) (aB m c),
    (θ_run _ _ _).mono (fun _ h c =>
      ⟨(h c).1.trans ((dats m 0 c).arrAt_eq_of_cover 4 _ (fun t _ => flushed_c m c t) fun i => (cover_c i).imp fun t h => ⟨flush0_4 t, h⟩),
        (h c).2.1.trans ((dats m 0 c).arrAt_eq_of_cover 5 _ (flushed_g m c) fun i => ⟨t₁, f5, cover_s i t₁⟩),
        (h c).2.2.1.trans ((dats m 0 c).arrAt_eq_of_cover 6 _ (flushed_b m c) fun i => ⟨t₁, f6, cover_s i t₁⟩),
        (h c).2.2.2.1.trans ((dats m 0 c).arrAt_eq_of_cover 7 _ (flushed_s m c) fun i => ⟨t₁, f7, cover_s i t₁⟩), (h c).2.2.2.2⟩)
      (Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference30Ideal.Value.run m' ρ')⟩
  · funext j
    obtain ⟨p, q, rfl⟩ : ∃ p q, j = ix2 p q := ⟨j 0, j 1, eq_ix2 j⟩
    exact hdc c p q
  · funext j
    obtain ⟨p, q, rfl⟩ : ∃ p q, j = ix2 p q := ⟨j 0, j 1, eq_ix2 j⟩
    obtain rfl : p = 0 := Subsingleton.elim _ _
    have e1 : rC m' c = aC m c := (hag c).2.1
    have e : outG (aD m c) (aC m c) (aG m c) (aB m c) (ix2 0 q) = ∑ r : Fin 8192, dyAt (aD m c) (aC m c) (aG m c) (aB m c) r q * Norm.xhat (row (aC m c) r) q := rfl
    have es : ∑ r : Fin 8192, Norm.xhat (row (rC m' c) r) q * rY m' c r q = ∑ r : Fin 8192, dyAt (aD m c) (aC m c) (aG m c) (aB m c) r q * Norm.xhat (row (aC m c) r) q :=
      Finset.sum_congr rfl fun r _ => by
        obtain ⟨x, hr, hk⟩ := hdy c r q
        rw [hr, hk, e1, mul_comm]
    exact (ref_g m' c q).trans (es.trans e.symm)
  · funext j
    obtain ⟨p, q, rfl⟩ : ∃ p q, j = ix2 p q := ⟨j 0, j 1, eq_ix2 j⟩
    obtain rfl : p = 0 := Subsingleton.elim _ _
    have e : outBias (aD m c) (aC m c) (aG m c) (aB m c) (ix2 0 q) = ∑ r : Fin 8192, dyAt (aD m c) (aC m c) (aG m c) (aB m c) r q := rfl
    have es : ∑ r : Fin 8192, rY m' c r q = ∑ r : Fin 8192, dyAt (aD m c) (aC m c) (aG m c) (aB m c) r q :=
      Finset.sum_congr rfl fun r _ => by
        obtain ⟨x, hr, hk⟩ := hdy c r q
        rw [hr, hk]
    exact (ref_bias m' c q).trans (es.trans e.symm)
  · funext j
    obtain ⟨p, q, rfl⟩ : ∃ p q, j = ix2 p q := ⟨j 0, j 1, eq_ix2 j⟩
    obtain rfl : p = 0 := Subsingleton.elim _ _
    have e : outS (aD m c) (aC m c) (aG m c) (aB m c) (ix2 0 q) = ∑ r : Fin 8192, dc (aD m c) (aC m c) (aG m c) (aB m c) r q := rfl
    exact (ref_s m' c q).trans ((Finset.sum_congr rfl fun r _ => hdc c r q).trans e.symm)

end Cert.Kernel30Ideal.ConvNorm

end
-- ==== Proof.NormFwd.lean ====
module

public import proofs.«01_k».proof.Defs
public import proofs.«01_k».proof.Proof.Gen.Kernel31Ideal.Value
public import proofs.«01_k».proof.Proof.Gen.Reference31Ideal.Run
public import proofs.«01_k».proof.Proof.Norm
public import Idealize.ShloMosaic.Lib.Pointwise
public import Idealize.ShloMosaic.Lib.StableHlo.ReadAt

@[expose] public section

set_option maxRecDepth 16384

/-! A layer norm: its rows are normalised, scaled and shifted. -/

noncomputable section

namespace Cert.Kernel31Ideal.NormFwd

open Cert.Kernel31Ideal Cert.Kernel31Ideal.Gen Idealize.ShloMosaic Idealize.ShloMosaic.TcCoe Idealize.SL.Sem
open Idealize.ShloMosaic.Tactic

variable (m : (ℓ : Loc nD τ sig) → Buf (Elt Ideal) ℓ)

/-- The arguments as arrays of extended reals: the rows, the norm's scale and its shift. -/
abbrev aZ (c : Dev nD) : FVec Ideal S8192x2048 .f32 := m ((c : Thread nD τ).loc main_arg0)
abbrev aG (c : Dev nD) : FVec Ideal S1x2048 .f32 := m ((c : Thread nD τ).loc main_arg1)
abbrev aB (c : Dev nD) : FVec Ideal S1x2048 .f32 := m ((c : Thread nD τ).loc main_arg2)

/-- An entry of the normalised array, and the array, in f32 and in bf16. -/
def norm {n : Nat} (z : FVec Ideal ⟨2, ![n, 2048]⟩ .f32) (g b : FVec Ideal S1x2048 .f32) (p : Fin n) (q : Fin 2048) : EReal :=
  Norm.xhat (fun k => z (ix2 p k)) q * g (ix2 0 q) + b (ix2 0 q)
def outY (z : FVec Ideal S8192x2048 .f32) (g b : FVec Ideal S1x2048 .f32) : FVec Ideal S8192x2048 .f32 := fun i => norm z g b (i 0) (i 1)
def outYb (z : FVec Ideal S8192x2048 .f32) (g b : FVec Ideal S1x2048 .f32) : FVec Ideal S8192x2048 .bf16 := fun i => norm z g b (i 0) (i 1)

/-- One block of the kernel at an entry. -/
theorem pay1_at (z : Vec Ideal S512x2048 .f32) (g b : Vec Ideal S1x2048 .f32) (p : Fin 512) (q : Fin 2048) :
    k0_pay1 z g b (ix2 p q) = norm z g b p q := by
  unfold k0_pay1 norm Norm.xhat Norm.root Norm.shifted Norm.cen Norm.eps Norm.width
  pointwise
theorem pay2_at (z : Vec Ideal S512x2048 .f32) (g b : Vec Ideal S1x2048 .f32) (p : Fin 512) (q : Fin 2048) :
    k0_pay2 z g b (ix2 p q) = norm z g b p q := by
  rw [← pay1_at]
  rfl

theorem hz : (![0, 0] : Fin 2 → Nat) = fun _ => 0 := funext fun a => by fin_cases a <;> rfl

/-- The blocks the windows visit at point `t`. -/
theorem idx_eqs : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ t.val < 16 :=
  (by decide +kernel : ∀ t : Fin grid0.N, _)

/-- The row of the array that row `p` of the block of point `t` is. -/
abbrev place (t : Fin cfg0.N) (p : Fin 512) : Fin 8192 := ⟨t.val * 512 + p.val, by have := (idx_eqs t).2.2.2.2.2; omega⟩

theorem blk_z (c : Dev nD) (t : Fin cfg0.N) (p : Fin 512) (q : Fin 2048) : iblk m c 0 t (ix2 p q) = aZ m c (ix2 (place t p) q) := by
  obtain ⟨⟨h0, h1⟩, -⟩ := idx_eqs t
  refine congrArg (aZ m c) (funext fun a => Fin.ext ?_)
  match a with
  | ⟨0, _⟩ => show win0_0.index t 0 * 512 + 1 * p.val = t.val * 512 + p.val; rw [h0]; omega
  | ⟨1, _⟩ => show win0_0.index t 1 * 2048 + 1 * q.val = q.val; rw [h1]; omega
theorem blk_g (c : Dev nD) (t : Fin cfg0.N) (q : Fin 2048) : iblk m c 1 t (ix2 0 q) = aG m c (ix2 0 q) := by
  obtain ⟨-, ⟨h0, h1⟩, -⟩ := idx_eqs t
  refine congrArg (aG m c) (funext fun a => Fin.ext ?_)
  match a with
  | ⟨0, _⟩ => show win0_1.index t 0 * 1 + 1 * 0 = 0; rw [h0]
  | ⟨1, _⟩ => show win0_1.index t 1 * 2048 + 1 * q.val = q.val; rw [h1]; omega
theorem blk_b (c : Dev nD) (t : Fin cfg0.N) (q : Fin 2048) : iblk m c 2 t (ix2 0 q) = aB m c (ix2 0 q) := by
  obtain ⟨-, -, ⟨h0, h1⟩, -⟩ := idx_eqs t
  refine congrArg (aB m c) (funext fun a => Fin.ext ?_)
  match a with
  | ⟨0, _⟩ => show win0_2.index t 0 * 1 + 1 * 0 = 0; rw [h0]
  | ⟨1, _⟩ => show win0_2.index t 1 * 2048 + 1 * q.val = q.val; rw [h1]; omega

/-- The normalised block is the block of the normalised array. -/
theorem norm_blk (c : Dev nD) (t : Fin cfg0.N) (p : Fin 512) (q : Fin 2048) :
    norm (n := 512) (iblk m c 0 t) (iblk m c 1 t) (iblk m c 2 t) p q = norm (aZ m c) (aG m c) (aB m c) (place t p) q := by
  have ez : (fun k => (show FVec Ideal S512x2048 .f32 from iblk m c 0 t) (ix2 p k)) = fun k => aZ m c (ix2 (place t p) k) :=
    funext fun k => blk_z m c t p k
  unfold norm
  exact congrArg₂ (fun x y : EReal => x + y) (congrArg₂ (fun x y : EReal => x * y) (congrArg (fun r => Norm.xhat r q) ez) (blk_g m c t q)) (blk_b m c t q)

/-- Point `t` writes back its block of the two results. -/
theorem flushed_y (c : Dev nD) (t : Fin cfg0.N) :
    (dats m 0 c).flushed 3 t = ((cfg0.win 3).blk t).view.read (Elt Ideal) (outY (aZ m c) (aG m c) (aB m c)) := by
  obtain ⟨-, -, -, ⟨h0, h1⟩, -⟩ := idx_eqs t
  rw [Value.flushed3]
  unfold out0_3
  rw [View.canon_unit_zero hz, View.ld_unit_zero hz, View.ld_unit_zero hz, View.ld_unit_zero hz]
  funext y
  obtain ⟨p, q, rfl⟩ : ∃ (p : Fin 512) (q : Fin 2048), y = ix2 p q := ⟨y 0, y 1, eq_ix2 y⟩
  have e : ((cfg0.win 3).blk t).view.emb (ix2 p q) = (ix2 (place t p) q : S8192x2048.Idx) := funext fun a => Fin.ext (by
    match a with
    | ⟨0, _⟩ => show win0_3.index t 0 * 512 + 1 * p.val = t.val * 512 + p.val; rw [h0]; omega
    | ⟨1, _⟩ => show win0_3.index t 1 * 2048 + 1 * q.val = q.val; rw [h1]; omega)
  show _ = outY (aZ m c) (aG m c) (aB m c) (((cfg0.win 3).blk t).view.emb (ix2 p q))
  rw [e]
  exact (pay1_at _ _ _ p q).trans (norm_blk m c t p q)
theorem flushed_yb (c : Dev nD) (t : Fin cfg0.N) :
    (dats m 0 c).flushed 4 t = ((cfg0.win 4).blk t).view.read (Elt Ideal) (outYb (aZ m c) (aG m c) (aB m c)) := by
  obtain ⟨-, -, -, -, ⟨h0, h1⟩, -⟩ := idx_eqs t
  rw [Value.flushed4]
  unfold out0_4
  rw [View.canon_unit_zero hz, View.ld_unit_zero hz, View.ld_unit_zero hz, View.ld_unit_zero hz]
  funext y
  obtain ⟨p, q, rfl⟩ : ∃ (p : Fin 512) (q : Fin 2048), y = ix2 p q := ⟨y 0, y 1, eq_ix2 y⟩
  have e : ((cfg0.win 4).blk t).view.emb (ix2 p q) = (ix2 (place t p) q : S8192x2048.Idx) := funext fun a => Fin.ext (by
    match a with
    | ⟨0, _⟩ => show win0_4.index t 0 * 512 + 1 * p.val = t.val * 512 + p.val; rw [h0]; omega
    | ⟨1, _⟩ => show win0_4.index t 1 * 2048 + 1 * q.val = q.val; rw [h1]; omega)
  show _ = outYb (aZ m c) (aG m c) (aB m c) (((cfg0.win 4).blk t).view.emb (ix2 p q))
  rw [e]
  exact (pay2_at _ _ _ p q).trans (norm_blk m c t p q)

/-- The blocks tile both results. -/
theorem tiled : ∀ a : Fin 16, ∃ t : Fin cfg0.N, (win0_3.flush t = true ∧ win0_4.flush t = true)
    ∧ (win0_3.index t 0 = a.val ∧ win0_3.index t 1 = 0) ∧ (win0_4.index t 0 = a.val ∧ win0_4.index t 1 = 0) :=
  (by decide +kernel : ∀ a : Fin 16, ∃ t : Fin grid0.N, _)
theorem cover (i : S8192x2048.Idx) : ∃ t : Fin cfg0.N, ((cfg0.win 3).flush t = true ∧ i ∈ ((cfg0.win 3).blk t).view.set)
    ∧ ((cfg0.win 4).flush t = true ∧ i ∈ ((cfg0.win 4).blk t).view.set) := by
  have hi0 : (i 0).val < 8192 := (i 0).isLt
  have hi1 : (i 1).val < 2048 := (i 1).isLt
  obtain ⟨t, ⟨f3, f4⟩, ⟨h0, h1⟩, ⟨g0, g1⟩⟩ := tiled ⟨(i 0).val / 512, by omega⟩
  dsimp only at h0 g0
  refine ⟨t, ⟨f3, ?_⟩, ⟨f4, ?_⟩⟩
  · show i ∈ ((View.whole main_v0_0).slice (win0_3.rect t)).set
    rw [View.set_slice_whole, Rect.mem_set_unit]
    intro a
    match a with
    | ⟨0, _⟩ => show win0_3.index t 0 * 512 ≤ (i 0).val ∧ (i 0).val < win0_3.index t 0 * 512 + 512; omega
    | ⟨1, _⟩ => show win0_3.index t 1 * 2048 ≤ (i 1).val ∧ (i 1).val < win0_3.index t 1 * 2048 + 2048; omega
  · show i ∈ ((View.whole main_v0_1).slice (win0_4.rect t)).set
    rw [View.set_slice_whole, Rect.mem_set_unit]
    intro a
    match a with
    | ⟨0, _⟩ => show win0_4.index t 0 * 512 ≤ (i 0).val ∧ (i 0).val < win0_4.index t 0 * 512 + 512; omega
    | ⟨1, _⟩ => show win0_4.index t 1 * 2048 ≤ (i 1).val ∧ (i 1).val < win0_4.index t 1 * 2048 + 2048; omega

/-- The claim: the kernel and the plain lines end with the same two arrays. -/
theorem algebraic : Cert.algebraic_Kernel31Ideal_Reference31Ideal (hKernel31Ideal := Cert.Kernel31Ideal.Gen.facts) (hReference31Ideal := Cert.Reference31Ideal.Gen.facts) := by
  intro m ρ m' ρ' _ hag
  refine ⟨fun c => outY (aZ m c) (aG m c) (aB m c), fun c => outYb (aZ m c) (aG m c) (aB m c),
    (θ_run _ _ _).mono (fun _ h c =>
      ⟨(h c).1.trans ((dats m 0 c).arrAt_eq_of_cover 3 _ (fun t _ => flushed_y m c t) fun i => (cover i).imp fun _ h => h.1),
        (h c).2.1.trans ((dats m 0 c).arrAt_eq_of_cover 4 _ (fun t _ => flushed_yb m c t) fun i => (cover i).imp fun _ h => h.2), (h c).2.2⟩)
      (Value.run_blocks m ρ),
    (θ_run _ _ _).mono (fun _ h c => ⟨(h c).1.trans ?_, (h c).2.1.trans ?_, (h c).2.2⟩) (Cert.Reference31Ideal.Value.run m' ρ')⟩
  all_goals
    simp only [(hag c).1, (hag c).2.1, (hag c).2.2]
    funext j
    idx_vars j
    simp only [outY, outYb, norm, Norm.xhat, Norm.cen, Norm.root, Norm.shifted, Norm.width, Norm.eps]
    pointwise

end Cert.Kernel31Ideal.NormFwd

end
-- ==== Proof.LossSum.lean ====
/-
  The loss, summed over the devices (`lax.psum`): every device ends with the sum of the eight devices' losses, the arguments are
  kept, and every semaphore counter ends at zero. The run is assembled from the generated records of the program's one all-reduce;
  its result, the left fold over the devices, is the reference's sum over the rows of the array of all losses.
-/
module

public import proofs.«01_k».proof.Defs
public import proofs.«01_k».proof.Proof.Gen.Kernel32
public import proofs.«01_k».proof.Proof.Gen.Kernel32Ideal
public import proofs.«01_k».proof.Proof.Gen.Kernel32Ideal.Launch
public import proofs.«01_k».proof.Proof.Gen.Kernel32Ideal.RegionsRQ
public import proofs.«01_k».proof.Proof.Gen.Reference32Ideal.Run
public import Idealize.ShloMosaic.Lib.Pointwise
public import Idealize.ShloMosaic.Lib.StableHlo.ReadAt
public import Idealize.ShloMosaic.Lib.Tactic

@[expose] public section

noncomputable section

namespace Cert.Kernel32Ideal.LossSum

open Cert.Kernel32Ideal Cert.Kernel32Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Run

variable {F : FTy → Type} [FloatOps F]

/-- The pipelines' resources (there is no pipeline) beside the all-reduce's. -/
abbrev Res : Type := UR sig nD τ × Sites.UC
/-- The all-reduce's resources among the program's. -/
abbrev ours : Emb Sites.UC (MT nD τ sig ℕ (Elt F) ℕ Res ℕ) := embR

variable (m : (ℓ : Loc nD τ sig) → Buf (Elt F) ℓ) (ρ : Dev nD → PrngReg)

/-- Each device's buffers when it reaches the sum: the loss is read out of its one-by-one array. -/
abbrev before (c : Dev nD) : Valuation τ sig (Elt F) := V1 m c
/-- What the sum leaves. -/
abbrev left : Outs (F := F) := fun _ b c => (ar0 (F := F)).after₀ (before m) c b

/-- The all-reduce's cells stay under their invariants. -/
abbrev invs : sProp (MT nD τ sig ℕ (Elt F) ℕ Res ℕ) :=
  iprop(∃ κ, (AllReduce.Dat.once (ar0 (F := F)) (before m)).cellInvs (Sites.E0 ours) κ)

/-- What each device holds beside its buffers: before the sum, and after it. -/
def beside (j : Fin 2) (c : Dev nD) : sProp (MT nD τ sig ℕ (Elt F) ℕ Res ℕ) :=
  if j = 0 then iprop(Sites.Es ours (before m) 0 c ∗ invs m) else iprop(Sites.Es ours (before m) 1 c ∗ (Sites.Ghost0 ours c ∗ invs m))
theorem beside_0 (c : Dev nD) : beside m 0 c = iprop(Sites.Es ours (before m) 0 c ∗ invs m) := if_pos rfl
theorem beside_1 (c : Dev nD) : beside m 1 c = iprop(Sites.Es ours (before m) 1 c ∗ (Sites.Ghost0 ours c ∗ invs m)) := if_neg (by decide)

/-- The invariants are part of what the launch deals. -/
theorem dealt (c : Dev nD) : Sites.Es ours (before m) 0 c ⊢ beside m 0 c := by
  rw [beside_0]
  iintro HE
  ihave #Hi := (show Sites.Es ours (before m) 0 c ⊢ invs m from by
    rw [Sites.Es_0]; dsimp only [Sites.rides0, AllReduce.Dat.rides]; iintro ⟨-, -, Hi, -⟩; iexact Hi) $$ HE
  isplitl [HE]; · iexact HE
  iexact Hi

/-- After the sum only the result and the staging slots have changed. -/
theorem agrees (c : Dev nD) (b : DevRef τ sig) : V2 m (left m) c b = (ar0 (F := F)).after₀ (before m) c b := by
  by_cases h : b ∈ W2.map (Proc.devRef (τ := τ) .tc)
  · simp only [V2, if_pos h]
  · simp only [V2, if_neg h]
    refine ((ar0 (F := F)).after₀_of_notMem (before m) c fun hb => h ?_).symm
    rcases Finset.mem_insert.mp hb with rfl | hb
    · exact List.mem_map.mpr ⟨main_v2, by decide, rfl⟩
    · obtain ⟨j, -, rfl⟩ := Finset.mem_map.mp hb
      refine List.mem_map.mpr ⟨(ar0 (F := F)).stage j, ?_, rfl⟩
      exact (by decide : ∀ j : Fin 8, ar0_stage j ∈ W2) j

/-- The counters that outlive the program are the all-reduce's three, each at zero at the end. -/
theorem counters (c : Dev nD) (s' : Phys nD τ sig (Elt F)) :
    iprop(iprop(invs m ∗ Sites.Ghost0 ours c) ∗ SI s')
      ⊢ (|={Set.univ}=> iprop(⌜∀ sm : SemLoc sig, sm.isScoped .tc = false → s'.mem.sem ((c.tc : Thread nD τ), sm) = 0⌝ ∗ SI s')
        : sProp (MT nD τ sig ℕ (Elt F) ℕ Res ℕ)) := by
  iintro ⟨He, HSI⟩
  imod ((AllReduce.Dat.once (ar0 (F := F)) (before m)).ghostAfter_read (Sites.E0 ours) c (k := 0) le_rfl s') $$ [He HSI] with ⟨%hz, HSI⟩
  · isplitl [He] <;> iassumption
  imodintro
  isplitr
  · ipureintro
    intro sm hs
    have hl : ∀ sm : SemLoc sig, sm.isScoped .tc = false → sm = .reg ar0_barrier ∨ sm = .dma ar0_recv ∨ sm = .dma ar0_send := by decide
    rcases hl sm hs with rfl | rfl | rfl
    exacts [hz.1, hz.2.1, hz.2.2]
  iexact HSI

/-- The launch element: the pipelines' (over no cell) and the all-reduce's. -/
def launch : Res :=
  (initOf (Pipeline.cells cfgs cellOf_inj) (Pipeline.launchToks cfgs cellOf_inj), Sites.uC (U := Res) (before m))

/-- The run: each device's buffers end as the sum leaves them, its argument is kept, and every counter ends at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ (∀ c : Dev nD, ∀ b ∈ (Pipeline.ucRefs τ sig), r.2.mem ((c : Thread nD τ).1, b) = V2 m (left m) c b)
      ∧ r.2.sem = fun _ => 0) :=
  frame_condRQ m (Ix := ℕ) (U := Res) (Lvl := ℕ) embL 0 Variants.none Sites.L Sites.lv Sites.hL ρ (left m) (fun p => p.elim0)
    Sites.O0 (Sites.G ours (before m)) (launch m)
    (by
      unfold launch
      iintro Hu
      ihave H := (ownU_pair _ _) $$ Hu
      icases H with ⟨HP, HX⟩
      imodintro
      isplitl [HP]; · iexact HP
      rw [Sites.bigSep_G]; iexact HX)
    (beside m)
    ((Sites.hE0 ours (before m) ρ).trans (fupd_mono (bigSep_mono fun c _ => dealt m c)))
    (fun c => iprop(invs m ∗ Sites.Ghost0 ours c))
    (fun c => by
      rw [beside_1, Sites.Es_1]; dsimp only [Sites.O1]
      iintro ⟨⟨HO, -, -⟩, Hg, Hi⟩
      isplitl [Hg Hi]; · isplitl [Hi] <;> iassumption
      iexact HO)
    (counters m)
    (Sites.seg0 ours Variants.none (before m) (Sites.Rest0 (before m) fun _ => invs m)) rfl
    (fun c => by rw [beside_0]; exact Sites.pre0 ours Variants.none (before m) (fun _ => invs m) c)
    (fun c => by rw [beside_1]; exact Sites.post0' ours Variants.none (before m) (fun _ => invs m) c _ (fun b _ => agrees m c b))

/-- The frame: the argument is kept and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨h.1, h.2.2⟩) (run m ρ)

end Run

/-- The program as printed before idealization is the same text, so its frame is the same theorem at the machine's floats. -/
theorem frame_bits : Cert.quiescent_Kernel32 (hKernel32 := Cert.Kernel32.Gen.facts) := fun m ρ _ => frame (F := Bits) m ρ

variable (m : (ℓ : Loc nD τ sig) → Buf (Elt Ideal) ℓ)

/-- The loss of device `d`. -/
def lossOf (d : Dev nD) : EReal := (m ((d : Thread nD τ).loc main_arg0) : FVec Ideal S1x1 .f32) (ix2 0 0)

/-- The eight devices are one group, device `j` at place `j`. -/
theorem members : ∀ (c : Dev nD) (j : Fin 8), (ar0 (F := Ideal)).peer c j = j := by decide

/-- Before the sum each device's operand is its own loss. -/
theorem operand (d : Dev nD) (i : S_.Idx) : (before m d main_v1 : FVec Ideal S_ .f32) i = lossOf m d := by
  unfold before lossOf
  after_results
  refine congrArg (m ((d : Thread nD τ).loc main_arg0) : FVec Ideal S1x1 .f32) (funext fun b => ?_)
  match b with
  | 0 => exact Subsingleton.elim (α := Fin 1) _ _
  | 1 => exact Subsingleton.elim (α := Fin 1) _ _

/-- The sum of the devices' losses. -/
def total : EReal := ∑ d : Fin 8, lossOf m d

/-- Every device's result is the sum of the devices' losses. -/
theorem result (c : Dev nD) (i : S_.Idx) : (V2 m (left m) c main_v2 : FVec Ideal S_ .f32) i = total m := by
  have h : V2 m (left m) c main_v2 = _ := (agrees m c main_v2).trans ((ar0 (F := Ideal)).after₀_result (before m) c)
  have e (j : Fin 8) : (before m ((ar0 (F := Ideal)).peer c j) main_v1 : FVec Ideal S_ .f32) i = lossOf m j := by
    rw [members c j]; exact operand m j i
  rw [h]
  refine Eq.trans (b := List.foldl (fun (a : EReal) (j : Fin 8) => a + ((before m ((ar0 (F := Ideal)).peer c j) main_v1 : FVec Ideal S_ .f32) i : EReal))
    ((before m ((ar0 (F := Ideal)).peer c 0) main_v1 : FVec Ideal S_ .f32) i : EReal) ((List.finRange 8).drop 1)) rfl ?_
  simp only [e]
  unfold total
  rw [Fin.sum_univ_eight]
  rfl

/-- The value claim: on every device the result is the reference's sum over the array of all losses. -/
theorem algebraic : Cert.algebraic_Kernel32Ideal_Reference32Ideal (hKernel32Ideal := Cert.Kernel32Ideal.Gen.facts) (hReference32Ideal := Cert.Reference32Ideal.Gen.facts) := by
  intro m ρ m' ρ' _ hin
  refine ⟨fun _ => total m, (θ_run defs _ _).mono (fun r h c => ⟨?_, h.1 c⟩) (run m ρ),
    (θ_run Cert.Reference32Ideal.defs _ _).mono (fun r h => ⟨(h 0).1.trans ?_, (h 0).2⟩) (Cert.Reference32Ideal.Value.run (F := Ideal) m' ρ')⟩
  · exact (h.2.1 c main_v2 (by decide)).trans (funext fun i => result m c i)
  · funext i
    rw [Host.reduceAdd_apply, Ideal.hostReduceAdd_def, Ideal.hostReduceAdd_r2_a01]
    unfold total lossOf
    have hz : (constant Cert.Reference32Ideal.S_ .f32 0x00000000#32 : FVec Ideal Cert.Reference32Ideal.S_ .f32) (Shape.Idx.first Cert.Reference32Ideal.Gen.h_S_) = (0 : EReal) := by
      pointwise
    rw [hz, zero_add]
    refine Finset.sum_congr rfl fun d _ => ?_
    rw [Fin.sum_univ_one, hin d]
    refine congrArg (m' (((0 : Dev Cert.Reference32Ideal.nD) : Thread Cert.Reference32Ideal.nD Cert.Reference32Ideal.τ).loc Cert.Reference32Ideal.main_arg0) : FVec Ideal Cert.Reference32Ideal.S8x1 .f32) (funext fun b => ?_)
    match b with
    | 0 => exact Fin.ext (by simp [Layout.Tiles.idx_val])
    | 1 => exact Subsingleton.elim (α := Fin 1) _ _

end Cert.Kernel32Ideal.LossSum

end
-- ==== Proof.Buckets.lean ====
module

public import Idealize.ShloMosaic.Lib.Pointwise

@[expose] public section

/-! A comparison of two bucket numbers, as a number. -/

noncomputable section

namespace Cert.Buckets

open Idealize.ShloMosaic

theorem eq_true {a b : BitVec 32} (h : a = b) : IntOp.cmpi .eq a b = 1#1 := by
  show BitVec.ofBool (a == b) = 1#1
  rw [beq_iff_eq.mpr h]
  rfl
theorem eq_false {a b : BitVec 32} (h : ¬a = b) : IntOp.cmpi .eq a b = 0#1 := by
  show BitVec.ofBool (a == b) = 0#1
  rw [beq_eq_false_iff_ne.mpr h]
  rfl

/-- Whether two numbers are equal, as an extended real: one or zero. -/
theorem bit (a b : BitVec 32) : (FloatOps.uitofp (F := Ideal) .f32 (IntOp.cmpi .eq a b) : EReal) = if a = b then 1 else 0 := by
  by_cases h : a = b
  · rw [if_pos h, eq_true h]
    show (((1#1 : BitVec 1).toNat : ℝ) : EReal) = 1
    simp
  · rw [if_neg h, eq_false h]
    show (((0#1 : BitVec 1).toNat : ℝ) : EReal) = 0
    simp

end Cert.Buckets
end
-- ==== Proof.Landing.lean ====
module

public import Idealize.ShloMosaic.Lib.Pointwise

@[expose] public section

/-! Rows added into the rows of an array, each where its index says. -/

noncomputable section

namespace Cert.Landing

open Idealize.ShloMosaic

variable {n nb B : Nat}

/-- The scatter of the derivative of a gather of rows: row `k` of the updates goes to the row that index `k` names. -/
abbrev rows (wf : ScatterDims.WF ⟨2, ![nb, B]⟩ ⟨2, ![n, 1]⟩ ⟨2, ![n, B]⟩ [1] [0] [0] 1) : ScatterDims ⟨2, ![nb, B]⟩ ⟨2, ![n, 1]⟩ ⟨2, ![n, B]⟩ :=
  { updateWindowDims := [1], insertedWindowDims := [0], scatterDimsToOperandDims := [0], indexVectorDim := 1, wf := wf }

variable (wf : ScatterDims.WF ⟨2, ![nb, B]⟩ ⟨2, ![n, 1]⟩ ⟨2, ![n, B]⟩ [1] [0] [0] 1) (idx : IVec ⟨2, ![n, 1]⟩ 32)

theorem start_0 (k : Fin n) (h : Fin B) : (rows wf).start (ix2 k h) idx 0 = (idx (ix2 k 0)).toInt := by
  unfold ScatterDims.start
  rw [dif_pos (List.mem_singleton.2 rfl)]
  refine congrArg (fun i => (idx i).toInt) (funext fun a => Fin.ext ?_)
  match a with
  | ⟨0, _⟩ => rfl
  | ⟨1, _⟩ => rfl
theorem start_1 (k : Fin n) (h : Fin B) : (rows wf).start (ix2 k h) idx 1 = 0 := rfl
theorem window_0 (k : Fin n) (h : Fin B) : (rows wf).window (ix2 k h) 0 = 0 := rfl
theorem window_1 (k : Fin n) (h : Fin B) : (rows wf).window (ix2 k h) 1 = h.val := rfl

/-- An entry of the updates lands in its column, in the row that its index names. -/
theorem lands (hnb : nb < 2 ^ 31) (k : Fin n) (h h' : Fin B) (b : Fin nb) :
    (rows wf).resultIdx? (ix2 k h) idx = some (ix2 b h') ↔ BitVec.ofNat 32 b.val = idx (ix2 k 0) ∧ h = h' := by
  have hb := b.isLt
  have hN : (BitVec.ofNat 32 b.val).toInt = b.val := by
    rw [BitVec.toInt_eq_toNat_cond, BitVec.toNat_ofNat]
    split <;> omega
  have key : BitVec.ofNat 32 b.val = idx (ix2 k 0) ↔ (b.val : Int) = (idx (ix2 k 0)).toInt := by
    rw [← BitVec.toInt_inj, hN]
  rw [key]
  unfold ScatterDims.resultIdx?
  constructor
  · intro e
    split at e
    · next hin =>
      have i0 := hin 0
      have e0 := congrArg Fin.val (congrFun (Option.some.inj e) 0)
      have e1 := congrArg Fin.val (congrFun (Option.some.inj e) 1)
      change ((rows wf).start (ix2 k h) idx 0 + (rows wf).window (ix2 k h) 0).toNat = b.val at e0
      change ((rows wf).start (ix2 k h) idx 1 + (rows wf).window (ix2 k h) 1).toNat = h'.val at e1
      rw [start_0, window_0] at e0 i0
      rw [start_1, window_1] at e1
      exact ⟨by omega, Fin.ext (by omega)⟩
    · exact absurd e (by simp)
  · rintro ⟨e, rfl⟩
    rw [dif_pos]
    · refine congrArg some (funext fun a => Fin.ext ?_)
      match a with
      | ⟨0, _⟩ =>
        show ((rows wf).start (ix2 k h) idx 0 + (rows wf).window (ix2 k h) 0).toNat = b.val
        rw [start_0, window_0]; omega
      | ⟨1, _⟩ =>
        show ((rows wf).start (ix2 k h) idx 1 + (rows wf).window (ix2 k h) 1).toNat = h.val
        rw [start_1, window_1]; omega
    · intro a
      have hh := h.isLt
      match a with
      | ⟨0, _⟩ =>
        show 0 ≤ (rows wf).start (ix2 k h) idx 0 + (rows wf).window (ix2 k h) 0 ∧ (rows wf).start (ix2 k h) idx 0 + (rows wf).window (ix2 k h) 0 < (nb : Int)
        rw [start_0, window_0]; omega
      | ⟨1, _⟩ =>
        show 0 ≤ (rows wf).start (ix2 k h) idx 1 + (rows wf).window (ix2 k h) 1 ∧ (rows wf).start (ix2 k h) idx 1 + (rows wf).window (ix2 k h) 1 < (B : Int)
        rw [start_1, window_1]; omega

/-- The sum an entry of the result gets: its column's, over the rows whose index names its row. -/
theorem sum_at {φ : FTy} (hnb : nb < 2 ^ 31) (x : FVec Ideal ⟨2, ![nb, B]⟩ φ) (u : FVec Ideal ⟨2, ![n, B]⟩ φ) (b : Fin nb) (h : Fin B) :
    Host.scatterAdd (rows wf) x idx u (ix2 b h) = (x (ix2 b h) + ∑ k : Fin n, if BitVec.ofNat 32 b.val = idx (ix2 k 0) then u (ix2 k h) else 0 : EReal) := by
  refine congrArg (fun s : EReal => x (ix2 b h) + s) ?_
  rw [Finset.sum_filter, sum_idx2]
  refine Finset.sum_congr rfl fun k _ => ?_
  simp only [lands wf idx hnb]
  by_cases hk : BitVec.ofNat 32 b.val = idx (ix2 k 0)
  · simp [hk]
  · simp [hk]

end Cert.Landing
end
-- ==== Proof.RelGrad.lean ====
module

public import proofs.«01_k».proof.Defs
public import proofs.«01_k».proof.Proof.Gen.Kernel33Ideal.Value
public import proofs.«01_k».proof.Proof.Gen.Reference33Ideal.Run
public import proofs.«01_k».proof.Proof.Buckets
public import proofs.«01_k».proof.Proof.Landing
public import Idealize.ShloMosaic.Lib.Pointwise
public import Idealize.ShloMosaic.Lib.StableHlo.ReadAt

@[expose] public section

set_option maxRecDepth 16384

/-! The gradient of the attention's relative bias: per head and bucket, the sum of the gradients of the bucket's entries. -/

noncomputable section

namespace Cert.Kernel33Ideal.RelGrad

open Cert.Kernel33Ideal Cert.Kernel33Ideal.Gen Idealize.ShloMosaic Idealize.ShloMosaic.TcCoe Idealize.SL.Sem
open Idealize.ShloMosaic.Tactic

variable (m : (ℓ : Loc nD τ sig) → Buf (Elt Ideal) ℓ)

/-- The arguments: the gradient of the band's bias per head, and the bucket of every entry of the band. -/
abbrev aD (c : Dev nD) : FVec Ideal S16x98304 .f32 := m ((c : Thread nD τ).loc main_arg0)
abbrev aB (c : Dev nD) : IVec S1x98304 32 := m ((c : Thread nD τ).loc main_arg1)

/-- One where entry `k` lies in bucket `b`, else zero. -/
def hot (bk : IVec S1x98304 32) (b : Fin 32) (k : Fin 98304) : EReal := if BitVec.ofNat 32 b.val = bk (ix2 0 k) then 1 else 0

/-- A head's gradients over the entries of bucket `b`, summed. -/
def grad (d : FVec Ideal S16x98304 .f32) (bk : IVec S1x98304 32) (h : Fin 16) (b : Fin 32) : EReal :=
  ∑ k : Fin 98304, d (ix2 h k) * hot bk b k

/-- The same as an array. -/
def G (d : FVec Ideal S16x98304 .f32) (bk : IVec S1x98304 32) : FVec Ideal S16x32 .f32 := fun i => grad d bk (i 0) (i 1)

/-- The part of the sum that lies in the `s`-th eighth of the entries. -/
def part (d : FVec Ideal S16x98304 .f32) (bk : IVec S1x98304 32) (h : Fin 16) (b : Fin 32) (s : Fin 8) : EReal :=
  ∑ k : Fin 12288, d (ix2 h ⟨s.val * 12288 + k.val, by omega⟩) * hot bk b ⟨s.val * 12288 + k.val, by omega⟩

theorem sum_parts (d : FVec Ideal S16x98304 .f32) (bk : IVec S1x98304 32) (h : Fin 16) (b : Fin 32) :
    grad d bk h b = part d bk h b 0 + part d bk h b 1 + part d bk h b 2 + part d bk h b 3 + part d bk h b 4 + part d bk h b 5
      + part d bk h b 6 + part d bk h b 7 := by
  unfold grad
  rw [Fin.sum_univ_tiles 8 12288 rfl, Fin.sum_univ_eight]
  rfl

/-- What the host lines before the launch leave: the gradients as they are, and the buckets' indicators. -/
theorem V_0 (c : Dev nD) : V m c main_arg0 = aD m c := V_main_arg0 m c
theorem V_1 (c : Dev nD) (b : Fin 32) (k : Fin 98304) : V m c main_v5 (ix2 b k) = hot (aB m c) b k := by
  refine Eq.trans ?_ (Buckets.bit _ _)
  unfold V
  after_reads_at

theorem hz : (![0, 0] : Fin 2 → Nat) = fun _ => 0 := funext fun a => by fin_cases a <;> rfl

/-- What one point multiplies. -/
def one (x0 : Vec Ideal S16x12288 .f32) (x1 : Vec Ideal S32x12288 .f32) (p : Fin 16) (q : Fin 32) : EReal :=
  ∑ k : Fin 12288, x0 (ix2 p k) * x1 (ix2 q k)

/-- The payloads of the three kinds of points at an entry. -/
theorem pay1_at (x0 : Vec Ideal S16x12288 .f32) (x1 : Vec Ideal S32x12288 .f32) (p : Fin 16) (q : Fin 32) :
    k0_pay1 x0 x1 (ix2 p q) = one x0 x1 p q := by
  unfold k0_pay1 one
  pointwise
theorem pay2_at (s : Vec Ideal S16x32 .f32) (x0 : Vec Ideal S16x12288 .f32) (x1 : Vec Ideal S32x12288 .f32) (p : Fin 16) (q : Fin 32) :
    k0_pay2 s x0 x1 (ix2 p q) = s (ix2 p q) + one x0 x1 p q := by
  unfold k0_pay2 one
  pointwise
theorem pay3_at (s : Vec Ideal S16x32 .f32) (x0 : Vec Ideal S16x12288 .f32) (x1 : Vec Ideal S32x12288 .f32) (p : Fin 16) (q : Fin 32) :
    k0_pay3 s x0 x1 (ix2 p q) = s (ix2 p q) + one x0 x1 p q := by
  unfold k0_pay3 one
  pointwise

section points
variable (c : Dev nD) (i : grid0.Coords) (a1 : Memref sig .tc .vmem S16x12288 .f32) (h1 : a1.IsWhole) (a2 : Memref sig .tc .vmem S32x12288 .f32) (h2 : a2.IsWhole) (a3 : Memref sig .tc .vmem S16x32 .f32) (h3 : a3.IsWhole) (a4 : Memref sig .tc .vmem S16x32 .f32) (h4 : a4.IsWhole)
    (x0 : Vec Ideal S16x12288 .f32) (x1 : Vec Ideal S32x12288 .f32) (xs : Vec Ideal S16x32 .f32) (p : Fin 16) (q : Fin 32)

/-- The first point leaves its product in the accumulator, … -/
theorem first_eq (hc0 : cond0_0 i) (hc1 : ¬cond0_1 i) (hc2 : ¬cond0_2 i) :
    sout0_A_0 c i a1 h1 a2 h2 a3 h3 a4 h4 hc0 hc1 hc2 x0 x1 (ix2 p q) = one x0 x1 p q := by
  unfold sout0_A_0
  rw [View.read_writes_eq_canon _ _ _ (scover0_A_0 c i a1 h1 a2 h2 a3 h3 a4 h4 hc0 hc1 hc2 x0 x1)]
  unfold kernelRun0_A
  dsimp only
  rw [View.canon_unit_zero hz]
  simp only [View.readAt_eq_ld, h1.read_unread, h2.read_unread, View.ld_unit_zero (S := S16x12288) hz, View.ld_unit_zero (S := S32x12288) hz]
  exact pay1_at ..

/-- … the middle ones add theirs, … -/
theorem middle_eq (hc0 : ¬cond0_0 i) (hc1 : cond0_1 i) (hc2 : ¬cond0_2 i) :
    sout0_B_0 c i a1 h1 a2 h2 a3 h3 a4 h4 hc0 hc1 hc2 x0 x1 xs (ix2 p q) = xs (ix2 p q) + one x0 x1 p q := by
  unfold sout0_B_0
  rw [View.read_writes_eq_canon _ _ _ (scover0_B_0 c i a1 h1 a2 h2 a3 h3 a4 h4 hc0 hc1 hc2 x0 x1 xs)]
  unfold kernelRun0_B
  dsimp only
  rw [View.canon_unit_zero hz]
  simp only [View.readAt_eq_ld, h4.read_unread, h1.read_unread, h2.read_unread, View.ld_unit_zero (S := S16x12288) hz, View.ld_unit_zero (S := S32x12288) hz, View.ld_unit_zero (S := S16x32) hz]
  exact pay2_at ..

/-- … and the last adds its own. -/
theorem last_eq (hc0 : ¬cond0_0 i) (hc1 : ¬cond0_1 i) (hc2 : cond0_2 i) :
    out0_C_2 c i a1 h1 a2 h2 a3 h3 a4 h4 hc0 hc1 hc2 x0 x1 xs (ix2 p q) = xs (ix2 p q) + one x0 x1 p q := by
  unfold out0_C_2
  rw [View.read_writes_eq_canon _ _ _ (cover0_C_2 c i a1 h1 a2 h2 a3 h3 a4 h4 hc0 hc1 hc2 x0 x1 xs)]
  unfold kernelRun0_C
  dsimp only
  rw [View.canon_unit_zero hz]
  simp only [View.readAt_eq_ld, h4.read_unread, h1.read_unread, h2.read_unread, View.ld_unit_zero (S := S16x12288) hz, View.ld_unit_zero (S := S32x12288) hz, View.ld_unit_zero (S := S16x32) hz]
  exact pay3_at ..

end points

/-- The blocks the windows visit at point `t`. -/
theorem idx_eqs : ∀ t : Fin cfg0.N, (win0_0.index t 0 = 0 ∧ win0_0.index t 1 = t.val)
    ∧ (win0_1.index t 0 = 0 ∧ win0_1.index t 1 = t.val) ∧ (win0_2.index t 0 = 0 ∧ win0_2.index t 1 = 0) :=
  (by decide +kernel : ∀ t : Fin grid0.N, _)

/-- The `s`-th point multiplies the `s`-th eighth. -/
theorem one_eq (c : Dev nD) (t : Fin cfg0.N) (s : Fin 8) (hs : t.val = s.val) (p : Fin 16) (q : Fin 32) :
    one (iblk m c 0 t) (iblk m c 1 t) p q = part (aD m c) (aB m c) p q s := by
  obtain ⟨⟨e0, e1⟩, ⟨f0, f1⟩, -⟩ := idx_eqs t
  have hd (k : Fin 12288) : iblk m c 0 t (ix2 p k) = aD m c (ix2 p ⟨s.val * 12288 + k.val, by omega⟩) := by
    refine Eq.trans ?_ (congrFun (V_0 m c) _)
    refine congrArg (V m c main_arg0) (funext fun a => Fin.ext ?_)
    match a with
    | ⟨0, _⟩ => show win0_0.index t 0 * 16 + 1 * p.val = p.val; rw [e0]; omega
    | ⟨1, _⟩ => show win0_0.index t 1 * 12288 + 1 * k.val = s.val * 12288 + k.val; rw [e1]; omega
  have hw (k : Fin 12288) : iblk m c 1 t (ix2 q k) = hot (aB m c) q ⟨s.val * 12288 + k.val, by omega⟩ := by
    refine Eq.trans ?_ (V_1 m c _ _)
    refine congrArg (V m c main_v5) (funext fun a => Fin.ext ?_)
    match a with
    | ⟨0, _⟩ => show win0_1.index t 0 * 32 + 1 * q.val = q.val; rw [f0]; omega
    | ⟨1, _⟩ => show win0_1.index t 1 * 12288 + 1 * k.val = s.val * 12288 + k.val; rw [f1]; omega
  unfold one part
  exact Finset.sum_congr rfl fun k _ => by rw [hd, hw]

/-- The accumulator after the first point, and after a middle one over what the point before left. -/
theorem acc_zero (c : Dev nD) (h : 0 < cfg0.N) (p : Fin 16) (q : Fin 32) :
    (outsAt0 m c 0 h).2 (ix2 p q) = part (aD m c) (aB m c) p q 0 := by
  rw [outsAt0_A m c ⟨0, h⟩ rfl (by show ¬(1 ≤ 0 % 8 ∧ _); omega) (by show ¬0 % 8 = 7; omega)]
  dsimp only
  rw [first_eq]
  exact one_eq m c ⟨0, h⟩ 0 rfl p q
theorem acc_succ (c : Dev nD) (s : Fin 8) (h0 : 1 ≤ s.val) (h6 : s.val ≤ 6) (h : s.val < cfg0.N) (h' : s.val - 1 < cfg0.N) (p : Fin 16) (q : Fin 32) :
    (outsAt0 m c s.val h).2 (ix2 p q) = (outsAt0 m c (s.val - 1) h').2 (ix2 p q) + part (aD m c) (aB m c) p q s := by
  rw [outsAt0_B m c ⟨s.val, h⟩ (by show ¬s.val % 8 = 0; omega) (by show 1 ≤ s.val % 8 ∧ s.val % 8 ≤ 6; omega) (by show ¬s.val % 8 = 7; omega)]
  dsimp only
  rw [middle_eq]
  exact congrArg (_ + ·) (one_eq m c ⟨s.val, h⟩ s rfl p q)

/-- The accumulator before the last point. -/
theorem acc_eq (c : Dev nD) (h : 6 < cfg0.N) (p : Fin 16) (q : Fin 32) :
    (outsAt0 m c 6 h).2 (ix2 p q) = part (aD m c) (aB m c) p q 0 + part (aD m c) (aB m c) p q 1 + part (aD m c) (aB m c) p q 2
      + part (aD m c) (aB m c) p q 3 + part (aD m c) (aB m c) p q 4 + part (aD m c) (aB m c) p q 5 + part (aD m c) (aB m c) p q 6 :=
  have go (s : Fin 8) (h0 : 1 ≤ s.val) (h6 : s.val ≤ 6) := acc_succ m c s h0 h6 (by omega) (by omega) p q
  (go 6 (by decide) (by decide)).trans <| congrArg (· + _) <| (go 5 (by decide) (by decide)).trans <| congrArg (· + _) <|
    (go 4 (by decide) (by decide)).trans <| congrArg (· + _) <| (go 3 (by decide) (by decide)).trans <| congrArg (· + _) <|
    (go 2 (by decide) (by decide)).trans <| congrArg (· + _) <| (go 1 (by decide) (by decide)).trans <| congrArg (· + _) <|
    acc_zero m c (by omega) p q

set_option maxRecDepth 200000 in
/-- The point that writes back writes the whole result. -/
theorem flushed_eq (c : Dev nD) (t : Fin cfg0.N) (hf : (cfg0.win 2).flush t = true) :
    (dats m 0 c).flushed 2 t = ((cfg0.win 2).blk t).view.read (Elt Ideal) (G (aD m c) (aB m c)) := by
  have hN : cfg0.N = 8 := N_0
  have ht : t.val % 8 = 7 := (flush0_2 t).mp hf
  obtain ⟨-, -, ⟨e0, e1⟩⟩ := idx_eqs t
  have hp : t.val - 1 = 6 := by omega
  rw [Value.flushed2_C m c t (by omega) (by omega) ht]
  funext y
  obtain ⟨p, q, rfl⟩ : ∃ (p : Fin 16) (q : Fin 32), y = ix2 p q := ⟨y 0, y 1, eq_ix2 y⟩
  refine (last_eq ..).trans ?_
  have e : ((cfg0.win 2).blk t).view.emb (ix2 p q) = ix2 p q := funext fun a => Fin.ext (by
    match a with
    | ⟨0, _⟩ => show win0_2.index t 0 * 16 + 1 * p.val = p.val; rw [e0]; omega
    | ⟨1, _⟩ => show win0_2.index t 1 * 32 + 1 * q.val = q.val; rw [e1]; omega)
  refine Eq.trans ?_ (congrArg (G (aD m c) (aB m c)) e.symm)
  have ea : (outsAt0 m c (t.val - 1) (Nat.lt_of_le_of_lt (Nat.sub_le _ _) t.isLt)).2 (ix2 p q) = _ :=
    (congrArg (fun s : Vec Ideal S16x32 .f32 => s (ix2 p q)) (by simp only [hp])).trans (acc_eq m c (by omega) p q)
  rw [ea, one_eq m c t 7 (by show t.val = 7; omega)]
  exact (sum_parts ..).symm

/-- The result array after the run. -/
theorem final (c : Dev nD) : (dats m 0 c).arrAt 2 cfg0.N = G (aD m c) (aB m c) :=
  (dats m 0 c).arrAt_eq_of_cover 2 _ (fun t hf => flushed_eq m c t hf) (fun i => (Value.covered_iff2 i).2 (by
    have h0 : (i 0).val < 16 := (i 0).isLt; have h1 : (i 1).val < 32 := (i 1).isLt; omega))

section reference
open Cert.Reference33Ideal.Gen

/-- The reference's column of the entries' buckets. -/
def column (bk : IVec S1x98304 32) : IVec Reference33Ideal.S98304x1 32 :=
  broadcastInDim Reference33Ideal.S98304x1 ![0] bcast_S98304_S98304x1_0 (shapeCast _ bk shapeCasts_S1x98304_S98304)

theorem column_at (bk : IVec S1x98304 32) (k : Fin 98304) : column bk (ix2 k 0) = bk (ix2 0 k) := by
  unfold column
  pointwise

/-- The array of zeros into which it adds, and the gradients that it adds, an entry's in a row. -/
def zeros : FVec Ideal Reference33Ideal.S32x16 .f32 :=
  broadcastInDim Reference33Ideal.S32x16 ![] bcast_S_S32x16 (constant (F := Ideal) Reference33Ideal.S_ .f32 0x00000000#32)
def updates (d : FVec Ideal S16x98304 .f32) : FVec Ideal Reference33Ideal.S98304x16 .f32 :=
  transpose Reference33Ideal.S98304x16 [1, 0] d transposes_S16x98304_S98304x16_1_0

theorem zeros_at (i : Reference33Ideal.S32x16.Idx) : zeros i = (0 : EReal) := by
  idx_vars i
  unfold zeros
  pointwise
theorem updates_at (d : FVec Ideal S16x98304 .f32) (k : Fin 98304) (h : Fin 16) : updates d (ix2 k h) = d (ix2 h k) := by
  unfold updates
  pointwise

/-- The sums it leaves are the buckets' gradients. -/
theorem entry (d : FVec Ideal S16x98304 .f32) (bk : IVec S1x98304 32) (h : Fin 16) (b : Fin 32) :
    (transpose Reference33Ideal.S16x32 [1, 0] (Host.scatterAdd (F := Ideal) Reference33Ideal.scatter_S32x16_S98304x1_S98304x16_1_0_0_1 zeros (column bk) (updates d))
      transposes_S32x16_S16x32_1_0 : FVec Ideal Reference33Ideal.S16x32 .f32) (ix2 h b) = grad d bk h b := by
  refine Eq.trans (b := Host.scatterAdd (F := Ideal) Reference33Ideal.scatter_S32x16_S98304x1_S98304x16_1_0_0_1 zeros (column bk) (updates d) (ix2 b h)) ?_ ?_
  · generalize Host.scatterAdd (F := Ideal) Reference33Ideal.scatter_S32x16_S98304x1_S98304x16_1_0_0_1 zeros (column bk) (updates d) = x
    pointwise
  refine (Landing.sum_at _ _ (by decide) _ _ b h).trans ?_
  rw [zeros_at, zero_add]
  refine Finset.sum_congr rfl fun k _ => ?_
  rw [column_at, updates_at, hot, mul_ite, mul_one, mul_zero]

end reference

set_option maxRecDepth 200000 in
/-- The claim: the kernel and the plain lines end with the same array. -/
theorem algebraic : Cert.algebraic_Kernel33Ideal_Reference33Ideal (hKernel33Ideal := Cert.Kernel33Ideal.Gen.facts) (hReference33Ideal := Cert.Reference33Ideal.Gen.facts) := by
  intro m ρ m' ρ' _ hag
  refine ⟨fun c => G (aD m c) (aB m c), (θ_run _ _ _).mono (fun _ h c => ⟨(h c).1.trans (final m c), (h c).2⟩) (Value.run_blocks m ρ),
    (θ_run _ _ _).mono (fun _ h c => ⟨(h c).1.trans ?_, (h c).2⟩) (Cert.Reference33Ideal.Value.run m' ρ')⟩
  rw [(hag c).1, (hag c).2]
  funext j
  obtain ⟨h, b, rfl⟩ : ∃ (h : Fin 16) (b : Fin 32), j = ix2 h b := ⟨j 0, j 1, eq_ix2 j⟩
  exact entry (aD m c) (aB m c) h b

end Cert.Kernel33Ideal.RelGrad
end
-- ==== Proof.RelTable.lean ====
module

public import proofs.«01_k».proof.Defs
public import proofs.«01_k».proof.Proof.Gen.Kernel34Ideal.Value
public import proofs.«01_k».proof.Proof.Gen.Reference34Ideal.Run
public import proofs.«01_k».proof.Proof.Buckets
public import Idealize.ShloMosaic.Lib.Pointwise
public import Idealize.ShloMosaic.Lib.ReduceAll
public import Idealize.ShloMosaic.Lib.Routing.Ops
public import Idealize.ShloMosaic.Lib.StableHlo.ReadAt

@[expose] public section

set_option maxRecDepth 16384

/-! The table of the attention's relative bias: per head, the bias of every entry's bucket. -/

noncomputable section

namespace Cert.Kernel34Ideal.RelTable

open Cert.Kernel34Ideal Cert.Kernel34Ideal.Gen Idealize.ShloMosaic Idealize.ShloMosaic.TcCoe Idealize.SL.Sem
open Idealize.ShloMosaic.Tactic

variable (m : (ℓ : Loc nD τ sig) → Buf (Elt Ideal) ℓ)

/-- The arguments: the bias per bucket and head, and the bucket of every entry of the band. -/
abbrev aR (c : Dev nD) : FVec Ideal S32x16 .f32 := m ((c : Thread nD τ).loc main_arg0)
abbrev aB (c : Dev nD) : IVec S1x98304 32 := m ((c : Thread nD τ).loc main_arg1)

/-- One where entry `k` lies in bucket `b`, else zero. -/
def hot (bk : IVec S1x98304 32) (b : Fin 32) (k : Fin 98304) : EReal := if BitVec.ofNat 32 b.val = bk (ix2 0 k) then 1 else 0

/-- The biases of a head, each times whether the entry lies in its bucket, summed. -/
def bias (r : FVec Ideal S32x16 .f32) (bk : IVec S1x98304 32) (h : Fin 16) (k : Fin 98304) : EReal :=
  ∑ b : Fin 32, r (ix2 b h) * hot bk b k

/-- The same as an array. -/
def G (r : FVec Ideal S32x16 .f32) (bk : IVec S1x98304 32) : FVec Ideal S16x98304 .f32 := fun i => bias r bk (i 0) (i 1)

/-- Buckets below 32 with the same number as a word are the same. -/
theorem ofNat_inj {a b : Fin 32} (h : BitVec.ofNat 32 a.val = BitVec.ofNat 32 b.val) : a = b := by
  have := congrArg BitVec.toNat h
  simp only [BitVec.toNat_ofNat] at this
  omega

/-- An entry of bucket `b` gets its bias; an entry of no bucket gets zero. -/
theorem bias_in (r : FVec Ideal S32x16 .f32) (bk : IVec S1x98304 32) (h : Fin 16) (k : Fin 98304) (b : Fin 32)
    (hb : bk (ix2 0 k) = BitVec.ofNat 32 b.val) : bias r bk h k = r (ix2 b h) := by
  unfold bias hot
  rw [Finset.sum_eq_single b, hb, if_pos rfl, mul_one]
  · intro a _ ha
    rw [hb, if_neg (fun e => ha (ofNat_inj e)), mul_zero]
  · exact fun hn => absurd (Finset.mem_univ b) hn
theorem bias_out (r : FVec Ideal S32x16 .f32) (bk : IVec S1x98304 32) (h : Fin 16) (k : Fin 98304)
    (hb : ∀ b : Fin 32, bk (ix2 0 k) ≠ BitVec.ofNat 32 b.val) : bias r bk h k = 0 := by
  unfold bias hot
  refine Finset.sum_eq_zero fun b _ => ?_
  rw [if_neg (Ne.symm (hb b)), mul_zero]

/-- What the host lines before the launch leave: the biases as they are, and the buckets' indicators. -/
theorem V_0 (c : Dev nD) : V m c main_arg0 = aR m c := V_main_arg0 m c
theorem V_1 (c : Dev nD) (b : Fin 32) (k : Fin 98304) : V m c main_v5 (ix2 b k) = hot (aB m c) b k := by
  refine Eq.trans ?_ (Buckets.bit _ _)
  unfold V
  after_reads_at

/-- One block of the kernel at an entry. -/
theorem pay_at (x0 : Vec Ideal S32x16 .f32) (x1 : Vec Ideal S32x12288 .f32) (p : Fin 16) (q : Fin 12288) :
    k0_pay1 x0 x1 (ix2 p q) = ∑ b : Fin 32, x0 (ix2 b p) * x1 (ix2 b q) := by
  unfold k0_pay1
  pointwise

/-- The blocks the windows visit at point `t`. -/
theorem idx_eqs : ∀ t : Fin cfg0.N, (win0_0.index t 0 = 0 ∧ win0_0.index t 1 = 0)
    ∧ (win0_1.index t 0 = 0 ∧ win0_1.index t 1 = t.val) ∧ (win0_2.index t 0 = 0 ∧ win0_2.index t 1 = t.val) :=
  (by decide +kernel : ∀ t : Fin grid0.N, _)

/-- The entry that place `q` of the block of point `t` is. -/
abbrev col (t : Fin cfg0.N) (q : Fin 12288) : Fin 98304 :=
  ⟨t.val * 12288 + q.val, by have h : t.val < 8 := lt_of_lt_of_eq t.isLt N_0; omega⟩

theorem blk_0 (c : Dev nD) (t : Fin cfg0.N) (b : Fin 32) (p : Fin 16) : iblk m c 0 t (ix2 b p) = aR m c (ix2 b p) := by
  obtain ⟨⟨h0, h1⟩, -⟩ := idx_eqs t
  refine Eq.trans ?_ (congrFun (V_0 m c) _)
  refine congrArg (V m c main_arg0) (funext fun a => Fin.ext ?_)
  match a with
  | ⟨0, _⟩ => show win0_0.index t 0 * 32 + 1 * b.val = b.val; rw [h0]; omega
  | ⟨1, _⟩ => show win0_0.index t 1 * 16 + 1 * p.val = p.val; rw [h1]; omega

theorem blk_1 (c : Dev nD) (t : Fin cfg0.N) (b : Fin 32) (q : Fin 12288) : iblk m c 1 t (ix2 b q) = hot (aB m c) b (col t q) := by
  obtain ⟨-, ⟨h0, h1⟩, -⟩ := idx_eqs t
  refine Eq.trans ?_ (V_1 m c _ _)
  refine congrArg (V m c main_v5) (funext fun a => Fin.ext ?_)
  match a with
  | ⟨0, _⟩ => show win0_1.index t 0 * 32 + 1 * b.val = b.val; rw [h0]; omega
  | ⟨1, _⟩ => show win0_1.index t 1 * 12288 + 1 * q.val = t.val * 12288 + q.val; rw [h1]; omega

theorem hz : (![0, 0] : Fin 2 → Nat) = fun _ => 0 := funext fun a => by fin_cases a <;> rfl

/-- Point `t` writes back its block of the result. -/
theorem flushed_eq (c : Dev nD) (t : Fin cfg0.N) :
    (dats m 0 c).flushed 2 t = ((cfg0.win 2).blk t).view.read (Elt Ideal) (G (aR m c) (aB m c)) := by
  obtain ⟨-, -, ⟨e0, e1⟩⟩ := idx_eqs t
  rw [Value.flushed2]
  unfold out0_2
  rw [View.canon_unit_zero hz, View.ld_unit_zero hz, View.ld_unit_zero hz]
  funext y
  obtain ⟨p, q, rfl⟩ : ∃ (p : Fin 16) (q : Fin 12288), y = ix2 p q := ⟨y 0, y 1, eq_ix2 y⟩
  have e : ((cfg0.win 2).blk t).view.emb (ix2 p q) = ix2 p (col t q) := funext fun a => Fin.ext (by
    match a with
    | ⟨0, _⟩ => show win0_2.index t 0 * 16 + 1 * p.val = p.val; rw [e0]; omega
    | ⟨1, _⟩ => show win0_2.index t 1 * 12288 + 1 * q.val = t.val * 12288 + q.val; rw [e1]; omega)
  refine Eq.trans ?_ (congrArg (G (aR m c) (aB m c)) e.symm)
  show _ = bias _ _ p (col t q)
  unfold bias
  refine (pay_at _ _ p q).trans ?_
  exact Finset.sum_congr rfl fun b _ => by rw [blk_0, blk_1]

/-- The blocks tile the result. -/
theorem cover (i : S16x98304.Idx) : ∃ t : Fin cfg0.N, (cfg0.win 2).flush t = true ∧ i ∈ ((cfg0.win 2).blk t).view.set := by
  have hi0 : (i 0).val < 16 := (i 0).isLt
  have hi1 : (i 1).val < 98304 := (i 1).isLt
  have ht : (i 1).val / 12288 < cfg0.N := lt_of_lt_of_eq (by omega) N_0.symm
  obtain ⟨-, -, ⟨e0, e1⟩⟩ := idx_eqs ⟨(i 1).val / 12288, ht⟩
  refine ⟨⟨(i 1).val / 12288, ht⟩, flush0_2 _, ?_⟩
  show i ∈ ((View.whole main_v6).slice (win0_2.rect ⟨(i 1).val / 12288, ht⟩)).set
  rw [View.set_slice_whole, Rect.mem_set_unit]
  dsimp only at e1
  intro a
  match a with
  | ⟨0, _⟩ => show win0_2.index ⟨(i 1).val / 12288, ht⟩ 0 * 16 ≤ (i 0).val ∧ (i 0).val < win0_2.index ⟨(i 1).val / 12288, ht⟩ 0 * 16 + 16; omega
  | ⟨1, _⟩ => show win0_2.index ⟨(i 1).val / 12288, ht⟩ 1 * 12288 ≤ (i 1).val ∧ (i 1).val < win0_2.index ⟨(i 1).val / 12288, ht⟩ 1 * 12288 + 12288; omega

/-- The result array after the run. -/
theorem final (c : Dev nD) : (dats m 0 c).arrAt 2 cfg0.N = G (aR m c) (aB m c) :=
  (dats m 0 c).arrAt_eq_of_cover 2 _ (fun t _ => flushed_eq m c t) cover

section reference
open Cert.Reference34Ideal.Gen
variable (bk : IVec S1x98304 32)

/-- The lines of the reference: the entries' buckets as a column, whether each is one of the 32, … -/
def col1 : IVec Reference34Ideal.S98304x1 32 :=
  broadcastInDim Reference34Ideal.S98304x1 ![0] bcast_S98304_S98304x1_0 (shapeCast _ bk shapeCasts_S1x98304_S98304)
def tests : IVec Reference34Ideal.S98304x1 1 :=
  andi (cmpi .sge (col1 bk) (broadcastInDim Reference34Ideal.S98304x1 ![] bcast_S_S98304x1 (constantI Reference34Ideal.S_ 32 0#32)))
    (cmpi .sle (col1 bk) (broadcastInDim Reference34Ideal.S98304x1 ![0, 1] bcast_S1x1_S98304x1_0_1
      (broadcastInDim Reference34Ideal.S1x1 ![1] bcast_S1_S1x1_1 (constantI Reference34Ideal.S1 32 31#32))))
def inside : IVec Reference34Ideal.S98304 1 :=
  Host.reduce IntOp.andi (tests bk) (constantI Reference34Ideal.S_ 1 1#1) reducesTo_S98304x1_S98304_d1 h_S_

theorem col1_at (k : Fin 98304) : col1 bk (ix2 k 0) = bk (ix2 0 k) := by
  unfold col1
  pointwise

theorem tests_at (k : Fin 98304) : tests bk (ix2 k 0)
    = IntOp.andi (IntOp.cmpi .sge (bk (ix2 0 k)) 0#32) (IntOp.cmpi .sle (bk (ix2 0 k)) 31#32) :=
  congrArg₂ IntOp.andi (congrArg (IntOp.cmpi .sge · 0#32) (col1_at bk k)) (congrArg (IntOp.cmpi .sle · 31#32) (col1_at bk k))

/-- … which holds of an entry of bucket `b` … -/
theorem inside_in (k : Fin 98304) (b : Fin 32) (hb : bk (ix2 0 k) = BitVec.ofNat 32 b.val) : inside bk (ix1 k) = 1#1 := by
  unfold inside
  rw [Host.reduce_eq_foldl]
  refine IntOp.foldl_andi_one _ _ _ rfl fun i hi => ?_
  have hd := of_decide_eq_true (List.mem_filter.1 hi).2
  obtain ⟨a, z, rfl⟩ : ∃ (a : Fin 98304) (z : Fin 1), i = ix2 a z := ⟨i 0, i 1, eq_ix2 i⟩
  obtain rfl : z = 0 := Subsingleton.elim _ _
  obtain rfl : a = k := Fin.ext (congrArg (fun j : Reference34Ideal.S98304.Idx => (j 0).val) hd)
  rw [tests_at, hb]
  exact (by decide : ∀ b : Fin 32, IntOp.andi (IntOp.cmpi .sge (BitVec.ofNat 32 b.val) 0#32) (IntOp.cmpi .sle (BitVec.ofNat 32 b.val) 31#32) = 1#1) b

/-- … and of no other. -/
theorem of_inside (k : Fin 98304) (h : inside bk (ix1 k) = 1#1) : ∃ b : Fin 32, bk (ix2 0 k) = BitVec.ofNat 32 b.val := by
  have ht := Host.reduce_andi_eq_one (tests bk) _ reducesTo_S98304x1_S98304_d1 h_S_ (ix1 k) h (ix2 k 0)
    (funext fun a => by match a with | ⟨0, _⟩ => rfl)
  rw [tests_at] at ht
  obtain ⟨h0, h1⟩ := IntOp.andi_eq_one.1 ht
  generalize bk (ix2 0 k) = w at h0 h1 ⊢
  have h0 : BitVec.ofBool ((0#32).sle w) = 1#1 := h0
  have h1 : BitVec.ofBool (w.sle 31#32) = 1#1 := h1
  have h0 : (0#32).sle w = true := by revert h0; cases (0#32).sle w <;> decide
  have h1 : w.sle 31#32 = true := by revert h1; cases w.sle 31#32 <;> decide
  rw [BitVec.sle_iff_toInt_le] at h0 h1
  have e0 : (0#32).toInt = 0 := by decide
  have e1 : (31#32).toInt = 31 := by decide
  rw [e0] at h0
  rw [e1] at h1
  have hw := BitVec.toInt_eq_toNat_cond w
  have hlt : w.toNat < 32 := by
    have := w.isLt
    split at hw <;> omega
  exact ⟨⟨w.toNat, hlt⟩, (BitVec.ofNat_toNat 32 w).symm.trans (by simp)⟩

/-- The result's entry: the gathered bias where the bucket is one of the 32, else zero. -/
theorem entry (r : FVec Ideal S32x16 .f32) (h : Fin 16) (k : Fin 98304) :
    (transpose Reference34Ideal.S16x98304 [1, 0] (select (broadcastInDim Reference34Ideal.S98304x16 ![0] bcast_S98304_S98304x16_0 (inside bk))
      (Host.gather Reference34Ideal.gather_S32x16_S98304x1_S98304x16_1_0_n_n_0_1_116 r (col1 bk))
      (broadcastInDim Reference34Ideal.S98304x16 ![] bcast_S_S98304x16 (constant (F := Ideal) Reference34Ideal.S_ .f32 0x00000000#32)))
      transposes_S98304x16_S16x98304_1_0 : FVec Ideal Reference34Ideal.S16x98304 .f32) (ix2 h k) = bias r bk h k := by
  refine Eq.trans (b := Scalar.select (inside bk (ix1 k)) (Host.gather Reference34Ideal.gather_S32x16_S98304x1_S98304x16_1_0_n_n_0_1_116 r (col1 bk) (ix2 k h)) (0 : EReal)) ?_ ?_
  · pointwise
  by_cases hb : ∃ b : Fin 32, bk (ix2 0 k) = BitVec.ofNat 32 b.val
  · obtain ⟨b, hb⟩ := hb
    rw [inside_in bk k b hb, bias_in r bk h k b hb]
    exact (if_pos rfl).trans (Routing.gather_row _ rfl rfl rfl rfl rfl _ _ k h b ((col1_at bk k).trans hb) (by decide))
  · rw [bias_out r bk h k (fun b e => hb ⟨b, e⟩)]
    exact if_neg fun e => hb (of_inside bk k e)

end reference

set_option maxRecDepth 200000 in
/-- The claim: the kernel and the plain lines end with the same array. -/
theorem algebraic : Cert.algebraic_Kernel34Ideal_Reference34Ideal (hKernel34Ideal := Cert.Kernel34Ideal.Gen.facts) (hReference34Ideal := Cert.Reference34Ideal.Gen.facts) := by
  intro m ρ m' ρ' _ hag
  refine ⟨fun c => G (aR m c) (aB m c), (θ_run _ _ _).mono (fun _ h c => ⟨(h c).1.trans (final m c), (h c).2⟩) (Value.run_blocks m ρ),
    (θ_run _ _ _).mono (fun _ h c => ⟨(h c).1.trans ?_, (h c).2⟩) (Cert.Reference34Ideal.Value.run m' ρ')⟩
  rw [(hag c).1, (hag c).2]
  funext j
  idx_vars j
  show _ = bias (aR m c) (aB m c) j0 j1
  exact entry (aB m c) (aR m c) j0 j1

end Cert.Kernel34Ideal.RelTable
end
-- ==== Proof.lean ====
/-
  The proof of `Cert.Claim` (proof/Defs.lean). The frames of the kernels are the generated ones, but for
  the sum of the loss, whose frame is that of its own module; a reference's frame is its
  generated run, read at its arguments, with no semaphore declared; nothing is rewritten between a kernel and its
  idealization; and each value claim is the theorem `algebraic` of the module that computes that call.
-/
module

public import proofs.«01_k».proof.Defs
public import proofs.«01_k».proof.Proof.DownDx
public import proofs.«01_k».proof.Proof.DownDw
public import proofs.«01_k».proof.Proof.UpDx
public import proofs.«01_k».proof.Proof.UpDw
public import proofs.«01_k».proof.Proof.ProjDx
public import proofs.«01_k».proof.Proof.QueryDx
public import proofs.«01_k».proof.Proof.KvDx
public import proofs.«01_k».proof.Proof.Pw1Dx
public import proofs.«01_k».proof.Proof.QueryDw
public import proofs.«01_k».proof.Proof.ProjDw
public import proofs.«01_k».proof.Proof.KvDw
public import proofs.«01_k».proof.Proof.Pw1
public import proofs.«01_k».proof.Proof.Pw2
public import proofs.«01_k».proof.Proof.Kv
public import proofs.«01_k».proof.Proof.Query
public import proofs.«01_k».proof.Proof.Proj
public import proofs.«01_k».proof.Proof.Up
public import proofs.«01_k».proof.Proof.Down
public import proofs.«01_k».proof.Proof.AdColumns
public import proofs.«01_k».proof.Proof.AdSquare
public import proofs.«01_k».proof.Proof.AdMlpUp
public import proofs.«01_k».proof.Proof.AdMlpDown
public import proofs.«01_k».proof.Proof.AdLn
public import proofs.«01_k».proof.Proof.AdVec256
public import proofs.«01_k».proof.Proof.AdVec512
public import proofs.«01_k».proof.Proof.AdTaps
public import proofs.«01_k».proof.Proof.AdBias
public import proofs.«01_k».proof.Proof.LossGrad
public import proofs.«01_k».proof.Proof.NormGrad
public import proofs.«01_k».proof.Proof.ConvNorm
public import proofs.«01_k».proof.Proof.NormFwd
public import proofs.«01_k».proof.Proof.LossSum
public import proofs.«01_k».proof.Proof.RelGrad
public import proofs.«01_k».proof.Proof.RelTable
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Pre_finite28
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Pre_finite29
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Pre_finite30
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32
public import proofs.«01_k».proof.Proof.Gen.Kernel32Ideal
public import proofs.«01_k».proof.Proof.Gen.Kernel32Ideal.Launch
public import proofs.«01_k».proof.Proof.Gen.Kernel32Ideal.RegionsRQ
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run

@[expose] public section

noncomputable section

namespace Cert.Proof

open Idealize.ShloMosaic Idealize.SL.Sem

/-- `Cert.quiescent_ReferenceIdeal`: the reference runs, leaves its arguments as they were, and declares no semaphore. -/
theorem frame_reference : Cert.quiescent_ReferenceIdeal (hReferenceIdeal := Cert.ReferenceIdeal.Gen.facts) := by
  intro m ρ _
  exact (θ_run (Cert.ReferenceIdeal.defs (F := Ideal)) _ _).mono
    (fun r h => ⟨fun c => (h c).2, sem_eq_zero_of_no_sems (by decide) r.2⟩)
    (Cert.ReferenceIdeal.Value.run (F := Ideal) m ρ)

/-- `Cert.quiescent_Reference2Ideal`: the reference runs, leaves its arguments as they were, and declares no semaphore. -/
theorem frame_reference2 : Cert.quiescent_Reference2Ideal (hReference2Ideal := Cert.Reference2Ideal.Gen.facts) := by
  intro m ρ _
  exact (θ_run (Cert.Reference2Ideal.defs (F := Ideal)) _ _).mono
    (fun r h => ⟨fun c => (h c).2, sem_eq_zero_of_no_sems (by decide) r.2⟩)
    (Cert.Reference2Ideal.Value.run (F := Ideal) m ρ)

/-- `Cert.quiescent_Reference3Ideal`: the reference runs, leaves its arguments as they were, and declares no semaphore. -/
theorem frame_reference3 : Cert.quiescent_Reference3Ideal (hReference3Ideal := Cert.Reference3Ideal.Gen.facts) := by
  intro m ρ _
  exact (θ_run (Cert.Reference3Ideal.defs (F := Ideal)) _ _).mono
    (fun r h => ⟨fun c => (h c).2, sem_eq_zero_of_no_sems (by decide) r.2⟩)
    (Cert.Reference3Ideal.Value.run (F := Ideal) m ρ)

/-- `Cert.quiescent_Reference4Ideal`: the reference runs, leaves its arguments as they were, and declares no semaphore. -/
theorem frame_reference4 : Cert.quiescent_Reference4Ideal (hReference4Ideal := Cert.Reference4Ideal.Gen.facts) := by
  intro m ρ _
  exact (θ_run (Cert.Reference4Ideal.defs (F := Ideal)) _ _).mono
    (fun r h => ⟨fun c => (h c).2, sem_eq_zero_of_no_sems (by decide) r.2⟩)
    (Cert.Reference4Ideal.Value.run (F := Ideal) m ρ)

/-- `Cert.quiescent_Reference5Ideal`: the reference runs, leaves its arguments as they were, and declares no semaphore. -/
theorem frame_reference5 : Cert.quiescent_Reference5Ideal (hReference5Ideal := Cert.Reference5Ideal.Gen.facts) := by
  intro m ρ _
  exact (θ_run (Cert.Reference5Ideal.defs (F := Ideal)) _ _).mono
    (fun r h => ⟨fun c => (h c).2, sem_eq_zero_of_no_sems (by decide) r.2⟩)
    (Cert.Reference5Ideal.Value.run (F := Ideal) m ρ)

/-- `Cert.quiescent_Reference6Ideal`: the reference runs, leaves its arguments as they were, and declares no semaphore. -/
theorem frame_reference6 : Cert.quiescent_Reference6Ideal (hReference6Ideal := Cert.Reference6Ideal.Gen.facts) := by
  intro m ρ _
  exact (θ_run (Cert.Reference6Ideal.defs (F := Ideal)) _ _).mono
    (fun r h => ⟨fun c => (h c).2, sem_eq_zero_of_no_sems (by decide) r.2⟩)
    (Cert.Reference6Ideal.Value.run (F := Ideal) m ρ)

/-- `Cert.quiescent_Reference7Ideal`: the reference runs, leaves its arguments as they were, and declares no semaphore. -/
theorem frame_reference7 : Cert.quiescent_Reference7Ideal (hReference7Ideal := Cert.Reference7Ideal.Gen.facts) := by
  intro m ρ _
  exact (θ_run (Cert.Reference7Ideal.defs (F := Ideal)) _ _).mono
    (fun r h => ⟨fun c => (h c).2, sem_eq_zero_of_no_sems (by decide) r.2⟩)
    (Cert.Reference7Ideal.Value.run (F := Ideal) m ρ)

/-- `Cert.quiescent_Reference8Ideal`: the reference runs, leaves its arguments as they were, and declares no semaphore. -/
theorem frame_reference8 : Cert.quiescent_Reference8Ideal (hReference8Ideal := Cert.Reference8Ideal.Gen.facts) := by
  intro m ρ _
  exact (θ_run (Cert.Reference8Ideal.defs (F := Ideal)) _ _).mono
    (fun r h => ⟨fun c => (h c).2, sem_eq_zero_of_no_sems (by decide) r.2⟩)
    (Cert.Reference8Ideal.Value.run (F := Ideal) m ρ)

/-- `Cert.quiescent_Reference9Ideal`: the reference runs, leaves its arguments as they were, and declares no semaphore. -/
theorem frame_reference9 : Cert.quiescent_Reference9Ideal (hReference9Ideal := Cert.Reference9Ideal.Gen.facts) := by
  intro m ρ _
  exact (θ_run (Cert.Reference9Ideal.defs (F := Ideal)) _ _).mono
    (fun r h => ⟨fun c => (h c).2, sem_eq_zero_of_no_sems (by decide) r.2⟩)
    (Cert.Reference9Ideal.Value.run (F := Ideal) m ρ)

/-- `Cert.quiescent_Reference10Ideal`: the reference runs, leaves its arguments as they were, and declares no semaphore. -/
theorem frame_reference10 : Cert.quiescent_Reference10Ideal (hReference10Ideal := Cert.Reference10Ideal.Gen.facts) := by
  intro m ρ _
  exact (θ_run (Cert.Reference10Ideal.defs (F := Ideal)) _ _).mono
    (fun r h => ⟨fun c => (h c).2, sem_eq_zero_of_no_sems (by decide) r.2⟩)
    (Cert.Reference10Ideal.Value.run (F := Ideal) m ρ)

/-- `Cert.quiescent_Reference11Ideal`: the reference runs, leaves its arguments as they were, and declares no semaphore. -/
theorem frame_reference11 : Cert.quiescent_Reference11Ideal (hReference11Ideal := Cert.Reference11Ideal.Gen.facts) := by
  intro m ρ _
  exact (θ_run (Cert.Reference11Ideal.defs (F := Ideal)) _ _).mono
    (fun r h => ⟨fun c => (h c).2, sem_eq_zero_of_no_sems (by decide) r.2⟩)
    (Cert.Reference11Ideal.Value.run (F := Ideal) m ρ)

/-- `Cert.quiescent_Reference12Ideal`: the reference runs, leaves its arguments as they were, and declares no semaphore. -/
theorem frame_reference12 : Cert.quiescent_Reference12Ideal (hReference12Ideal := Cert.Reference12Ideal.Gen.facts) := by
  intro m ρ _
  exact (θ_run (Cert.Reference12Ideal.defs (F := Ideal)) _ _).mono
    (fun r h => ⟨fun c => (h c).2, sem_eq_zero_of_no_sems (by decide) r.2⟩)
    (Cert.Reference12Ideal.Value.run (F := Ideal) m ρ)

/-- `Cert.quiescent_Reference13Ideal`: the reference runs, leaves its arguments as they were, and declares no semaphore. -/
theorem frame_reference13 : Cert.quiescent_Reference13Ideal (hReference13Ideal := Cert.Reference13Ideal.Gen.facts) := by
  intro m ρ _
  exact (θ_run (Cert.Reference13Ideal.defs (F := Ideal)) _ _).mono
    (fun r h => ⟨fun c => (h c).2, sem_eq_zero_of_no_sems (by decide) r.2⟩)
    (Cert.Reference13Ideal.Value.run (F := Ideal) m ρ)

/-- `Cert.quiescent_Reference14Ideal`: the reference runs, leaves its arguments as they were, and declares no semaphore. -/
theorem frame_reference14 : Cert.quiescent_Reference14Ideal (hReference14Ideal := Cert.Reference14Ideal.Gen.facts) := by
  intro m ρ _
  exact (θ_run (Cert.Reference14Ideal.defs (F := Ideal)) _ _).mono
    (fun r h => ⟨fun c => (h c).2, sem_eq_zero_of_no_sems (by decide) r.2⟩)
    (Cert.Reference14Ideal.Value.run (F := Ideal) m ρ)

/-- `Cert.quiescent_Reference15Ideal`: the reference runs, leaves its arguments as they were, and declares no semaphore. -/
theorem frame_reference15 : Cert.quiescent_Reference15Ideal (hReference15Ideal := Cert.Reference15Ideal.Gen.facts) := by
  intro m ρ _
  exact (θ_run (Cert.Reference15Ideal.defs (F := Ideal)) _ _).mono
    (fun r h => ⟨fun c => (h c).2, sem_eq_zero_of_no_sems (by decide) r.2⟩)
    (Cert.Reference15Ideal.Value.run (F := Ideal) m ρ)

/-- `Cert.quiescent_Reference16Ideal`: the reference runs, leaves its arguments as they were, and declares no semaphore. -/
theorem frame_reference16 : Cert.quiescent_Reference16Ideal (hReference16Ideal := Cert.Reference16Ideal.Gen.facts) := by
  intro m ρ _
  exact (θ_run (Cert.Reference16Ideal.defs (F := Ideal)) _ _).mono
    (fun r h => ⟨fun c => (h c).2, sem_eq_zero_of_no_sems (by decide) r.2⟩)
    (Cert.Reference16Ideal.Value.run (F := Ideal) m ρ)

/-- `Cert.quiescent_Reference17Ideal`: the reference runs, leaves its arguments as they were, and declares no semaphore. -/
theorem frame_reference17 : Cert.quiescent_Reference17Ideal (hReference17Ideal := Cert.Reference17Ideal.Gen.facts) := by
  intro m ρ _
  exact (θ_run (Cert.Reference17Ideal.defs (F := Ideal)) _ _).mono
    (fun r h => ⟨fun c => (h c).2.2, sem_eq_zero_of_no_sems (by decide) r.2⟩)
    (Cert.Reference17Ideal.Value.run (F := Ideal) m ρ)

/-- `Cert.quiescent_Reference18Ideal`: the reference runs, leaves its arguments as they were, and declares no semaphore. -/
theorem frame_reference18 : Cert.quiescent_Reference18Ideal (hReference18Ideal := Cert.Reference18Ideal.Gen.facts) := by
  intro m ρ _
  exact (θ_run (Cert.Reference18Ideal.defs (F := Ideal)) _ _).mono
    (fun r h => ⟨fun c => (h c).2, sem_eq_zero_of_no_sems (by decide) r.2⟩)
    (Cert.Reference18Ideal.Value.run (F := Ideal) m ρ)

/-- `Cert.quiescent_Reference19Ideal`: the reference runs, leaves its arguments as they were, and declares no semaphore. -/
theorem frame_reference19 : Cert.quiescent_Reference19Ideal (hReference19Ideal := Cert.Reference19Ideal.Gen.facts) := by
  intro m ρ _
  exact (θ_run (Cert.Reference19Ideal.defs (F := Ideal)) _ _).mono
    (fun r h => ⟨fun c => (h c).2.2.2.2, sem_eq_zero_of_no_sems (by decide) r.2⟩)
    (Cert.Reference19Ideal.Value.run (F := Ideal) m ρ)

/-- `Cert.quiescent_Reference20Ideal`: the reference runs, leaves its arguments as they were, and declares no semaphore. -/
theorem frame_reference20 : Cert.quiescent_Reference20Ideal (hReference20Ideal := Cert.Reference20Ideal.Gen.facts) := by
  intro m ρ _
  exact (θ_run (Cert.Reference20Ideal.defs (F := Ideal)) _ _).mono
    (fun r h => ⟨fun c => (h c).2.2.2.2, sem_eq_zero_of_no_sems (by decide) r.2⟩)
    (Cert.Reference20Ideal.Value.run (F := Ideal) m ρ)

/-- `Cert.quiescent_Reference21Ideal`: the reference runs, leaves its arguments as they were, and declares no semaphore. -/
theorem frame_reference21 : Cert.quiescent_Reference21Ideal (hReference21Ideal := Cert.Reference21Ideal.Gen.facts) := by
  intro m ρ _
  exact (θ_run (Cert.Reference21Ideal.defs (F := Ideal)) _ _).mono
    (fun r h => ⟨fun c => (h c).2.2.2.2, sem_eq_zero_of_no_sems (by decide) r.2⟩)
    (Cert.Reference21Ideal.Value.run (F := Ideal) m ρ)

/-- `Cert.quiescent_Reference22Ideal`: the reference runs, leaves its arguments as they were, and declares no semaphore. -/
theorem frame_reference22 : Cert.quiescent_Reference22Ideal (hReference22Ideal := Cert.Reference22Ideal.Gen.facts) := by
  intro m ρ _
  exact (θ_run (Cert.Reference22Ideal.defs (F := Ideal)) _ _).mono
    (fun r h => ⟨fun c => (h c).2.2.2.2, sem_eq_zero_of_no_sems (by decide) r.2⟩)
    (Cert.Reference22Ideal.Value.run (F := Ideal) m ρ)

/-- `Cert.quiescent_Reference23Ideal`: the reference runs, leaves its arguments as they were, and declares no semaphore. -/
theorem frame_reference23 : Cert.quiescent_Reference23Ideal (hReference23Ideal := Cert.Reference23Ideal.Gen.facts) := by
  intro m ρ _
  exact (θ_run (Cert.Reference23Ideal.defs (F := Ideal)) _ _).mono
    (fun r h => ⟨fun c => (h c).2.2.2.2, sem_eq_zero_of_no_sems (by decide) r.2⟩)
    (Cert.Reference23Ideal.Value.run (F := Ideal) m ρ)

/-- `Cert.quiescent_Reference24Ideal`: the reference runs, leaves its arguments as they were, and declares no semaphore. -/
theorem frame_reference24 : Cert.quiescent_Reference24Ideal (hReference24Ideal := Cert.Reference24Ideal.Gen.facts) := by
  intro m ρ _
  exact (θ_run (Cert.Reference24Ideal.defs (F := Ideal)) _ _).mono
    (fun r h => ⟨fun c => (h c).2.2.2.2, sem_eq_zero_of_no_sems (by decide) r.2⟩)
    (Cert.Reference24Ideal.Value.run (F := Ideal) m ρ)

/-- `Cert.quiescent_Reference25Ideal`: the reference runs, leaves its arguments as they were, and declares no semaphore. -/
theorem frame_reference25 : Cert.quiescent_Reference25Ideal (hReference25Ideal := Cert.Reference25Ideal.Gen.facts) := by
  intro m ρ _
  exact (θ_run (Cert.Reference25Ideal.defs (F := Ideal)) _ _).mono
    (fun r h => ⟨fun c => (h c).2.2.2.2, sem_eq_zero_of_no_sems (by decide) r.2⟩)
    (Cert.Reference25Ideal.Value.run (F := Ideal) m ρ)

/-- `Cert.quiescent_Reference26Ideal`: the reference runs, leaves its arguments as they were, and declares no semaphore. -/
theorem frame_reference26 : Cert.quiescent_Reference26Ideal (hReference26Ideal := Cert.Reference26Ideal.Gen.facts) := by
  intro m ρ _
  exact (θ_run (Cert.Reference26Ideal.defs (F := Ideal)) _ _).mono
    (fun r h => ⟨fun c => (h c).2.2.2.2, sem_eq_zero_of_no_sems (by decide) r.2⟩)
    (Cert.Reference26Ideal.Value.run (F := Ideal) m ρ)

/-- `Cert.quiescent_Reference27Ideal`: the reference runs, leaves its arguments as they were, and declares no semaphore. -/
theorem frame_reference27 : Cert.quiescent_Reference27Ideal (hReference27Ideal := Cert.Reference27Ideal.Gen.facts) := by
  intro m ρ _
  exact (θ_run (Cert.Reference27Ideal.defs (F := Ideal)) _ _).mono
    (fun r h => ⟨fun c => (h c).2.2.2.2, sem_eq_zero_of_no_sems (by decide) r.2⟩)
    (Cert.Reference27Ideal.Value.run (F := Ideal) m ρ)

/-- `Cert.quiescent_Reference28Ideal`: the reference runs, leaves its arguments as they were, and declares no semaphore. -/
theorem frame_reference28 : Cert.quiescent_Reference28Ideal (hReference28Ideal := Cert.Reference28Ideal.Gen.facts) := by
  intro m ρ _
  exact (θ_run (Cert.Reference28Ideal.defs (F := Ideal)) _ _).mono
    (fun r h => ⟨fun c => (h c).2.2.2.2.2, sem_eq_zero_of_no_sems (by decide) r.2⟩)
    (Cert.Reference28Ideal.Value.run (F := Ideal) m ρ)

/-- `Cert.quiescent_Reference29Ideal`: the reference runs, leaves its arguments as they were, and declares no semaphore. -/
theorem frame_reference29 : Cert.quiescent_Reference29Ideal (hReference29Ideal := Cert.Reference29Ideal.Gen.facts) := by
  intro m ρ _
  exact (θ_run (Cert.Reference29Ideal.defs (F := Ideal)) _ _).mono
    (fun r h => ⟨fun c => (h c).2.2.2.2.2, sem_eq_zero_of_no_sems (by decide) r.2⟩)
    (Cert.Reference29Ideal.Value.run (F := Ideal) m ρ)

/-- `Cert.quiescent_Reference30Ideal`: the reference runs, leaves its arguments as they were, and declares no semaphore. -/
theorem frame_reference30 : Cert.quiescent_Reference30Ideal (hReference30Ideal := Cert.Reference30Ideal.Gen.facts) := by
  intro m ρ _
  exact (θ_run (Cert.Reference30Ideal.defs (F := Ideal)) _ _).mono
    (fun r h => ⟨fun c => (h c).2.2.2.2, sem_eq_zero_of_no_sems (by decide) r.2⟩)
    (Cert.Reference30Ideal.Value.run (F := Ideal) m ρ)

/-- `Cert.quiescent_Reference31Ideal`: the reference runs, leaves its arguments as they were, and declares no semaphore. -/
theorem frame_reference31 : Cert.quiescent_Reference31Ideal (hReference31Ideal := Cert.Reference31Ideal.Gen.facts) := by
  intro m ρ _
  exact (θ_run (Cert.Reference31Ideal.defs (F := Ideal)) _ _).mono
    (fun r h => ⟨fun c => (h c).2.2, sem_eq_zero_of_no_sems (by decide) r.2⟩)
    (Cert.Reference31Ideal.Value.run (F := Ideal) m ρ)

/-- `Cert.quiescent_Reference32Ideal`: the reference runs, leaves its arguments as they were, and declares no semaphore. -/
theorem frame_reference32 : Cert.quiescent_Reference32Ideal (hReference32Ideal := Cert.Reference32Ideal.Gen.facts) := by
  intro m ρ _
  exact (θ_run (Cert.Reference32Ideal.defs (F := Ideal)) _ _).mono
    (fun r h => ⟨fun c => (h c).2, sem_eq_zero_of_no_sems (by decide) r.2⟩)
    (Cert.Reference32Ideal.Value.run (F := Ideal) m ρ)

/-- `Cert.quiescent_Reference33Ideal`: the reference runs, leaves its arguments as they were, and declares no semaphore. -/
theorem frame_reference33 : Cert.quiescent_Reference33Ideal (hReference33Ideal := Cert.Reference33Ideal.Gen.facts) := by
  intro m ρ _
  exact (θ_run (Cert.Reference33Ideal.defs (F := Ideal)) _ _).mono
    (fun r h => ⟨fun c => (h c).2, sem_eq_zero_of_no_sems (by decide) r.2⟩)
    (Cert.Reference33Ideal.Value.run (F := Ideal) m ρ)

/-- `Cert.quiescent_Reference34Ideal`: the reference runs, leaves its arguments as they were, and declares no semaphore. -/
theorem frame_reference34 : Cert.quiescent_Reference34Ideal (hReference34Ideal := Cert.Reference34Ideal.Gen.facts) := by
  intro m ρ _
  exact (θ_run (Cert.Reference34Ideal.defs (F := Ideal)) _ _).mono
    (fun r h => ⟨fun c => (h c).2, sem_eq_zero_of_no_sems (by decide) r.2⟩)
    (Cert.Reference34Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Pre_finite28.Gen.facts,
    Cert.Pre_finite29.Gen.facts,
    Cert.Pre_finite30.Gen.facts,
    fun m ρ _ => Cert.Kernel.Gen.frame m ρ,
    fun m ρ _ => Cert.KernelIdeal.Gen.frame m ρ,
    frame_reference,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    frame_reference18,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel21.Gen.frame m ρ,
    fun m ρ _ => Cert.Kernel21Ideal.Gen.frame m ρ,
    frame_reference21,
    fun m ρ _ => Cert.Kernel22.Gen.frame m ρ,
    fun m ρ _ => Cert.Kernel22Ideal.Gen.frame m ρ,
    frame_reference22,
    fun m ρ _ => Cert.Kernel23.Gen.frame m ρ,
    fun m ρ _ => Cert.Kernel23Ideal.Gen.frame m ρ,
    frame_reference23,
    fun m ρ _ => Cert.Kernel24.Gen.frame m ρ,
    fun m ρ _ => Cert.Kernel24Ideal.Gen.frame m ρ,
    frame_reference24,
    fun m ρ _ => Cert.Kernel25.Gen.frame m ρ,
    fun m ρ _ => Cert.Kernel25Ideal.Gen.frame m ρ,
    frame_reference25,
    fun m ρ _ => Cert.Kernel26.Gen.frame m ρ,
    fun m ρ _ => Cert.Kernel26Ideal.Gen.frame m ρ,
    frame_reference26,
    fun m ρ _ => Cert.Kernel27.Gen.frame m ρ,
    fun m ρ _ => Cert.Kernel27Ideal.Gen.frame m ρ,
    frame_reference27,
    fun m ρ _ => Cert.Kernel28.Gen.frame m ρ,
    fun m ρ _ => Cert.Kernel28Ideal.Gen.frame m ρ,
    fun m ρ _ => Cert.Kernel28Ideal.Gen.frame m ρ,
    frame_reference28,
    fun m ρ _ => frame_reference28 m ρ trivial,
    fun m ρ _ => Cert.Kernel29.Gen.frame m ρ,
    fun m ρ _ => Cert.Kernel29Ideal.Gen.frame m ρ,
    fun m ρ _ => Cert.Kernel29Ideal.Gen.frame m ρ,
    frame_reference29,
    fun m ρ _ => frame_reference29 m ρ trivial,
    fun m ρ _ => Cert.Kernel30.Gen.frame m ρ,
    fun m ρ _ => Cert.Kernel30Ideal.Gen.frame m ρ,
    fun m ρ _ => Cert.Kernel30Ideal.Gen.frame m ρ,
    frame_reference30,
    fun m ρ _ => frame_reference30 m ρ trivial,
    fun m ρ _ => Cert.Kernel31.Gen.frame m ρ,
    fun m ρ _ => Cert.Kernel31Ideal.Gen.frame m ρ,
    frame_reference31,
    Cert.Kernel32Ideal.LossSum.frame_bits,
    fun m ρ _ => Cert.Kernel32Ideal.LossSum.frame m ρ,
    frame_reference32,
    fun m ρ _ => Cert.Kernel33.Gen.frame m ρ,
    fun m ρ _ => Cert.Kernel33Ideal.Gen.frame m ρ,
    frame_reference33,
    fun m ρ _ => Cert.Kernel34.Gen.frame m ρ,
    fun m ρ _ => Cert.Kernel34Ideal.Gen.frame m ρ,
    frame_reference34,
    trivial,
    Cert.KernelIdeal.DownDx.algebraic,
    trivial,
    Cert.Kernel2Ideal.DownDw.algebraic,
    trivial,
    Cert.Kernel3Ideal.UpDx.algebraic,
    trivial,
    Cert.Kernel4Ideal.UpDw.algebraic,
    trivial,
    Cert.Kernel5Ideal.ProjDx.algebraic,
    trivial,
    Cert.Kernel6Ideal.QueryDx.algebraic,
    trivial,
    Cert.Kernel7Ideal.KvDx.algebraic,
    trivial,
    Cert.Kernel8Ideal.Pw1Dx.algebraic,
    trivial,
    Cert.Kernel9Ideal.QueryDw.algebraic,
    trivial,
    Cert.Kernel10Ideal.ProjDw.algebraic,
    trivial,
    Cert.Kernel11Ideal.KvDw.algebraic,
    trivial,
    Cert.Kernel12Ideal.Pw1.algebraic,
    trivial,
    Cert.Kernel13Ideal.Pw2.algebraic,
    trivial,
    Cert.Kernel14Ideal.Kv.algebraic,
    trivial,
    Cert.Kernel15Ideal.Query.algebraic,
    trivial,
    Cert.Kernel16Ideal.Proj.algebraic,
    trivial,
    Cert.Kernel17Ideal.Up.algebraic,
    trivial,
    Cert.Kernel18Ideal.Down.algebraic,
    Cert.Kernel19Ideal.AdColumns.preserves,
    Cert.Kernel19Ideal.AdColumns.algebraic,
    Cert.Kernel20Ideal.AdSquare.preserves,
    Cert.Kernel20Ideal.AdSquare.algebraic,
    Cert.Kernel21Ideal.AdMlpUp.preserves,
    Cert.Kernel21Ideal.AdMlpUp.algebraic,
    Cert.Kernel22Ideal.AdMlpDown.preserves,
    Cert.Kernel22Ideal.AdMlpDown.algebraic,
    Cert.Kernel23Ideal.AdLn.preserves,
    Cert.Kernel23Ideal.AdLn.algebraic,
    Cert.Kernel24Ideal.AdVec256.preserves,
    Cert.Kernel24Ideal.AdVec256.algebraic,
    Cert.Kernel25Ideal.AdVec512.preserves,
    Cert.Kernel25Ideal.AdVec512.algebraic,
    Cert.Kernel26Ideal.AdTaps.preserves,
    Cert.Kernel26Ideal.AdTaps.algebraic,
    Cert.Kernel27Ideal.AdBias.preserves,
    Cert.Kernel27Ideal.AdBias.algebraic,
    trivial,
    Cert.Kernel28Ideal.LossGrad.algebraic,
    trivial,
    Cert.Kernel29Ideal.NormGrad.algebraic,
    trivial,
    Cert.Kernel30Ideal.ConvNorm.algebraic,
    trivial,
    Cert.Kernel31Ideal.NormFwd.algebraic,
    trivial,
    Cert.Kernel32Ideal.LossSum.algebraic,
    trivial,
    Cert.Kernel33Ideal.RelGrad.algebraic,
    trivial,
    Cert.Kernel34Ideal.RelTable.algebraic⟩

end Cert.Proof

end
